-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  IdealRules.named_const.Statement Cert.KernelIdeal.κ "gelu_slope" .f32 0x3ECC422A#32 ((112292272998273 / 281474976710656 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v39_0)) (v1 : (c : Dev Cert.KernelIdeal.nD) → Buf (Elt Ideal) ((c.tc : Thread Cert.KernelIdeal.nD Cert.KernelIdeal.τ).loc Cert.KernelIdeal.main_v39_1)) (v2 : (c : Dev Cert.KernelIdeal.nD) → Buf (Elt Ideal) ((c.tc : Thread Cert.KernelIdeal.nD Cert.KernelIdeal.τ).loc Cert.KernelIdeal.main_v39_2)) (v3 : (c : Dev Cert.KernelIdeal.nD) → Buf (Elt Ideal) ((c.tc : Thread Cert.KernelIdeal.nD Cert.KernelIdeal.τ).loc Cert.KernelIdeal.main_v39_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39_0) = v0 c
          ∧ r.2.mem ((c.tc : Thread Cert.KernelIdeal.nD Cert.KernelIdeal.τ).loc Cert.KernelIdeal.main_v39_1) = v1 c
          ∧ r.2.mem ((c.tc : Thread Cert.KernelIdeal.nD Cert.KernelIdeal.τ).loc Cert.KernelIdeal.main_v39_2) = v2 c
          ∧ r.2.mem ((c.tc : Thread Cert.KernelIdeal.nD Cert.KernelIdeal.τ).loc Cert.KernelIdeal.main_v39_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v76) = v2 c
          ∧ r.2.mem ((c.tc : Thread Cert.ReferenceIdeal.nD Cert.ReferenceIdeal.τ).loc Cert.ReferenceIdeal.main_v92) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v23_0)) (v1 : (c : Dev Cert.Kernel3Ideal.nD) → Buf (Elt Ideal) ((c.tc : Thread Cert.Kernel3Ideal.nD Cert.Kernel3Ideal.τ).loc Cert.Kernel3Ideal.main_v23_1)) (v2 : (c : Dev Cert.Kernel3Ideal.nD) → Buf (Elt Ideal) ((c.tc : Thread Cert.Kernel3Ideal.nD Cert.Kernel3Ideal.τ).loc Cert.Kernel3Ideal.main_v23_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v23_0) = v0 c
          ∧ r.2.mem ((c.tc : Thread Cert.Kernel3Ideal.nD Cert.Kernel3Ideal.τ).loc Cert.Kernel3Ideal.main_v23_1) = v1 c
          ∧ r.2.mem ((c.tc : Thread Cert.Kernel3Ideal.nD Cert.Kernel3Ideal.τ).loc Cert.Kernel3Ideal.main_v23_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v49) = v0 c
          ∧ r.2.mem ((c.tc : Thread Cert.Reference3Ideal.nD Cert.Reference3Ideal.τ).loc Cert.Reference3Ideal.main_v46) = v1 c
          ∧ r.2.mem ((c.tc : Thread Cert.Reference3Ideal.nD Cert.Reference3Ideal.τ).loc Cert.Reference3Ideal.main_v29) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v40_0)) (v1 : (c : Dev Cert.Kernel4Ideal.nD) → Buf (Elt Ideal) ((c.tc : Thread Cert.Kernel4Ideal.nD Cert.Kernel4Ideal.τ).loc Cert.Kernel4Ideal.main_v40_1)) (v2 : (c : Dev Cert.Kernel4Ideal.nD) → Buf (Elt Ideal) ((c.tc : Thread Cert.Kernel4Ideal.nD Cert.Kernel4Ideal.τ).loc Cert.Kernel4Ideal.main_v40_2)) (v3 : (c : Dev Cert.Kernel4Ideal.nD) → Buf (Elt Ideal) ((c.tc : Thread Cert.Kernel4Ideal.nD Cert.Kernel4Ideal.τ).loc Cert.Kernel4Ideal.main_v40_3)) (v4 : (c : Dev Cert.Kernel4Ideal.nD) → Buf (Elt Ideal) ((c.tc : Thread Cert.Kernel4Ideal.nD Cert.Kernel4Ideal.τ).loc Cert.Kernel4Ideal.main_v40_4)) (v5 : (c : Dev Cert.Kernel4Ideal.nD) → Buf (Elt Ideal) ((c.tc : Thread Cert.Kernel4Ideal.nD Cert.Kernel4Ideal.τ).loc Cert.Kernel4Ideal.main_v40_5)) (v6 : (c : Dev Cert.Kernel4Ideal.nD) → Buf (Elt Ideal) ((c.tc : Thread Cert.Kernel4Ideal.nD Cert.Kernel4Ideal.τ).loc Cert.Kernel4Ideal.main_v40_6)) (v7 : (c : Dev Cert.Kernel4Ideal.nD) → Buf (Elt Ideal) ((c.tc : Thread Cert.Kernel4Ideal.nD Cert.Kernel4Ideal.τ).loc Cert.Kernel4Ideal.main_v40_7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v40_0) = v0 c
          ∧ r.2.mem ((c.tc : Thread Cert.Kernel4Ideal.nD Cert.Kernel4Ideal.τ).loc Cert.Kernel4Ideal.main_v40_1) = v1 c
          ∧ r.2.mem ((c.tc : Thread Cert.Kernel4Ideal.nD Cert.Kernel4Ideal.τ).loc Cert.Kernel4Ideal.main_v40_2) = v2 c
          ∧ r.2.mem ((c.tc : Thread Cert.Kernel4Ideal.nD Cert.Kernel4Ideal.τ).loc Cert.Kernel4Ideal.main_v40_3) = v3 c
          ∧ r.2.mem ((c.tc : Thread Cert.Kernel4Ideal.nD Cert.Kernel4Ideal.τ).loc Cert.Kernel4Ideal.main_v40_4) = v4 c
          ∧ r.2.mem ((c.tc : Thread Cert.Kernel4Ideal.nD Cert.Kernel4Ideal.τ).loc Cert.Kernel4Ideal.main_v40_5) = v5 c
          ∧ r.2.mem ((c.tc : Thread Cert.Kernel4Ideal.nD Cert.Kernel4Ideal.τ).loc Cert.Kernel4Ideal.main_v40_6) = v6 c
          ∧ r.2.mem ((c.tc : Thread Cert.Kernel4Ideal.nD Cert.Kernel4Ideal.τ).loc Cert.Kernel4Ideal.main_v40_7) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v78) = v0 c
          ∧ r.2.mem ((c.tc : Thread Cert.Reference4Ideal.nD Cert.Reference4Ideal.τ).loc Cert.Reference4Ideal.main_v61) = v1 c
          ∧ r.2.mem ((c.tc : Thread Cert.Reference4Ideal.nD Cert.Reference4Ideal.τ).loc Cert.Reference4Ideal.main_v104) = v2 c
          ∧ r.2.mem ((c.tc : Thread Cert.Reference4Ideal.nD Cert.Reference4Ideal.τ).loc Cert.Reference4Ideal.main_v129) = v3 c
          ∧ r.2.mem ((c.tc : Thread Cert.Reference4Ideal.nD Cert.Reference4Ideal.τ).loc Cert.Reference4Ideal.main_v130) = v4 c
          ∧ r.2.mem ((c.tc : Thread Cert.Reference4Ideal.nD Cert.Reference4Ideal.τ).loc Cert.Reference4Ideal.main_v88) = v5 c
          ∧ r.2.mem ((c.tc : Thread Cert.Reference4Ideal.nD Cert.Reference4Ideal.τ).loc Cert.Reference4Ideal.main_v128) = v6 c
          ∧ r.2.mem ((c.tc : Thread Cert.Reference4Ideal.nD Cert.Reference4Ideal.τ).loc Cert.Reference4Ideal.main_v131) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)) (v2 : (c : Dev Cert.Kernel5Ideal.nD) → Buf (Elt Ideal) ((c.tc : Thread Cert.Kernel5Ideal.nD Cert.Kernel5Ideal.τ).loc Cert.Kernel5Ideal.main_v5_2)) (v3 : (c : Dev Cert.Kernel5Ideal.nD) → Buf (Elt Ideal) ((c.tc : Thread Cert.Kernel5Ideal.nD Cert.Kernel5Ideal.τ).loc Cert.Kernel5Ideal.main_v5_3)) (v4 : (c : Dev Cert.Kernel5Ideal.nD) → Buf (Elt Ideal) ((c.tc : Thread Cert.Kernel5Ideal.nD Cert.Kernel5Ideal.τ).loc Cert.Kernel5Ideal.main_v5_4)) (v5 : (c : Dev Cert.Kernel5Ideal.nD) → Buf (Elt Ideal) ((c.tc : Thread Cert.Kernel5Ideal.nD Cert.Kernel5Ideal.τ).loc Cert.Kernel5Ideal.main_v5_5)) (v6 : (c : Dev Cert.Kernel5Ideal.nD) → Buf (Elt Ideal) ((c.tc : Thread Cert.Kernel5Ideal.nD Cert.Kernel5Ideal.τ).loc Cert.Kernel5Ideal.main_v5_6)) (v7 : (c : Dev Cert.Kernel5Ideal.nD) → Buf (Elt Ideal) ((c.tc : Thread Cert.Kernel5Ideal.nD Cert.Kernel5Ideal.τ).loc Cert.Kernel5Ideal.main_v5_7)) (v8 : (c : Dev Cert.Kernel5Ideal.nD) → Buf (Elt Ideal) ((c.tc : Thread Cert.Kernel5Ideal.nD Cert.Kernel5Ideal.τ).loc Cert.Kernel5Ideal.main_v5_8)) (v9 : (c : Dev Cert.Kernel5Ideal.nD) → Buf (Elt Ideal) ((c.tc : Thread Cert.Kernel5Ideal.nD Cert.Kernel5Ideal.τ).loc Cert.Kernel5Ideal.main_v5_9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_v5_2) = v2 c
          ∧ r.2.mem ((c.tc : Thread Cert.Kernel5Ideal.nD Cert.Kernel5Ideal.τ).loc Cert.Kernel5Ideal.main_v5_3) = v3 c
          ∧ r.2.mem ((c.tc : Thread Cert.Kernel5Ideal.nD Cert.Kernel5Ideal.τ).loc Cert.Kernel5Ideal.main_v5_4) = v4 c
          ∧ r.2.mem ((c.tc : Thread Cert.Kernel5Ideal.nD Cert.Kernel5Ideal.τ).loc Cert.Kernel5Ideal.main_v5_5) = v5 c
          ∧ r.2.mem ((c.tc : Thread Cert.Kernel5Ideal.nD Cert.Kernel5Ideal.τ).loc Cert.Kernel5Ideal.main_v5_6) = v6 c
          ∧ r.2.mem ((c.tc : Thread Cert.Kernel5Ideal.nD Cert.Kernel5Ideal.τ).loc Cert.Kernel5Ideal.main_v5_7) = v7 c
          ∧ r.2.mem ((c.tc : Thread Cert.Kernel5Ideal.nD Cert.Kernel5Ideal.τ).loc Cert.Kernel5Ideal.main_v5_8) = v8 c
          ∧ r.2.mem ((c.tc : Thread Cert.Kernel5Ideal.nD Cert.Kernel5Ideal.τ).loc Cert.Kernel5Ideal.main_v5_9) = v9 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v33) = v0 c
          ∧ r.2.mem ((c.tc : Thread Cert.Reference5Ideal.nD Cert.Reference5Ideal.τ).loc Cert.Reference5Ideal.main_v132) = v1 c
          ∧ r.2.mem ((c.tc : Thread Cert.Reference5Ideal.nD Cert.Reference5Ideal.τ).loc Cert.Reference5Ideal.main_v133) = v2 c
          ∧ r.2.mem ((c.tc : Thread Cert.Reference5Ideal.nD Cert.Reference5Ideal.τ).loc Cert.Reference5Ideal.main_v134) = v3 c
          ∧ r.2.mem ((c.tc : Thread Cert.Reference5Ideal.nD Cert.Reference5Ideal.τ).loc Cert.Reference5Ideal.main_v135) = v4 c
          ∧ r.2.mem ((c.tc : Thread Cert.Reference5Ideal.nD Cert.Reference5Ideal.τ).loc Cert.Reference5Ideal.main_v136) = v5 c
          ∧ r.2.mem ((c.tc : Thread Cert.Reference5Ideal.nD Cert.Reference5Ideal.τ).loc Cert.Reference5Ideal.main_v137) = v6 c
          ∧ r.2.mem ((c.tc : Thread Cert.Reference5Ideal.nD Cert.Reference5Ideal.τ).loc Cert.Reference5Ideal.main_v131) = v7 c
          ∧ r.2.mem ((c.tc : Thread Cert.Reference5Ideal.nD Cert.Reference5Ideal.τ).loc Cert.Reference5Ideal.main_v138) = v8 c
          ∧ r.2.mem ((c.tc : Thread Cert.Reference5Ideal.nD Cert.Reference5Ideal.τ).loc Cert.Reference5Ideal.main_v115) = v9 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)) (v2 : (c : Dev Cert.Kernel6Ideal.nD) → Buf (Elt Ideal) ((c.tc : Thread Cert.Kernel6Ideal.nD Cert.Kernel6Ideal.τ).loc Cert.Kernel6Ideal.main_v3_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_v3_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_v14) = v1 c
          ∧ r.2.mem ((c.tc : Thread Cert.Reference6Ideal.nD Cert.Reference6Ideal.τ).loc Cert.Reference6Ideal.main_v15) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S4096x5632 : Shape := ⟨2, ![4096, 5632]⟩
abbrev S3x2816 : Shape := ⟨2, ![3, 2816]⟩
abbrev S1x2816 : Shape := ⟨2, ![1, 2816]⟩
abbrev S2816x1024 : Shape := ⟨2, ![2816, 1024]⟩
abbrev S4096x1024 : Shape := ⟨2, ![4096, 1024]⟩
abbrev S4096x2816 : Shape := ⟨2, ![4096, 2816]⟩
abbrev S_ : Shape := ⟨0, ![]⟩

class Facts : Prop where
  slices_S4096x5632_S4096x2816_0_2816 : S4096x5632.Slices ![0, 2816] S4096x2816
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x5632 .f32) (main_arg1 : FVec F S3x2816 .f32) (main_arg2 : FVec F S1x2816 .f32) (main_arg3 : FVec F S2816x1024 .f32) (main_arg4 : FVec F S4096x1024 .f32) : IVec S_ 1 :=
  let main_v0 : FVec F S4096x2816 .f32 := (extractStridedSlice S4096x2816 ![0, 2816] · slices_S4096x5632_S4096x2816_0_2816) main_arg0
  let main_v1 : FVec F S4096x2816 .f32 := Host.absf main_v0
  let main_cst : FVec F S_ .f32 := constant S_ .f32 0x7F800000#32
  let main_v2 : FVec F S4096x2816 .f32 := broadcastInDim S4096x2816 ![] bcast_S_S4096x2816 main_cst
  let main_v3 : IVec S4096x2816 1 := cmpf .olt main_v1 main_v2
  let main_c : IVec S_ 1 := constantI S_ 1 1#1
  let main_v4 : IVec S_ 1 := (fun x v => Host.reduce IntOp.andi x v reducesTo_S4096x2816_S_d0_1 h_S_) main_v3 main_c
  let main_v5 : FVec F S2816x1024 .f32 := Host.absf main_arg3
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_c_1 : IVec S_ 1 := constantI S_ 1 1#1
  let main_v8 : IVec S_ 1 := (fun x v => Host.reduce IntOp.andi x v reducesTo_S2816x1024_S_d0_1 h_S_) main_v7 main_c_1
  let main_v9 : IVec S_ 1 := andi main_v4 main_v8
  let main_v10 : FVec F S4096x1024 .f32 := Host.absf main_arg4
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : IVec S_ 1 := andi main_v9 main_v13
  main_v14
-- ==== Pre_finite4.lean ====
abbrev S4096x512 : Shape := ⟨2, ![4096, 512]⟩
abbrev S4096x2048 : Shape := ⟨2, ![4096, 2048]⟩
abbrev S4096x1024 : Shape := ⟨2, ![4096, 1024]⟩
abbrev S1x512 : Shape := ⟨2, ![1, 512]⟩
abbrev S1024x1024 : Shape := ⟨2, ![1024, 1024]⟩
abbrev S1x1024 : Shape := ⟨2, ![1, 1024]⟩
abbrev S1024x5632 : Shape := ⟨2, ![1024, 5632]⟩
abbrev S4096x5632 : Shape := ⟨2, ![4096, 5632]⟩
abbrev S_ : Shape := ⟨0, ![]⟩

class Facts : Prop where
  bcast_S_S1x512 : S_.BroadcastsInDim S1x512 (![] : Fin 0 → Fin S1x512.rank)
  reducesTo_S1x512_S_d0_1 : S1x512.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S4096x5632 : S_.BroadcastsInDim S4096x5632 (![] : Fin 0 → Fin S4096x5632.rank)
  reducesTo_S4096x5632_S_d0_1 : S4096x5632.ReducesTo [0, 1] S_

variable [Facts]

def fn_part1 {F : FTy → Type} [FloatOps F] (main_arg9 : FVec F S4096x1024 .f32) (main_arg10 : FVec F S4096x5632 .f32) (main_v13 : IVec S_ 1) (main_v16 : IVec S1024x5632 1) : IVec S_ 1 :=
  let main_c_5 : IVec S_ 1 := constantI S_ 1 1#1
  let main_v17 : IVec S_ 1 := (fun x v => Host.reduce IntOp.andi x v reducesTo_S1024x5632_S_d0_1 h_S_) main_v16 main_c_5
  let main_v18 : IVec S_ 1 := andi main_v13 main_v17
  let main_v19 : FVec F S4096x1024 .f32 := Host.absf main_arg9
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096x5632 .f32 := Host.absf main_arg10
  let main_cst_8 : FVec F S_ .f32 := constant S_ .f32 0x7F800000#32
  let main_v25 : FVec F S4096x5632 .f32 := broadcastInDim S4096x5632 ![] bcast_S_S4096x5632 main_cst_8
  let main_v26 : IVec S4096x5632 1 := cmpf .olt main_v24 main_v25
  let main_c_9 : IVec S_ 1 := constantI S_ 1 1#1
  let main_v27 : IVec S_ 1 := (fun x v => Host.reduce IntOp.andi x v reducesTo_S4096x5632_S_d0_1 h_S_) main_v26 main_c_9
  let main_v28 : IVec S_ 1 := andi main_v23 main_v27
  main_v28

def fn {F : FTy → Type} [FloatOps F] (main_arg0 : FVec F S4096x512 .f32) (main_arg1 : FVec F S4096x512 .f32) (main_arg2 : FVec F S4096x2048 .f32) (main_arg3 : FVec F S4096x1024 .f32) (main_arg4 : FVec F S1x512 .f32) (main_arg5 : FVec F S1x512 .f32) (main_arg6 : FVec F S1024x1024 .f32) (main_arg7 : FVec F S1x1024 .f32) (main_arg8 : FVec F S1024x5632 .f32) (main_arg9 : FVec F S4096x1024 .f32) (main_arg10 : FVec F S4096x5632 .f32) : IVec S_ 1 :=
  let main_v0 : FVec F S1x512 .f32 := Host.absf main_arg5
  let main_cst : FVec F S_ .f32 := constant S_ .f32 0x7F800000#32
  let main_v1 : FVec F S1x512 .f32 := broadcastInDim S1x512 ![] bcast_S_S1x512 main_cst
  let main_v2 : IVec S1x512 1 := cmpf .olt main_v0 main_v1
  let main_c : IVec S_ 1 := constantI S_ 1 1#1
  let main_v3 : IVec S_ 1 := (fun x v => Host.reduce IntOp.andi x v reducesTo_S1x512_S_d0_1 h_S_) main_v2 main_c
  let main_v4 : FVec F S1024x1024 .f32 := Host.absf main_arg6
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x1024 .f32 := Host.absf main_arg7
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x5632 .f32 := Host.absf main_arg8
  let main_cst_4 : FVec F S_ .f32 := constant S_ .f32 0x7F800000#32
  let main_v15 : FVec F S1024x5632 .f32 := broadcastInDim S1024x5632 ![] bcast_S_S1024x5632 main_cst_4
  let main_v16 : IVec S1024x5632 1 := cmpf .olt main_v14 main_v15
  fn_part1 (F := F) main_arg9 main_arg10 main_v13 main_v16
-- ==== Kernel.lean ====
abbrev S4096x5632 : Shape := ⟨2, ![4096, 5632]⟩
abbrev S3x2816 : Shape := ⟨2, ![3, 2816]⟩
abbrev S1x2816 : Shape := ⟨2, ![1, 2816]⟩
abbrev S2816x1024 : Shape := ⟨2, ![2816, 1024]⟩
abbrev S4096x1024 : Shape := ⟨2, ![4096, 1024]⟩
abbrev S4096x2816 : Shape := ⟨2, ![4096, 2816]⟩
abbrev S_ : Shape := ⟨0, ![]⟩
abbrev S2x2816 : Shape := ⟨2, ![2, 2816]⟩
abbrev S4098x2816 : Shape := ⟨2, ![4098, 2816]⟩
abbrev S2816 : Shape := ⟨1, ![2816]⟩
abbrev S256x1024 : Shape := ⟨2, ![256, 1024]⟩
abbrev S256x2816 : Shape := ⟨2, ![256, 2816]⟩
abbrev S256x5632 : Shape := ⟨2, ![256, 5632]⟩
abbrev S8x2816 : Shape := ⟨2, ![8, 2816]⟩
abbrev S256x512 : Shape := ⟨2, ![256, 512]⟩
abbrev S512x1024 : Shape := ⟨2, ![512, 1024]⟩
abbrev S8x512 : Shape := ⟨2, ![8, 512]⟩
abbrev S512 : Shape := ⟨1, ![512]⟩
abbrev S1x512 : Shape := ⟨2, ![1, 512]⟩
abbrev S256x256 : Shape := ⟨2, ![256, 256]⟩
abbrev S8x256 : Shape := ⟨2, ![8, 256]⟩
abbrev S256 : Shape := ⟨1, ![256]⟩
abbrev S1x256 : Shape := ⟨2, ![1, 256]⟩

abbrev nBuf : Space → Nat
  | .hbm => 51
  | .vmem => 19
  | .smem => 0
  | _ => 0

abbrev bufTy : (tb : Table) → Fin (tcTables nBuf tb) → BufTy
  | .hbm, ⟨0, _⟩ => ⟨S4096x5632, .f32⟩
  | .hbm, ⟨1, _⟩ => ⟨S3x2816, .f32⟩
  | .hbm, ⟨2, _⟩ => ⟨S1x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S2x2816, .f32⟩
  | .hbm, ⟨9, _⟩ => ⟨S4098x2816, .f32⟩
  | .hbm, ⟨10, _⟩ => ⟨S1x2816, .f32⟩
  | .hbm, ⟨11, _⟩ => ⟨S2816, .f32⟩
  | .hbm, ⟨12, _⟩ => ⟨S4096x2816, .f32⟩
  | .hbm, ⟨13, _⟩ => ⟨S1x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S1x2816, .f32⟩
  | .hbm, ⟨19, _⟩ => ⟨S2816, .f32⟩
  | .hbm, ⟨20, _⟩ => ⟨S4096x2816, .f32⟩
  | .hbm, ⟨21, _⟩ => ⟨S1x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S1x2816, .f32⟩
  | .hbm, ⟨26, _⟩ => ⟨S2816, .f32⟩
  | .hbm, ⟨27, _⟩ => ⟨S4096x2816, .f32⟩
  | .hbm, ⟨28, _⟩ => ⟨S1x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .bf16⟩
  | .hbm, ⟨43, _⟩ => ⟨S4096x2816, .bf16⟩
  | .hbm, ⟨44, _⟩ => ⟨S4096x2816, .bf16⟩
  | .hbm, ⟨45, _⟩ => ⟨S4096x2816, .bf16⟩
  | .hbm, ⟨46, _⟩ => ⟨S2816x1024, .bf16⟩
  | .hbm, ⟨47, _⟩ => ⟨S4096x5632, .bf16⟩
  | .hbm, ⟨48, _⟩ => ⟨S3x2816, .f32⟩
  | .hbm, ⟨49, _⟩ => ⟨S1x2816, .f32⟩
  | .hbm, ⟨50, _⟩ => ⟨S2816x1024, .bf16⟩
  | .local _ .vmem, ⟨0, _⟩ => ⟨S256x1024, .f32⟩
  | .local _ .vmem, ⟨1, _⟩ => ⟨S256x1024, .f32⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S3x2816, .f32⟩
  | .local _ .vmem, ⟨11, _⟩ => ⟨S2816x1024, .bf16⟩
  | .local _ .vmem, ⟨12, _⟩ => ⟨S256x5632, .bf16⟩
  | .local _ .vmem, ⟨13, _⟩ => ⟨S256x5632, .bf16⟩
  | .local _ .vmem, ⟨14, _⟩ => ⟨S3x2816, .f32⟩
  | .local _ .vmem, ⟨15, _⟩ => ⟨S1x2816, .f32⟩
  | .local _ .vmem, ⟨16, _⟩ => ⟨S2816x1024, .bf16⟩
  | .local _ .vmem, ⟨17, _⟩ => ⟨S8x2816, .f32⟩
  | .local _ .vmem, ⟨18, _⟩ => ⟨S2816x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_0 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_1 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39_0 : Ref sig .tc := ⟨.hbm, 47, rfl⟩
abbrev main_v39_1 : Ref sig .tc := ⟨.hbm, 48, rfl⟩
abbrev main_v39_2 : Ref sig .tc := ⟨.hbm, 49, rfl⟩
abbrev main_v39_3 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v713 : BitVec 1 := Scalar.cmpi .eq arg0 c15_i32
  let v714 : BitVec 32 := Scalar.extui v713
  let c0_i32_381 : BitVec 32 := 0#32
  let v715 : BitVec 1 := Scalar.cmpi .ne v714 c0_i32_381
  v715

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "gelu_slope" => some ((112292272998273 / 281474976710656 : ℝ) : EReal)
  | _ => none
-- ==== ReferenceIdeal.lean ====
abbrev S4096x5632 : Shape := ⟨2, ![4096, 5632]⟩
abbrev S3x2816 : Shape := ⟨2, ![3, 2816]⟩
abbrev S1x2816 : Shape := ⟨2, ![1, 2816]⟩
abbrev S2816x1024 : Shape := ⟨2, ![2816, 1024]⟩
abbrev S4096x1024 : Shape := ⟨2, ![4096, 1024]⟩
abbrev S4096x2816 : Shape := ⟨2, ![4096, 2816]⟩
abbrev S_ : Shape := ⟨0, ![]⟩
abbrev S2x2816 : Shape := ⟨2, ![2, 2816]⟩
abbrev S4098x2816 : Shape := ⟨2, ![4098, 2816]⟩
abbrev S2816 : Shape := ⟨1, ![2816]⟩
abbrev S1024x2816 : Shape := ⟨2, ![1024, 2816]⟩

abbrev nBuf : Space → Nat
  | .hbm => 118
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S3x2816, .f32⟩
  | .hbm, ⟨2, _⟩ => ⟨S1x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S2x2816, .f32⟩
  | .hbm, ⟨9, _⟩ => ⟨S4098x2816, .f32⟩
  | .hbm, ⟨10, _⟩ => ⟨S_, .f32⟩
  | .hbm, ⟨11, _⟩ => ⟨S2x2816, .f32⟩
  | .hbm, ⟨12, _⟩ => ⟨S1x2816, .f32⟩
  | .hbm, ⟨13, _⟩ => ⟨S2816, .f32⟩
  | .hbm, ⟨14, _⟩ => ⟨S4096x2816, .f32⟩
  | .hbm, ⟨15, _⟩ => ⟨S1x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S1x2816, .f32⟩
  | .hbm, ⟨21, _⟩ => ⟨S2816, .f32⟩
  | .hbm, ⟨22, _⟩ => ⟨S4096x2816, .f32⟩
  | .hbm, ⟨23, _⟩ => ⟨S1x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S1x2816, .f32⟩
  | .hbm, ⟨28, _⟩ => ⟨S2816, .f32⟩
  | .hbm, ⟨29, _⟩ => ⟨S4096x2816, .f32⟩
  | .hbm, ⟨30, _⟩ => ⟨S1x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x1024, .f32⟩
  | .hbm, ⟨48, _⟩ => ⟨S1024x2816, .f32⟩
  | .hbm, ⟨49, _⟩ => ⟨S2816x1024, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S_, .f32⟩
  | .hbm, ⟨56, _⟩ => ⟨S4096x2816, .f32⟩
  | .hbm, ⟨57, _⟩ => ⟨S4096x2816, .f32⟩
  | .hbm, ⟨58, _⟩ => ⟨S4096x2816, .f32⟩
  | .hbm, ⟨59, _⟩ => ⟨S_, .f32⟩
  | .hbm, ⟨60, _⟩ => ⟨S4096x2816, .f32⟩
  | .hbm, ⟨61, _⟩ => ⟨S4096x2816, .f32⟩
  | .hbm, ⟨62, _⟩ => ⟨S4096x2816, .f32⟩
  | .hbm, ⟨63, _⟩ => ⟨S_, .f32⟩
  | .hbm, ⟨64, _⟩ => ⟨S4096x2816, .f32⟩
  | .hbm, ⟨65, _⟩ => ⟨S4096x2816, .f32⟩
  | .hbm, ⟨66, _⟩ => ⟨S4096x2816, .f32⟩
  | .hbm, ⟨67, _⟩ => ⟨S4096x2816, .f32⟩
  | .hbm, ⟨68, _⟩ => ⟨S4096x2816, .f32⟩
  | .hbm, ⟨69, _⟩ => ⟨S4096x2816, .f32⟩
  | .hbm, ⟨70, _⟩ => ⟨S_, .f32⟩
  | .hbm, ⟨71, _⟩ => ⟨S2816, .f32⟩
  | .hbm, ⟨72, _⟩ => ⟨S1x2816, .f32⟩
  | .hbm, ⟨73, _⟩ => ⟨S_, .f32⟩
  | .hbm, ⟨74, _⟩ => ⟨S2816, .f32⟩
  | .hbm, ⟨75, _⟩ => ⟨S_, .f32⟩
  | .hbm, ⟨76, _⟩ => ⟨S4098x2816, .f32⟩
  | .hbm, ⟨77, _⟩ => ⟨S1x2816, .f32⟩
  | .hbm, ⟨78, _⟩ => ⟨S_, .f32⟩
  | .hbm, ⟨79, _⟩ => ⟨S3x2816, .f32⟩
  | .hbm, ⟨80, _⟩ => ⟨S4096x2816, .f32⟩
  | .hbm, ⟨81, _⟩ => ⟨S4096x2816, .f32⟩
  | .hbm, ⟨82, _⟩ => ⟨S4096x2816, .f32⟩
  | .hbm, ⟨83, _⟩ => ⟨S_, .f32⟩
  | .hbm, ⟨84, _⟩ => ⟨S2816, .f32⟩
  | .hbm, ⟨85, _⟩ => ⟨S1x2816, .f32⟩
  | .hbm, ⟨86, _⟩ => ⟨S_, .f32⟩
  | .hbm, ⟨87, _⟩ => ⟨S2816, .f32⟩
  | .hbm, ⟨88, _⟩ => ⟨S_, .f32⟩
  | .hbm, ⟨89, _⟩ => ⟨S4098x2816, .f32⟩
  | .hbm, ⟨90, _⟩ => ⟨S4098x2816, .f32⟩
  | .hbm, ⟨91, _⟩ => ⟨S1x2816, .f32⟩
  | .hbm, ⟨92, _⟩ => ⟨S_, .f32⟩
  | .hbm, ⟨93, _⟩ => ⟨S3x2816, .f32⟩
  | .hbm, ⟨94, _⟩ => ⟨S3x2816, .f32⟩
  | .hbm, ⟨95, _⟩ => ⟨S_, .f32⟩
  | .hbm, ⟨96, _⟩ => ⟨S2816, .f32⟩
  | .hbm, ⟨97, _⟩ => ⟨S1x2816, .f32⟩
  | .hbm, ⟨98, _⟩ => ⟨S4096x2816, .f32⟩
  | .hbm, ⟨99, _⟩ => ⟨S4096x2816, .f32⟩
  | .hbm, ⟨100, _⟩ => ⟨S4096x2816, .f32⟩
  | .hbm, ⟨101, _⟩ => ⟨S_, .f32⟩
  | .hbm, ⟨102, _⟩ => ⟨S2816, .f32⟩
  | .hbm, ⟨103, _⟩ => ⟨S1x2816, .f32⟩
  | .hbm, ⟨104, _⟩ => ⟨S_, .f32⟩
  | .hbm, ⟨105, _⟩ => ⟨S2816, .f32⟩
  | .hbm, ⟨106, _⟩ => ⟨S_, .f32⟩
  | .hbm, ⟨107, _⟩ => ⟨S4098x2816, .f32⟩
  | .hbm, ⟨108, _⟩ => ⟨S4098x2816, .f32⟩
  | .hbm, ⟨109, _⟩ => ⟨S1x2816, .f32⟩
  | .hbm, ⟨110, _⟩ => ⟨S_, .f32⟩
  | .hbm, ⟨111, _⟩ => ⟨S3x2816, .f32⟩
  | .hbm, ⟨112, _⟩ => ⟨S3x2816, .f32⟩
  | .hbm, ⟨113, _⟩ => ⟨S2x2816, .f32⟩
  | .hbm, ⟨114, _⟩ => ⟨S4096x2816, .f32⟩
  | .hbm, ⟨115, _⟩ => ⟨S4096x5632, .f32⟩
  | .hbm, ⟨116, _⟩ => ⟨S4096x5632, .bf16⟩
  | .hbm, ⟨117, _⟩ => ⟨S2816x1024, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_3 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_4 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_5 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_6 : Ref sig .tc := ⟨.hbm, 70, rfl⟩
abbrev main_v58 : Ref sig .tc := ⟨.hbm, 71, rfl⟩
abbrev main_v59 : Ref sig .tc := ⟨.hbm, 72, rfl⟩
abbrev main_cst_7 : Ref sig .tc := ⟨.hbm, 73, rfl⟩
abbrev main_v60 : Ref sig .tc := ⟨.hbm, 74, rfl⟩
abbrev main_cst_8 : Ref sig .tc := ⟨.hbm, 75, rfl⟩
abbrev main_v61 : Ref sig .tc := ⟨.hbm, 76, rfl⟩
abbrev main_v62 : Ref sig .tc := ⟨.hbm, 77, rfl⟩
abbrev main_cst_9 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_10 : Ref sig .tc := ⟨.hbm, 83, rfl⟩
abbrev main_v67 : Ref sig .tc := ⟨.hbm, 84, rfl⟩
abbrev main_v68 : Ref sig .tc := ⟨.hbm, 85, rfl⟩
abbrev main_cst_11 : Ref sig .tc := ⟨.hbm, 86, rfl⟩
abbrev main_v69 : Ref sig .tc := ⟨.hbm, 87, rfl⟩
abbrev main_cst_12 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_13 : Ref sig .tc := ⟨.hbm, 92, rfl⟩
abbrev main_v73 : Ref sig .tc := ⟨.hbm, 93, rfl⟩
abbrev main_v74 : Ref sig .tc := ⟨.hbm, 94, rfl⟩
abbrev main_cst_14 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_15 : Ref sig .tc := ⟨.hbm, 101, rfl⟩
abbrev main_v80 : Ref sig .tc := ⟨.hbm, 102, rfl⟩
abbrev main_v81 : Ref sig .tc := ⟨.hbm, 103, rfl⟩
abbrev main_cst_16 : Ref sig .tc := ⟨.hbm, 104, rfl⟩
abbrev main_v82 : Ref sig .tc := ⟨.hbm, 105, rfl⟩
abbrev main_cst_17 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_18 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩

abbrev nD : Nat := 1
abbrev τ : Topo := Topo.v7x

variable {F : FTy → Type} [FloatOps F]
-- ==== Kernel2.lean ====
abbrev S4096x1024 : Shape := ⟨2, ![4096, 1024]⟩
abbrev S1024x5632 : Shape := ⟨2, ![1024, 5632]⟩
abbrev S4096x5632 : Shape := ⟨2, ![4096, 5632]⟩
abbrev S4x1024x1408 : Shape := ⟨3, ![4, 1024, 1408]⟩
abbrev S1024x1024 : Shape := ⟨2, ![1024, 1024]⟩
abbrev S1024x2816 : Shape := ⟨2, ![1024, 2816]⟩
abbrev S2x1024x1408 : Shape := ⟨3, ![2, 1024, 1408]⟩
abbrev S1024x1408 : Shape := ⟨2, ![1024, 1408]⟩
abbrev S1x1024x1408 : Shape := ⟨3, ![1, 1024, 1408]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x1024, .bf16⟩
  | .hbm, ⟨4, _⟩ => ⟨S4096x5632, .bf16⟩
  | .hbm, ⟨5, _⟩ => ⟨S4x1024x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S2x1024x1408, .bf16⟩
  | .local _ .vmem, ⟨5, _⟩ => ⟨S2x1024x1408, .bf16⟩
  | .local _ .vmem, ⟨6, _⟩ => ⟨S1024x2816, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x1024 : Shape := ⟨2, ![4096, 1024]⟩
abbrev S1024x5632 : Shape := ⟨2, ![1024, 5632]⟩
abbrev S4096x5632 : Shape := ⟨2, ![4096, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x5632, .f32⟩
  | .hbm, ⟨4, _⟩ => ⟨S5632x1024, .f32⟩
  | .hbm, ⟨5, _⟩ => ⟨S1024x5632, .f32⟩
  | .hbm, ⟨6, _⟩ => ⟨S4096x1024, .f32⟩
  | .hbm, ⟨7, _⟩ => ⟨S1024x4x1408, .f32⟩
  | .hbm, ⟨8, _⟩ => ⟨S4x1024x1408, .f32⟩
  | .hbm, ⟨9, _⟩ => ⟨S4x1024x1408, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S4096x1024 : Shape := ⟨2, ![4096, 1024]⟩
abbrev S1x1024 : Shape := ⟨2, ![1, 1024]⟩
abbrev S1024x3584 : Shape := ⟨2, ![1024, 3584]⟩
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S1024x4x896 : Shape := ⟨3, ![1024, 4, 896]⟩
abbrev S4x1024x896 : Shape := ⟨3, ![4, 1024, 896]⟩
abbrev S256x512 : Shape := ⟨2, ![256, 512]⟩
abbrev S256x1024 : Shape := ⟨2, ![256, 1024]⟩
abbrev S4 : Shape := ⟨1, ![4]⟩
abbrev S1 : Shape := ⟨1, ![1]⟩
abbrev S1024x896 : Shape := ⟨2, ![1024, 896]⟩
abbrev S1x1024x896 : Shape := ⟨3, ![1, 1024, 896]⟩
abbrev S256x3584 : Shape := ⟨2, ![256, 3584]⟩
abbrev S256 : Shape := ⟨1, ![256]⟩
abbrev S256x1 : Shape := ⟨2, ![256, 1]⟩
abbrev S1024 : Shape := ⟨1, ![1024]⟩

abbrev nBuf : Space → Nat
  | .hbm => 40
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3584, .f32⟩
  | .hbm, ⟨3, _⟩ => ⟨S4096x1024, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | .hbm, ⟨27, _⟩ => ⟨S4096x512, .bf16⟩
  | .hbm, ⟨28, _⟩ => ⟨S4096x512, .bf16⟩
  | .hbm, ⟨29, _⟩ => ⟨S4096x512, .bf16⟩
  | .hbm, ⟨30, _⟩ => ⟨S4096x512, .bf16⟩
  | .hbm, ⟨31, _⟩ => ⟨S4096x512, .bf16⟩
  | .hbm, ⟨32, _⟩ => ⟨S4096x512, .bf16⟩
  | .hbm, ⟨33, _⟩ => ⟨S4096x512, .bf16⟩
  | .hbm, ⟨34, _⟩ => ⟨S1024x3584, .bf16⟩
  | .hbm, ⟨35, _⟩ => ⟨S1024x4x896, .bf16⟩
  | .hbm, ⟨36, _⟩ => ⟨S4x1024x896, .bf16⟩
  | .hbm, ⟨37, _⟩ => ⟨S4x1024x896, .bf16⟩
  | .hbm, ⟨38, _⟩ => ⟨S4096x1024, .f32⟩
  | .hbm, ⟨39, _⟩ => ⟨S1x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | .local _ .vmem, ⟨19, _⟩ => ⟨S256x1024, .f32⟩
  | .local _ .vmem, ⟨20, _⟩ => ⟨S256x1024, .f32⟩
  | .local _ .vmem, ⟨21, _⟩ => ⟨S4x1024x896, .bf16⟩
  | .local _ .vmem, ⟨22, _⟩ => ⟨S256x1024, .f32⟩
  | .local _ .vmem, ⟨23, _⟩ => ⟨S256x1024, .f32⟩
  | .local _ .vmem, ⟨24, _⟩ => ⟨S1x1024, .f32⟩
  | .local _ .vmem, ⟨25, _⟩ => ⟨S1024x3584, .bf16⟩
  | .local _ .vmem, ⟨26, _⟩ => ⟨S1024x3584, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23_0 : Ref sig .tc := ⟨.hbm, 37, rfl⟩
abbrev main_v23_1 : Ref sig .tc := ⟨.hbm, 38, rfl⟩
abbrev main_v23_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_scratch0 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v62 : BitVec 1 := Scalar.cmpi .eq arg0 c15_i32
  let v63 : BitVec 32 := Scalar.extui v62
  let c0_i32_41 : BitVec 32 := 0#32
  let v64 : BitVec 1 := Scalar.cmpi .ne v63 c0_i32_41
  v64

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S4x1024x896 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference3Ideal.lean ====
abbrev S4096x1024 : Shape := ⟨2, ![4096, 1024]⟩
abbrev S1x1024 : Shape := ⟨2, ![1, 1024]⟩
abbrev S1024x3584 : Shape := ⟨2, ![1024, 3584]⟩
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S4096x3584 : Shape := ⟨2, ![4096, 3584]⟩
abbrev S3584x1024 : Shape := ⟨2, ![3584, 1024]⟩
abbrev S1024 : Shape := ⟨1, ![1024]⟩
abbrev S1024x4x896 : Shape := ⟨3, ![1024, 4, 896]⟩
abbrev S4x1024x896 : Shape := ⟨3, ![4, 1024, 896]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3584, .f32⟩
  | .hbm, ⟨3, _⟩ => ⟨S4096x1024, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x3584, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x3584, .f32⟩
  | .hbm, ⟨39, _⟩ => ⟨S3584x1024, .f32⟩
  | .hbm, ⟨40, _⟩ => ⟨S1024x3584, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S1024x4x896, .f32⟩
  | .hbm, ⟨67, _⟩ => ⟨S4x1024x896, .f32⟩
  | .hbm, ⟨68, _⟩ => ⟨S4x1024x896, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel4.lean ====
abbrev S4096x512 : Shape := ⟨2, ![4096, 512]⟩
abbrev S4096x2048 : Shape := ⟨2, ![4096, 2048]⟩
abbrev S4096x1024 : Shape := ⟨2, ![4096, 1024]⟩
abbrev S1x512 : Shape := ⟨2, ![1, 512]⟩
abbrev S1024x1024 : Shape := ⟨2, ![1024, 1024]⟩
abbrev S1x1024 : Shape := ⟨2, ![1, 1024]⟩
abbrev S1024x5632 : Shape := ⟨2, ![1024, 5632]⟩
abbrev S4096x5632 : Shape := ⟨2, ![4096, 5632]⟩
abbrev S4096x4x128 : Shape := ⟨3, ![4096, 4, 128]⟩
abbrev S1x4x128 : Shape := ⟨3, ![1, 4, 128]⟩
abbrev S_ : Shape := ⟨0, ![]⟩
abbrev S4096x4 : Shape := ⟨2, ![4096, 4]⟩
abbrev S4096x4x1 : Shape := ⟨3, ![4096, 4, 1]⟩
abbrev S4096 : Shape := ⟨1, ![4096]⟩
abbrev S4096x1 : Shape := ⟨2, ![4096, 1]⟩
abbrev S1024x4x1408 : Shape := ⟨3, ![1024, 4, 1408]⟩
abbrev S4x1024x1408 : Shape := ⟨3, ![4, 1024, 1408]⟩
abbrev S256x5632 : Shape := ⟨2, ![256, 5632]⟩
abbrev S256x1024 : Shape := ⟨2, ![256, 1024]⟩
abbrev S256x512 : Shape := ⟨2, ![256, 512]⟩
abbrev S4 : Shape := ⟨1, ![4]⟩
abbrev S1 : Shape := ⟨1, ![1]⟩
abbrev S1024x1408 : Shape := ⟨2, ![1024, 1408]⟩
abbrev S1x1024x1408 : Shape := ⟨3, ![1, 1024, 1408]⟩
abbrev S256 : Shape := ⟨1, ![256]⟩
abbrev S256x1 : Shape := ⟨2, ![256, 1]⟩
abbrev S1024 : Shape := ⟨1, ![1024]⟩
abbrev S512 : Shape := ⟨1, ![512]⟩
abbrev S256x128 : Shape := ⟨2, ![256, 128]⟩

abbrev nBuf : Space → Nat
  | .hbm => 73
  | .vmem => 32
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x2048, .f32⟩
  | .hbm, ⟨3, _⟩ => ⟨S4096x1024, .f32⟩
  | .hbm, ⟨4, _⟩ => ⟨S1x512, .f32⟩
  | .hbm, ⟨5, _⟩ => ⟨S1x512, .f32⟩
  | .hbm, ⟨6, _⟩ => ⟨S1024x1024, .f32⟩
  | .hbm, ⟨7, _⟩ => ⟨S1x1024, .f32⟩
  | .hbm, ⟨8, _⟩ => ⟨S1024x5632, .f32⟩
  | .hbm, ⟨9, _⟩ => ⟨S4096x1024, .f32⟩
  | .hbm, ⟨10, _⟩ => ⟨S4096x5632, .f32⟩
  | .hbm, ⟨11, _⟩ => ⟨S4096x512, .f32⟩
  | .hbm, ⟨12, _⟩ => ⟨S4096x4x128, .f32⟩
  | .hbm, ⟨13, _⟩ => ⟨S1x4x128, .f32⟩
  | .hbm, ⟨14, _⟩ => ⟨S4096x4x128, .f32⟩
  | .hbm, ⟨15, _⟩ => ⟨S_, .f32⟩
  | .hbm, ⟨16, _⟩ => ⟨S4096x4, .f32⟩
  | .hbm, ⟨17, _⟩ => ⟨S4096x4x1, .f32⟩
  | .hbm, ⟨18, _⟩ => ⟨S_, .f32⟩
  | .hbm, ⟨19, _⟩ => ⟨S4096x4x1, .f32⟩
  | .hbm, ⟨20, _⟩ => ⟨S4096x4x1, .f32⟩
  | .hbm, ⟨21, _⟩ => ⟨S_, .f32⟩
  | .hbm, ⟨22, _⟩ => ⟨S4096x4x1, .f32⟩
  | .hbm, ⟨23, _⟩ => ⟨S4096x4x1, .f32⟩
  | .hbm, ⟨24, _⟩ => ⟨S4096x4x1, .f32⟩
  | .hbm, ⟨25, _⟩ => ⟨S4096x4x128, .f32⟩
  | .hbm, ⟨26, _⟩ => ⟨S4096x4x128, .f32⟩
  | .hbm, ⟨27, _⟩ => ⟨S4096x4x128, .f32⟩
  | .hbm, ⟨28, _⟩ => ⟨S4096x4x128, .f32⟩
  | .hbm, ⟨29, _⟩ => ⟨S4096x4x128, .f32⟩
  | .hbm, ⟨30, _⟩ => ⟨S4096x4x128, .f32⟩
  | .hbm, ⟨31, _⟩ => ⟨S4096x4x128, .f32⟩
  | .hbm, ⟨32, _⟩ => ⟨S_, .f32⟩
  | .hbm, ⟨33, _⟩ => ⟨S4096x4x128, .f32⟩
  | .hbm, ⟨34, _⟩ => ⟨S4096x4x128, .f32⟩
  | .hbm, ⟨35, _⟩ => ⟨S_, .f32⟩
  | .hbm, ⟨36, _⟩ => ⟨S4096x4x128, .f32⟩
  | .hbm, ⟨37, _⟩ => ⟨S4096x4x128, .f32⟩
  | .hbm, ⟨38, _⟩ => ⟨S4096x4x128, .f32⟩
  | .hbm, ⟨39, _⟩ => ⟨S4096x4x128, .f32⟩
  | .hbm, ⟨40, _⟩ => ⟨S4096x512, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S4096x1, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S4096x512, .f32⟩
  | .hbm, ⟨55, _⟩ => ⟨S4096x512, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x5632, .bf16⟩
  | .hbm, ⟨60, _⟩ => ⟨S1024x5632, .bf16⟩
  | .hbm, ⟨61, _⟩ => ⟨S1024x4x1408, .bf16⟩
  | .hbm, ⟨62, _⟩ => ⟨S4x1024x1408, .bf16⟩
  | .hbm, ⟨63, _⟩ => ⟨S1024x1024, .bf16⟩
  | .hbm, ⟨64, _⟩ => ⟨S4096x1024, .bf16⟩
  | .hbm, ⟨65, _⟩ => ⟨S4096x1024, .f32⟩
  | .hbm, ⟨66, _⟩ => ⟨S1x1024, .f32⟩
  | .hbm, ⟨67, _⟩ => ⟨S4096x512, .f32⟩
  | .hbm, ⟨68, _⟩ => ⟨S4096x512, .f32⟩
  | .hbm, ⟨69, _⟩ => ⟨S4096x512, .bf16⟩
  | .hbm, ⟨70, _⟩ => ⟨S1x512, .f32⟩
  | .hbm, ⟨71, _⟩ => ⟨S1x512, .f32⟩
  | .hbm, ⟨72, _⟩ => ⟨S1024x1024, .bf16⟩
  | .local _ .vmem, ⟨0, _⟩ => ⟨S256x5632, .bf16⟩
  | .local _ .vmem, ⟨1, _⟩ => ⟨S256x5632, .bf16⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S1024x1024, .bf16⟩
  | .local _ .vmem, ⟨8, _⟩ => ⟨S256x1024, .bf16⟩
  | .local _ .vmem, ⟨9, _⟩ => ⟨S256x1024, .bf16⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S1x512, .f32⟩
  | .local _ .vmem, ⟨17, _⟩ => ⟨S1x512, .f32⟩
  | .local _ .vmem, ⟨18, _⟩ => ⟨S256x1024, .f32⟩
  | .local _ .vmem, ⟨19, _⟩ => ⟨S256x1024, .f32⟩
  | .local _ .vmem, ⟨20, _⟩ => ⟨S1x1024, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .bf16⟩
  | .local _ .vmem, ⟨26, _⟩ => ⟨S256x512, .bf16⟩
  | .local _ .vmem, ⟨27, _⟩ => ⟨S1x512, .f32⟩
  | .local _ .vmem, ⟨28, _⟩ => ⟨S1x512, .f32⟩
  | .local _ .vmem, ⟨29, _⟩ => ⟨S1024x1024, .bf16⟩
  | .local _ .vmem, ⟨30, _⟩ => ⟨S1024x5632, .bf16⟩
  | .local _ .vmem, ⟨31, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_2 : Ref sig .tc := ⟨.hbm, 41, rfl⟩
abbrev main_v19 : Ref sig .tc := ⟨.hbm, 42, rfl⟩
abbrev main_v20 : Ref sig .tc := ⟨.hbm, 43, rfl⟩
abbrev main_cst_3 : Ref sig .tc := ⟨.hbm, 44, rfl⟩
abbrev main_v21 : Ref sig .tc := ⟨.hbm, 45, rfl⟩
abbrev main_v22 : Ref sig .tc := ⟨.hbm, 46, rfl⟩
abbrev main_cst_4 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40_0 : Ref sig .tc := ⟨.hbm, 65, rfl⟩
abbrev main_v40_1 : Ref sig .tc := ⟨.hbm, 66, rfl⟩
abbrev main_v40_2 : Ref sig .tc := ⟨.hbm, 67, rfl⟩
abbrev main_v40_3 : Ref sig .tc := ⟨.hbm, 68, rfl⟩
abbrev main_v40_4 : Ref sig .tc := ⟨.hbm, 69, rfl⟩
abbrev main_v40_5 : Ref sig .tc := ⟨.hbm, 70, rfl⟩
abbrev main_v40_6 : Ref sig .tc := ⟨.hbm, 71, rfl⟩
abbrev main_v40_7 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_scratch0 : Ref sig .tc := ⟨.vmem, 30, rfl⟩
abbrev cc0_scratch2 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem17_0 : DmaSem sig := 28
abbrev cc0_sem18_0 : DmaSem sig := 29

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v195 : BitVec 1 := Scalar.cmpi .eq arg0 c15_i32
  let v196 : BitVec 32 := Scalar.extui v195
  let c0_i32_85 : BitVec 32 := 0#32
  let v197 : BitVec 1 := Scalar.cmpi .ne v196 c0_i32_85
  v197

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference4Ideal.lean ====
abbrev S4096x512 : Shape := ⟨2, ![4096, 512]⟩
abbrev S4096x2048 : Shape := ⟨2, ![4096, 2048]⟩
abbrev S4096x1024 : Shape := ⟨2, ![4096, 1024]⟩
abbrev S1x512 : Shape := ⟨2, ![1, 512]⟩
abbrev S1024x1024 : Shape := ⟨2, ![1024, 1024]⟩
abbrev S1x1024 : Shape := ⟨2, ![1, 1024]⟩
abbrev S1024x5632 : Shape := ⟨2, ![1024, 5632]⟩
abbrev S4096x5632 : Shape := ⟨2, ![4096, 5632]⟩
abbrev S4096x4x128 : Shape := ⟨3, ![4096, 4, 128]⟩
abbrev S1x4x128 : Shape := ⟨3, ![1, 4, 128]⟩
abbrev S_ : Shape := ⟨0, ![]⟩
abbrev S4096x4 : Shape := ⟨2, ![4096, 4]⟩
abbrev S4096x4x1 : Shape := ⟨3, ![4096, 4, 1]⟩
abbrev S4096 : Shape := ⟨1, ![4096]⟩
abbrev S4096x1 : Shape := ⟨2, ![4096, 1]⟩
abbrev S5632x1024 : Shape := ⟨2, ![5632, 1024]⟩
abbrev S1024 : Shape := ⟨1, ![1024]⟩
abbrev S512 : Shape := ⟨1, ![512]⟩
abbrev S4x128 : Shape := ⟨2, ![4, 128]⟩

abbrev nBuf : Space → Nat
  | .hbm => 182
  | .vmem => 0
  | .smem => 0
  | _ => 0

abbrev hbmTy0_0 (i : Nat) : BufTy := match i % 128 with
  | 0 => ⟨S4096x512, .f32⟩
  | 1 => ⟨S4096x512, .f32⟩
  | 2 => ⟨S4096x2048, .f32⟩
  | 3 => ⟨S4096x1024, .f32⟩
  | 4 => ⟨S1x512, .f32⟩
  | 5 => ⟨S1x512, .f32⟩
  | 6 => ⟨S1024x1024, .f32⟩
  | 7 => ⟨S1x1024, .f32⟩
  | 8 => ⟨S1024x5632, .f32⟩
  | 9 => ⟨S4096x1024, .f32⟩
  | 10 => ⟨S4096x5632, .f32⟩
  | 11 => ⟨S4096x512, .f32⟩
  | 12 => ⟨S4096x4x128, .f32⟩
  | 13 => ⟨S1x4x128, .f32⟩
  | 14 => ⟨S4096x4x128, .f32⟩
  | 15 => ⟨S_, .f32⟩
  | 16 => ⟨S4096x4, .f32⟩
  | 17 => ⟨S4096x4x1, .f32⟩
  | 18 => ⟨S_, .f32⟩
  | 19 => ⟨S4096x4x1, .f32⟩
  | 20 => ⟨S4096x4x1, .f32⟩
  | 21 => ⟨S_, .f32⟩
  | 22 => ⟨S4096x4x1, .f32⟩
  | 23 => ⟨S4096x4x1, .f32⟩
  | 24 => ⟨S4096x4x1, .f32⟩
  | 25 => ⟨S4096x4x1, .f32⟩
  | 26 => ⟨S_, .f32⟩
  | 27 => ⟨S4096x4x1, .f32⟩
  | 28 => ⟨S4096x4x1, .f32⟩
  | 29 => ⟨S4096x4x128, .f32⟩
  | 30 => ⟨S4096x4x128, .f32⟩
  | 31 => ⟨S4096x4x128, .f32⟩
  | 32 => ⟨S4096x4x128, .f32⟩
  | 33 => ⟨S4096x4x128, .f32⟩
  | 34 => ⟨S4096x4x128, .f32⟩
  | 35 => ⟨S4096x4x128, .f32⟩
  | 36 => ⟨S_, .f32⟩
  | 37 => ⟨S4096x4x128, .f32⟩
  | 38 => ⟨S4096x4x128, .f32⟩
  | 39 => ⟨S_, .f32⟩
  | 40 => ⟨S4096x4x128, .f32⟩
  | 41 => ⟨S4096x4x128, .f32⟩
  | 42 => ⟨S_, .f32⟩
  | 43 => ⟨S4096x4x128, .f32⟩
  | 44 => ⟨S4096x4x128, .f32⟩
  | 45 => ⟨S4096x4x128, .f32⟩
  | 46 => ⟨S4096x4x128, .f32⟩
  | 47 => ⟨S4096x4x128, .f32⟩
  | 48 => ⟨S4096x512, .f32⟩
  | 49 => ⟨S_, .f32⟩
  | 50 => ⟨S4096, .f32⟩
  | 51 => ⟨S4096x1, .f32⟩
  | 52 => ⟨S_, .f32⟩
  | 53 => ⟨S4096x1, .f32⟩
  | 54 => ⟨S4096x1, .f32⟩
  | 55 => ⟨S_, .f32⟩
  | 56 => ⟨S4096x1, .f32⟩
  | 57 => ⟨S4096x1, .f32⟩
  | 58 => ⟨S4096x1, .f32⟩
  | 59 => ⟨S4096x1, .f32⟩
  | 60 => ⟨S_, .f32⟩
  | 61 => ⟨S4096x1, .f32⟩
  | 62 => ⟨S4096x1, .f32⟩
  | 63 => ⟨S4096x512, .f32⟩
  | 64 => ⟨S4096x512, .f32⟩
  | 65 => ⟨S4096x512, .f32⟩
  | 66 => ⟨S4096x512, .f32⟩
  | 67 => ⟨S4096x512, .f32⟩
  | 68 => ⟨S4096x1024, .f32⟩
  | 69 => ⟨S4096x1024, .f32⟩
  | 70 => ⟨S4096x1024, .f32⟩
  | 71 => ⟨S4096x1024, .f32⟩
  | 72 => ⟨S_, .f32⟩
  | 73 => ⟨S4096, .f32⟩
  | 74 => ⟨S4096x1, .f32⟩
  | 75 => ⟨S_, .f32⟩
  | 76 => ⟨S4096x1, .f32⟩
  | 77 => ⟨S4096x1, .f32⟩
  | 78 => ⟨S_, .f32⟩
  | 79 => ⟨S4096x1, .f32⟩
  | 80 => ⟨S4096x1, .f32⟩
  | 81 => ⟨S4096x1, .f32⟩
  | 82 => ⟨S4096x1, .f32⟩
  | 83 => ⟨S_, .f32⟩
  | 84 => ⟨S4096x1, .f32⟩
  | 85 => ⟨S4096x1, .f32⟩
  | 86 => ⟨S4096x1024, .f32⟩
  | 87 => ⟨S4096x1024, .f32⟩
  | 88 => ⟨S4096x1024, .f32⟩
  | 89 => ⟨S4096x1024, .f32⟩
  | 90 => ⟨S4096x5632, .f32⟩
  | 91 => ⟨S5632x1024, .f32⟩
  | 92 => ⟨S1024x5632, .f32⟩
  | 93 => ⟨S4096x1024, .f32⟩
  | 94 => ⟨S4096x1024, .f32⟩
  | 95 => ⟨S_, .f32⟩
  | 96 => ⟨S1024, .f32⟩
  | 97 => ⟨S1x1024, .f32⟩
  | 98 => ⟨S4096x1024, .f32⟩
  | 99 => ⟨S4096x1024, .f32⟩
  | 100 => ⟨S4096x1024, .f32⟩
  | 101 => ⟨S_, .f32⟩
  | 102 => ⟨S4096, .f32⟩
  | 103 => ⟨S4096x1, .f32⟩
  | 104 => ⟨S4096x1024, .f32⟩
  | 105 => ⟨S4096x1024, .f32⟩
  | 106 => ⟨S4096x1024, .f32⟩
  | 107 => ⟨S4096x1, .f32⟩
  | 108 => ⟨S_, .f32⟩
  | 109 => ⟨S4096x1, .f32⟩
  | 110 => ⟨S4096x1, .f32⟩
  | 111 => ⟨S_, .f32⟩
  | 112 => ⟨S4096, .f32⟩
  | 113 => ⟨S4096x1024, .f32⟩
  | 114 => ⟨S4096x1024, .f32⟩
  | 115 => ⟨S4096x1024, .f32⟩
  | 116 => ⟨S4096x1024, .f32⟩
  | 117 => ⟨S4096x1024, .f32⟩
  | 118 => ⟨S4096x1024, .f32⟩
  | 119 => ⟨S1024x1024, .f32⟩
  | 120 => ⟨S1024x1024, .f32⟩
  | 121 => ⟨S4096x1024, .f32⟩
  | 122 => ⟨S4096x512, .f32⟩
  | 123 => ⟨S4096x512, .f32⟩
  | 124 => ⟨S4096x4x128, .f32⟩
  | 125 => ⟨S4096x512, .f32⟩
  | 126 => ⟨S_, .f32⟩
  | 127 => ⟨S512, .f32⟩
  | _ => ⟨S4096x512, .f32⟩

abbrev hbmTy0_1 (i : Nat) : BufTy := match i % 128 with
  | 0 => ⟨S1x512, .f32⟩
  | 1 => ⟨S4096x512, .f32⟩
  | 2 => ⟨S4096x512, .f32⟩
  | 3 => ⟨S4096x512, .f32⟩
  | 4 => ⟨S_, .f32⟩
  | 5 => ⟨S4096, .f32⟩
  | 6 => ⟨S4096x1, .f32⟩
  | 7 => ⟨S4096x512, .f32⟩
  | 8 => ⟨S4096x512, .f32⟩
  | 9 => ⟨S4096x1, .f32⟩
  | 10 => ⟨S_, .f32⟩
  | 11 => ⟨S4096x1, .f32⟩
  | 12 => ⟨S4096x1, .f32⟩
  | 13 => ⟨S_, .f32⟩
  | 14 => ⟨S4096, .f32⟩
  | 15 => ⟨S4096x512, .f32⟩
  | 16 => ⟨S4096x512, .f32⟩
  | 17 => ⟨S4096x512, .f32⟩
  | 18 => ⟨S4096x512, .f32⟩
  | 19 => ⟨S4096x512, .f32⟩
  | 20 => ⟨S4096x4x128, .f32⟩
  | 21 => ⟨S4096x4x128, .f32⟩
  | 22 => ⟨S4096x4x128, .f32⟩
  | 23 => ⟨S4096x4x128, .f32⟩
  | 24 => ⟨S4096x4x128, .f32⟩
  | 25 => ⟨S4096x4x128, .f32⟩
  | 26 => ⟨S4096x512, .f32⟩
  | 27 => ⟨S4096x4x128, .f32⟩
  | 28 => ⟨S_, .f32⟩
  | 29 => ⟨S4x128, .f32⟩
  | 30 => ⟨S1x4x128, .f32⟩
  | 31 => ⟨S4096x4x128, .f32⟩
  | 32 => ⟨S4096x4x128, .f32⟩
  | 33 => ⟨S4096x4x128, .f32⟩
  | 34 => ⟨S_, .f32⟩
  | 35 => ⟨S4096x4, .f32⟩
  | 36 => ⟨S4096x4x1, .f32⟩
  | 37 => ⟨S4096x4x128, .f32⟩
  | 38 => ⟨S4096x4x128, .f32⟩
  | 39 => ⟨S4096x4x1, .f32⟩
  | 40 => ⟨S_, .f32⟩
  | 41 => ⟨S4096x4x1, .f32⟩
  | 42 => ⟨S4096x4x1, .f32⟩
  | 43 => ⟨S_, .f32⟩
  | 44 => ⟨S4096x4, .f32⟩
  | 45 => ⟨S4096x4x128, .f32⟩
  | 46 => ⟨S4096x4x128, .f32⟩
  | 47 => ⟨S4096x4x128, .f32⟩
  | 48 => ⟨S4096x4x128, .f32⟩
  | 49 => ⟨S4096x4x128, .f32⟩
  | 50 => ⟨S1x512, .f32⟩
  | 51 => ⟨S4096x512, .f32⟩
  | 52 => ⟨S4096x512, .bf16⟩
  | 53 => ⟨S1024x1024, .bf16⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_v19_2 : Ref sig .tc := ⟨.hbm, 41, rfl⟩
abbrev main_call0_cst_1 : Ref sig .tc := ⟨.hbm, 42, rfl⟩
abbrev main_call0_v6 : Ref sig .tc := ⟨.hbm, 43, rfl⟩
abbrev main_call0_v7 : Ref sig .tc := ⟨.hbm, 44, rfl⟩
abbrev main_v19_1 : Ref sig .tc := ⟨.hbm, 45, rfl⟩
abbrev main_v19_0 : Ref sig .tc := ⟨.hbm, 46, rfl⟩
abbrev main_v20 : Ref sig .tc := ⟨.hbm, 47, rfl⟩
abbrev main_v21 : Ref sig .tc := ⟨.hbm, 48, rfl⟩
abbrev main_cst_3 : Ref sig .tc := ⟨.hbm, 49, rfl⟩
abbrev main_v22 : Ref sig .tc := ⟨.hbm, 50, rfl⟩
abbrev main_v23 : Ref sig .tc := ⟨.hbm, 51, rfl⟩
abbrev main_cst_4 : Ref sig .tc := ⟨.hbm, 52, rfl⟩
abbrev main_v24 : Ref sig .tc := ⟨.hbm, 53, rfl⟩
abbrev main_v25 : Ref sig .tc := ⟨.hbm, 54, rfl⟩
abbrev main_cst_5 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_6 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_7 : Ref sig .tc := ⟨.hbm, 72, rfl⟩
abbrev main_v41 : Ref sig .tc := ⟨.hbm, 73, rfl⟩
abbrev main_v42 : Ref sig .tc := ⟨.hbm, 74, rfl⟩
abbrev main_cst_8 : Ref sig .tc := ⟨.hbm, 75, rfl⟩
abbrev main_v43 : Ref sig .tc := ⟨.hbm, 76, rfl⟩
abbrev main_v44 : Ref sig .tc := ⟨.hbm, 77, rfl⟩
abbrev main_cst_9 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_cst_10 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_11 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_12 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_13 : Ref sig .tc := ⟨.hbm, 108, rfl⟩
abbrev main_v71 : Ref sig .tc := ⟨.hbm, 109, rfl⟩
abbrev main_v72 : Ref sig .tc := ⟨.hbm, 110, rfl⟩
abbrev main_cst_14 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_15 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_16 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_17 : Ref sig .tc := ⟨.hbm, 138, rfl⟩
abbrev main_v97 : Ref sig .tc := ⟨.hbm, 139, rfl⟩
abbrev main_v98 : Ref sig .tc := ⟨.hbm, 140, rfl⟩
abbrev main_cst_18 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_call1_v0 : Ref sig .tc := ⟨.hbm, 150, rfl⟩
abbrev main_call1_v1 : Ref sig .tc := ⟨.hbm, 151, rfl⟩
abbrev main_call1_v2 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_cst_19 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_cst_20 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_cst_21 : Ref sig .tc := ⟨.hbm, 168, rfl⟩
abbrev main_v120 : Ref sig .tc := ⟨.hbm, 169, rfl⟩
abbrev main_v121 : Ref sig .tc := ⟨.hbm, 170, rfl⟩
abbrev main_cst_22 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩

abbrev nD : Nat := 1
abbrev τ : Topo := Topo.v7x

variable {F : FTy → Type} [FloatOps F]
-- ==== Kernel5.lean ====
abbrev S4096x512 : Shape := ⟨2, ![4096, 512]⟩
abbrev S4096x2048 : Shape := ⟨2, ![4096, 2048]⟩
abbrev S4096x1024 : Shape := ⟨2, ![4096, 1024]⟩
abbrev S1x512 : Shape := ⟨2, ![1, 512]⟩
abbrev S1024x1024 : Shape := ⟨2, ![1024, 1024]⟩
abbrev S1x1024 : Shape := ⟨2, ![1, 1024]⟩
abbrev S1024x5632 : Shape := ⟨2, ![1024, 5632]⟩
abbrev S3x2816 : Shape := ⟨2, ![3, 2816]⟩
abbrev S1x2816 : Shape := ⟨2, ![1, 2816]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S4096x2816 : Shape := ⟨2, ![4096, 2816]⟩
abbrev S1x128 : Shape := ⟨2, ![1, 128]⟩
abbrev S256x512 : Shape := ⟨2, ![256, 512]⟩
abbrev S256x1024 : Shape := ⟨2, ![256, 1024]⟩
abbrev S256x2816 : Shape := ⟨2, ![256, 2816]⟩
abbrev S8x2816 : Shape := ⟨2, ![8, 2816]⟩
abbrev S4 : Shape := ⟨1, ![4]⟩
abbrev S1 : Shape := ⟨1, ![1]⟩
abbrev S_ : Shape := ⟨0, ![]⟩
abbrev S1024x1408 : Shape := ⟨2, ![1024, 1408]⟩
abbrev S1x1024x1408 : Shape := ⟨3, ![1, 1024, 1408]⟩
abbrev S256 : Shape := ⟨1, ![256]⟩
abbrev S256x1 : Shape := ⟨2, ![256, 1]⟩
abbrev S256x128 : Shape := ⟨2, ![256, 128]⟩
abbrev S256x1536 : Shape := ⟨2, ![256, 1536]⟩
abbrev S1024x1536 : Shape := ⟨2, ![1024, 1536]⟩
abbrev S8x1536 : Shape := ⟨2, ![8, 1536]⟩
abbrev S1536 : Shape := ⟨1, ![1536]⟩
abbrev S1x1536 : Shape := ⟨2, ![1, 1536]⟩
abbrev S1536x1024 : Shape := ⟨2, ![1536, 1024]⟩
abbrev S256x1280 : Shape := ⟨2, ![256, 1280]⟩
abbrev S1024x1280 : Shape := ⟨2, ![1024, 1280]⟩
abbrev S8x1280 : Shape := ⟨2, ![8, 1280]⟩
abbrev S1280 : Shape := ⟨1, ![1280]⟩
abbrev S1x1280 : Shape := ⟨2, ![1, 1280]⟩
abbrev S1280x1024 : Shape := ⟨2, ![1280, 1024]⟩
abbrev S1x256x1024 : Shape := ⟨3, ![1, 256, 1024]⟩
abbrev S1x1x1 : Shape := ⟨3, ![1, 1, 1]⟩
abbrev S1024 : Shape := ⟨1, ![1024]⟩

abbrev nBuf : Space → Nat
  | .hbm => 29
  | .vmem => 38
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x2048, .f32⟩
  | .hbm, ⟨3, _⟩ => ⟨S4096x1024, .f32⟩
  | .hbm, ⟨4, _⟩ => ⟨S1x512, .f32⟩
  | .hbm, ⟨5, _⟩ => ⟨S1x512, .f32⟩
  | .hbm, ⟨6, _⟩ => ⟨S1024x1024, .f32⟩
  | .hbm, ⟨7, _⟩ => ⟨S1x1024, .f32⟩
  | .hbm, ⟨8, _⟩ => ⟨S1024x5632, .f32⟩
  | .hbm, ⟨9, _⟩ => ⟨S3x2816, .f32⟩
  | .hbm, ⟨10, _⟩ => ⟨S1x2816, .f32⟩
  | .hbm, ⟨11, _⟩ => ⟨S2816x1024, .f32⟩
  | .hbm, ⟨12, _⟩ => ⟨S1x1024, .f32⟩
  | .hbm, ⟨13, _⟩ => ⟨S4096x1024, .f32⟩
  | .hbm, ⟨14, _⟩ => ⟨S1024x1024, .bf16⟩
  | .hbm, ⟨15, _⟩ => ⟨S1024x5632, .bf16⟩
  | .hbm, ⟨16, _⟩ => ⟨S1024x4x1408, .bf16⟩
  | .hbm, ⟨17, _⟩ => ⟨S4x1024x1408, .bf16⟩
  | .hbm, ⟨18, _⟩ => ⟨S2816x1024, .bf16⟩
  | .hbm, ⟨19, _⟩ => ⟨S4096x1024, .f32⟩
  | .hbm, ⟨20, _⟩ => ⟨S4096x1024, .bf16⟩
  | .hbm, ⟨21, _⟩ => ⟨S4096x1024, .bf16⟩
  | .hbm, ⟨22, _⟩ => ⟨S4096x2816, .bf16⟩
  | .hbm, ⟨23, _⟩ => ⟨S4096x2816, .bf16⟩
  | .hbm, ⟨24, _⟩ => ⟨S4096x2816, .bf16⟩
  | .hbm, ⟨25, _⟩ => ⟨S4096x2816, .bf16⟩
  | .hbm, ⟨26, _⟩ => ⟨S4096x1024, .f32⟩
  | .hbm, ⟨27, _⟩ => ⟨S1x128, .f32⟩
  | .hbm, ⟨28, _⟩ => ⟨S1x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | .local _ .vmem, ⟨8, _⟩ => ⟨S1x512, .f32⟩
  | .local _ .vmem, ⟨9, _⟩ => ⟨S1x512, .f32⟩
  | .local _ .vmem, ⟨10, _⟩ => ⟨S1024x1024, .bf16⟩
  | .local _ .vmem, ⟨11, _⟩ => ⟨S1x1024, .f32⟩
  | .local _ .vmem, ⟨12, _⟩ => ⟨S3x2816, .f32⟩
  | .local _ .vmem, ⟨13, _⟩ => ⟨S1x2816, .f32⟩
  | .local _ .vmem, ⟨14, _⟩ => ⟨S2816x1024, .bf16⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x2816, .bf16⟩
  | .local _ .vmem, ⟨25, _⟩ => ⟨S256x2816, .bf16⟩
  | .local _ .vmem, ⟨26, _⟩ => ⟨S256x2816, .bf16⟩
  | .local _ .vmem, ⟨27, _⟩ => ⟨S256x2816, .bf16⟩
  | .local _ .vmem, ⟨28, _⟩ => ⟨S256x2816, .bf16⟩
  | .local _ .vmem, ⟨29, _⟩ => ⟨S256x2816, .bf16⟩
  | .local _ .vmem, ⟨30, _⟩ => ⟨S256x2816, .bf16⟩
  | .local _ .vmem, ⟨31, _⟩ => ⟨S256x2816, .bf16⟩
  | .local _ .vmem, ⟨32, _⟩ => ⟨S256x1024, .f32⟩
  | .local _ .vmem, ⟨33, _⟩ => ⟨S256x1024, .f32⟩
  | .local _ .vmem, ⟨34, _⟩ => ⟨S1x128, .f32⟩
  | .local _ .vmem, ⟨35, _⟩ => ⟨S1x1024, .f32⟩
  | .local _ .vmem, ⟨36, _⟩ => ⟨S8x2816, .f32⟩
  | .local _ .vmem, ⟨37, _⟩ => ⟨S1024x5632, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5_0 : Ref sig .tc := ⟨.hbm, 19, rfl⟩
abbrev main_v5_1 : Ref sig .tc := ⟨.hbm, 20, rfl⟩
abbrev main_v5_2 : Ref sig .tc := ⟨.hbm, 21, rfl⟩
abbrev main_v5_3 : Ref sig .tc := ⟨.hbm, 22, rfl⟩
abbrev main_v5_4 : Ref sig .tc := ⟨.hbm, 23, rfl⟩
abbrev main_v5_5 : Ref sig .tc := ⟨.hbm, 24, rfl⟩
abbrev main_v5_6 : Ref sig .tc := ⟨.hbm, 25, rfl⟩
abbrev main_v5_7 : Ref sig .tc := ⟨.hbm, 26, rfl⟩
abbrev main_v5_8 : Ref sig .tc := ⟨.hbm, 27, rfl⟩
abbrev main_v5_9 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg22_0 : Ref sig .tc := ⟨.vmem, 35, rfl⟩
abbrev cc0_scratch0 : Ref sig .tc := ⟨.vmem, 36, rfl⟩
abbrev cc0_scratch1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem22_0 : DmaSem sig := 35

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2816 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x2816 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x2816 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x2816 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== Reference5Ideal.lean ====
abbrev S4096x512 : Shape := ⟨2, ![4096, 512]⟩
abbrev S4096x2048 : Shape := ⟨2, ![4096, 2048]⟩
abbrev S4096x1024 : Shape := ⟨2, ![4096, 1024]⟩
abbrev S1x512 : Shape := ⟨2, ![1, 512]⟩
abbrev S1024x1024 : Shape := ⟨2, ![1024, 1024]⟩
abbrev S1x1024 : Shape := ⟨2, ![1, 1024]⟩
abbrev S1024x5632 : Shape := ⟨2, ![1024, 5632]⟩
abbrev S3x2816 : Shape := ⟨2, ![3, 2816]⟩
abbrev S1x2816 : Shape := ⟨2, ![1, 2816]⟩
abbrev S2816x1024 : Shape := ⟨2, ![2816, 1024]⟩
abbrev S4096x4x128 : Shape := ⟨3, ![4096, 4, 128]⟩
abbrev S1x4x128 : Shape := ⟨3, ![1, 4, 128]⟩
abbrev S_ : Shape := ⟨0, ![]⟩
abbrev S4096x4 : Shape := ⟨2, ![4096, 4]⟩
abbrev S4096x4x1 : Shape := ⟨3, ![4096, 4, 1]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S2x2816 : Shape := ⟨2, ![2, 2816]⟩
abbrev S4098x2816 : Shape := ⟨2, ![4098, 2816]⟩
abbrev S2816 : Shape := ⟨1, ![2816]⟩
abbrev S1024 : Shape := ⟨1, ![1024]⟩
abbrev S1x128 : Shape := ⟨2, ![1, 128]⟩

abbrev nBuf : Space → Nat
  | .hbm => 189
  | .vmem => 0
  | .smem => 0
  | _ => 0

abbrev hbmTy0_0 (i : Nat) : BufTy := match i % 128 with
  | 0 => ⟨S4096x512, .f32⟩
  | 1 => ⟨S4096x512, .f32⟩
  | 2 => ⟨S4096x2048, .f32⟩
  | 3 => ⟨S4096x1024, .f32⟩
  | 4 => ⟨S1x512, .f32⟩
  | 5 => ⟨S1x512, .f32⟩
  | 6 => ⟨S1024x1024, .f32⟩
  | 7 => ⟨S1x1024, .f32⟩
  | 8 => ⟨S1024x5632, .f32⟩
  | 9 => ⟨S3x2816, .f32⟩
  | 10 => ⟨S1x2816, .f32⟩
  | 11 => ⟨S2816x1024, .f32⟩
  | 12 => ⟨S1x1024, .f32⟩
  | 13 => ⟨S4096x1024, .f32⟩
  | 14 => ⟨S4096x512, .f32⟩
  | 15 => ⟨S4096x4x128, .f32⟩
  | 16 => ⟨S1x4x128, .f32⟩
  | 17 => ⟨S4096x4x128, .f32⟩
  | 18 => ⟨S_, .f32⟩
  | 19 => ⟨S4096x4, .f32⟩
  | 20 => ⟨S4096x4x1, .f32⟩
  | 21 => ⟨S_, .f32⟩
  | 22 => ⟨S4096x4x1, .f32⟩
  | 23 => ⟨S4096x4x1, .f32⟩
  | 24 => ⟨S_, .f32⟩
  | 25 => ⟨S4096x4x1, .f32⟩
  | 26 => ⟨S4096x4x1, .f32⟩
  | 27 => ⟨S4096x4x1, .f32⟩
  | 28 => ⟨S4096x4x128, .f32⟩
  | 29 => ⟨S4096x4x128, .f32⟩
  | 30 => ⟨S4096x4x128, .f32⟩
  | 31 => ⟨S4096x4x128, .f32⟩
  | 32 => ⟨S4096x4x128, .f32⟩
  | 33 => ⟨S4096x4x128, .f32⟩
  | 34 => ⟨S4096x4x128, .f32⟩
  | 35 => ⟨S_, .f32⟩
  | 36 => ⟨S4096x4x128, .f32⟩
  | 37 => ⟨S4096x4x128, .f32⟩
  | 38 => ⟨S_, .f32⟩
  | 39 => ⟨S4096x4x128, .f32⟩
  | 40 => ⟨S4096x4x128, .f32⟩
  | 41 => ⟨S4096x4x128, .f32⟩
  | 42 => ⟨S4096x4x128, .f32⟩
  | 43 => ⟨S4096x512, .f32⟩
  | 44 => ⟨S_, .f32⟩
  | 45 => ⟨S4096, .f32⟩
  | 46 => ⟨S4096x1, .f32⟩
  | 47 => ⟨S_, .f32⟩
  | 48 => ⟨S4096x1, .f32⟩
  | 49 => ⟨S4096x1, .f32⟩
  | 50 => ⟨S_, .f32⟩
  | 51 => ⟨S4096x1, .f32⟩
  | 52 => ⟨S4096x1, .f32⟩
  | 53 => ⟨S4096x1, .f32⟩
  | 54 => ⟨S4096x512, .f32⟩
  | 55 => ⟨S4096x512, .f32⟩
  | 56 => ⟨S4096x512, .f32⟩
  | 57 => ⟨S4096x512, .f32⟩
  | 58 => ⟨S4096x512, .f32⟩
  | 59 => ⟨S4096x1024, .f32⟩
  | 60 => ⟨S4096x1024, .f32⟩
  | 61 => ⟨S4096x1024, .f32⟩
  | 62 => ⟨S4096x1024, .f32⟩
  | 63 => ⟨S_, .f32⟩
  | 64 => ⟨S4096, .f32⟩
  | 65 => ⟨S4096x1, .f32⟩
  | 66 => ⟨S_, .f32⟩
  | 67 => ⟨S4096x1, .f32⟩
  | 68 => ⟨S4096x1, .f32⟩
  | 69 => ⟨S_, .f32⟩
  | 70 => ⟨S4096x1, .f32⟩
  | 71 => ⟨S4096x1, .f32⟩
  | 72 => ⟨S4096x1, .f32⟩
  | 73 => ⟨S4096x1024, .f32⟩
  | 74 => ⟨S4096x1024, .f32⟩
  | 75 => ⟨S4096x1024, .f32⟩
  | 76 => ⟨S4096x1024, .f32⟩
  | 77 => ⟨S4096x5632, .f32⟩
  | 78 => ⟨S4096x2816, .f32⟩
  | 79 => ⟨S4096x2816, .f32⟩
  | 80 => ⟨S_, .f32⟩
  | 81 => ⟨S2x2816, .f32⟩
  | 82 => ⟨S4098x2816, .f32⟩
  | 83 => ⟨S1x2816, .f32⟩
  | 84 => ⟨S2816, .f32⟩
  | 85 => ⟨S4096x2816, .f32⟩
  | 86 => ⟨S1x2816, .f32⟩
  | 87 => ⟨S4096x2816, .f32⟩
  | 88 => ⟨S4096x2816, .f32⟩
  | 89 => ⟨S4096x2816, .f32⟩
  | 90 => ⟨S4096x2816, .f32⟩
  | 91 => ⟨S1x2816, .f32⟩
  | 92 => ⟨S2816, .f32⟩
  | 93 => ⟨S4096x2816, .f32⟩
  | 94 => ⟨S1x2816, .f32⟩
  | 95 => ⟨S4096x2816, .f32⟩
  | 96 => ⟨S4096x2816, .f32⟩
  | 97 => ⟨S4096x2816, .f32⟩
  | 98 => ⟨S1x2816, .f32⟩
  | 99 => ⟨S2816, .f32⟩
  | 100 => ⟨S4096x2816, .f32⟩
  | 101 => ⟨S1x2816, .f32⟩
  | 102 => ⟨S4096x2816, .f32⟩
  | 103 => ⟨S4096x2816, .f32⟩
  | 104 => ⟨S4096x2816, .f32⟩
  | 105 => ⟨S_, .f32⟩
  | 106 => ⟨S4096x2816, .f32⟩
  | 107 => ⟨S4096x2816, .f32⟩
  | 108 => ⟨S4096x2816, .f32⟩
  | 109 => ⟨S_, .f32⟩
  | 110 => ⟨S4096x2816, .f32⟩
  | 111 => ⟨S4096x2816, .f32⟩
  | 112 => ⟨S4096x2816, .f32⟩
  | 113 => ⟨S4096x2816, .f32⟩
  | 114 => ⟨S4096x2816, .f32⟩
  | 115 => ⟨S4096x1024, .f32⟩
  | 116 => ⟨S4096x1024, .f32⟩
  | 117 => ⟨S4096x1024, .f32⟩
  | 118 => ⟨S_, .f32⟩
  | 119 => ⟨S4096, .f32⟩
  | 120 => ⟨S4096x1, .f32⟩
  | 121 => ⟨S_, .f32⟩
  | 122 => ⟨S4096x1, .f32⟩
  | 123 => ⟨S4096x1, .f32⟩
  | 124 => ⟨S_, .f32⟩
  | 125 => ⟨S4096x1, .f32⟩
  | 126 => ⟨S4096x1, .f32⟩
  | 127 => ⟨S4096x1, .f32⟩
  | _ => ⟨S4096x512, .f32⟩

abbrev hbmTy0_1 (i : Nat) : BufTy := match i % 128 with
  | 0 => ⟨S4096x1, .f32⟩
  | 1 => ⟨S_, .f32⟩
  | 2 => ⟨S4096x1, .f32⟩
  | 3 => ⟨S4096x1, .f32⟩
  | 4 => ⟨S4096x1024, .f32⟩
  | 5 => ⟨S4096x1024, .f32⟩
  | 6 => ⟨S4096x1024, .f32⟩
  | 7 => ⟨S4096x1024, .f32⟩
  | 8 => ⟨S4096x1024, .f32⟩
  | 9 => ⟨S4096x1024, .f32⟩
  | 10 => ⟨S_, .f32⟩
  | 11 => ⟨S4096x1024, .f32⟩
  | 12 => ⟨S4096x1024, .f32⟩
  | 13 => ⟨S_, .f32⟩
  | 14 => ⟨S4096, .f32⟩
  | 15 => ⟨S_, .f32⟩
  | 16 => ⟨S4096, .f32⟩
  | 17 => ⟨S4096, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S4096, .f32⟩
  | 26 => ⟨S_, .f32⟩
  | 27 => ⟨S4096, .f32⟩
  | 28 => ⟨S4096, .f32⟩
  | 29 => ⟨S4096x1024, .f32⟩
  | 30 => ⟨S4096x1024, .f32⟩
  | 31 => ⟨S4096x1024, .f32⟩
  | 32 => ⟨S_, .f32⟩
  | 33 => ⟨S1024, .f32⟩
  | 34 => ⟨S1x1024, .f32⟩
  | 35 => ⟨S4096x1024, .f32⟩
  | 36 => ⟨S4096x1024, .f32⟩
  | 37 => ⟨S4096x1024, .f32⟩
  | 38 => ⟨S_, .f32⟩
  | 39 => ⟨S4096, .f32⟩
  | 40 => ⟨S4096x1, .f32⟩
  | 41 => ⟨S4096x1024, .f32⟩
  | 42 => ⟨S4096x1024, .f32⟩
  | 43 => ⟨S4096x1, .f32⟩
  | 44 => ⟨S_, .f32⟩
  | 45 => ⟨S4096x1, .f32⟩
  | 46 => ⟨S4096x1, .f32⟩
  | 47 => ⟨S_, .f32⟩
  | 48 => ⟨S4096, .f32⟩
  | 49 => ⟨S4096x1024, .f32⟩
  | 50 => ⟨S4096x1024, .f32⟩
  | 51 => ⟨S4096x1024, .f32⟩
  | 52 => ⟨S4096x1024, .f32⟩
  | 53 => ⟨S4096x1024, .f32⟩
  | 54 => ⟨S4096x1024, .bf16⟩
  | 55 => ⟨S4096x1024, .bf16⟩
  | 56 => ⟨S4096x2816, .bf16⟩
  | 57 => ⟨S4096x2816, .bf16⟩
  | 58 => ⟨S4096x2816, .bf16⟩
  | 59 => ⟨S4096x2816, .bf16⟩
  | 60 => ⟨S1x128, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_2 : Ref sig .tc := ⟨.hbm, 44, rfl⟩
abbrev main_v19 : Ref sig .tc := ⟨.hbm, 45, rfl⟩
abbrev main_v20 : Ref sig .tc := ⟨.hbm, 46, rfl⟩
abbrev main_cst_3 : Ref sig .tc := ⟨.hbm, 47, rfl⟩
abbrev main_v21 : Ref sig .tc := ⟨.hbm, 48, rfl⟩
abbrev main_v22 : Ref sig .tc := ⟨.hbm, 49, rfl⟩
abbrev main_cst_4 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_5 : Ref sig .tc := ⟨.hbm, 63, rfl⟩
abbrev main_v35 : Ref sig .tc := ⟨.hbm, 64, rfl⟩
abbrev main_v36 : Ref sig .tc := ⟨.hbm, 65, rfl⟩
abbrev main_cst_6 : Ref sig .tc := ⟨.hbm, 66, rfl⟩
abbrev main_v37 : Ref sig .tc := ⟨.hbm, 67, rfl⟩
abbrev main_v38 : Ref sig .tc := ⟨.hbm, 68, rfl⟩
abbrev main_cst_7 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_8 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_9 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_10 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_11 : Ref sig .tc := ⟨.hbm, 118, rfl⟩
abbrev main_v84 : Ref sig .tc := ⟨.hbm, 119, rfl⟩
abbrev main_v85 : Ref sig .tc := ⟨.hbm, 120, rfl⟩
abbrev main_cst_12 : Ref sig .tc := ⟨.hbm, 121, rfl⟩
abbrev main_v86 : Ref sig .tc := ⟨.hbm, 122, rfl⟩
abbrev main_v87 : Ref sig .tc := ⟨.hbm, 123, rfl⟩
abbrev main_cst_13 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_14 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_15 : Ref sig .tc := ⟨.hbm, 138, rfl⟩
abbrev main_v100 : Ref sig .tc := ⟨.hbm, 139, rfl⟩
abbrev main_v101 : Ref sig .tc := ⟨.hbm, 140, rfl⟩
abbrev main_cst_16 : Ref sig .tc := ⟨.hbm, 141, rfl⟩
abbrev main_v102 : Ref sig .tc := ⟨.hbm, 142, rfl⟩
abbrev main_cst_17 : Ref sig .tc := ⟨.hbm, 143, rfl⟩
abbrev main_v103 : Ref sig .tc := ⟨.hbm, 144, rfl⟩
abbrev main_v104 : Ref sig .tc := ⟨.hbm, 145, rfl⟩
abbrev main_cst_18 : Ref sig .tc := ⟨.hbm, 146, rfl⟩
abbrev main_v105 : Ref sig .tc := ⟨.hbm, 147, rfl⟩
abbrev main_cst_19 : Ref sig .tc := ⟨.hbm, 148, rfl⟩
abbrev main_v106 : Ref sig .tc := ⟨.hbm, 149, rfl⟩
abbrev main_cst_20 : Ref sig .tc := ⟨.hbm, 150, rfl⟩
abbrev main_cst_21 : Ref sig .tc := ⟨.hbm, 151, rfl⟩
abbrev main_v107 : Ref sig .tc := ⟨.hbm, 152, rfl⟩
abbrev main_v108 : Ref sig .tc := ⟨.hbm, 153, rfl⟩
abbrev main_cst_22 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_cst_23 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_cst_24 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_cst_25 : Ref sig .tc := ⟨.hbm, 172, rfl⟩
abbrev main_v124 : Ref sig .tc := ⟨.hbm, 173, rfl⟩
abbrev main_v125 : Ref sig .tc := ⟨.hbm, 174, rfl⟩
abbrev main_cst_26 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩

abbrev nD : Nat := 1
abbrev τ : Topo := Topo.v7x

variable {F : FTy → Type} [FloatOps F]
-- ==== Kernel6.lean ====
abbrev S4096x1024 : Shape := ⟨2, ![4096, 1024]⟩
abbrev S1x1024 : Shape := ⟨2, ![1, 1024]⟩
abbrev S1024x3584 : Shape := ⟨2, ![1024, 3584]⟩
abbrev S1024x4x896 : Shape := ⟨3, ![1024, 4, 896]⟩
abbrev S4x1024x896 : Shape := ⟨3, ![4, 1024, 896]⟩
abbrev S4096x1536 : Shape := ⟨2, ![4096, 1536]⟩
abbrev S4096x2048 : Shape := ⟨2, ![4096, 2048]⟩
abbrev S512x1024 : Shape := ⟨2, ![512, 1024]⟩
abbrev S512x1536 : Shape := ⟨2, ![512, 1536]⟩
abbrev S512x2048 : Shape := ⟨2, ![512, 2048]⟩
abbrev S4 : Shape := ⟨1, ![4]⟩
abbrev S1 : Shape := ⟨1, ![1]⟩
abbrev S_ : Shape := ⟨0, ![]⟩
abbrev S1024x896 : Shape := ⟨2, ![1024, 896]⟩
abbrev S1x1024x896 : Shape := ⟨3, ![1, 1024, 896]⟩
abbrev S512 : Shape := ⟨1, ![512]⟩
abbrev S512x1 : Shape := ⟨2, ![512, 1]⟩
abbrev S512x3584 : Shape := ⟨2, ![512, 3584]⟩

abbrev nBuf : Space → Nat
  | .hbm => 9
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3584, .f32⟩
  | .hbm, ⟨3, _⟩ => ⟨S1024x3584, .bf16⟩
  | .hbm, ⟨4, _⟩ => ⟨S1024x4x896, .bf16⟩
  | .hbm, ⟨5, _⟩ => ⟨S4x1024x896, .bf16⟩
  | .hbm, ⟨6, _⟩ => ⟨S4096x1024, .bf16⟩
  | .hbm, ⟨7, _⟩ => ⟨S4096x1536, .f32⟩
  | .hbm, ⟨8, _⟩ => ⟨S4096x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1536, .f32⟩
  | .local _ .vmem, ⟨6, _⟩ => ⟨S512x1536, .f32⟩
  | .local _ .vmem, ⟨7, _⟩ => ⟨S512x2048, .f32⟩
  | .local _ .vmem, ⟨8, _⟩ => ⟨S512x2048, .f32⟩
  | .local _ .vmem, ⟨9, _⟩ => ⟨S1024x3584, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S4096x1024 : Shape := ⟨2, ![4096, 1024]⟩
abbrev S1x1024 : Shape := ⟨2, ![1, 1024]⟩
abbrev S1024x3584 : Shape := ⟨2, ![1024, 3584]⟩
abbrev S_ : Shape := ⟨0, ![]⟩
abbrev S4096 : Shape := ⟨1, ![4096]⟩
abbrev S4096x1 : Shape := ⟨2, ![4096, 1]⟩
abbrev S4096x3584 : Shape := ⟨2, ![4096, 3584]⟩
abbrev S4096x1536 : Shape := ⟨2, ![4096, 1536]⟩
abbrev S4096x2048 : Shape := ⟨2, ![4096, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3584, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x3584, .f32⟩
  | .hbm, ⟨19, _⟩ => ⟨S4096x1024, .bf16⟩
  | .hbm, ⟨20, _⟩ => ⟨S4096x1536, .f32⟩
  | .hbm, ⟨21, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.InBwdA.lean ====
module

public import proofs.«01_k».proof.Proof.Gen.Kernel3Ideal.Frame.Runs
public import Idealize.ShloMosaic.Lib.Claim

@[expose] public section
set_option maxRecDepth 16384
noncomputable section
namespace Cert.Kernel3Ideal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen
variable {F : FTy → Type} [FloatOps F]
local notation "𝕄" => MT nD τ sig Unit (Elt F) ℕ (Pipeline.UD sig nD τ) ℕ
variable (c : Dev nD) (i : grid0.Coords) {arg1 arg2 arg3 arg4 arg5 arg6 arg7 : Memref sig .tc .vmem S256x512 .bf16} {arg9 : Memref sig .tc .vmem S256x1024 .bf16} {arg10 : Memref sig .tc .vmem S256x1024 .f32} {arg11 : Memref sig .tc .vmem S1x1024 .f32} {arg12 : Memref sig .tc .vmem S256x1024 .f32} {arg13 : Memref sig .tc .vmem S4x1024x896 .bf16} {arg14 : Memref sig .tc .vmem S256x1024 .f32} {arg15 : Memref sig .tc .vmem S1x1024 .f32} {arg16 : Memref sig .tc .vmem S1024x3584 .bf16} {arg18 : Memref sig .tc .vmem S1024x3584 .f32}
  (harg1 : arg1.IsWhole) (harg2 : arg2.IsWhole) (harg3 : arg3.IsWhole) (harg4 : arg4.IsWhole) (harg5 : arg5.IsWhole) (harg6 : arg6.IsWhole) (harg7 : arg7.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg18 : arg18.IsWhole)
section
variable (hc0 : cond0_0 i) (hc1 : ¬cond0_1 i) (x0 x1 x2 x3 x4 x5 x6 : Vec F S256x512 .bf16) (x7 : Vec F S256x1024 .bf16) (x8 : Vec F S256x1024 .f32) (x9 : Vec F S1x1024 .f32) (x10 : Vec F S256x1024 .f32) (fh0 : HbBuf0 (F := F) c hbM0_0)
set_option maxHeartbeats 2000000 in
/-- The run of the body in case A, and the pieces it leaves. -/
noncomputable def kernelRun0_A :
    Σ' (L11 : List (View.Piece (Elt F) S4x1024x896 .bf16)), Σ' (L12 : List (View.Piece (Elt F) S256x1024 .f32)), Σ' (L13 : List (View.Piece (Elt F) S1x1024 .f32)), Σ' (LS0 : List (View.Piece (Elt F) S1024x3584 .bf16)), { LS1 : List (View.Piece (Elt F) S1024x3584 .f32) //
      ∀ (xi11 : Vec F S4x1024x896 .bf16) (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg18 fullShare d) ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f LS0) ∗ (∃ f, arg18.view.loc (c : Thread nD τ) ↦[arg18.view.set]{fullShare} arg18.view.writes (Elt F) f LS1) ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ hbPt0 c hbM0_0 fh0 ∗ (∃ W', owes (c : Thread nD τ) 0 W')) -∗ K ⟨⟩))
          ⊢ wp frame (wpE (defs₀ (F := F)) Variants.none c none) Set.univ (cc0_in_bwd i arg1 harg1 arg2 harg2 arg3 harg3 arg4 harg4 arg5 harg5 arg6 harg6 arg7 harg7 (Memref.whole main_v22) (Memref.isWhole_whole _) arg9 harg9 arg10 harg10 arg11 harg11 arg12 harg12 arg13 harg13 arg14 harg14 arg15 harg15 arg16 harg16 cc0_scratch1 arg18 harg18) K } := by
  refine ⟨[], ?_, ?_, ?_, ?_, fun xi11 W K => ?run⟩
  case run =>
    simp only [cc0_in_bwd_eq_skeleton]; unfold cc0_in_bwd_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%ds0, %fs0, -, HS0⟩, ⟨%ds1, %fs1, -, HS1⟩, Hq0, Hq1, Hq2, Hq3, Hh0, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf7; obtain rfl := harg10.eq_unread hf8; obtain rfl := harg11.eq_unread hf9; obtain rfl := harg12.eq_unread hf10; obtain rfl := harg13.eq_unread hf11
    set_option sl_exec.dmaWindow true in
    set_option sl_exec.dmaWindowSet true in
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]; · iexists _; iexact H13
    isplitl [HS0]; · iexists _; iexact HS0
    isplitl [HS1]; · iexists _; iexact HS1
    iframe Hq0 Hq1 Hq2 Hq3 Hh0
    iexists _; iexact HW
def out0_A_11 : Vec F S4x1024x896 .bf16 :=
  VO0_11.read (Elt F) (VO0_11.writes (Elt F) VO0_11.junk (kernelRun0_A c i harg1 harg2 harg3 harg4 harg5 harg6 harg7 harg9 harg10 harg11 harg12 harg13 harg14 harg15 harg16 harg18 hc0 hc1 x0 x1 x2 x3 x4 x5 x6 x7 x8 x9 x10 fh0).1)
theorem cover0_A_12 (y : S256x1024.Idx) :
    ∃ pc ∈ (kernelRun0_A c i harg1 harg2 harg3 harg4 harg5 harg6 harg7 harg9 harg10 harg11 harg12 harg13 harg14 harg15 harg16 harg18 hc0 hc1 x0 x1 x2 x3 x4 x5 x6 x7 x8 x9 x10 fh0).2.1, y ∈ pc.1.set :=
  View.cover_of_tiledL (kernelRun0_A c i harg1 harg2 harg3 harg4 harg5 harg6 harg7 harg9 harg10 harg11 harg12 harg13 harg14 harg15 harg16 harg18 hc0 hc1 x0 x1 x2 x3 x4 x5 x6 x7 x8 x9 x10 fh0).2.1 S256x1024.size (by sl_kernel_rfl) y
def out0_A_12 : Vec F S256x1024 .f32 :=
  VO0_12.read (Elt F) (VO0_12.writes (Elt F) VO0_12.junk (kernelRun0_A c i harg1 harg2 harg3 harg4 harg5 harg6 harg7 harg9 harg10 harg11 harg12 harg13 harg14 harg15 harg16 harg18 hc0 hc1 x0 x1 x2 x3 x4 x5 x6 x7 x8 x9 x10 fh0).2.1)
theorem cover0_A_13 (y : S1x1024.Idx) :
    ∃ pc ∈ (kernelRun0_A c i harg1 harg2 harg3 harg4 harg5 harg6 harg7 harg9 harg10 harg11 harg12 harg13 harg14 harg15 harg16 harg18 hc0 hc1 x0 x1 x2 x3 x4 x5 x6 x7 x8 x9 x10 fh0).2.2.1, y ∈ pc.1.set :=
  View.cover_of_tiledL (kernelRun0_A c i harg1 harg2 harg3 harg4 harg5 harg6 harg7 harg9 harg10 harg11 harg12 harg13 harg14 harg15 harg16 harg18 hc0 hc1 x0 x1 x2 x3 x4 x5 x6 x7 x8 x9 x10 fh0).2.2.1 S1x1024.size (by sl_kernel_rfl) y
def out0_A_13 : Vec F S1x1024 .f32 :=
  VO0_13.read (Elt F) (VO0_13.writes (Elt F) VO0_13.junk (kernelRun0_A c i harg1 harg2 harg3 harg4 harg5 harg6 harg7 harg9 harg10 harg11 harg12 harg13 harg14 harg15 harg16 harg18 hc0 hc1 x0 x1 x2 x3 x4 x5 x6 x7 x8 x9 x10 fh0).2.2.1)
theorem scover0_A_0 (y : S1024x3584.Idx) :
    ∃ pc ∈ (kernelRun0_A c i harg1 harg2 harg3 harg4 harg5 harg6 harg7 harg9 harg10 harg11 harg12 harg13 harg14 harg15 harg16 harg18 hc0 hc1 x0 x1 x2 x3 x4 x5 x6 x7 x8 x9 x10 fh0).2.2.2.1, y ∈ pc.1.set :=
  View.cover_of_tiledL (kernelRun0_A c i harg1 harg2 harg3 harg4 harg5 harg6 harg7 harg9 harg10 harg11 harg12 harg13 harg14 harg15 harg16 harg18 hc0 hc1 x0 x1 x2 x3 x4 x5 x6 x7 x8 x9 x10 fh0).2.2.2.1 S1024x896.size (by sl_kernel_rfl) y
def sout0_A_0 : Vec F S1024x3584 .bf16 :=
  VS0_0.read (Elt F) (VS0_0.writes (Elt F) VS0_0.junk (kernelRun0_A c i harg1 harg2 harg3 harg4 harg5 harg6 harg7 harg9 harg10 harg11 harg12 harg13 harg14 harg15 harg16 harg18 hc0 hc1 x0 x1 x2 x3 x4 x5 x6 x7 x8 x9 x10 fh0).2.2.2.1)
theorem scover0_A_1 (y : S1024x3584.Idx) :
    ∃ pc ∈ (kernelRun0_A c i harg1 harg2 harg3 harg4 harg5 harg6 harg7 harg9 harg10 harg11 harg12 harg13 harg14 harg15 harg16 harg18 hc0 hc1 x0 x1 x2 x3 x4 x5 x6 x7 x8 x9 x10 fh0).2.2.2.2.1, y ∈ pc.1.set :=
  View.cover_of_tiledL (kernelRun0_A c i harg1 harg2 harg3 harg4 harg5 harg6 harg7 harg9 harg10 harg11 harg12 harg13 harg14 harg15 harg16 harg18 hc0 hc1 x0 x1 x2 x3 x4 x5 x6 x7 x8 x9 x10 fh0).2.2.2.2.1 S1024x3584.size (by sl_kernel_rfl) y
def sout0_A_1 : Vec F S1024x3584 .f32 :=
  VS0_1.read (Elt F) (VS0_1.writes (Elt F) VS0_1.junk (kernelRun0_A c i harg1 harg2 harg3 harg4 harg5 harg6 harg7 harg9 harg10 harg11 harg12 harg13 harg14 harg15 harg16 harg18 hc0 hc1 x0 x1 x2 x3 x4 x5 x6 x7 x8 x9 x10 fh0).2.2.2.2.1)
end
end Cert.Kernel3Ideal.Run
end
-- ==== Proof.InBwdB.lean ====
module

public import proofs.«01_k».proof.Proof.Gen.Kernel3Ideal.Frame.Runs
public import Idealize.ShloMosaic.Lib.Claim

@[expose] public section
set_option maxRecDepth 16384
noncomputable section
namespace Cert.Kernel3Ideal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen
variable {F : FTy → Type} [FloatOps F]
local notation "𝕄" => MT nD τ sig Unit (Elt F) ℕ (Pipeline.UD sig nD τ) ℕ
variable (c : Dev nD) (i : grid0.Coords) {arg1 arg2 arg3 arg4 arg5 arg6 arg7 : Memref sig .tc .vmem S256x512 .bf16} {arg9 : Memref sig .tc .vmem S256x1024 .bf16} {arg10 : Memref sig .tc .vmem S256x1024 .f32} {arg11 : Memref sig .tc .vmem S1x1024 .f32} {arg12 : Memref sig .tc .vmem S256x1024 .f32} {arg13 : Memref sig .tc .vmem S4x1024x896 .bf16} {arg14 : Memref sig .tc .vmem S256x1024 .f32} {arg15 : Memref sig .tc .vmem S1x1024 .f32} {arg16 : Memref sig .tc .vmem S1024x3584 .bf16} {arg18 : Memref sig .tc .vmem S1024x3584 .f32}
  (harg1 : arg1.IsWhole) (harg2 : arg2.IsWhole) (harg3 : arg3.IsWhole) (harg4 : arg4.IsWhole) (harg5 : arg5.IsWhole) (harg6 : arg6.IsWhole) (harg7 : arg7.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg18 : arg18.IsWhole)
section
variable (hc0 : ¬cond0_0 i) (hc1 : ¬cond0_1 i) (x0 x1 x2 x3 x4 x5 x6 : Vec F S256x512 .bf16) (x7 : Vec F S256x1024 .bf16) (x8 : Vec F S256x1024 .f32) (x9 : Vec F S1x1024 .f32) (x10 : Vec F S256x1024 .f32) (xo13 : Vec F S1x1024 .f32) (xs0 : Vec F S1024x3584 .bf16) (xs1 : Vec F S1024x3584 .f32) (fh0 : HbBuf0 (F := F) c hbM0_0)
set_option maxHeartbeats 2000000 in
/-- The run of the body in case B, and the pieces it leaves. -/
noncomputable def kernelRun0_B :
    Σ' (L11 : List (View.Piece (Elt F) S4x1024x896 .bf16)), Σ' (L12 : List (View.Piece (Elt F) S256x1024 .f32)), Σ' (L13 : List (View.Piece (Elt F) S1x1024 .f32)), Σ' (LS0 : List (View.Piece (Elt F) S1024x3584 .bf16)), { LS1 : List (View.Piece (Elt F) S1024x3584 .f32) //
      ∀ (xi11 : Vec F S4x1024x896 .bf16) (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ (∃ d, owns (c : Thread nD τ) arg14 fullShare d) ∗ owns (c : Thread nD τ) arg15 fullShare xo13 ∗ owns (c : Thread nD τ) arg16 fullShare xs0 ∗ owns (c : Thread nD τ) arg18 fullShare xs1 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ owns (c : Thread nD τ) arg16 fullShare xs0 ∗ (∃ f, arg18.view.loc (c : Thread nD τ) ↦[arg18.view.set]{fullShare} arg18.view.writes (Elt F) f LS1) ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ hbPt0 c hbM0_0 fh0 ∗ (∃ W', owes (c : Thread nD τ) 0 W')) -∗ K ⟨⟩))
          ⊢ wp frame (wpE (defs₀ (F := F)) Variants.none c none) Set.univ (cc0_in_bwd i arg1 harg1 arg2 harg2 arg3 harg3 arg4 harg4 arg5 harg5 arg6 harg6 arg7 harg7 (Memref.whole main_v22) (Memref.isWhole_whole _) arg9 harg9 arg10 harg10 arg11 harg11 arg12 harg12 arg13 harg13 arg14 harg14 arg15 harg15 arg16 harg16 cc0_scratch1 arg18 harg18) K } := by
  refine ⟨[], ?_, ?_, [], ?_, fun xi11 W K => ?run⟩
  case run =>
    simp only [cc0_in_bwd_eq_skeleton]; unfold cc0_in_bwd_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%fs0, %hfs0, HS0⟩, ⟨%fs1, %hfs1, HS1⟩, Hq0, Hq1, Hq2, Hq3, Hh0, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf7; obtain rfl := harg10.eq_unread hf8; obtain rfl := harg11.eq_unread hf9; obtain rfl := harg12.eq_unread hf10; obtain rfl := harg13.eq_unread hf11; obtain rfl := harg15.eq_unread hf13; obtain rfl := harg16.eq_unread hfs0; obtain rfl := harg18.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]; · iexists _; iexact H13
    isplitl [HS0]
    · iexists _; isplitr; · ipureintro; exact harg16.read_unread _
      iexact HS0
    isplitl [HS1]; · iexists _; iexact HS1
    iframe Hq0 Hq1 Hq2 Hq3 Hh0
    iexists _; iexact HW
def out0_B_11 : Vec F S4x1024x896 .bf16 :=
  VO0_11.read (Elt F) (VO0_11.writes (Elt F) VO0_11.junk (kernelRun0_B c i harg1 harg2 harg3 harg4 harg5 harg6 harg7 harg9 harg10 harg11 harg12 harg13 harg14 harg15 harg16 harg18 hc0 hc1 x0 x1 x2 x3 x4 x5 x6 x7 x8 x9 x10 xo13 xs0 xs1 fh0).1)
theorem cover0_B_12 (y : S256x1024.Idx) :
    ∃ pc ∈ (kernelRun0_B c i harg1 harg2 harg3 harg4 harg5 harg6 harg7 harg9 harg10 harg11 harg12 harg13 harg14 harg15 harg16 harg18 hc0 hc1 x0 x1 x2 x3 x4 x5 x6 x7 x8 x9 x10 xo13 xs0 xs1 fh0).2.1, y ∈ pc.1.set :=
  View.cover_of_tiledL (kernelRun0_B c i harg1 harg2 harg3 harg4 harg5 harg6 harg7 harg9 harg10 harg11 harg12 harg13 harg14 harg15 harg16 harg18 hc0 hc1 x0 x1 x2 x3 x4 x5 x6 x7 x8 x9 x10 xo13 xs0 xs1 fh0).2.1 S256x1024.size (by sl_kernel_rfl) y
def out0_B_12 : Vec F S256x1024 .f32 :=
  VO0_12.read (Elt F) (VO0_12.writes (Elt F) VO0_12.junk (kernelRun0_B c i harg1 harg2 harg3 harg4 harg5 harg6 harg7 harg9 harg10 harg11 harg12 harg13 harg14 harg15 harg16 harg18 hc0 hc1 x0 x1 x2 x3 x4 x5 x6 x7 x8 x9 x10 xo13 xs0 xs1 fh0).2.1)
theorem cover0_B_13 (y : S1x1024.Idx) :
    ∃ pc ∈ (kernelRun0_B c i harg1 harg2 harg3 harg4 harg5 harg6 harg7 harg9 harg10 harg11 harg12 harg13 harg14 harg15 harg16 harg18 hc0 hc1 x0 x1 x2 x3 x4 x5 x6 x7 x8 x9 x10 xo13 xs0 xs1 fh0).2.2.1, y ∈ pc.1.set :=
  View.cover_of_tiledL (kernelRun0_B c i harg1 harg2 harg3 harg4 harg5 harg6 harg7 harg9 harg10 harg11 harg12 harg13 harg14 harg15 harg16 harg18 hc0 hc1 x0 x1 x2 x3 x4 x5 x6 x7 x8 x9 x10 xo13 xs0 xs1 fh0).2.2.1 S1x1024.size (by sl_kernel_rfl) y
def out0_B_13 : Vec F S1x1024 .f32 :=
  VO0_13.read (Elt F) (VO0_13.writes (Elt F) VO0_13.junk (kernelRun0_B c i harg1 harg2 harg3 harg4 harg5 harg6 harg7 harg9 harg10 harg11 harg12 harg13 harg14 harg15 harg16 harg18 hc0 hc1 x0 x1 x2 x3 x4 x5 x6 x7 x8 x9 x10 xo13 xs0 xs1 fh0).2.2.1)
theorem scover0_B_1 (y : S1024x3584.Idx) :
    ∃ pc ∈ (kernelRun0_B c i harg1 harg2 harg3 harg4 harg5 harg6 harg7 harg9 harg10 harg11 harg12 harg13 harg14 harg15 harg16 harg18 hc0 hc1 x0 x1 x2 x3 x4 x5 x6 x7 x8 x9 x10 xo13 xs0 xs1 fh0).2.2.2.2.1, y ∈ pc.1.set :=
  View.cover_of_tiledL (kernelRun0_B c i harg1 harg2 harg3 harg4 harg5 harg6 harg7 harg9 harg10 harg11 harg12 harg13 harg14 harg15 harg16 harg18 hc0 hc1 x0 x1 x2 x3 x4 x5 x6 x7 x8 x9 x10 xo13 xs0 xs1 fh0).2.2.2.2.1 S1024x3584.size (by sl_kernel_rfl) y
def sout0_B_1 : Vec F S1024x3584 .f32 :=
  VS0_1.read (Elt F) (VS0_1.writes (Elt F) VS0_1.junk (kernelRun0_B c i harg1 harg2 harg3 harg4 harg5 harg6 harg7 harg9 harg10 harg11 harg12 harg13 harg14 harg15 harg16 harg18 hc0 hc1 x0 x1 x2 x3 x4 x5 x6 x7 x8 x9 x10 xo13 xs0 xs1 fh0).2.2.2.2.1)
end
end Cert.Kernel3Ideal.Run
end
-- ==== Proof.InBwdC.lean ====
module

public import proofs.«01_k».proof.Proof.Gen.Kernel3Ideal.Frame.Runs
public import Idealize.ShloMosaic.Lib.Claim

@[expose] public section
set_option maxRecDepth 16384
noncomputable section
namespace Cert.Kernel3Ideal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen
variable {F : FTy → Type} [FloatOps F]
local notation "𝕄" => MT nD τ sig Unit (Elt F) ℕ (Pipeline.UD sig nD τ) ℕ
variable (c : Dev nD) (i : grid0.Coords) {arg1 arg2 arg3 arg4 arg5 arg6 arg7 : Memref sig .tc .vmem S256x512 .bf16} {arg9 : Memref sig .tc .vmem S256x1024 .bf16} {arg10 : Memref sig .tc .vmem S256x1024 .f32} {arg11 : Memref sig .tc .vmem S1x1024 .f32} {arg12 : Memref sig .tc .vmem S256x1024 .f32} {arg13 : Memref sig .tc .vmem S4x1024x896 .bf16} {arg14 : Memref sig .tc .vmem S256x1024 .f32} {arg15 : Memref sig .tc .vmem S1x1024 .f32} {arg16 : Memref sig .tc .vmem S1024x3584 .bf16} {arg18 : Memref sig .tc .vmem S1024x3584 .f32}
  (harg1 : arg1.IsWhole) (harg2 : arg2.IsWhole) (harg3 : arg3.IsWhole) (harg4 : arg4.IsWhole) (harg5 : arg5.IsWhole) (harg6 : arg6.IsWhole) (harg7 : arg7.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg18 : arg18.IsWhole)
section
variable (hc0 : ¬cond0_0 i) (hc1 : cond0_1 i) (x0 x1 x2 x3 x4 x5 x6 : Vec F S256x512 .bf16) (x7 : Vec F S256x1024 .bf16) (x8 : Vec F S256x1024 .f32) (x9 : Vec F S1x1024 .f32) (x10 : Vec F S256x1024 .f32) (xo13 : Vec F S1x1024 .f32) (xs0 : Vec F S1024x3584 .bf16) (xs1 : Vec F S1024x3584 .f32) (fh0 : HbBuf0 (F := F) c hbM0_0)
set_option maxHeartbeats 2000000 in
/-- The run of the body in case C, and the pieces it leaves. -/
noncomputable def kernelRun0_C :
    Σ' (L11 : List (View.Piece (Elt F) S4x1024x896 .bf16)), Σ' (L12 : List (View.Piece (Elt F) S256x1024 .f32)), Σ' (L13 : List (View.Piece (Elt F) S1x1024 .f32)), Σ' (LS0 : List (View.Piece (Elt F) S1024x3584 .bf16)), { LS1 : List (View.Piece (Elt F) S1024x3584 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ owns (c : Thread nD τ) arg15 fullShare xo13 ∗ owns (c : Thread nD τ) arg16 fullShare xs0 ∗ owns (c : Thread nD τ) arg18 fullShare xs1 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ owns (c : Thread nD τ) arg16 fullShare xs0 ∗ (∃ f, arg18.view.loc (c : Thread nD τ) ↦[arg18.view.set]{fullShare} arg18.view.writes (Elt F) f LS1) ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ hbPt0 c hbM0_0 fh0 ∗ (∃ W', owes (c : Thread nD τ) 0 W')) -∗ K ⟨⟩))
          ⊢ wp frame (wpE (defs₀ (F := F)) Variants.none c none) Set.univ (cc0_in_bwd i arg1 harg1 arg2 harg2 arg3 harg3 arg4 harg4 arg5 harg5 arg6 harg6 arg7 harg7 (Memref.whole main_v22) (Memref.isWhole_whole _) arg9 harg9 arg10 harg10 arg11 harg11 arg12 harg12 arg13 harg13 arg14 harg14 arg15 harg15 arg16 harg16 cc0_scratch1 arg18 harg18) K } := by
  refine ⟨?_, ?_, ?_, [], ?_, fun W K => ?run⟩
  case run =>
    simp only [cc0_in_bwd_eq_skeleton]; unfold cc0_in_bwd_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%fs0, %hfs0, HS0⟩, ⟨%fs1, %hfs1, HS1⟩, Hq0, Hq1, Hq2, Hq3, Hh0, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf7; obtain rfl := harg10.eq_unread hf8; obtain rfl := harg11.eq_unread hf9; obtain rfl := harg12.eq_unread hf10; obtain rfl := harg15.eq_unread hf13; obtain rfl := harg16.eq_unread hfs0; obtain rfl := harg18.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [H13]; · iexists _; iexact H13
    isplitl [HS0]
    · iexists _; isplitr; · ipureintro; exact harg16.read_unread _
      iexact HS0
    isplitl [HS1]; · iexists _; iexact HS1
    iframe Hq0 Hq1 Hq2 Hq3 Hh0
    iexists _; iexact HW
theorem cover0_C_11 (y : S4x1024x896.Idx) :
    ∃ pc ∈ (kernelRun0_C c i harg1 harg2 harg3 harg4 harg5 harg6 harg7 harg9 harg10 harg11 harg12 harg13 harg14 harg15 harg16 harg18 hc0 hc1 x0 x1 x2 x3 x4 x5 x6 x7 x8 x9 x10 xo13 xs0 xs1 fh0).1, y ∈ pc.1.set :=
  View.cover_of_tiledL (kernelRun0_C c i harg1 harg2 harg3 harg4 harg5 harg6 harg7 harg9 harg10 harg11 harg12 harg13 harg14 harg15 harg16 harg18 hc0 hc1 x0 x1 x2 x3 x4 x5 x6 x7 x8 x9 x10 xo13 xs0 xs1 fh0).1 S1x1024x896.size (by sl_kernel_rfl) y
def out0_C_11 : Vec F S4x1024x896 .bf16 :=
  VO0_11.read (Elt F) (VO0_11.writes (Elt F) VO0_11.junk (kernelRun0_C c i harg1 harg2 harg3 harg4 harg5 harg6 harg7 harg9 harg10 harg11 harg12 harg13 harg14 harg15 harg16 harg18 hc0 hc1 x0 x1 x2 x3 x4 x5 x6 x7 x8 x9 x10 xo13 xs0 xs1 fh0).1)
theorem cover0_C_12 (y : S256x1024.Idx) :
    ∃ pc ∈ (kernelRun0_C c i harg1 harg2 harg3 harg4 harg5 harg6 harg7 harg9 harg10 harg11 harg12 harg13 harg14 harg15 harg16 harg18 hc0 hc1 x0 x1 x2 x3 x4 x5 x6 x7 x8 x9 x10 xo13 xs0 xs1 fh0).2.1, y ∈ pc.1.set :=
  View.cover_of_tiledL (kernelRun0_C c i harg1 harg2 harg3 harg4 harg5 harg6 harg7 harg9 harg10 harg11 harg12 harg13 harg14 harg15 harg16 harg18 hc0 hc1 x0 x1 x2 x3 x4 x5 x6 x7 x8 x9 x10 xo13 xs0 xs1 fh0).2.1 S256x1024.size (by sl_kernel_rfl) y
def out0_C_12 : Vec F S256x1024 .f32 :=
  VO0_12.read (Elt F) (VO0_12.writes (Elt F) VO0_12.junk (kernelRun0_C c i harg1 harg2 harg3 harg4 harg5 harg6 harg7 harg9 harg10 harg11 harg12 harg13 harg14 harg15 harg16 harg18 hc0 hc1 x0 x1 x2 x3 x4 x5 x6 x7 x8 x9 x10 xo13 xs0 xs1 fh0).2.1)
theorem cover0_C_13 (y : S1x1024.Idx) :
    ∃ pc ∈ (kernelRun0_C c i harg1 harg2 harg3 harg4 harg5 harg6 harg7 harg9 harg10 harg11 harg12 harg13 harg14 harg15 harg16 harg18 hc0 hc1 x0 x1 x2 x3 x4 x5 x6 x7 x8 x9 x10 xo13 xs0 xs1 fh0).2.2.1, y ∈ pc.1.set :=
  View.cover_of_tiledL (kernelRun0_C c i harg1 harg2 harg3 harg4 harg5 harg6 harg7 harg9 harg10 harg11 harg12 harg13 harg14 harg15 harg16 harg18 hc0 hc1 x0 x1 x2 x3 x4 x5 x6 x7 x8 x9 x10 xo13 xs0 xs1 fh0).2.2.1 S1x1024.size (by sl_kernel_rfl) y
def out0_C_13 : Vec F S1x1024 .f32 :=
  VO0_13.read (Elt F) (VO0_13.writes (Elt F) VO0_13.junk (kernelRun0_C c i harg1 harg2 harg3 harg4 harg5 harg6 harg7 harg9 harg10 harg11 harg12 harg13 harg14 harg15 harg16 harg18 hc0 hc1 x0 x1 x2 x3 x4 x5 x6 x7 x8 x9 x10 xo13 xs0 xs1 fh0).2.2.1)
theorem scover0_C_1 (y : S1024x3584.Idx) :
    ∃ pc ∈ (kernelRun0_C c i harg1 harg2 harg3 harg4 harg5 harg6 harg7 harg9 harg10 harg11 harg12 harg13 harg14 harg15 harg16 harg18 hc0 hc1 x0 x1 x2 x3 x4 x5 x6 x7 x8 x9 x10 xo13 xs0 xs1 fh0).2.2.2.2.1, y ∈ pc.1.set :=
  View.cover_of_tiledL (kernelRun0_C c i harg1 harg2 harg3 harg4 harg5 harg6 harg7 harg9 harg10 harg11 harg12 harg13 harg14 harg15 harg16 harg18 hc0 hc1 x0 x1 x2 x3 x4 x5 x6 x7 x8 x9 x10 xo13 xs0 xs1 fh0).2.2.2.2.1 S1024x3584.size (by sl_kernel_rfl) y
def sout0_C_1 : Vec F S1024x3584 .f32 :=
  VS0_1.read (Elt F) (VS0_1.writes (Elt F) VS0_1.junk (kernelRun0_C c i harg1 harg2 harg3 harg4 harg5 harg6 harg7 harg9 harg10 harg11 harg12 harg13 harg14 harg15 harg16 harg18 hc0 hc1 x0 x1 x2 x3 x4 x5 x6 x7 x8 x9 x10 xo13 xs0 xs1 fh0).2.2.2.2.1)
end
end Cert.Kernel3Ideal.Run
end
-- ==== Proof.InBwdRun.lean ====
module

public import proofs.«01_k».proof.Proof.InBwdA
public import proofs.«01_k».proof.Proof.InBwdB
public import proofs.«01_k».proof.Proof.InBwdC

@[expose] public section
set_option maxRecDepth 16384
noncomputable section
namespace Cert.Kernel3Ideal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen
variable {F : FTy → Type} [FloatOps F]
local notation "𝕄" => MT nD τ sig Unit (Elt F) ℕ (Pipeline.UD sig nD τ) ℕ
variable (m : (ℓ : Loc nD τ sig) → Buf (Elt F) ℓ) (ρ : Dev nD → PrngReg)
theorem hscM0_0 : scM0_0.IsWhole := Memref.isWhole_whole _
theorem hscM0_1 : scM0_1.IsWhole := Memref.isWhole_whole _
/-- What a point of case A leaves. -/
def pt0_A (c : Dev nD) (t : Fin cfg0.N) (h0 : t.val % 16 = 0) (h1 : ¬t.val % 16 = 15) : Vec F S4x1024x896 .bf16 × Vec F S256x1024 .f32 × Vec F S1x1024 .f32 × Vec F S1024x3584 .bf16 × Vec F S1024x3584 .f32 :=
  (out0_A_11 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) hscM0_0 hscM0_1 ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v22), out0_A_12 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) hscM0_0 hscM0_1 ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v22), out0_A_13 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) hscM0_0 hscM0_1 ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v22), sout0_A_0 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) hscM0_0 hscM0_1 ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v22), sout0_A_1 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) hscM0_0 hscM0_1 ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v22))
/-- What a point of case B leaves, after `P`. -/
def pt0_B (c : Dev nD) (t : Fin cfg0.N) (h0 : ¬t.val % 16 = 0) (h1 : ¬t.val % 16 = 15) (P : Vec F S4x1024x896 .bf16 × Vec F S256x1024 .f32 × Vec F S1x1024 .f32 × Vec F S1024x3584 .bf16 × Vec F S1024x3584 .f32) : Vec F S4x1024x896 .bf16 × Vec F S256x1024 .f32 × Vec F S1x1024 .f32 × Vec F S1024x3584 .bf16 × Vec F S1024x3584 .f32 :=
  (out0_B_11 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) hscM0_0 hscM0_1 (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) P.2.2.1 P.2.2.2.1 P.2.2.2.2 (V m c main_v22), out0_B_12 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) hscM0_0 hscM0_1 (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) P.2.2.1 P.2.2.2.1 P.2.2.2.2 (V m c main_v22), out0_B_13 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) hscM0_0 hscM0_1 (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) P.2.2.1 P.2.2.2.1 P.2.2.2.2 (V m c main_v22), P.2.2.2.1, sout0_B_1 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) hscM0_0 hscM0_1 (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) P.2.2.1 P.2.2.2.1 P.2.2.2.2 (V m c main_v22))
/-- What a point of case C leaves, after `P`. -/
def pt0_C (c : Dev nD) (t : Fin cfg0.N) (h0 : ¬t.val % 16 = 0) (h1 : t.val % 16 = 15) (P : Vec F S4x1024x896 .bf16 × Vec F S256x1024 .f32 × Vec F S1x1024 .f32 × Vec F S1024x3584 .bf16 × Vec F S1024x3584 .f32) : Vec F S4x1024x896 .bf16 × Vec F S256x1024 .f32 × Vec F S1x1024 .f32 × Vec F S1024x3584 .bf16 × Vec F S1024x3584 .f32 :=
  (out0_C_11 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) hscM0_0 hscM0_1 (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) P.2.2.1 P.2.2.2.1 P.2.2.2.2 (V m c main_v22), out0_C_12 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) hscM0_0 hscM0_1 (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) P.2.2.1 P.2.2.2.1 P.2.2.2.2 (V m c main_v22), out0_C_13 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) hscM0_0 hscM0_1 (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) P.2.2.1 P.2.2.2.1 P.2.2.2.2 (V m c main_v22), P.2.2.2.1, sout0_C_1 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) hscM0_0 hscM0_1 (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) P.2.2.1 P.2.2.2.1 P.2.2.2.2 (V m c main_v22))
/-- What the outputs and the carried scratch hold after point `n`. -/
def outsAt0 (c : Dev nD) : (n : ℕ) → n < cfg0.N → Vec F S4x1024x896 .bf16 × Vec F S256x1024 .f32 × Vec F S1x1024 .f32 × Vec F S1024x3584 .bf16 × Vec F S1024x3584 .f32
  | 0, hn => pt0_A m c ⟨0, hn⟩ (Nat.zero_mod _) (by show ¬ 0 % _ = _; decide)
  | n + 1, hn =>
    if h0 : (n + 1) % 16 = 0 then
      if h1 : (n + 1) % 16 = 15 then
        False.elim (by have hN : n + 1 < 16 := lt_of_lt_of_eq hn (show cfg0.N = 16 from N_0); omega)
      else
        pt0_A m c ⟨n + 1, hn⟩ h0 h1
    else
      if h1 : (n + 1) % 16 = 15 then
        pt0_C m c ⟨n + 1, hn⟩ h0 h1 (outsAt0 c n (Nat.lt_of_succ_lt hn))
      else
        pt0_B m c ⟨n + 1, hn⟩ h0 h1 (outsAt0 c n (Nat.lt_of_succ_lt hn))
theorem outsAt0_A (c : Dev nD) (t : Fin cfg0.N) (h0 : t.val % 16 = 0) (h1 : ¬t.val % 16 = 15) :
    outsAt0 m c t.val t.isLt = pt0_A m c t h0 h1 := by
  obtain ⟨n, hn⟩ := t
  cases n with
  | zero => exact rfl
  | succ n => exact (dif_pos h0).trans ((dif_neg h1).trans rfl)
theorem outsAt0_B (c : Dev nD) (t : Fin cfg0.N) (h0 : ¬t.val % 16 = 0) (h1 : ¬t.val % 16 = 15) :
    outsAt0 m c t.val t.isLt = pt0_B m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)
theorem outsAt0_C (c : Dev nD) (t : Fin cfg0.N) (h0 : ¬t.val % 16 = 0) (h1 : t.val % 16 = 15) :
    outsAt0 m c t.val t.isLt = pt0_C m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2.1) ∗ owns (c : Thread nD τ) scM0_1 fullShare ((outsAt0 m c n hn).2.2.2.2)) ∗ (∃ r, prngReg c r) ∗ iprop(semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0) ∗ iprop(hbPt0 c hbM0_0 (V m c main_v22)))
theorem PhiS_zero (c : Dev nD) (n : ℕ) (h : n ≤ cfg0.N) (hz : n = 0) : PhiS m c n h = Pipeline.ΦD osem0 spec0 H0 (V m) c := by
  subst hz; rfl
theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2)) ∗ (∃ r, prngReg c r) ∗ iprop(semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0) ∗ iprop(hbPt0 c hbM0_0 (V m c main_v22))) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2)) ∗ (∃ r, prngReg c r) ∗ iprop(semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0) ∗ iprop(hbPt0 c hbM0_0 (V m c main_v22))) := by
  cases n with
  | zero => exact absurd rfl hz
  | succ n => rfl
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t.val t.isLt).1
    | ⟨12, _⟩ => (outsAt0 m c t.val t.isLt).2.1
    | ⟨13, _⟩ => (outsAt0 m c t.val t.isLt).2.2.1
  Φ t := PhiS m c t.val (Nat.le_of_lt_succ t.isLt)
  q _ := fullShare
  owed _ := 0
theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t.val t.isLt).1 := by dsimp only [dats]
theorem after0_12 (c : Dev nD) (t : Fin cfg0.N) : (dats m 0 c).after 12 t = (outsAt0 m c t.val t.isLt).2.1 := by dsimp only [dats]
theorem after0_13 (c : Dev nD) (t : Fin cfg0.N) : (dats m 0 c).after 13 t = (outsAt0 m c t.val t.isLt).2.2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_13_B (c : Dev nD) (t : Fin cfg0.N) (h0 : ¬t.val % 16 = 0) (h1 : ¬t.val % 16 = 15) (d) :
    (dats m 0 c).before 13 t d = (outsAt0 m c (t.val - 1) (Nat.lt_of_le_of_lt (Nat.sub_le _ _) t.isLt)).2.2.1 := by
  have hN : t.val < 16 := lt_of_lt_of_eq t.isLt (show cfg0.N = 16 from N_0)
  rw [Dat.before_out_kept _ 13 rfl t (by omega) (Bool.eq_false_iff.mpr fun h => by have := (flush0_13 _).mp h; dsimp only at this; omega)
    (fun _ => rfl) (fun _ _ => rfl)]
  dsimp only [dats]
theorem before0_13_C (c : Dev nD) (t : Fin cfg0.N) (h0 : ¬t.val % 16 = 0) (h1 : t.val % 16 = 15) (d) :
    (dats m 0 c).before 13 t d = (outsAt0 m c (t.val - 1) (Nat.lt_of_le_of_lt (Nat.sub_le _ _) t.isLt)).2.2.1 := by
  have hN : t.val < 16 := lt_of_lt_of_eq t.isLt (show cfg0.N = 16 from N_0)
  rw [Dat.before_out_kept _ 13 rfl t (by omega) (Bool.eq_false_iff.mpr fun h => by have := (flush0_13 _).mp h; dsimp only at this; omega)
    (fun _ => rfl) (fun _ _ => rfl)]
  dsimp only [dats]
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)
theorem lv0_0 (c : Dev nD) (t : Fin cfg0.N) : (dats m 0 c).leavesExact 0 t = owns (c : Thread nD τ) (ms0_0 t) fullShare (iblk m c 0 t) := by
  unfold Dat.leavesExact; rw [liveAt0_0 t, after0_0]
theorem lv0_1 (c : Dev nD) (t : Fin cfg0.N) : (dats m 0 c).leavesExact 1 t = owns (c : Thread nD τ) (ms0_1 t) fullShare (iblk m c 1 t) := by
  unfold Dat.leavesExact; rw [liveAt0_1 t, after0_1]
theorem lv0_2 (c : Dev nD) (t : Fin cfg0.N) : (dats m 0 c).leavesExact 2 t = owns (c : Thread nD τ) (ms0_2 t) fullShare (iblk m c 2 t) := by
  unfold Dat.leavesExact; rw [liveAt0_2 t, after0_2]
theorem lv0_3 (c : Dev nD) (t : Fin cfg0.N) : (dats m 0 c).leavesExact 3 t = owns (c : Thread nD τ) (ms0_3 t) fullShare (iblk m c 3 t) := by
  unfold Dat.leavesExact; rw [liveAt0_3 t, after0_3]
theorem lv0_4 (c : Dev nD) (t : Fin cfg0.N) : (dats m 0 c).leavesExact 4 t = owns (c : Thread nD τ) (ms0_4 t) fullShare (iblk m c 4 t) := by
  unfold Dat.leavesExact; rw [liveAt0_4 t, after0_4]
theorem lv0_5 (c : Dev nD) (t : Fin cfg0.N) : (dats m 0 c).leavesExact 5 t = owns (c : Thread nD τ) (ms0_5 t) fullShare (iblk m c 5 t) := by
  unfold Dat.leavesExact; rw [liveAt0_5 t, after0_5]
theorem lv0_6 (c : Dev nD) (t : Fin cfg0.N) : (dats m 0 c).leavesExact 6 t = owns (c : Thread nD τ) (ms0_6 t) fullShare (iblk m c 6 t) := by
  unfold Dat.leavesExact; rw [liveAt0_6 t, after0_6]
theorem lv0_7 (c : Dev nD) (t : Fin cfg0.N) : (dats m 0 c).leavesExact 7 t = owns (c : Thread nD τ) (ms0_7 t) fullShare (iblk m c 7 t) := by
  unfold Dat.leavesExact; rw [liveAt0_7 t, after0_7]
theorem lv0_8 (c : Dev nD) (t : Fin cfg0.N) : (dats m 0 c).leavesExact 8 t = owns (c : Thread nD τ) (ms0_8 t) fullShare (iblk m c 8 t) := by
  unfold Dat.leavesExact; rw [liveAt0_8 t, after0_8]
theorem lv0_9 (c : Dev nD) (t : Fin cfg0.N) : (dats m 0 c).leavesExact 9 t = owns (c : Thread nD τ) (ms0_9 t) fullShare (iblk m c 9 t) := by
  unfold Dat.leavesExact; rw [liveAt0_9 t, after0_9]
theorem lv0_10 (c : Dev nD) (t : Fin cfg0.N) : (dats m 0 c).leavesExact 10 t = owns (c : Thread nD τ) (ms0_10 t) fullShare (iblk m c 10 t) := by
  unfold Dat.leavesExact; rw [liveAt0_10 t, after0_10]
theorem lv0_12 (c : Dev nD) (t : Fin cfg0.N) : (dats m 0 c).leavesExact 12 t = owns (c : Thread nD τ) (ms0_12 t) fullShare ((outsAt0 m c t.val t.isLt).2.1) := by
  unfold Dat.leavesExact; rw [liveAt0_12 t, after0_12]
theorem lv0_13 (c : Dev nD) (t : Fin cfg0.N) : (dats m 0 c).leavesExact 13 t = owns (c : Thread nD τ) (ms0_13 t) fullShare ((outsAt0 m c t.val t.isLt).2.2.1) := by
  unfold Dat.leavesExact; rw [liveAt0_13 t, after0_13]
set_option maxHeartbeats 19200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = PhiS m c (t.val + 1) t.isLt from rfl, PhiS_succ]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · by_cases h1 : t.val % 16 = 15
    · exfalso; omega
    · rw [lv0_0, lv0_1]
      rw [lv0_2, lv0_3]
      rw [lv0_4, lv0_5]
      rw [lv0_6, lv0_7]
      rw [lv0_8, lv0_9, lv0_10]
      rw [Dat.leavesExact_idle (dats m 0 c) 11 t (idleAt0_11_A t ((hcond0_0 t).mpr h0) (fun h => h1 ((hcond0_1 t).mp h))) (noFlush0_11_A t ((hcond0_0 t).mpr h0) (fun h => h1 ((hcond0_1 t).mp h)))]
      rw [lv0_12, lv0_13]
      by_cases hz : t.val = 0
      · rw [PhiS_castSucc m c t, PhiS_zero m c _ _ hz, PhiD0_eq]
        rw [outsAt0_A m c t h0 h1]
        unfold pt0_A; (try dsimp only); unfold out0_A_12 out0_A_13 sout0_A_0 sout0_A_1; (try dsimp only)
        iintro ⟨⟨⟨HS0, HS1⟩, Hg, ⟨Hq0, Hq1, Hq2, Hq3⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v22)).2.2.2.2.2 _ W _)
        iframe H0 H1 H2 H3 H4 H5 H6 H7 H8 H9 H10 H11
        isplitl [H12]; · iexists _; iexact H12
        isplitl [H13]; · iexists _; iexact H13
        iframe HS0 HS1 Hq0 Hq1 Hq2 Hq3 Hh0 HW
        iintro ⟨H0, H1, H2, H3, H4, H5, H6, H7, H8, H9, H10, H11, ⟨%e12, H12⟩, ⟨%e13, H13⟩, ⟨%es0, HS0⟩, ⟨%es1, HS1⟩, Hq0, Hq1, Hq2, Hq3, Hh0, ⟨%W', HW'⟩⟩
        isplitl [HS0 HS1 Hg Hq0 Hq1 Hq2 Hq3 Hh0]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _)
          isplitl [Hg]
          · iexact Hg
          isplitl [Hq0 Hq1 Hq2 Hq3]
          · isplitl [Hq0]; · iexact Hq0
            iframe Hq1 Hq2
            iexact Hq3
          iexact Hh0
        isplitl [HW']
        · iexists W'; isplitr; · ipureintro; exact fun _ _ => Or.inl trivial
          iexact HW'
        iframe H0 H1 H2 H3 H4 H5 H6 H7 H8 H9 H10
        isplitl [H11]; · iexists _; iexact H11
        isplitl [H12]
        · unfold owns; iexists _; isplitr
          swap; · iexact H12
          ipureintro; exact View.read_writes_of_cover _ _ _ _ _ (cover0_A_12 c _ _ _ _ _ _ _ _ _ _ _ _ _ _ _ _ _ _ _ _ _ _ _ _ _ _ _ _ _ _ _)
        unfold owns; iexists _; isplitr
        swap; · iexact H13
        ipureintro; exact View.read_writes_of_cover _ _ _ _ _ (cover0_A_13 c _ _ _ _ _ _ _ _ _ _ _ _ _ _ _ _ _ _ _ _ _ _ _ _ _ _ _ _ _ _ _)
      · exfalso; have hN : t.val < 16 := lt_of_lt_of_eq t.isLt (show cfg0.N = 16 from N_0); omega
  · by_cases h1 : t.val % 16 = 15
    · rw [lv0_0, lv0_1]
      rw [lv0_2, lv0_3]
      rw [lv0_4, lv0_5]
      rw [lv0_6, lv0_7]
      rw [lv0_8, lv0_9, lv0_10]
      rw [show (dats m 0 c).leavesExact 11 t = owns (c : Thread nD τ) (ms0_11 t) fullShare ((dats m 0 c).after 11 t) from by
      unfold Dat.leavesExact; rw [liveAt0_11_C t (fun h => h0 ((hcond0_0 t).mp h)) ((hcond0_1 t).mpr h1)], after0_11]
      rw [lv0_12, lv0_13]
      by_cases hz : t.val = 0
      · exfalso; have hN : t.val < 16 := lt_of_lt_of_eq t.isLt (show cfg0.N = 16 from N_0); omega
      · rw [PhiS_castSucc m c t, PhiS_pos m c _ _ hz]
        rw [outsAt0_C m c t h0 h1]
        simp only [before0_13_C m c t h0 h1]
        unfold pt0_C; (try dsimp only); unfold out0_C_11 out0_C_12 out0_C_13 sout0_C_1; (try dsimp only)
        iintro ⟨⟨⟨HS0, HS1⟩, Hg, ⟨Hq0, Hq1, Hq2, Hq3⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
        iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ (V m c main_v22)).2.2.2.2.2 W _)
        iframe H0 H1 H2 H3 H4 H5 H6 H7 H8 H9 H10
        isplitl [H11]; · iexists _; iexact H11
        isplitl [H12]; · iexists _; iexact H12
        iframe H13 HS0 HS1 Hq0 Hq1 Hq2 Hq3 Hh0 HW
        iintro ⟨H0, H1, H2, H3, H4, H5, H6, H7, H8, H9, H10, ⟨%e11, H11⟩, ⟨%e12, H12⟩, ⟨%e13, H13⟩, HS0, ⟨%es1, HS1⟩, Hq0, Hq1, Hq2, Hq3, Hh0, ⟨%W', HW'⟩⟩
        isplitl [HS0 HS1 Hg Hq0 Hq1 Hq2 Hq3 Hh0]
        · isplitl [HS0 HS1]
          · isplitl [HS0]; · iexact HS0
            unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _ _)
          isplitl [Hg]
          · iexact Hg
          isplitl [Hq0 Hq1 Hq2 Hq3]
          · isplitl [Hq0]; · iexact Hq0
            iframe Hq1 Hq2
            iexact Hq3
          iexact Hh0
        isplitl [HW']
        · iexists W'; isplitr; · ipureintro; exact fun _ _ => Or.inl trivial
          iexact HW'
        iframe H0 H1 H2 H3 H4 H5 H6 H7 H8 H9 H10
        isplitl [H11]
        · unfold owns; iexists _; isplitr
          swap; · iexact H11
          ipureintro; exact View.read_writes_of_cover _ _ _ _ _ (cover0_C_11 c _ _ _ _ _ _ _ _ _ _ _ _ _ _ _ _ _ _ _ _ _ _ _ _ _ _ _ _ _ _ _ _ _ _)
        isplitl [H12]
        · unfold owns; iexists _; isplitr
          swap; · iexact H12
          ipureintro; exact View.read_writes_of_cover _ _ _ _ _ (cover0_C_12 c _ _ _ _ _ _ _ _ _ _ _ _ _ _ _ _ _ _ _ _ _ _ _ _ _ _ _ _ _ _ _ _ _ _)
        unfold owns; iexists _; isplitr
        swap; · iexact H13
        ipureintro; exact View.read_writes_of_cover _ _ _ _ _ (cover0_C_13 c _ _ _ _ _ _ _ _ _ _ _ _ _ _ _ _ _ _ _ _ _ _ _ _ _ _ _ _ _ _ _ _ _ _)
    · rw [lv0_0, lv0_1]
      rw [lv0_2, lv0_3]
      rw [lv0_4, lv0_5]
      rw [lv0_6, lv0_7]
      rw [lv0_8, lv0_9, lv0_10]
      rw [Dat.leavesExact_idle (dats m 0 c) 11 t (idleAt0_11_B t (fun h => h0 ((hcond0_0 t).mp h)) (fun h => h1 ((hcond0_1 t).mp h))) (noFlush0_11_B t (fun h => h0 ((hcond0_0 t).mp h)) (fun h => h1 ((hcond0_1 t).mp h)))]
      rw [lv0_12, lv0_13]
      by_cases hz : t.val = 0
      · exfalso; have hN : t.val < 16 := lt_of_lt_of_eq t.isLt (show cfg0.N = 16 from N_0); omega
      · rw [PhiS_castSucc m c t, PhiS_pos m c _ _ hz]
        rw [outsAt0_B m c t h0 h1]
        simp only [before0_13_B m c t h0 h1]
        unfold pt0_B; (try dsimp only); unfold out0_B_12 out0_B_13 sout0_B_1; (try dsimp only)
        iintro ⟨⟨⟨HS0, HS1⟩, Hg, ⟨Hq0, Hq1, Hq2, Hq3⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
        iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ (V m c main_v22)).2.2.2.2.2 _ W _)
        iframe H0 H1 H2 H3 H4 H5 H6 H7 H8 H9 H10 H11
        isplitl [H12]; · iexists _; iexact H12
        iframe H13 HS0 HS1 Hq0 Hq1 Hq2 Hq3 Hh0 HW
        iintro ⟨H0, H1, H2, H3, H4, H5, H6, H7, H8, H9, H10, H11, ⟨%e12, H12⟩, ⟨%e13, H13⟩, HS0, ⟨%es1, HS1⟩, Hq0, Hq1, Hq2, Hq3, Hh0, ⟨%W', HW'⟩⟩
        isplitl [HS0 HS1 Hg Hq0 Hq1 Hq2 Hq3 Hh0]
        · isplitl [HS0 HS1]
          · isplitl [HS0]; · iexact HS0
            unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _)
          isplitl [Hg]
          · iexact Hg
          isplitl [Hq0 Hq1 Hq2 Hq3]
          · isplitl [Hq0]; · iexact Hq0
            iframe Hq1 Hq2
            iexact Hq3
          iexact Hh0
        isplitl [HW']
        · iexists W'; isplitr; · ipureintro; exact fun _ _ => Or.inl trivial
          iexact HW'
        iframe H0 H1 H2 H3 H4 H5 H6 H7 H8 H9 H10
        isplitl [H11]; · iexists _; iexact H11
        isplitl [H12]
        · unfold owns; iexists _; isplitr
          swap; · iexact H12
          ipureintro; exact View.read_writes_of_cover _ _ _ _ _ (cover0_B_12 c _ _ _ _ _ _ _ _ _ _ _ _ _ _ _ _ _ _ _ _ _ _ _ _ _ _ _ _ _ _ _ _ _ _)
        unfold owns; iexists _; isplitr
        swap; · iexact H13
        ipureintro; exact View.read_writes_of_cover _ _ _ _ _ (cover0_B_13 c _ _ _ _ _ _ _ _ _ _ _ _ _ _ _ _ _ _ _ _ _ _ _ _ _ _ _ _ _ _ _ _ _ _)
theorem defs₀_row (t : Fin cfg0.N) :
    defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1⟩, Hg, ⟨Hq0, Hq1, Hq2, Hq3⟩, Hh0⟩
  isplitl [HS0 HS1]
  · isplitl [HS0]
    · iexists _; iexact HS0
    iexists _; iexact HS1
  isplitl [Hg]; · iexact Hg
  isplitl [Hq0 Hq1 Hq2 Hq3]
  · isplitl [Hq0]; · iexact Hq0
    isplitl [Hq1]; · iexact Hq1
    isplitl [Hq2]; · iexact Hq2
    iexact Hq3
  iexact Hh0
theorem hout (c : Dev nD) : (dats m 0 c).Φ (Fin.last cfg0.N) ⊢ Pipeline.ΦD osem0 spec0 H0 (V m) c :=
  Phi_out m c _ (by rw [Fin.val_last]; have : cfg0.N = 16 := N_0; omega)
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)
theorem run_main : θ_run defs (onTc (τ := τ) (main (F := F))) (s₀ m ρ) (Pipeline.FramePost cfgs (dats m) 0 (V m)) :=
  (θ_run defs _ _).mono (fun _ h => h.1) (run_main_quiescent m ρ)
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)
/-- The run, with what each result and argument then holds. -/
theorem run_blocks : θ_run defs (onTc (τ := τ) (main (F := F))) ⟨m, fun _ => 0, ρ⟩ fun r => ∀ c : Dev nD,
      r.2.mem ((c : Thread nD τ).loc main_v23_0) = (dats m 0 c).arrAt 11 cfg0.N
      ∧ r.2.mem ((c : Thread nD τ).loc main_v23_1) = (dats m 0 c).arrAt 12 cfg0.N
      ∧ r.2.mem ((c : Thread nD τ).loc main_v23_2) = (dats m 0 c).arrAt 13 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h.1 c).1 11, (h.1 c).1 12, (h.1 c).1 13, h.2 c⟩)
    (θ_run_and (run_main m ρ) (unchanged m ρ))
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))
end Cert.Kernel3Ideal.Run
end
-- ==== Proof.Gelu.lean ====
/- The gradient of the exact gelu in its two spellings: through the error function with one slope, and through the complementary error
   function as differentiation leaves it. Equal at every extended real when the incoming gradient is a real. -/
module

public import Idealize.ShloMosaic.PureOps.Ideal
public import Idealize.ShloMosaic.Lib.IdealHost

@[expose] public section

noncomputable section

namespace Cert.Gelu

open Idealize.ShloMosaic

/-- The rounded reciprocal root of two that both programs multiply by. -/
abbrev kR : ℝ := 11863283 / 16777216
/-- The rounded slope of the complementary error function at zero. -/
abbrev cR : ℝ := -(9465531 / 8388608)

theorem ofBits_k : Ideal.ofBits .f32 0x3F3504F3#32 = (kR : EReal) := by
  simp [Ideal.ofBits, Ideal.ieee, -EReal.coe_mul]; norm_num
theorem ofBits_c : Ideal.ofBits .f32 0xBF906EBB#32 = (cR : EReal) := by
  simp [Ideal.ofBits, Ideal.ieee, -EReal.coe_mul]; norm_num
theorem ofBits_half : Ideal.ofBits .f32 0x3F000000#32 = (((1 : ℝ) / 2 : ℝ) : EReal) := by
  simp [Ideal.ofBits, Ideal.ieee, -EReal.coe_mul]; norm_num

/-- The error function is odd, also at the infinities. -/
theorem erf_neg (x : EReal) : Ideal.erf (-x) = -Ideal.erf x := by
  induction x with
  | bot => simp
  | top => simp
  | coe r =>
    rw [← EReal.coe_neg, Ideal.erf_coe, Ideal.erf_coe, ← EReal.coe_neg, EReal.coe_eq_coe_iff]
    have h := intervalIntegral.integral_comp_neg (a := 0) (b := r) (fun t : ℝ => Real.exp (-(t ^ 2)))
    simp only [neg_sq, neg_zero] at h
    rw [intervalIntegral.integral_symm, ← h]; ring

/-- `1 - erf (-x)` is `1 + erf x`. -/
theorem erfc_neg (x : EReal) : Ideal.erfc (-x) = 1 + Ideal.erf x := by
  rw [Ideal.erfc, erf_neg, sub_eq_add_neg, neg_neg]

/-- The error function takes real values. -/
theorem erf_real (x : EReal) : ∃ r : ℝ, Ideal.erf x = (r : EReal) := by
  induction x with
  | bot => exact ⟨-1, by simp⟩
  | top => exact ⟨1, by simp⟩
  | coe r => exact ⟨_, Ideal.erf_coe r⟩

/-- gelu through the error function, multiplied in the kernel's order, is gelu through the complementary one. -/
theorem gelu_eq (x : EReal) :
    x * ((((1 : ℝ) / 2 : ℝ) : EReal) * (1 + Ideal.erf (x * (kR : EReal)))) = ((((1 : ℝ) / 2 : ℝ) : EReal) * x) * Ideal.erfc (-x * (kR : EReal)) := by
  rw [EReal.neg_mul, erfc_neg, ← mul_assoc, mul_comm x]

/-- THE SLOPE: the gradient of gelu at `x` times a real `a`, in the two spellings. -/
theorem slope (x : EReal) (a : ℝ) :
    (a : EReal) * ((((1 : ℝ) / 2 : ℝ) : EReal) * (1 + Ideal.erf (x * (kR : EReal)))
        + (x * ((112292272998273 / 281474976710656 : ℝ) : EReal)) * Ideal.exp (-((x * (kR : EReal)) * (x * (kR : EReal)))))
      = -((((cR : EReal) * (((((1 : ℝ) / 2 : ℝ) : EReal) * x) * (a : EReal))) * Ideal.exp (-((-x * (kR : EReal)) * (-x * (kR : EReal))))) * (kR : EReal))
        + (((1 : ℝ) / 2 : ℝ) : EReal) * ((a : EReal) * Ideal.erfc (-x * (kR : EReal))) := by
  have hk : (0 : ℝ) < kR := by norm_num
  induction x with
  | coe r =>
    obtain ⟨e, he⟩ := erf_real ((r : EReal) * (kR : EReal))
    rw [EReal.neg_mul, erfc_neg, he]
    have hz : -((r : EReal) * (kR : EReal) * ((r : EReal) * (kR : EReal))) = ((-(r * kR * (r * kR)) : ℝ) : EReal) := by
      rw [EReal.coe_neg, EReal.coe_mul, EReal.coe_mul]
    rw [neg_mul_neg, hz, Ideal.exp_coe, ← EReal.coe_one]
    simp only [← EReal.coe_mul, ← EReal.coe_add, ← EReal.coe_neg, EReal.coe_eq_coe_iff]
    ring
  | top =>
    rw [EReal.neg_mul, EReal.top_mul_coe_of_pos hk, erfc_neg]
    simp only [EReal.neg_top, EReal.top_mul_top, EReal.bot_mul_bot, Ideal.exp_bot, Ideal.erf_top, mul_zero, zero_mul, neg_zero, zero_add, add_zero]
    rw [← mul_assoc, ← mul_assoc, mul_comm (a : EReal)]
  | bot =>
    rw [EReal.neg_mul, EReal.bot_mul_coe_of_pos hk, erfc_neg]
    simp only [EReal.neg_bot, EReal.neg_top, EReal.top_mul_top, EReal.bot_mul_bot, Ideal.exp_bot, Ideal.erf_bot, mul_zero, zero_mul, neg_zero, zero_add, add_zero]
    rw [← mul_assoc, ← mul_assoc, mul_comm (a : EReal)]

end Cert.Gelu

end
-- ==== Proof.MlpForms.lean ====
module

public import proofs.«01_k».proof.Proof.Gen.KernelIdeal.Frame
public import Idealize.ShloMosaic.Lib.Pipeline.ValueKit
public import Idealize.ShloMosaic.Lib.Pipeline.ReadBack
public import proofs.«01_k».proof.Proof.Gelu

@[expose] public section
set_option maxRecDepth 16384
set_option maxHeartbeats 2000000
noncomputable section
open Idealize.ShloMosaic Idealize.ShloMosaic.TcCoe Idealize.SL.Sem
open Idealize.ShloMosaic.Pipeline (Dat)
namespace Cert.KernelIdeal.Mlp
open Cert.KernelIdeal Cert.KernelIdeal.Gen

/-! What one grid point of the mixer's gradient computes, over the blocks it reads. `DH` is the block of the output's gradient,
`G`, `V`, `X`, `A` the blocks of gate, value, convolution and activation, `W` the taps, `D` the down projection, and `C` the rows that the
block after this one left. -/
section
variable (DH : FVec Ideal S256x1024 .f32) (G V X A : FVec Ideal S256x2816 .bf16) (W : FVec Ideal S3x2816 .f32)
  (D : FVec Ideal S2816x1024 .bf16) (C : FVec Ideal S8x2816 .f32)

/-- the gradient of the activation -/
def dactF (r : Fin 256) (j : Fin 2816) : EReal := ∑ d : Fin 1024, DH (ix2 r d) * D (ix2 j d)

/-- half of one plus the error function -/
def cdfF (x : EReal) : EReal :=
  Ideal.ofBits .f32 0x3F000000#32 * (1 + FloatOps.erf (F := Ideal) (φ := .f32) (x * Ideal.ofBits .f32 0x3F3504F3#32))

/-- the slope of gelu -/
def slopeF (x : EReal) : EReal :=
  cdfF x + x * Named.named (F := Ideal) κ "gelu_slope" (φ := .f32) 0x3ECC422A#32
    * Ideal.exp (0 - x * Ideal.ofBits .f32 0x3F3504F3#32 * (x * Ideal.ofBits .f32 0x3F3504F3#32))

/-- the gradient of the convolution's result -/
def dconvF (r : Fin 256) (j : Fin 2816) : EReal := dactF DH D r j * V (ix2 r j) * slopeF (X (ix2 r j))

/-- row `k` of the carried rows -/
def rowF (k : BitVec 32) (j : Fin 2816) : EReal :=
  ∑ x : Fin 8, Scalar.select (IntOp.cmpi CmpIPredicate.eq (BitVec.ofNat 32 x.val) k) (C (ix2 x j)) 0

/-- the gradient of the convolution's result one row further on -/
def u1F (r : Fin 256) (j : Fin 2816) : EReal :=
  Scalar.select (IntOp.cmpi CmpIPredicate.eq (BitVec.ofNat 32 r.val) 255#32) (rowF C 0#32 j)
    (dconvF DH V X D ⟨(r.val + 256 - 255) % 256, Nat.mod_lt _ (by decide)⟩ j)

/-- the gradient of the convolution's result two rows further on -/
def u2F (r : Fin 256) (j : Fin 2816) : EReal :=
  Scalar.select (IntOp.cmpi CmpIPredicate.eq (BitVec.ofNat 32 r.val) 255#32) (rowF C 1#32 j)
    (Scalar.select (IntOp.cmpi CmpIPredicate.eq (BitVec.ofNat 32 r.val) 254#32) (rowF C 0#32 j)
      (dconvF DH V X D ⟨(r.val + 256 - 254) % 256, Nat.mod_lt _ (by decide)⟩ j))

/-- the gradient of the gate -/
def dgateF (r : Fin 256) (j : Fin 2816) : EReal :=
  W (ix2 ⟨2, by decide⟩ j) * dconvF DH V X D r j + W (ix2 ⟨1, by decide⟩ j) * u1F DH V X D C r j
    + W (ix2 ⟨0, by decide⟩ j) * u2F DH V X D C r j

/-- the gradient of the value -/
def dvalF (r : Fin 256) (j : Fin 2816) : EReal := dactF DH D r j * (X (ix2 r j) * cdfF (X (ix2 r j)))

/-- the gradients of gate and value side by side -/
def dgvF (y : S256x5632.Idx) : EReal :=
  if h : (y 1).val < 2816 then dgateF DH V X W D C ⟨(y 0).val, (y 0).isLt⟩ ⟨(y 1).val, h⟩
  else dvalF DH X D ⟨(y 0).val, (y 0).isLt⟩ ⟨(y 1).val - 2816, Nat.sub_lt_left_of_lt_add (not_lt.mp h) (y 1).isLt⟩

theorem dgvF_gate (y : S256x5632.Idx) (r : Fin 256) (j : Fin 2816) (h0 : (y 0).val = r.val) (h1 : (y 1).val = j.val) :
    dgvF DH V X W D C y = dgateF DH V X W D C r j := by
  have h2 : (y 1).val < 2816 := h1 ▸ j.isLt
  unfold dgvF
  rw [dif_pos h2]
  congr 1 <;> exact Fin.ext (by assumption)

theorem dgvF_val (y : S256x5632.Idx) (r : Fin 256) (j : Fin 2816) (h0 : (y 0).val = r.val) (h1 : (y 1).val = 2816 + j.val) :
    dgvF DH V X W D C y = dvalF DH X D r j := by
  have h2 : ¬(y 1).val < 2816 := by omega
  unfold dgvF
  rw [dif_neg h2]
  congr 1
  · exact Fin.ext h0
  · exact Fin.ext (by show (y 1).val - 2816 = _; omega)

/-- what a block adds to the gradient of tap `k` -/
def dcwI (k : ℕ) (j : Fin 2816) : EReal :=
  if k = 2 then ∑ r : Fin 256, dconvF DH V X D r j * G (ix2 r j)
  else if k = 1 then ∑ r : Fin 256, u1F DH V X D C r j * G (ix2 r j)
  else ∑ r : Fin 256, u2F DH V X D C r j * G (ix2 r j)

/-- the gradient of the taps after a block, over the one before it -/
def dcwF (O : FVec Ideal S3x2816 .f32) (y : S3x2816.Idx) : EReal :=
  O (ix2 ⟨(y 0).val, (y 0).isLt⟩ ⟨(y 1).val, (y 1).isLt⟩) + dcwI DH G V X D C (y 0).val ⟨(y 1).val, (y 1).isLt⟩

theorem dcwF_two (O : FVec Ideal S3x2816 .f32) (y : S3x2816.Idx) (j : Fin 2816) (h0 : (y 0).val = 2) (h1 : (y 1).val = j.val) :
    dcwF DH G V X D C O y = O (ix2 2 j) + ∑ r : Fin 256, dconvF DH V X D r j * G (ix2 r j) := by
  obtain rfl : j = ⟨(y 1).val, (y 1).isLt⟩ := Fin.ext h1.symm
  unfold dcwF dcwI
  rw [if_pos h0]
  exact congrArg₂ (fun a b : EReal => a + b) (congrArg (fun k => O (ix2 k _)) (Fin.ext h0)) rfl

theorem dcwF_one (O : FVec Ideal S3x2816 .f32) (y : S3x2816.Idx) (j : Fin 2816) (h0 : (y 0).val = 1) (h1 : (y 1).val = j.val) :
    dcwF DH G V X D C O y = O (ix2 1 j) + ∑ r : Fin 256, u1F DH V X D C r j * G (ix2 r j) := by
  obtain rfl : j = ⟨(y 1).val, (y 1).isLt⟩ := Fin.ext h1.symm
  unfold dcwF dcwI
  rw [if_neg (by omega), if_pos h0]
  exact congrArg₂ (fun a b : EReal => a + b) (congrArg (fun k => O (ix2 k _)) (Fin.ext h0)) rfl

theorem dcwF_zero (O : FVec Ideal S3x2816 .f32) (y : S3x2816.Idx) (j : Fin 2816) (h0 : (y 0).val = 0) (h1 : (y 1).val = j.val) :
    dcwF DH G V X D C O y = O (ix2 0 j) + ∑ r : Fin 256, u2F DH V X D C r j * G (ix2 r j) := by
  obtain rfl : j = ⟨(y 1).val, (y 1).isLt⟩ := Fin.ext h1.symm
  unfold dcwF dcwI
  rw [if_neg (by omega), if_neg (by omega)]
  exact congrArg₂ (fun a b : EReal => a + b) (congrArg (fun k => O (ix2 k _)) (Fin.ext h0)) rfl

/-- the gradient of the bias after a block -/
def dcbF (O : FVec Ideal S1x2816 .f32) (y : S1x2816.Idx) : EReal :=
  O (ix2 ⟨0, by decide⟩ ⟨(y 1).val, (y 1).isLt⟩) + ∑ r : Fin 256, dconvF DH V X D r ⟨(y 1).val, (y 1).isLt⟩

/-- the gradient of the down projection after a block -/
def accF (O : FVec Ideal S2816x1024 .f32) (y : S2816x1024.Idx) : EReal :=
  O (ix2 ⟨(y 0).val, (y 0).isLt⟩ ⟨(y 1).val, (y 1).isLt⟩)
    + ∑ r : Fin 256, A (ix2 r ⟨(y 0).val, (y 0).isLt⟩) * DH (ix2 r ⟨(y 1).val, (y 1).isLt⟩)

/-- the rows a block leaves for the one before it -/
def carF (y : S8x2816.Idx) : EReal :=
  dconvF DH V X D ⟨(y 0).val, lt_trans (y 0).isLt (by decide)⟩ ⟨(y 1).val, (y 1).isLt⟩
end

/-- The first `n` stores are blocks of `G` and one of them covers `y`: what the list leaves at `y` is `G y`. -/
theorem canon_take {S : Shape} {e : EltTy} (n : ℕ) (G : S.Idx → Elt Ideal e) (L : List (View.Piece (Elt Ideal) S e)) (y : S.Idx)
    (h : View.PiecesOf G (L.take n)) (hc : ∃ p ∈ L.take n, y ∈ p.1.set) : View.canon L y = G y := by
  conv_lhs => rw [← List.take_append_drop n L]
  exact View.canon_append_of_piecesOf G _ _ h y hc

end Cert.KernelIdeal.Mlp
end
-- ==== Proof.Norm.lean ====
/- The root-mean-square norm of a row of extended reals: the constants the two programs multiply by, and the reciprocal root. -/
module

public import Idealize.ShloMosaic.PureOps.Ideal
public import Idealize.ShloMosaic.Lib.IdealHost

@[expose] public section

noncomputable section

namespace Cert.Norm

open Idealize.ShloMosaic

theorem ofBits_n : Ideal.ofBits .f32 0x44800000#32 = ((1024 : ℝ) : EReal) := by
  simp [Ideal.ofBits, Ideal.ieee, -EReal.coe_mul]; norm_num
theorem ofBits_inv : Ideal.ofBits .f32 0x3A800000#32 = (((1 : ℝ) / 1024 : ℝ) : EReal) := by
  simp [Ideal.ofBits, Ideal.ieee, -EReal.coe_mul]; norm_num
theorem ofBits_eps : Ideal.ofBits .f32 0x358637BD#32 = ((8796093 / 8796093022208 : ℝ) : EReal) := by
  simp [Ideal.ofBits, Ideal.ieee, -EReal.coe_mul]; norm_num

/-- Dividing by the length of a row is multiplying by its reciprocal. -/
theorem div_n (x : EReal) : Ideal.div x (Ideal.ofBits .f32 0x44800000#32) = x * Ideal.ofBits .f32 0x3A800000#32 := by
  rw [ofBits_n, ofBits_inv, Ideal.div, if_neg (by norm_num), ← EReal.coe_inv]
  norm_num

/-- the reciprocal root of the mean square, from the sum of squares -/
def rms (s : EReal) : EReal := Ideal.rsqrt (s * Ideal.ofBits .f32 0x3A800000#32 + Ideal.ofBits .f32 0x358637BD#32)

/-- A sum of squares with an infinite entry is infinite. -/
theorem sq_top {n : ℕ} (x : Fin n → EReal) (k : Fin n) (h : x k = ⊤ ∨ x k = ⊥) : (∑ j, x j * x j) = ⊤ := by
  have hk : x k * x k = ⊤ := by rcases h with h | h <;> rw [h] <;> rfl
  have hn : ∀ j ∈ Finset.univ, (0 : EReal) ≤ x j * x j := fun j _ => by
    rcases le_total 0 (x j) with h | h
    · exact mul_nonneg h h
    · exact EReal.mul_nonneg_iff.mpr (Or.inr ⟨h, h⟩)
  exact top_le_iff.mp (hk ▸ Finset.single_le_sum (f := fun j => x j * x j) hn (Finset.mem_univ k))

/-- A nonnegative real factor leaves a sum. -/
theorem sum_mul_coe {n : ℕ} (f : Fin n → EReal) (c : ℝ) (hc : 0 ≤ c) : (∑ j, f j * (c : EReal)) = (∑ j, f j) * (c : EReal) := by
  have key : ∀ s : Finset (Fin n), (∑ j ∈ s, f j * (c : EReal)) = (∑ j ∈ s, f j) * (c : EReal) := fun s => by
    induction s using Finset.induction_on with
    | empty => simp
    | insert a s ha ih =>
      rw [Finset.sum_insert ha, Finset.sum_insert ha, ih, EReal.right_distrib_of_nonneg_of_ne_top (by exact_mod_cast hc) (EReal.coe_ne_top c)]
  exact key _

/-- Twice a multiple is the doubled multiple. -/
theorem twice (S : EReal) (c : ℝ) : S * (c : EReal) + S * (c : EReal) = S * ((2 * c : ℝ) : EReal) := by
  rcases lt_trichotomy c 0 with hc | hc | hc
  · induction S with
    | bot => rw [EReal.bot_mul_coe_of_neg hc, EReal.bot_mul_coe_of_neg (by linarith)]; rfl
    | top => rw [EReal.top_mul_coe_of_neg hc, EReal.top_mul_coe_of_neg (by linarith)]; rfl
    | coe s => norm_cast; ring_nf
  · subst hc; simp
  · induction S with
    | bot => rw [EReal.bot_mul_coe_of_pos hc, EReal.bot_mul_coe_of_pos (by linarith)]; rfl
    | top => rw [EReal.top_mul_coe_of_pos hc, EReal.top_mul_coe_of_pos (by linarith)]; rfl
    | coe s => norm_cast; ring_nf

/-- A nonnegative real factor distributes over a difference. -/
theorem coe_mul_sub (c : ℝ) (hc : 0 ≤ c) (a b : EReal) : (c : EReal) * (a - b) = c * a + -(c * b) := by
  rw [sub_eq_add_neg, EReal.left_distrib_of_nonneg_of_ne_top (by exact_mod_cast hc) (EReal.coe_ne_top c), mul_neg]

/-- The gradient of the norm, in its two forms: entry `k` for the row `x` and the gradient `d` of the normed row, where `i` is the reciprocal of
the row's length. -/
theorem bwd {n : ℕ} (x d : Fin n → EReal) (i e : ℝ) (hi : 0 < i) (he : 0 < e) (h : EReal) (k : Fin n) :
    h + Ideal.rsqrt ((∑ j, x j * x j) * (i : EReal) + (e : EReal)) * (d k - x k * Ideal.rsqrt ((∑ j, x j * x j) * (i : EReal) + (e : EReal))
        * ((∑ j, d j * (x j * Ideal.rsqrt ((∑ j, x j * x j) * (i : EReal) + (e : EReal)))) * (i : EReal)))
      = h + d k * Ideal.rsqrt ((∑ j, x j * x j) * (i : EReal) + (e : EReal))
        + x k * ((∑ j, x j * d j) * (((-(1 / 2) : ℝ) : EReal) * Ideal.div (Ideal.rsqrt ((∑ j, x j * x j) * (i : EReal) + (e : EReal)))
          ((∑ j, x j * x j) * (i : EReal) + (e : EReal))) * (i : EReal))
        + (∑ j, x j * d j) * (((-(1 / 2) : ℝ) : EReal) * Ideal.div (Ideal.rsqrt ((∑ j, x j * x j) * (i : EReal) + (e : EReal)))
          ((∑ j, x j * x j) * (i : EReal) + (e : EReal))) * (i : EReal) * x k := by
  by_cases hx : ∀ j, x j ≠ ⊤ ∧ x j ≠ ⊥
  · -- a row of reals: the reciprocal root is a positive real
    obtain ⟨y, rfl⟩ : ∃ y : Fin n → ℝ, x = fun j => (y j : EReal) :=
      ⟨fun j => (x j).toReal, funext fun j => (EReal.coe_toReal (hx j).1 (hx j).2).symm⟩
    have hs : (∑ j, (y j : EReal) * (y j : EReal)) = ((∑ j, y j * y j : ℝ) : EReal) := by
      rw [show ((∑ j, y j * y j : ℝ) : EReal) = ∑ j, ((y j * y j : ℝ) : EReal) from
        map_sum (⟨⟨fun r : ℝ => (r : EReal), rfl⟩, EReal.coe_add⟩ : ℝ →+ EReal) _ _]
      rfl
    have hpos : 0 < (∑ j, y j * y j) * i + e :=
      add_pos_of_nonneg_of_pos (mul_nonneg (Finset.sum_nonneg fun j _ => mul_self_nonneg _) hi.le) he
    have hv : (∑ j, (y j : EReal) * (y j : EReal)) * (i : EReal) + (e : EReal) = (((∑ j, y j * y j) * i + e : ℝ) : EReal) := by
      rw [hs]; norm_cast
    simp only [hv]
    generalize (∑ j, y j * y j) * i + e = v at hpos
    have hr : Ideal.rsqrt (v : EReal) = (((Real.sqrt v)⁻¹ : ℝ) : EReal) := by
      show (if v < 0 then ⊥ else if v = 0 then ⊤ else (((Real.sqrt v)⁻¹ : ℝ) : EReal)) = _
      rw [if_neg (not_lt.mpr hpos.le), if_neg hpos.ne']
    have hd : Ideal.div (((Real.sqrt v)⁻¹ : ℝ) : EReal) (v : EReal) = (((Real.sqrt v)⁻¹ * v⁻¹ : ℝ) : EReal) := by
      rw [Ideal.div, if_neg (by exact_mod_cast hpos.ne'), ← EReal.coe_inv, ← EReal.coe_mul]
    rw [hr, hd]
    have hr0 : 0 ≤ (Real.sqrt v)⁻¹ := inv_nonneg.mpr (Real.sqrt_nonneg v)
    have hrr : (Real.sqrt v)⁻¹ * (Real.sqrt v)⁻¹ = v⁻¹ := by rw [← mul_inv, Real.mul_self_sqrt hpos.le]
    generalize (Real.sqrt v)⁻¹ = r at hr0 hrr
    have hsum : (∑ j, d j * ((y j : EReal) * (r : EReal))) = (∑ j, (y j : EReal) * d j) * (r : EReal) := by
      rw [← sum_mul_coe _ r hr0]
      exact Finset.sum_congr rfl fun j _ => by rw [← mul_assoc, mul_comm (d j)]
    rw [hsum, coe_mul_sub r hr0, add_assoc (h + d k * r), mul_comm (d k) (r : EReal), add_assoc h]
    refine congrArg (fun z => h + (r * d k + z)) ?_
    generalize (∑ j, (y j : EReal) * d j) = S
    have e1 : (r : EReal) * ((y k : EReal) * r * (S * r * i)) = S * ((r * (y k * r * (r * i)) : ℝ) : EReal) := by
      push_cast; ac_rfl
    have e2 : (y k : EReal) * (S * (((-(1 / 2) : ℝ) : EReal) * ((r * v⁻¹ : ℝ) : EReal)) * (i : EReal))
        = S * ((y k * (-(1 / 2) * (r * v⁻¹)) * i : ℝ) : EReal) := by
      push_cast; ac_rfl
    have e3 : S * (((-(1 / 2) : ℝ) : EReal) * ((r * v⁻¹ : ℝ) : EReal)) * (i : EReal) * (y k : EReal)
        = S * ((y k * (-(1 / 2) * (r * v⁻¹)) * i : ℝ) : EReal) := by
      push_cast; ac_rfl
    rw [e1, e2, e3, twice, ← mul_neg, ← EReal.coe_neg]
    refine congrArg (fun z : ℝ => S * (z : EReal)) ?_
    rw [← hrr]; ring
  · -- an infinite entry: the reciprocal root is zero
    obtain ⟨j, hj⟩ := not_forall.mp hx
    have ht : (∑ j, x j * x j) = ⊤ := sq_top x j (by by_contra hc; exact hj ⟨fun h => hc (Or.inl h), fun h => hc (Or.inr h)⟩)
    have hv : (∑ j, x j * x j) * (i : EReal) + (e : EReal) = ⊤ := by
      rw [ht, EReal.top_mul_coe_of_pos hi]; rfl
    rw [hv]
    have hr : Ideal.rsqrt ⊤ = 0 := rfl
    have hd : Ideal.div 0 ⊤ = 0 := by rw [Ideal.div, if_neg (by decide)]; simp
    rw [hr, hd]
    simp

theorem ofBits_half : Ideal.ofBits .f32 0xBF000000#32 = ((-(1 / 2) : ℝ) : EReal) := by
  simp [Ideal.ofBits, Ideal.ieee, -EReal.coe_mul]; norm_num

/-- The gradient of the norm of a row of 1024, with the constants as the programs write them. -/
theorem bwd1024 (x d : Fin 1024 → EReal) (h : EReal) (k : Fin 1024) :
    h + rms (∑ j, x j * x j) * (d k - x k * rms (∑ j, x j * x j) * ((∑ j, d j * (x j * rms (∑ j, x j * x j))) * Ideal.ofBits .f32 0x3A800000#32))
      = h + d k * rms (∑ j, x j * x j)
        + x k * ((∑ j, x j * d j) * (Ideal.ofBits .f32 0xBF000000#32 * Ideal.div (rms (∑ j, x j * x j))
          ((∑ j, x j * x j) * Ideal.ofBits .f32 0x3A800000#32 + Ideal.ofBits .f32 0x358637BD#32)) * Ideal.ofBits .f32 0x3A800000#32)
        + (∑ j, x j * d j) * (Ideal.ofBits .f32 0xBF000000#32 * Ideal.div (rms (∑ j, x j * x j))
          ((∑ j, x j * x j) * Ideal.ofBits .f32 0x3A800000#32 + Ideal.ofBits .f32 0x358637BD#32)) * Ideal.ofBits .f32 0x3A800000#32 * x k := by
  unfold rms
  rw [ofBits_inv, ofBits_eps, ofBits_half]
  exact bwd x d _ _ (by norm_num) (by norm_num) h k

end Cert.Norm
end
-- ==== Proof.InBwdPt.lean ====
module

public import proofs.«01_k».proof.Proof.InBwdRun
public import Idealize.ShloMosaic.Lib.Pipeline.ValueKit
public import Idealize.ShloMosaic.Lib.Pipeline.ReadBack
public import proofs.«01_k».proof.Proof.MlpForms
public import proofs.«01_k».proof.Proof.Norm
public import proofs.«01_k».proof.Proof.Gen.Reference3Ideal.Read

@[expose] public section
set_option maxRecDepth 16384
set_option maxHeartbeats 2000000
noncomputable section
open Idealize.ShloMosaic Idealize.ShloMosaic.TcCoe Idealize.SL.Sem
open Idealize.ShloMosaic.Pipeline (Dat)
namespace Cert.Kernel3Ideal.Bwd
open Cert.Kernel3Ideal Cert.Kernel3Ideal.Gen Cert.Kernel3Ideal.Run
open Cert.KernelIdeal.Mlp (canon_take)

/-- four column blocks side by side -/
def wideF (W : FVec Ideal S4x1024x896 .bf16) (y : S1024x3584.Idx) : EReal :=
  W (ix3 ⟨(y 1).val / 896, by have h1 : (y 1).val < 3584 := (y 1).isLt; omega⟩ ⟨(y 0).val, (y 0).isLt⟩
    ⟨(y 1).val % 896, Nat.mod_lt _ (by decide)⟩)

theorem wideF_at (W : FVec Ideal S4x1024x896 .bf16) (y : S1024x3584.Idx) (s : Fin 4) (i : Fin 1024) (j : Fin 896)
    (h0 : (y 0).val = i.val) (h1 : (y 1).val = s.val * 896 + j.val) : wideF W y = W (ix3 s i j) := by
  unfold wideF
  have hj := j.isLt
  congr 2 <;> refine Fin.ext ?_ <;> dsimp only <;> omega

/-- the four pieces of the columns, stored side by side -/
theorem canonW (W : FVec Ideal S4x1024x896 .bf16) (P0 P1 P2 P3 : FVec Ideal S1024x896 .bf16)
    (h0 : ∀ i j, P0 (ix2 i j) = W (ix3 0 i j)) (h1 : ∀ i j, P1 (ix2 i j) = W (ix3 1 i j))
    (h2 : ∀ i j, P2 (ix2 i j) = W (ix3 2 i j)) (h3 : ∀ i j, P3 (ix2 i j) = W (ix3 3 i j)) (y : S1024x3584.Idx) :
    View.canon (Val := Elt Ideal) (e := .bf16) [⟨Rect.unit ![0, 2688] ![1024, 896] inb_S1024x3584_S1024x896_0_2688, P3⟩,
      ⟨Rect.unit ![0, 1792] ![1024, 896] inb_S1024x3584_S1024x896_0_1792, P2⟩,
      ⟨Rect.unit ![0, 896] ![1024, 896] inb_S1024x3584_S1024x896_0_896, P1⟩,
      ⟨Rect.unit ![0, 0] ![1024, 896] inb_S1024x3584_S1024x896_0_0, P0⟩] y = wideF W y := by
  refine canon_take (e := .bf16) 4 (wideF W) _ y ?pc ?cov
  case pc =>
    refine ⟨fun x => ?p0, fun x => ?p1, fun x => ?p2, fun x => ?p3, trivial⟩
    case p0 =>
      idx_vars x
      exact (h3 x0 x1).trans (wideF_at W _ 3 x0 x1 (by blk_simp) (by blk_simp; rfl)).symm
    case p1 =>
      idx_vars x
      exact (h2 x0 x1).trans (wideF_at W _ 2 x0 x1 (by blk_simp) (by blk_simp; rfl)).symm
    case p2 =>
      idx_vars x
      exact (h1 x0 x1).trans (wideF_at W _ 1 x0 x1 (by blk_simp) (by blk_simp; rfl)).symm
    case p3 =>
      idx_vars x
      exact (h0 x0 x1).trans (wideF_at W _ 0 x0 x1 (by blk_simp) (by blk_simp; exact (Nat.zero_add _).symm)).symm
  case cov =>
    exact View.cover_of_tiledBy _ ![1024, 896] (by sl_kernel_rfl) y

theorem readW (W : FVec Ideal S4x1024x896 .bf16) (P0 P1 P2 P3 : FVec Ideal S1024x896 .bf16)
    (h0 : ∀ i j, P0 (ix2 i j) = W (ix3 0 i j)) (h1 : ∀ i j, P1 (ix2 i j) = W (ix3 1 i j))
    (h2 : ∀ i j, P2 (ix2 i j) = W (ix3 2 i j)) (h3 : ∀ i j, P3 (ix2 i j) = W (ix3 3 i j)) :
    (View.whole cc0_scratch0).readCov (Val := Elt Ideal) [⟨Rect.unit ![0, 2688] ![1024, 896] inb_S1024x3584_S1024x896_0_2688, P3⟩,
      ⟨Rect.unit ![0, 1792] ![1024, 896] inb_S1024x3584_S1024x896_0_1792, P2⟩,
      ⟨Rect.unit ![0, 896] ![1024, 896] inb_S1024x3584_S1024x896_0_896, P1⟩,
      ⟨Rect.unit ![0, 0] ![1024, 896] inb_S1024x3584_S1024x896_0_0, P0⟩]
      (Rect.unit ![0, 0] ![1024, 3584] inb_S1024x3584_S1024x3584_0_0).toLoadRect = wideF W := by
  rw [View.readCov_eq_canon']
  funext j
  refine Eq.trans (congrArg _ ?_) (canonW W P0 P1 P2 P3 h0 h1 h2 h3 j)
  idx_vars j
  refine funext fun a => Fin.ext ?_
  match a with
  | ⟨0, _⟩ => show 0 + 1 * j0.val = j0.val; omega
  | ⟨1, _⟩ => show 0 + 1 * j1.val = j1.val; omega

theorem part_at (W : FVec Ideal S4x1024x896 .bf16) (s : Fin 4) (inb : ∀ a, ![s.val, 0, 0] a + ![1, 1024, 896] a ≤ S4x1024x896.size a)
    (h) (i : Fin 1024) (j : Fin 896) : (ReadAs.same (Val := Elt Ideal) (s := S1024x896) (e := .bf16)).apply (View.read (Elt Ideal)
      (((View.whole main_v22).slice (Rect.unit ![s.val, 0, 0] ![1, 1024, 896] inb)).reshape S1024x896 h) W) (ix2 i j) = W (ix3 s i j) := by
  show shapeCast (s := S1x1024x896) S1024x896 (fun x => W ((Rect.unit (s := S4x1024x896) ![s.val, 0, 0] ![1, 1024, 896] inb).emb x)) h (ix2 i j) = _
  pointwise []
  blk_ext []

variable (m : (ℓ : Loc nD τ sig) → Buf (Elt Ideal) ℓ)

/-- The parts side by side are the blocks of the arrays side by side. -/
theorem cat_eq (P0 P1 P2 P3 P4 P5 P6 : FVec Ideal S256x512 .bf16) (A0 A1 A2 A3 A4 A5 A6 : FVec Ideal S4096x512 .f32) (r : Fin 256) (n : Fin 4096) (h0 : ∀ i, P0 (ix2 r i) = A0 (ix2 n i)) (h1 : ∀ i, P1 (ix2 r i) = A1 (ix2 n i)) (h2 : ∀ i, P2 (ix2 r i) = A2 (ix2 n i)) (h3 : ∀ i, P3 (ix2 r i) = A3 (ix2 n i)) (h4 : ∀ i, P4 (ix2 r i) = A4 (ix2 n i)) (h5 : ∀ i, P5 (ix2 r i) = A5 (ix2 n i)) (h6 : ∀ i, P6 (ix2 r i) = A6 (ix2 n i)) (j : Fin 3584) :
    k0_pay11 (F := Ideal) P0 P1 P2 P3 P4 P5 P6 (ix2 r j) = Cert.Reference3Ideal.Read.val_main_v23 (F := Ideal) A0 A1 A2 A3 A4 A5 A6 (ix2 n j) := by
  pointwise [k0_pay11, Cert.Reference3Ideal.Read.val_main_v23]
  split_ifs <;> simp only [h0, h1, h2, h3, h4, h5, h6]

theorem pay12 (P0 P1 P2 P3 P4 P5 P6 : FVec Ideal S256x512 .bf16) (A : FVec Ideal S1024x3584 .f32) (U : FVec Ideal S256x1024 .bf16) (i : Fin 1024) (j : Fin 3584) :
    k0_pay12 (F := Ideal) P0 P1 P2 P3 P4 P5 P6 A U (ix2 i j) = A (ix2 i j) + ∑ r : Fin 256, U (ix2 r i) * k0_pay11 (F := Ideal) P0 P1 P2 P3 P4 P5 P6 (ix2 r j) := by
  unfold k0_pay12
  generalize k0_pay11 (F := Ideal) P0 P1 P2 P3 P4 P5 P6 = D
  pointwise []

theorem pay13 (P0 P1 P2 P3 P4 P5 P6 : FVec Ideal S256x512 .bf16) (W : FVec Ideal S1024x3584 .bf16) (r : Fin 256) (i : Fin 1024) :
    k0_pay13 (F := Ideal) P0 P1 P2 P3 P4 P5 P6 W (ix2 r i) = ∑ j : Fin 3584, k0_pay11 (F := Ideal) P0 P1 P2 P3 P4 P5 P6 (ix2 r j) * W (ix2 i j) := by
  unfold k0_pay13
  generalize k0_pay11 (F := Ideal) P0 P1 P2 P3 P4 P5 P6 = D
  pointwise []

/-- the reciprocal root of a row's mean square -/
def rF (X : FVec Ideal S256x1024 .f32) (r : Fin 256) : EReal := Cert.Norm.rms (∑ k : Fin 1024, X (ix2 r k) * X (ix2 r k))

theorem pay3 (D X : FVec Ideal S256x1024 .f32) (O : FVec Ideal S1x1024 .f32) (i : Fin 1024) :
    k0_pay3 (F := Ideal) D X O (ix2 ⟨0, by decide⟩ i) = O (ix2 ⟨0, by decide⟩ i) + ∑ r : Fin 256, D (ix2 r i) * (X (ix2 r i) * rF X r) := by
  unfold rF Cert.Norm.rms
  pointwise [k0_pay3, k0_pay2, k0_pay1]

theorem pay4 (D X H : FVec Ideal S256x1024 .f32) (g : FVec Ideal S1x1024 .f32) (r : Fin 256) (i : Fin 1024) :
    k0_pay4 (F := Ideal) D X H g (ix2 r i) = H (ix2 r i) + rF X r * (D (ix2 r i) * g (ix2 ⟨0, by decide⟩ i) - X (ix2 r i) * rF X r
      * ((∑ k : Fin 1024, D (ix2 r k) * g (ix2 ⟨0, by decide⟩ k) * (X (ix2 r k) * rF X r)) * Ideal.ofBits .f32 0x3A800000#32)) := by
  unfold rF Cert.Norm.rms
  pointwise [k0_pay4, k0_pay2, k0_pay1]

variable (m : (ℓ : Loc nD τ sig) → Buf (Elt Ideal) ℓ)

/-- the gradient of the rows before the norm, at a point, from the columns it holds -/
abbrev duF (c : Dev nD) (t : Fin cfg0.N) (W : FVec Ideal S1024x3584 .bf16) : FVec Ideal S256x1024 .f32 := k0_pay13 (iblk m c 0 t) (iblk m c 1 t) (iblk m c 2 t) (iblk m c 3 t) (iblk m c 4 t) (iblk m c 5 t) (iblk m c 6 t) W

/-- what a point leaves besides the first result, from the columns and the two accumulators -/
abbrev restF (c : Dev nD) (t : Fin cfg0.N) (W : FVec Ideal S1024x3584 .bf16) (G : FVec Ideal S1x1024 .f32) (A : FVec Ideal S1024x3584 .f32) :
    FVec Ideal S256x1024 .f32 × FVec Ideal S1x1024 .f32 × FVec Ideal S1024x3584 .bf16 × FVec Ideal S1024x3584 .f32 :=
  (k0_pay4 (duF m c t W) (iblk m c 8 t) (iblk m c 10 t) (iblk m c 9 t), k0_pay3 (duF m c t W) (iblk m c 8 t) G, W, k0_pay12 (iblk m c 0 t) (iblk m c 1 t) (iblk m c 2 t) (iblk m c 3 t) (iblk m c 4 t) (iblk m c 5 t) (iblk m c 6 t) A (iblk m c 7 t))

theorem ptA_w (c : Dev nD) (t : Fin cfg0.N) (h0 : t.val % 16 = 0) (h1 : ¬t.val % 16 = 15) (y : S1024x3584.Idx) :
    (outsAt0 (F := Ideal) m c t.val t.isLt).2.2.2.1 y = wideF (V m c main_v22) y := by
  rw [outsAt0_A m c t h0 h1, pt0_A]
  dsimp only
  frame_open
  frame_out
  clear h0 h1
  exact canonW _ _ _ _ _ (part_at _ 0 _ _) (part_at _ 1 _ _) (part_at _ 2 _ _) (part_at _ 3 _ _) y

theorem ptA_12 (c : Dev nD) (t : Fin cfg0.N) (h0 : t.val % 16 = 0) (h1 : ¬t.val % 16 = 15) :
    (outsAt0 (F := Ideal) m c t.val t.isLt).2.1 = (restF m c t (wideF (V m c main_v22)) k0_pay9 k0_pay10).1 := by
  rw [outsAt0_A m c t h0 h1, pt0_A]
  dsimp only
  frame_open
  frame_out
  rw [readW (V m c main_v22)]
  · exact part_at _ 0 _ _
  · exact part_at _ 1 _ _
  · exact part_at _ 2 _ _
  · exact part_at _ 3 _ _

theorem ptA_13 (c : Dev nD) (t : Fin cfg0.N) (h0 : t.val % 16 = 0) (h1 : ¬t.val % 16 = 15) :
    (outsAt0 (F := Ideal) m c t.val t.isLt).2.2.1 = (restF m c t (wideF (V m c main_v22)) k0_pay9 k0_pay10).2.1 := by
  rw [outsAt0_A m c t h0 h1, pt0_A]
  dsimp only
  frame_open
  simp (disch := decide) only [↓View.readCov_fill]
  frame_out
  rw [readW (V m c main_v22)]
  · exact part_at _ 0 _ _
  · exact part_at _ 1 _ _
  · exact part_at _ 2 _ _
  · exact part_at _ 3 _ _

theorem ptA_s (c : Dev nD) (t : Fin cfg0.N) (h0 : t.val % 16 = 0) (h1 : ¬t.val % 16 = 15) :
    (outsAt0 (F := Ideal) m c t.val t.isLt).2.2.2.2 = (restF m c t (wideF (V m c main_v22)) k0_pay9 k0_pay10).2.2.2 := by
  rw [outsAt0_A m c t h0 h1, pt0_A]
  dsimp only
  frame_open
  simp (disch := decide) only [↓View.readCov_fill]
  frame_out

theorem ptB (c : Dev nD) (t : Fin cfg0.N) (h0 : ¬t.val % 16 = 0) (h1 : ¬t.val % 16 = 15) (P : _)
    (hP : outsAt0 (F := Ideal) m c (t.val - 1) (Nat.lt_of_le_of_lt (Nat.sub_le _ _) t.isLt) = P) :
    (outsAt0 (F := Ideal) m c t.val t.isLt).2 = restF m c t P.2.2.2.1 P.2.2.1 P.2.2.2.2 := by
  refine Prod.ext ?_ (Prod.ext ?_ (Prod.ext ?d ?_))
  case d => rw [outsAt0_B m c t h0 h1, pt0_B, hP]
  all_goals
    rw [outsAt0_B m c t h0 h1, pt0_B, hP]
    dsimp only
    frame_out
    try simp only [read_unread_whole]

theorem ptC (c : Dev nD) (t : Fin cfg0.N) (h0 : ¬t.val % 16 = 0) (h1 : t.val % 16 = 15) (P : _)
    (hP : outsAt0 (F := Ideal) m c (t.val - 1) (Nat.lt_of_le_of_lt (Nat.sub_le _ _) t.isLt) = P) :
    (outsAt0 (F := Ideal) m c t.val t.isLt).2 = restF m c t P.2.2.2.1 P.2.2.1 P.2.2.2.2 := by
  refine Prod.ext ?_ (Prod.ext ?_ (Prod.ext ?d ?_))
  case d => rw [outsAt0_C m c t h0 h1, pt0_C, hP]
  all_goals
    rw [outsAt0_C m c t h0 h1, pt0_C, hP]
    dsimp only
    frame_out
    try simp only [read_unread_whole]

/-- an accumulator as four column blocks -/
def sidesF (A : FVec Ideal S1024x3584 .f32) (y : S4x1024x896.Idx) : EReal :=
  A (ix2 ⟨(y 1).val, (y 1).isLt⟩ ⟨(y 0).val * 896 + (y 2).val,
    by have h0 : (y 0).val < 4 := (y 0).isLt; have h2 : (y 2).val < 896 := (y 2).isLt; show _ < 3584; omega⟩)

theorem sidesF_at (A : FVec Ideal S1024x3584 .f32) (y : S4x1024x896.Idx) (i : Fin 1024) (j : Fin 3584) (h1 : (y 1).val = i.val)
    (h : (y 0).val * 896 + (y 2).val = j.val) : sidesF A y = A (ix2 i j) := by
  unfold sidesF
  congr 2 <;> exact Fin.ext (by assumption)

theorem ptC_11 (c : Dev nD) (t : Fin cfg0.N) (h0 : ¬t.val % 16 = 0) (h1 : t.val % 16 = 15) (P : _)
    (hP : outsAt0 (F := Ideal) m c (t.val - 1) (Nat.lt_of_le_of_lt (Nat.sub_le _ _) t.isLt) = P) (y : S4x1024x896.Idx) :
    (outsAt0 (F := Ideal) m c t.val t.isLt).1 y = sidesF (restF m c t P.2.2.2.1 P.2.2.1 P.2.2.2.2).2.2.2 y := by
  rw [outsAt0_C m c t h0 h1, pt0_C, hP]
  dsimp only
  frame_open
  simp (disch := decide) only [↓View.readCov_fill]
  frame_out
  try simp only [read_unread_whole]
  clear h0 h1 hP
  generalize k0_pay12 (F := Ideal) (iblk m c 0 t) (iblk m c 1 t) (iblk m c 2 t) (iblk m c 3 t) (iblk m c 4 t) (iblk m c 5 t) (iblk m c 6 t) P.2.2.2.2 (iblk m c 7 t) = A
  refine canon_take (e := .bf16) 4 (sidesF A) _ y ?pc ?cov
  case pc =>
    refine ⟨fun x => ?p0, fun x => ?p1, fun x => ?p2, fun x => ?p3, trivial⟩
    case p0 =>
      idx_vars x
      refine Eq.trans ?_ (sidesF_at _ _ x1 ⟨2688 + x2.val, by omega⟩ (by blk_simp) (by blk_simp)).symm
      pointwise [k0_pay5, k0_pay6, k0_pay7, k0_pay8]
    case p1 =>
      idx_vars x
      refine Eq.trans ?_ (sidesF_at _ _ x1 ⟨1792 + x2.val, by omega⟩ (by blk_simp) (by blk_simp)).symm
      pointwise [k0_pay5, k0_pay6, k0_pay7, k0_pay8]
    case p2 =>
      idx_vars x
      refine Eq.trans ?_ (sidesF_at _ _ x1 ⟨896 + x2.val, by omega⟩ (by blk_simp) (by blk_simp)).symm
      pointwise [k0_pay5, k0_pay6, k0_pay7, k0_pay8]
    case p3 =>
      idx_vars x
      refine Eq.trans ?_ (sidesF_at _ _ x1 ⟨x2.val, by omega⟩ (by blk_simp) (by blk_simp)).symm
      pointwise [k0_pay5, k0_pay6, k0_pay7, k0_pay8]
  case cov =>
    exact View.cover_of_tiledBy _ ![1, 1024, 896] (by sl_kernel_rfl) y

theorem carried (c : Dev nD) : ∀ (n : ℕ) (h : n < cfg0.N), (outsAt0 (F := Ideal) m c n h).2.2.2.1 = wideF (V m c main_v22)
  | 0, h => funext fun y => ptA_w m c ⟨0, h⟩ rfl (by show ¬ 0 % _ = _; decide) y
  | n + 1, h => by
    by_cases h0 : (n + 1) % 16 = 0
    · exact funext fun y => ptA_w m c ⟨n + 1, h⟩ h0 (by show ¬ (n + 1) % _ = _; omega) y
    · by_cases h1 : (n + 1) % 16 = 15
      · exact (congrArg (fun p => p.2.2.1) (ptC m c ⟨n + 1, h⟩ h0 h1 _ rfl)).trans (carried c n (Nat.lt_of_succ_lt h))
      · exact (congrArg (fun p => p.2.2.1) (ptB m c ⟨n + 1, h⟩ h0 h1 _ rfl)).trans (carried c n (Nat.lt_of_succ_lt h))

/-- a later point, whatever its case -/
theorem pt_step (c : Dev nD) (t : Fin cfg0.N) (h0 : ¬t.val % 16 = 0) (P : _)
    (hP : outsAt0 (F := Ideal) m c (t.val - 1) (Nat.lt_of_le_of_lt (Nat.sub_le _ _) t.isLt) = P) :
    (outsAt0 (F := Ideal) m c t.val t.isLt).2 = restF m c t (wideF (V m c main_v22)) P.2.2.1 P.2.2.2.2 := by
  have hW : P.2.2.2.1 = wideF (V m c main_v22) := by rw [← hP]; exact carried m c _ _
  rw [← hW]
  by_cases h1 : t.val % 16 = 15
  · exact ptC m c t h0 h1 P hP
  · exact ptB m c t h0 h1 P hP

/-- the second result's block, at every point -/
theorem pt_12 (c : Dev nD) (t : Fin cfg0.N) : (outsAt0 (F := Ideal) m c t.val t.isLt).2.1
    = k0_pay4 (duF m c t (wideF (V m c main_v22))) (iblk m c 8 t) (iblk m c 10 t) (iblk m c 9 t) := by
  by_cases h0 : t.val % 16 = 0
  · exact ptA_12 m c t h0 (by omega)
  · exact congrArg (fun p => p.1) (pt_step m c t h0 _ rfl)

theorem idx_val : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_10.index t = ![t.val, 0] ∧ win0_12.index t = ![t.val, 0] ∧ win0_9.index t = ![0, 0] ∧ win0_11.index t = ![0, 0, 0] ∧ win0_13.index t = ![0, 0] :=
  (by decide +kernel : ∀ t : Fin grid0.N, _)

theorem N16 (t : Fin cfg0.N) : t.val < 16 := lt_of_lt_of_eq t.isLt (show cfg0.N = 16 from N_0)

/-- the row of the whole arrays that row `r` of point `t`'s blocks is -/
def rowOf (t : Fin cfg0.N) (r : Fin 256) : Fin 4096 := ⟨t.val * 256 + r.val, by have := N16 t; omega⟩

/-- the arrays as the call reads them -/
abbrev uV (c : Dev nD) : FVec Ideal S4096x1024 .bf16 := V m c main_v12
abbrev xV (c : Dev nD) : FVec Ideal S4096x1024 .f32 := V m c main_arg0
abbrev gV (c : Dev nD) : FVec Ideal S1x1024 .f32 := V m c main_arg1
abbrev hV (c : Dev nD) : FVec Ideal S4096x1024 .f32 := V m c main_arg3
theorem iblk0 (c : Dev nD) (t : Fin cfg0.N) (r : Fin 256) (j : Fin 512) :
    iblk m c 0 t (ix2 r j) = (m ((c.tc : Thread nD τ).loc main_arg4) : FVec Ideal S4096x512 .f32) (ix2 (rowOf t r) j) := by
  refine Eq.trans (b := V m c main_v13 (ix2 (rowOf t r) j)) ?_ ?_
  · unfold iblk rowOf
    blk_ext [idx_val t]
  · entry_read
    rfl
theorem iblk1 (c : Dev nD) (t : Fin cfg0.N) (r : Fin 256) (j : Fin 512) :
    iblk m c 1 t (ix2 r j) = (m ((c.tc : Thread nD τ).loc main_arg5) : FVec Ideal S4096x512 .f32) (ix2 (rowOf t r) j) := by
  refine Eq.trans (b := V m c main_v14 (ix2 (rowOf t r) j)) ?_ ?_
  · unfold iblk rowOf
    blk_ext [idx_val t]
  · entry_read
    rfl
theorem iblk2 (c : Dev nD) (t : Fin cfg0.N) (r : Fin 256) (j : Fin 512) :
    iblk m c 2 t (ix2 r j) = (m ((c.tc : Thread nD τ).loc main_arg6) : FVec Ideal S4096x512 .f32) (ix2 (rowOf t r) j) := by
  refine Eq.trans (b := V m c main_v15 (ix2 (rowOf t r) j)) ?_ ?_
  · unfold iblk rowOf
    blk_ext [idx_val t]
  · entry_read
    rfl
theorem iblk3 (c : Dev nD) (t : Fin cfg0.N) (r : Fin 256) (j : Fin 512) :
    iblk m c 3 t (ix2 r j) = (m ((c.tc : Thread nD τ).loc main_arg7) : FVec Ideal S4096x512 .f32) (ix2 (rowOf t r) j) := by
  refine Eq.trans (b := V m c main_v16 (ix2 (rowOf t r) j)) ?_ ?_
  · unfold iblk rowOf
    blk_ext [idx_val t]
  · entry_read
    rfl
theorem iblk4 (c : Dev nD) (t : Fin cfg0.N) (r : Fin 256) (j : Fin 512) :
    iblk m c 4 t (ix2 r j) = (m ((c.tc : Thread nD τ).loc main_arg8) : FVec Ideal S4096x512 .f32) (ix2 (rowOf t r) j) := by
  refine Eq.trans (b := V m c main_v17 (ix2 (rowOf t r) j)) ?_ ?_
  · unfold iblk rowOf
    blk_ext [idx_val t]
  · entry_read
    rfl
theorem iblk5 (c : Dev nD) (t : Fin cfg0.N) (r : Fin 256) (j : Fin 512) :
    iblk m c 5 t (ix2 r j) = (m ((c.tc : Thread nD τ).loc main_arg9) : FVec Ideal S4096x512 .f32) (ix2 (rowOf t r) j) := by
  refine Eq.trans (b := V m c main_v18 (ix2 (rowOf t r) j)) ?_ ?_
  · unfold iblk rowOf
    blk_ext [idx_val t]
  · entry_read
    rfl
theorem iblk6 (c : Dev nD) (t : Fin cfg0.N) (r : Fin 256) (j : Fin 512) :
    iblk m c 6 t (ix2 r j) = (m ((c.tc : Thread nD τ).loc main_arg10) : FVec Ideal S4096x512 .f32) (ix2 (rowOf t r) j) := by
  refine Eq.trans (b := V m c main_v19 (ix2 (rowOf t r) j)) ?_ ?_
  · unfold iblk rowOf
    blk_ext [idx_val t]
  · entry_read
    rfl
theorem iblk7 (c : Dev nD) (t : Fin cfg0.N) (r : Fin 256) (j : Fin 1024) : iblk m c 7 t (ix2 r j) = uV m c (ix2 (rowOf t r) j) := by
  unfold iblk rowOf
  blk_ext [idx_val t]
theorem iblk8 (c : Dev nD) (t : Fin cfg0.N) (r : Fin 256) (j : Fin 1024) : iblk m c 8 t (ix2 r j) = xV m c (ix2 (rowOf t r) j) := by
  unfold iblk rowOf
  blk_ext [idx_val t]
theorem iblk10 (c : Dev nD) (t : Fin cfg0.N) (r : Fin 256) (j : Fin 1024) : iblk m c 10 t (ix2 r j) = hV m c (ix2 (rowOf t r) j) := by
  unfold iblk rowOf
  blk_ext [idx_val t]
theorem iblk9 (c : Dev nD) (t : Fin cfg0.N) (j : Fin 1024) : iblk m c 9 t (ix2 ⟨0, by decide⟩ j) = gV m c (ix2 ⟨0, by decide⟩ j) := by
  unfold iblk
  blk_ext [idx_val t]

end Cert.Kernel3Ideal.Bwd
end
-- ==== Proof.InBwd.lean ====
module

public import proofs.«01_k».proof.Proof.InBwdPt
public import Idealize.ShloMosaic.Lib.Pipeline.ValueKit
public import Idealize.ShloMosaic.Lib.Pipeline.ReadBack
public import proofs.«01_k».proof.Proof.MlpForms
public import proofs.«01_k».proof.Proof.Norm
public import proofs.«01_k».proof.Proof.Gen.Reference3Ideal.Read

@[expose] public section
set_option maxRecDepth 16384
set_option maxHeartbeats 400000
noncomputable section
open Idealize.ShloMosaic Idealize.ShloMosaic.TcCoe Idealize.SL.Sem
open Idealize.ShloMosaic.Pipeline (Dat)
namespace Cert.Kernel3Ideal.Bwd
open Cert.Kernel3Ideal Cert.Kernel3Ideal.Gen Cert.Kernel3Ideal.Run
open Cert.KernelIdeal.Mlp (canon_take)

variable (m : (ℓ : Loc nD τ sig) → Buf (Elt Ideal) ℓ)

/-- the gradient of the projections, whole -/
abbrev dP (c : Dev nD) : FVec Ideal Cert.Reference3Ideal.S4096x3584 .f32 := Cert.Reference3Ideal.Read.val_main_v23 (F := Ideal) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
/-- the gradient of the normed rows, whole -/
abbrev dU (c : Dev nD) : FVec Ideal S4096x1024 .f32 := Cert.Reference3Ideal.Read.val_main_v26 (F := Ideal) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

theorem dP_eq (c : Dev nD) (t : Fin cfg0.N) (r : Fin 256) (j : Fin 3584) : k0_pay11 (F := Ideal) (iblk m c 0 t) (iblk m c 1 t) (iblk m c 2 t) (iblk m c 3 t) (iblk m c 4 t) (iblk m c 5 t) (iblk m c 6 t) (ix2 r j) = dP m c (ix2 (rowOf t r) j) :=
  cat_eq _ _ _ _ _ _ _ _ _ _ _ _ _ _ r (rowOf t r) (fun _ => iblk0 m c t r _) (fun _ => iblk1 m c t r _) (fun _ => iblk2 m c t r _) (fun _ => iblk3 m c t r _) (fun _ => iblk4 m c t r _) (fun _ => iblk5 m c t r _) (fun _ => iblk6 m c t r _) j

theorem entry22 (c : Dev nD) (y : S4x1024x896.Idx) : V m c main_v22 y = (m ((c.tc : Thread nD τ).loc main_arg2) : FVec Ideal S1024x3584 .f32)
    (ix2 ⟨(y 1).val, (y 1).isLt⟩ ⟨(y 0).val * 896 + (y 2).val,
      by have h0 : (y 0).val < 4 := (y 0).isLt; have h2 : (y 2).val < 896 := (y 2).isLt; omega⟩) := by
  entry_read
  generalize m ((c.tc : Thread nD τ).loc main_arg2) = w
  idx_vars y
  pointwise []

/-- the columns as the matrix they are cut from -/
theorem wide_entry (c : Dev nD) (d : Fin 1024) (j : Fin 3584) : wideF (V m c main_v22) (ix2 d j)
    = (m ((c.tc : Thread nD τ).loc main_arg2) : FVec Ideal S1024x3584 .f32) (ix2 d j) := by
  unfold wideF
  refine (entry22 m c _).trans (congrArg _ ?_)
  refine funext fun k => Fin.ext ?_
  match k with
  | ⟨0, _⟩ => rfl
  | ⟨1, _⟩ => exact Nat.div_add_mod' _ _

theorem dU_eq (c : Dev nD) (t : Fin cfg0.N) (r : Fin 256) (i : Fin 1024) :
    duF m c t (wideF (V m c main_v22)) (ix2 r i) = dU m c (ix2 (rowOf t r) i) := by
  refine (pay13 _ _ _ _ _ _ _ _ r i).trans (Eq.trans (Finset.sum_congr rfl fun j _ =>
    congrArg₂ (fun a b : EReal => a * b) (dP_eq m c t r j) (wide_entry m c i j)) ?_)
  unfold dU dP
  unfold Cert.Reference3Ideal.Read.val_main_v26
  generalize Cert.Reference3Ideal.Read.val_main_v23 (F := Ideal) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) = D
  generalize m ((c.tc : Thread nD τ).loc main_arg2) = w
  pointwise []

/-- the reciprocal root of a row, over the whole array -/
def rG (X : FVec Ideal S4096x1024 .f32) (n : Fin 4096) : EReal := Cert.Norm.rms (∑ k : Fin 1024, X (ix2 n k) * X (ix2 n k))

theorem rF_eq (c : Dev nD) (t : Fin cfg0.N) (r : Fin 256) : rF (iblk m c 8 t) r = rG (xV m c) (rowOf t r) :=
  congrArg Cert.Norm.rms (Finset.sum_congr rfl fun k _ => congrArg (fun a : EReal => a * a) (iblk8 m c t r k))

/-- one entry of the gradient of the rows, over the whole arrays -/
def dxG (X H D : FVec Ideal S4096x1024 .f32) (g : FVec Ideal S1x1024 .f32) (y : S4096x1024.Idx) : EReal :=
  H (ix2 ⟨(y 0).val, (y 0).isLt⟩ ⟨(y 1).val, (y 1).isLt⟩) + rG X ⟨(y 0).val, (y 0).isLt⟩ * (D (ix2 ⟨(y 0).val, (y 0).isLt⟩ ⟨(y 1).val, (y 1).isLt⟩) * g (ix2 ⟨0, by decide⟩ ⟨(y 1).val, (y 1).isLt⟩)
    - X (ix2 ⟨(y 0).val, (y 0).isLt⟩ ⟨(y 1).val, (y 1).isLt⟩) * rG X ⟨(y 0).val, (y 0).isLt⟩
      * ((∑ k : Fin 1024, D (ix2 ⟨(y 0).val, (y 0).isLt⟩ k) * g (ix2 ⟨0, by decide⟩ k) * (X (ix2 ⟨(y 0).val, (y 0).isLt⟩ k) * rG X ⟨(y 0).val, (y 0).isLt⟩)) * Ideal.ofBits .f32 0x3A800000#32))

theorem dx_at (D X H : FVec Ideal S256x1024 .f32) (g : FVec Ideal S1x1024 .f32) (D' X' H' : FVec Ideal S4096x1024 .f32) (g' : FVec Ideal S1x1024 .f32)
    (r : Fin 256) (n : Fin 4096) (i : Fin 1024) (hD : ∀ k, D (ix2 r k) = D' (ix2 n k)) (hX : ∀ k, X (ix2 r k) = X' (ix2 n k))
    (hH : ∀ k, H (ix2 r k) = H' (ix2 n k)) (hg : ∀ k, g (ix2 ⟨0, by decide⟩ k) = g' (ix2 ⟨0, by decide⟩ k)) :
    k0_pay4 (F := Ideal) D X H g (ix2 r i) = dxG X' H' D' g' (ix2 n i) := by
  rw [pay4]
  unfold dxG rF rG
  simp only [hD, hX, hH, hg]
  rfl

theorem out12 (c : Dev nD) (t : Fin cfg0.N) (y : S256x1024.Idx) : (outsAt0 (F := Ideal) m c t.val t.isLt).2.1 y
    = dxG (xV m c) (hV m c) (dU m c) (gV m c) (ix2 (rowOf t ⟨(y 0).val, (y 0).isLt⟩) ⟨(y 1).val, (y 1).isLt⟩) := by
  rw [pt_12]
  idx_vars y
  exact dx_at _ _ _ _ _ _ _ _ y0 _ y1 (dU_eq m c t y0) (iblk8 m c t y0) (iblk10 m c t y0) (iblk9 m c t)

theorem final12 (c : Dev nD) : (dats m 0 c).arrAt 12 cfg0.N = dxG (xV m c) (hV m c) (dU m c) (gV m c) := by
  refine (dats m 0 c).arrAt_eq_of_covers 12 _ (by decide +kernel) fun t hf y => ?_
  blk_simp
  refine (out12 m c t y).trans ?_
  refine congrArg (dxG _ _ _ _) ?_
  unfold rowOf
  blk_ext [idx_val t]

/-- the gradient of the gains, over all the rows -/
def dgG (X D : FVec Ideal S4096x1024 .f32) (i : Fin 1024) : EReal := ∑ n : Fin 4096, D (ix2 n i) * (X (ix2 n i) * rG X n)

theorem gain_step (c : Dev nD) (t : Fin cfg0.N) (O : FVec Ideal S1x1024 .f32) (y : S1x1024.Idx) :
    k0_pay3 (F := Ideal) (duF m c t (wideF (V m c main_v22))) (iblk m c 8 t) O y
      = O y + ∑ r : Fin 256, dU m c (ix2 (rowOf t r) ⟨(y 1).val, (y 1).isLt⟩)
        * (xV m c (ix2 (rowOf t r) ⟨(y 1).val, (y 1).isLt⟩) * rG (xV m c) (rowOf t r)) := by
  idx_vars y
  obtain rfl : y0 = ⟨0, by decide⟩ := Subsingleton.elim _ _
  refine (pay3 _ _ _ y1).trans (congrArg (fun z : EReal => _ + z) (Finset.sum_congr rfl fun r _ => ?_))
  rw [dU_eq, rF_eq, iblk8]

theorem gain_last (c : Dev nD) (t : Fin cfg0.N) (ht : t.val = 15) (y : S1x1024.Idx) : (outsAt0 (F := Ideal) m c t.val t.isLt).2.2.1 y
    = dgG (xV m c) (dU m c) ⟨(y 1).val, (y 1).isLt⟩ := by
  rw [Pipeline.eq_sum_fin_of_reset_step_apply_last (fun n h => (outsAt0 (F := Ideal) m c n h).2.2.1) 16 (fun _ => (0 : EReal))
    (fun t y => ∑ r : Fin 256, dU m c (ix2 (rowOf t r) ⟨(y 1).val, (y 1).isLt⟩)
        * (xV m c (ix2 (rowOf t r) ⟨(y 1).val, (y 1).isLt⟩) * rG (xV m c) (rowOf t r))) ?hA ?hB (le_of_eq N_0) t (ht ▸ rfl) y]
  case hA =>
    intro t h0 y
    have e := congrFun (ptA_13 m c t h0 (by omega)) y
    refine e.trans ((gain_step m c t _ y).trans (congrArg (fun z : EReal => z + _) ?_))
    pointwise [k0_pay9]
  case hB =>
    intro t h0 y
    exact (congrFun (congrArg (fun p => p.2.1) (pt_step m c t h0 _ rfl)) y).trans (gain_step m c t _ y)
  rw [zero_add]
  unfold dgG
  exact Fin.sum_mul_add_fin 16 256 (fun n : Fin 4096 => dU m c (ix2 n ⟨(y 1).val, (y 1).isLt⟩) * (xV m c (ix2 n ⟨(y 1).val, (y 1).isLt⟩) * rG (xV m c) n))

/-- the gradient of the columns, over all the rows -/
def dwG (u : FVec Ideal S4096x1024 .bf16) (d : FVec Ideal Cert.Reference3Ideal.S4096x3584 .f32) (i : Fin 1024) (j : Fin 3584) : EReal :=
  ∑ n : Fin 4096, u (ix2 n i) * d (ix2 n j)

theorem acc_step (c : Dev nD) (t : Fin cfg0.N) (O : FVec Ideal S1024x3584 .f32) (y : S1024x3584.Idx) :
    k0_pay12 (F := Ideal) (iblk m c 0 t) (iblk m c 1 t) (iblk m c 2 t) (iblk m c 3 t) (iblk m c 4 t) (iblk m c 5 t) (iblk m c 6 t) O (iblk m c 7 t) y
      = O y + ∑ r : Fin 256, uV m c (ix2 (rowOf t r) ⟨(y 0).val, (y 0).isLt⟩) * dP m c (ix2 (rowOf t r) ⟨(y 1).val, (y 1).isLt⟩) := by
  idx_vars y
  refine (pay12 _ _ _ _ _ _ _ _ _ y0 y1).trans (congrArg (fun z : EReal => _ + z) (Finset.sum_congr rfl fun r _ => ?_))
  rw [dP_eq, iblk7]

theorem acc_last (c : Dev nD) (t : Fin cfg0.N) (ht : t.val = 15) (y : S1024x3584.Idx) : (outsAt0 (F := Ideal) m c t.val t.isLt).2.2.2.2 y
    = dwG (uV m c) (dP m c) ⟨(y 0).val, (y 0).isLt⟩ ⟨(y 1).val, (y 1).isLt⟩ := by
  rw [Pipeline.eq_sum_fin_of_reset_step_apply_last (fun n h => (outsAt0 (F := Ideal) m c n h).2.2.2.2) 16 (fun _ => (0 : EReal))
    (fun t y => ∑ r : Fin 256, uV m c (ix2 (rowOf t r) ⟨(y 0).val, (y 0).isLt⟩) * dP m c (ix2 (rowOf t r) ⟨(y 1).val, (y 1).isLt⟩))
    ?hA ?hB (le_of_eq N_0) t (ht ▸ rfl) y]
  case hA =>
    intro t h0 y
    have e := congrFun (ptA_s m c t h0 (by omega)) y
    refine e.trans ((acc_step m c t _ y).trans (congrArg (fun z : EReal => z + _) ?_))
    idx_vars y
    pointwise [k0_pay10]
  case hB =>
    intro t h0 y
    exact (congrFun (congrArg (fun p => p.2.2.2) (pt_step m c t h0 _ rfl)) y).trans (acc_step m c t _ y)
  rw [zero_add]
  unfold dwG
  exact Fin.sum_mul_add_fin 16 256 (fun n : Fin 4096 => uV m c (ix2 n ⟨(y 0).val, (y 0).isLt⟩) * dP m c (ix2 n ⟨(y 1).val, (y 1).isLt⟩))

theorem out11 (c : Dev nD) (t : Fin cfg0.N) (ht : t.val = 15) (y : S4x1024x896.Idx) : (outsAt0 (F := Ideal) m c t.val t.isLt).1 y
    = dwG (uV m c) (dP m c) ⟨(y 1).val, (y 1).isLt⟩ ⟨(y 0).val * 896 + (y 2).val,
      by have h0 : (y 0).val < 4 := (y 0).isLt; have h2 : (y 2).val < 896 := (y 2).isLt; omega⟩ := by
  have h0 : ¬t.val % 16 = 0 := by omega
  have h1 : t.val % 16 = 15 := by omega
  refine (ptC_11 m c t h0 h1 _ rfl y).trans ?_
  have e := fun z => (congrFun (congrArg (fun p => p.2.2.2) (ptC m c t h0 h1 _ rfl)) z).symm.trans (acc_last m c t ht z)
  unfold sidesF
  exact e _

/-- the gradient of the columns, as four blocks -/
def dwC (u : FVec Ideal S4096x1024 .bf16) (d : FVec Ideal Cert.Reference3Ideal.S4096x3584 .f32) (y : S4x1024x896.Idx) : EReal :=
  dwG u d ⟨(y 1).val, (y 1).isLt⟩ ⟨(y 0).val * 896 + (y 2).val,
    by have h0 : (y 0).val < 4 := (y 0).isLt; have h2 : (y 2).val < 896 := (y 2).isLt; omega⟩

theorem flush11 (t : Fin cfg0.N) (h : (cfg0.win 11).flush t = true) : t.val = 15 := by
  have key : ∀ t : Fin grid0.N, (cfg0.win 11).flush t = true → t.val = 15 := by decide +kernel
  exact key t h
theorem flush13 (t : Fin cfg0.N) (h : (cfg0.win 13).flush t = true) : t.val = 15 := by
  have key : ∀ t : Fin grid0.N, (cfg0.win 13).flush t = true → t.val = 15 := by decide +kernel
  exact key t h

theorem final11 (c : Dev nD) : (dats m 0 c).arrAt 11 cfg0.N = dwC (uV m c) (dP m c) := by
  refine (dats m 0 c).arrAt_eq_of_covers 11 _ (by decide +kernel) fun t hf y => ?_
  have ht := flush11 t hf
  blk_simp
  refine (out11 m c t ht y).trans ?_
  unfold dwC
  blk_ext [idx_val t]
/-- the gradient of the gains, as a row -/
def dgC (X D : FVec Ideal S4096x1024 .f32) (y : S1x1024.Idx) : EReal := dgG X D ⟨(y 1).val, (y 1).isLt⟩
theorem final13 (c : Dev nD) : (dats m 0 c).arrAt 13 cfg0.N = dgC (xV m c) (dU m c) := by
  refine (dats m 0 c).arrAt_eq_of_covers 13 _ (by decide +kernel) fun t hf y => ?_
  have ht := flush13 t hf
  blk_simp
  refine (gain_last m c t ht y).trans ?_
  unfold dgC
  blk_ext [idx_val t]

open Cert.Reference3Ideal.Read in
theorem ref46 (x0 : FVec Ideal S4096x1024 .f32) (x1 : FVec Ideal S1x1024 .f32) (x2 : FVec Ideal S1024x3584 .f32) (x3 : FVec Ideal S4096x1024 .f32)
    (x4 x5 x6 x7 x8 x9 x10 : FVec Ideal S4096x512 .f32) :
    dxG x0 x3 (val_main_v26 (F := Ideal) x2 x4 x5 x6 x7 x8 x9 x10) x1 = val_main_v46 (F := Ideal) x0 x1 x2 x3 x4 x5 x6 x7 x8 x9 x10 := by
  funext y
  idx_vars y
  unfold dxG rG
  refine (Cert.Norm.bwd1024 (fun k => x0 (ix2 y0 k)) (fun k => val_main_v26 (F := Ideal) x2 x4 x5 x6 x7 x8 x9 x10 (ix2 y0 k) * x1 (ix2 ⟨0, by decide⟩ k))
    (x3 (ix2 y0 y1)) y1).trans ?_
  unfold Cert.Norm.rms
  pointwise [val_main_v46, val_main_v45, val_main_v44, val_main_v43, val_main_v42, val_main_v41, val_main_v40, val_main_v39, val_main_v38, val_main_v37, val_main_v36, val_main_v35, val_main_v34, val_main_v33, val_main_v32, val_main_v31, val_main_v30, val_main_v10, val_main_v9, val_main_v8, val_main_v7, val_main_v6, val_main_v5, val_main_v4, val_main_v3, val_main_v2, val_main_v1, val_main_v0, val_main_cst, val_main_cst_0, val_main_cst_1, val_main_cst_2, val_main_cst_4, val_main_cst_5, val_main_cst_6, Cert.Norm.div_n]
  simp only [Fintype.sum_unique]

open Cert.Reference3Ideal.Read in
theorem kout12 (c : Dev nD) : (dats m 0 c).arrAt 12 cfg0.N = val_main_v46 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [final12]
  unfold xV gV hV
  rw [V_main_arg0, V_main_arg1, V_main_arg3]
  exact ref46 _ _ _ _ _ _ _ _ _ _ _

open Cert.Reference3Ideal.Read in
theorem kout13 (c : Dev nD) : (dats m 0 c).arrAt 13 cfg0.N = val_main_v29 (F := Ideal) (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [final13]
  unfold xV
  rw [V_main_arg0]
  funext y
  idx_vars y
  unfold dgC dgG rG dU
  generalize m ((c.tc : Thread nD τ).loc main_arg0) = x
  unfold Cert.Norm.rms
  pointwise [val_main_v29, val_main_v28, val_main_cst_3, val_main_v27, val_main_v12, val_main_v11, val_main_v7, val_main_v6, val_main_v5, val_main_v4, val_main_v3, val_main_v2, val_main_v1, val_main_v0, val_main_cst, val_main_cst_0, val_main_cst_1, Cert.Norm.div_n]
  exact Finset.sum_congr rfl fun n _ => mul_comm (G := EReal) _ _

open Cert.Reference3Ideal.Read in
theorem entry12 (c : Dev nD) : uV m c = val_main_v14 (F := Ideal) (m ((c.tc : Thread nD τ).loc main_arg0)) (m ((c.tc : Thread nD τ).loc main_arg1)) := by
  unfold uV
  entry_read
  generalize m ((c.tc : Thread nD τ).loc main_arg0) = x
  generalize m ((c.tc : Thread nD τ).loc main_arg1) = g
  funext y
  idx_vars y
  pointwise [val_main_v14, val_main_v13, val_main_v12, val_main_v11, val_main_v7, val_main_v6, val_main_v5, val_main_v4, val_main_v3, val_main_v2, val_main_v1, val_main_v0, val_main_cst, val_main_cst_0, val_main_cst_1]

open Cert.Reference3Ideal.Read in
theorem kout11 (c : Dev nD) : (dats m 0 c).arrAt 11 cfg0.N = val_main_v49 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [final11, entry12]
  unfold val_main_v49 val_main_v48 val_main_v47 val_main_v25 val_main_v24 dP
  generalize val_main_v14 (F := Ideal) (m ((c.tc : Thread nD τ).loc main_arg0)) (m ((c.tc : Thread nD τ).loc main_arg1)) = u
  generalize val_main_v23 (F := Ideal) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) = d
  funext y
  unfold dwC dwG
  pointwise []
  exact Finset.sum_congr rfl fun n _ => mul_comm (G := EReal) _ _

end Cert.Kernel3Ideal.Bwd
end
-- ==== Proof.MlpA.lean ====
module

public import proofs.«01_k».proof.Proof.Gen.KernelIdeal.Frame
public import Idealize.ShloMosaic.Lib.Pipeline.ValueKit
public import Idealize.ShloMosaic.Lib.Pipeline.ReadBack
public import proofs.«01_k».proof.Proof.MlpForms

@[expose] public section
set_option maxRecDepth 16384
set_option maxHeartbeats 2000000
noncomputable section
open Idealize.ShloMosaic Idealize.ShloMosaic.TcCoe Idealize.SL.Sem
open Idealize.ShloMosaic.Pipeline (Dat)
namespace Cert.KernelIdeal.Mlp
open Cert.KernelIdeal Cert.KernelIdeal.Gen
variable (m : (ℓ : Loc nD τ sig) → Buf (Elt Ideal) ℓ)

theorem ptA_7 (c : Dev nD) (t : Fin cfg0.N) (h0 : t.val % 16 = 0) (h1 : ¬t.val % 16 = 15) (y : S256x5632.Idx) :
    (outsAt0 (F := Ideal) m c t.val t.isLt).1 y = dgvF (iblk m c 0 t) (iblk m c 2 t) (iblk m c 3 t) (iblk m c 5 t) (iblk m c 6 t) (k0_pay9 (F := Ideal)) y := by
  rw [outsAt0_A m c t h0 h1]
  dsimp only
  frame_open
  simp (disch := decide) only [↓View.readCov_skip, ↓View.readCov_fill]
  frame_out
  clear h0 h1
  generalize (k0_pay9 (F := Ideal)) = C
  refine canon_take (e := .bf16) 12 (dgvF (iblk m c 0 t) (iblk m c 2 t) (iblk m c 3 t) (iblk m c 5 t) (iblk m c 6 t) C) _ y ?pc ?cov
  case pc =>
    refine ⟨fun x => ?p0, fun x => ?p1, fun x => ?p2, fun x => ?p3, fun x => ?p4, fun x => ?p5, fun x => ?p6, fun x => ?p7, fun x => ?p8, fun x => ?p9, fun x => ?p10, fun x => ?p11, trivial⟩
    case' p0 =>
      idx_vars x
      refine Eq.trans ?_ (dgvF_val _ _ _ _ _ _ _ x0 ⟨2560 + x1.val, by omega⟩ (by blk_simp) (by blk_simp <;> (dsimp only; omega))).symm
    case' p1 =>
      idx_vars x
      refine Eq.trans ?_ (dgvF_gate _ _ _ _ _ _ _ x0 ⟨2560 + x1.val, by omega⟩ (by blk_simp) (by blk_simp)).symm
    case' p2 =>
      idx_vars x
      refine Eq.trans ?_ (dgvF_val _ _ _ _ _ _ _ x0 ⟨2048 + x1.val, by omega⟩ (by blk_simp) (by blk_simp <;> (dsimp only; omega))).symm
    case' p3 =>
      idx_vars x
      refine Eq.trans ?_ (dgvF_gate _ _ _ _ _ _ _ x0 ⟨2048 + x1.val, by omega⟩ (by blk_simp) (by blk_simp)).symm
    case' p4 =>
      idx_vars x
      refine Eq.trans ?_ (dgvF_val _ _ _ _ _ _ _ x0 ⟨1536 + x1.val, by omega⟩ (by blk_simp) (by blk_simp <;> (dsimp only; omega))).symm
    case' p5 =>
      idx_vars x
      refine Eq.trans ?_ (dgvF_gate _ _ _ _ _ _ _ x0 ⟨1536 + x1.val, by omega⟩ (by blk_simp) (by blk_simp)).symm
    case' p6 =>
      idx_vars x
      refine Eq.trans ?_ (dgvF_val _ _ _ _ _ _ _ x0 ⟨1024 + x1.val, by omega⟩ (by blk_simp) (by blk_simp <;> (dsimp only; omega))).symm
    case' p7 =>
      idx_vars x
      refine Eq.trans ?_ (dgvF_gate _ _ _ _ _ _ _ x0 ⟨1024 + x1.val, by omega⟩ (by blk_simp) (by blk_simp)).symm
    case' p8 =>
      idx_vars x
      refine Eq.trans ?_ (dgvF_val _ _ _ _ _ _ _ x0 ⟨512 + x1.val, by omega⟩ (by blk_simp) (by blk_simp <;> (dsimp only; omega))).symm
    case' p9 =>
      idx_vars x
      refine Eq.trans ?_ (dgvF_gate _ _ _ _ _ _ _ x0 ⟨512 + x1.val, by omega⟩ (by blk_simp) (by blk_simp)).symm
    case' p10 =>
      idx_vars x
      refine Eq.trans ?_ (dgvF_val _ _ _ _ _ _ _ x0 ⟨0 + x1.val, by omega⟩ (by blk_simp) (by blk_simp <;> (dsimp only; omega))).symm
    case' p11 =>
      idx_vars x
      refine Eq.trans ?_ (dgvF_gate _ _ _ _ _ _ _ x0 ⟨0 + x1.val, by omega⟩ (by blk_simp) (by blk_simp)).symm
    all_goals pointwise [k0_pay1, k0_pay2, k0_pay3, k0_pay4, k0_pay5, k0_pay6, k0_pay7, k0_pay8, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, dvalF, dconvF, dactF, slopeF, cdfF, rowF, u1F, u2F, dgateF]
  case cov =>
    exact View.cover_of_tiledBy _ ![256, 256] (by sl_kernel_rfl) y

theorem ptA_8 (c : Dev nD) (t : Fin cfg0.N) (h0 : t.val % 16 = 0) (h1 : ¬t.val % 16 = 15) (y : S3x2816.Idx) :
    (outsAt0 (F := Ideal) m c t.val t.isLt).2.1 y = dcwF (iblk m c 0 t) (iblk m c 1 t) (iblk m c 2 t) (iblk m c 3 t) (iblk m c 6 t) (k0_pay9 (F := Ideal)) (k0_pay10 (F := Ideal)) y := by
  rw [outsAt0_A m c t h0 h1]
  dsimp only
  frame_open
  simp (disch := decide) only [↓View.readCov_skip, ↓View.readCov_fill]
  frame_out
  clear h0 h1
  generalize (k0_pay9 (F := Ideal)) = C
  generalize (k0_pay10 (F := Ideal)) = O
  refine canon_take (e := .f32) 18 (dcwF (iblk m c 0 t) (iblk m c 1 t) (iblk m c 2 t) (iblk m c 3 t) (iblk m c 6 t) C O) _ y ?pc ?cov
  case pc =>
    refine ⟨fun x => ?p0, fun x => ?p1, fun x => ?p2, fun x => ?p3, fun x => ?p4, fun x => ?p5, fun x => ?p6, fun x => ?p7, fun x => ?p8, fun x => ?p9, fun x => ?p10, fun x => ?p11, fun x => ?p12, fun x => ?p13, fun x => ?p14, fun x => ?p15, fun x => ?p16, fun x => ?p17, trivial⟩
    case' p0 =>
      idx_vars x
      refine Eq.trans ?_ (dcwF_two _ _ _ _ _ _ _ _ ⟨2560 + x1.val, by omega⟩ (by blk_simp) (by blk_simp)).symm
    case' p1 =>
      idx_vars x
      refine Eq.trans ?_ (dcwF_one _ _ _ _ _ _ _ _ ⟨2560 + x1.val, by omega⟩ (by blk_simp) (by blk_simp)).symm
    case' p2 =>
      idx_vars x
      refine Eq.trans ?_ (dcwF_zero _ _ _ _ _ _ _ _ ⟨2560 + x1.val, by omega⟩ (by blk_simp) (by blk_simp)).symm
    case' p3 =>
      idx_vars x
      refine Eq.trans ?_ (dcwF_two _ _ _ _ _ _ _ _ ⟨2048 + x1.val, by omega⟩ (by blk_simp) (by blk_simp)).symm
    case' p4 =>
      idx_vars x
      refine Eq.trans ?_ (dcwF_one _ _ _ _ _ _ _ _ ⟨2048 + x1.val, by omega⟩ (by blk_simp) (by blk_simp)).symm
    case' p5 =>
      idx_vars x
      refine Eq.trans ?_ (dcwF_zero _ _ _ _ _ _ _ _ ⟨2048 + x1.val, by omega⟩ (by blk_simp) (by blk_simp)).symm
    case' p6 =>
      idx_vars x
      refine Eq.trans ?_ (dcwF_two _ _ _ _ _ _ _ _ ⟨1536 + x1.val, by omega⟩ (by blk_simp) (by blk_simp)).symm
    case' p7 =>
      idx_vars x
      refine Eq.trans ?_ (dcwF_one _ _ _ _ _ _ _ _ ⟨1536 + x1.val, by omega⟩ (by blk_simp) (by blk_simp)).symm
    case' p8 =>
      idx_vars x
      refine Eq.trans ?_ (dcwF_zero _ _ _ _ _ _ _ _ ⟨1536 + x1.val, by omega⟩ (by blk_simp) (by blk_simp)).symm
    case' p9 =>
      idx_vars x
      refine Eq.trans ?_ (dcwF_two _ _ _ _ _ _ _ _ ⟨1024 + x1.val, by omega⟩ (by blk_simp) (by blk_simp)).symm
    case' p10 =>
      idx_vars x
      refine Eq.trans ?_ (dcwF_one _ _ _ _ _ _ _ _ ⟨1024 + x1.val, by omega⟩ (by blk_simp) (by blk_simp)).symm
    case' p11 =>
      idx_vars x
      refine Eq.trans ?_ (dcwF_zero _ _ _ _ _ _ _ _ ⟨1024 + x1.val, by omega⟩ (by blk_simp) (by blk_simp)).symm
    case' p12 =>
      idx_vars x
      refine Eq.trans ?_ (dcwF_two _ _ _ _ _ _ _ _ ⟨512 + x1.val, by omega⟩ (by blk_simp) (by blk_simp)).symm
    case' p13 =>
      idx_vars x
      refine Eq.trans ?_ (dcwF_one _ _ _ _ _ _ _ _ ⟨512 + x1.val, by omega⟩ (by blk_simp) (by blk_simp)).symm
    case' p14 =>
      idx_vars x
      refine Eq.trans ?_ (dcwF_zero _ _ _ _ _ _ _ _ ⟨512 + x1.val, by omega⟩ (by blk_simp) (by blk_simp)).symm
    case' p15 =>
      idx_vars x
      refine Eq.trans ?_ (dcwF_two _ _ _ _ _ _ _ _ ⟨0 + x1.val, by omega⟩ (by blk_simp) (by blk_simp)).symm
    case' p16 =>
      idx_vars x
      refine Eq.trans ?_ (dcwF_one _ _ _ _ _ _ _ _ ⟨0 + x1.val, by omega⟩ (by blk_simp) (by blk_simp)).symm
    case' p17 =>
      idx_vars x
      refine Eq.trans ?_ (dcwF_zero _ _ _ _ _ _ _ _ ⟨0 + x1.val, by omega⟩ (by blk_simp) (by blk_simp)).symm
    all_goals pointwise [k0_pay1, k0_pay2, k0_pay3, k0_pay4, k0_pay5, k0_pay6, k0_pay7, k0_pay8, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, dconvF, dactF, slopeF, cdfF, rowF, u1F, u2F]
  case cov =>
    exact View.cover_of_tiledBy _ ![1, 256] (by sl_kernel_rfl) y

theorem ptA_9 (c : Dev nD) (t : Fin cfg0.N) (h0 : t.val % 16 = 0) (h1 : ¬t.val % 16 = 15) (y : S1x2816.Idx) :
    (outsAt0 (F := Ideal) m c t.val t.isLt).2.2.1 y = dcbF (iblk m c 0 t) (iblk m c 2 t) (iblk m c 3 t) (iblk m c 6 t) (k0_pay11 (F := Ideal)) y := by
  rw [outsAt0_A m c t h0 h1]
  dsimp only
  frame_open
  simp (disch := decide) only [↓View.readCov_skip, ↓View.readCov_fill]
  frame_out
  clear h0 h1
  generalize (k0_pay9 (F := Ideal)) = C
  generalize (k0_pay11 (F := Ideal)) = O
  refine canon_take (e := .f32) 6 (dcbF (iblk m c 0 t) (iblk m c 2 t) (iblk m c 3 t) (iblk m c 6 t) O) _ y ?pc ?cov
  case pc =>
    refine ⟨fun x => ?p0, fun x => ?p1, fun x => ?p2, fun x => ?p3, fun x => ?p4, fun x => ?p5, trivial⟩
    case' p0 =>
      idx_vars x
      simp only [dcbF]
      blk_simp
    case' p1 =>
      idx_vars x
      simp only [dcbF]
      blk_simp
    case' p2 =>
      idx_vars x
      simp only [dcbF]
      blk_simp
    case' p3 =>
      idx_vars x
      simp only [dcbF]
      blk_simp
    case' p4 =>
      idx_vars x
      simp only [dcbF]
      blk_simp
    case' p5 =>
      idx_vars x
      simp only [dcbF]
      blk_simp
    all_goals pointwise [k0_pay1, k0_pay2, k0_pay3, k0_pay4, k0_pay5, k0_pay6, k0_pay7, k0_pay8, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, dconvF, dactF, slopeF, cdfF, rowF, u1F, u2F]
  case cov =>
    exact View.cover_of_tiledBy _ ![1, 256] (by sl_kernel_rfl) y

theorem ptA_s0 (c : Dev nD) (t : Fin cfg0.N) (h0 : t.val % 16 = 0) (h1 : ¬t.val % 16 = 15) (y : S8x2816.Idx) :
    (outsAt0 (F := Ideal) m c t.val t.isLt).2.2.2.2.1 y = carF (iblk m c 0 t) (iblk m c 2 t) (iblk m c 3 t) (iblk m c 6 t) y := by
  rw [outsAt0_A m c t h0 h1]
  dsimp only
  frame_open
  simp (disch := decide) only [↓View.readCov_skip, ↓View.readCov_fill]
  frame_out
  clear h0 h1
  generalize (k0_pay9 (F := Ideal)) = C
  refine canon_take (e := .f32) 6 (carF (iblk m c 0 t) (iblk m c 2 t) (iblk m c 3 t) (iblk m c 6 t)) _ y ?pc ?cov
  case pc =>
    refine ⟨fun x => ?p0, fun x => ?p1, fun x => ?p2, fun x => ?p3, fun x => ?p4, fun x => ?p5, trivial⟩
    case' p0 =>
      idx_vars x
      simp only [carF]
      blk_simp
    case' p1 =>
      idx_vars x
      simp only [carF]
      blk_simp
    case' p2 =>
      idx_vars x
      simp only [carF]
      blk_simp
    case' p3 =>
      idx_vars x
      simp only [carF]
      blk_simp
    case' p4 =>
      idx_vars x
      simp only [carF]
      blk_simp
    case' p5 =>
      idx_vars x
      simp only [carF]
      blk_simp
    all_goals pointwise [k0_pay1, k0_pay2, k0_pay3, k0_pay4, k0_pay5, k0_pay6, k0_pay7, k0_pay8, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, dconvF, dactF, slopeF, cdfF, rowF, u1F, u2F]
  case cov =>
    exact View.cover_of_tiledBy _ ![8, 256] (by sl_kernel_rfl) y

theorem ptA_s1 (c : Dev nD) (t : Fin cfg0.N) (h0 : t.val % 16 = 0) (h1 : ¬t.val % 16 = 15) (y : S2816x1024.Idx) :
    (outsAt0 (F := Ideal) m c t.val t.isLt).2.2.2.2.2 y = accF (iblk m c 0 t) (iblk m c 4 t) (k0_pay12 (F := Ideal)) y := by
  rw [outsAt0_A m c t h0 h1]
  dsimp only
  frame_open
  simp (disch := decide) only [↓View.readCov_skip, ↓View.readCov_fill]
  frame_out
  clear h0 h1
  generalize (k0_pay9 (F := Ideal)) = C
  generalize (k0_pay12 (F := Ideal)) = O
  refine canon_take (e := .f32) 6 (accF (iblk m c 0 t) (iblk m c 4 t) O) _ y ?pc ?cov
  case pc =>
    refine ⟨fun x => ?p0, fun x => ?p1, fun x => ?p2, fun x => ?p3, fun x => ?p4, fun x => ?p5, trivial⟩
    case' p0 =>
      idx_vars x
      simp only [accF]
      blk_simp
    case' p1 =>
      idx_vars x
      simp only [accF]
      blk_simp
    case' p2 =>
      idx_vars x
      simp only [accF]
      blk_simp
    case' p3 =>
      idx_vars x
      simp only [accF]
      blk_simp
    case' p4 =>
      idx_vars x
      simp only [accF]
      blk_simp
    case' p5 =>
      idx_vars x
      simp only [accF]
      blk_simp
    all_goals pointwise [k0_pay1, k0_pay2, k0_pay3, k0_pay4, k0_pay5, k0_pay6, k0_pay7, k0_pay8, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, dconvF, dactF, slopeF, cdfF, rowF, u1F, u2F]
  case cov =>
    exact View.cover_of_tiledBy _ ![256, 1024] (by sl_kernel_rfl) y

end Cert.KernelIdeal.Mlp
end
-- ==== Proof.MlpB.lean ====
module

public import proofs.«01_k».proof.Proof.Gen.KernelIdeal.Frame
public import Idealize.ShloMosaic.Lib.Pipeline.ValueKit
public import Idealize.ShloMosaic.Lib.Pipeline.ReadBack
public import proofs.«01_k».proof.Proof.MlpForms

@[expose] public section
set_option maxRecDepth 16384
set_option maxHeartbeats 2000000
noncomputable section
open Idealize.ShloMosaic Idealize.ShloMosaic.TcCoe Idealize.SL.Sem
open Idealize.ShloMosaic.Pipeline (Dat)
namespace Cert.KernelIdeal.Mlp
open Cert.KernelIdeal Cert.KernelIdeal.Gen
variable (m : (ℓ : Loc nD τ sig) → Buf (Elt Ideal) ℓ)

theorem ptB_7 (c : Dev nD) (t : Fin cfg0.N) (h0 : ¬t.val % 16 = 0) (h1 : ¬t.val % 16 = 15) (y : S256x5632.Idx) :
    (outsAt0 (F := Ideal) m c t.val t.isLt).1 y = dgvF (iblk m c 0 t) (iblk m c 2 t) (iblk m c 3 t) (iblk m c 5 t) (iblk m c 6 t) (outsAt0 (F := Ideal) m c (t.val - 1) (Nat.lt_of_le_of_lt (Nat.sub_le _ _) t.isLt)).2.2.2.2.1 y := by
  rw [outsAt0_B m c t h0 h1]
  dsimp only
  frame_out
  try simp only [read_unread_whole]
  clear h0 h1
  generalize (outsAt0 (F := Ideal) m c (t.val - 1) (Nat.lt_of_le_of_lt (Nat.sub_le _ _) t.isLt)).2.2.2.2.1 = C
  refine canon_take (e := .bf16) 12 (dgvF (iblk m c 0 t) (iblk m c 2 t) (iblk m c 3 t) (iblk m c 5 t) (iblk m c 6 t) C) _ y ?pc ?cov
  case pc =>
    refine ⟨fun x => ?p0, fun x => ?p1, fun x => ?p2, fun x => ?p3, fun x => ?p4, fun x => ?p5, fun x => ?p6, fun x => ?p7, fun x => ?p8, fun x => ?p9, fun x => ?p10, fun x => ?p11, trivial⟩
    case' p0 =>
      idx_vars x
      refine Eq.trans ?_ (dgvF_val _ _ _ _ _ _ _ x0 ⟨2560 + x1.val, by omega⟩ (by blk_simp) (by blk_simp <;> (dsimp only; omega))).symm
    case' p1 =>
      idx_vars x
      refine Eq.trans ?_ (dgvF_gate _ _ _ _ _ _ _ x0 ⟨2560 + x1.val, by omega⟩ (by blk_simp) (by blk_simp)).symm
    case' p2 =>
      idx_vars x
      refine Eq.trans ?_ (dgvF_val _ _ _ _ _ _ _ x0 ⟨2048 + x1.val, by omega⟩ (by blk_simp) (by blk_simp <;> (dsimp only; omega))).symm
    case' p3 =>
      idx_vars x
      refine Eq.trans ?_ (dgvF_gate _ _ _ _ _ _ _ x0 ⟨2048 + x1.val, by omega⟩ (by blk_simp) (by blk_simp)).symm
    case' p4 =>
      idx_vars x
      refine Eq.trans ?_ (dgvF_val _ _ _ _ _ _ _ x0 ⟨1536 + x1.val, by omega⟩ (by blk_simp) (by blk_simp <;> (dsimp only; omega))).symm
    case' p5 =>
      idx_vars x
      refine Eq.trans ?_ (dgvF_gate _ _ _ _ _ _ _ x0 ⟨1536 + x1.val, by omega⟩ (by blk_simp) (by blk_simp)).symm
    case' p6 =>
      idx_vars x
      refine Eq.trans ?_ (dgvF_val _ _ _ _ _ _ _ x0 ⟨1024 + x1.val, by omega⟩ (by blk_simp) (by blk_simp <;> (dsimp only; omega))).symm
    case' p7 =>
      idx_vars x
      refine Eq.trans ?_ (dgvF_gate _ _ _ _ _ _ _ x0 ⟨1024 + x1.val, by omega⟩ (by blk_simp) (by blk_simp)).symm
    case' p8 =>
      idx_vars x
      refine Eq.trans ?_ (dgvF_val _ _ _ _ _ _ _ x0 ⟨512 + x1.val, by omega⟩ (by blk_simp) (by blk_simp <;> (dsimp only; omega))).symm
    case' p9 =>
      idx_vars x
      refine Eq.trans ?_ (dgvF_gate _ _ _ _ _ _ _ x0 ⟨512 + x1.val, by omega⟩ (by blk_simp) (by blk_simp)).symm
    case' p10 =>
      idx_vars x
      refine Eq.trans ?_ (dgvF_val _ _ _ _ _ _ _ x0 ⟨0 + x1.val, by omega⟩ (by blk_simp) (by blk_simp <;> (dsimp only; omega))).symm
    case' p11 =>
      idx_vars x
      refine Eq.trans ?_ (dgvF_gate _ _ _ _ _ _ _ x0 ⟨0 + x1.val, by omega⟩ (by blk_simp) (by blk_simp)).symm
    all_goals pointwise [k0_pay1, k0_pay2, k0_pay3, k0_pay4, k0_pay5, k0_pay6, k0_pay7, k0_pay8, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, dvalF, dconvF, dactF, slopeF, cdfF, rowF, u1F, u2F, dgateF]
  case cov =>
    exact View.cover_of_tiledBy _ ![256, 256] (by sl_kernel_rfl) y

theorem ptB_8 (c : Dev nD) (t : Fin cfg0.N) (h0 : ¬t.val % 16 = 0) (h1 : ¬t.val % 16 = 15) (y : S3x2816.Idx) :
    (outsAt0 (F := Ideal) m c t.val t.isLt).2.1 y = dcwF (iblk m c 0 t) (iblk m c 1 t) (iblk m c 2 t) (iblk m c 3 t) (iblk m c 6 t) (outsAt0 (F := Ideal) m c (t.val - 1) (Nat.lt_of_le_of_lt (Nat.sub_le _ _) t.isLt)).2.2.2.2.1 (outsAt0 (F := Ideal) m c (t.val - 1) (Nat.lt_of_le_of_lt (Nat.sub_le _ _) t.isLt)).2.1 y := by
  rw [outsAt0_B m c t h0 h1]
  dsimp only
  frame_out
  try simp only [read_unread_whole]
  clear h0 h1
  generalize (outsAt0 (F := Ideal) m c (t.val - 1) (Nat.lt_of_le_of_lt (Nat.sub_le _ _) t.isLt)).2.2.2.2.1 = C
  generalize (outsAt0 (F := Ideal) m c (t.val - 1) (Nat.lt_of_le_of_lt (Nat.sub_le _ _) t.isLt)).2.1 = O
  refine canon_take (e := .f32) 18 (dcwF (iblk m c 0 t) (iblk m c 1 t) (iblk m c 2 t) (iblk m c 3 t) (iblk m c 6 t) C O) _ y ?pc ?cov
  case pc =>
    refine ⟨fun x => ?p0, fun x => ?p1, fun x => ?p2, fun x => ?p3, fun x => ?p4, fun x => ?p5, fun x => ?p6, fun x => ?p7, fun x => ?p8, fun x => ?p9, fun x => ?p10, fun x => ?p11, fun x => ?p12, fun x => ?p13, fun x => ?p14, fun x => ?p15, fun x => ?p16, fun x => ?p17, trivial⟩
    case' p0 =>
      idx_vars x
      refine Eq.trans ?_ (dcwF_two _ _ _ _ _ _ _ _ ⟨2560 + x1.val, by omega⟩ (by blk_simp) (by blk_simp)).symm
    case' p1 =>
      idx_vars x
      refine Eq.trans ?_ (dcwF_one _ _ _ _ _ _ _ _ ⟨2560 + x1.val, by omega⟩ (by blk_simp) (by blk_simp)).symm
    case' p2 =>
      idx_vars x
      refine Eq.trans ?_ (dcwF_zero _ _ _ _ _ _ _ _ ⟨2560 + x1.val, by omega⟩ (by blk_simp) (by blk_simp)).symm
    case' p3 =>
      idx_vars x
      refine Eq.trans ?_ (dcwF_two _ _ _ _ _ _ _ _ ⟨2048 + x1.val, by omega⟩ (by blk_simp) (by blk_simp)).symm
    case' p4 =>
      idx_vars x
      refine Eq.trans ?_ (dcwF_one _ _ _ _ _ _ _ _ ⟨2048 + x1.val, by omega⟩ (by blk_simp) (by blk_simp)).symm
    case' p5 =>
      idx_vars x
      refine Eq.trans ?_ (dcwF_zero _ _ _ _ _ _ _ _ ⟨2048 + x1.val, by omega⟩ (by blk_simp) (by blk_simp)).symm
    case' p6 =>
      idx_vars x
      refine Eq.trans ?_ (dcwF_two _ _ _ _ _ _ _ _ ⟨1536 + x1.val, by omega⟩ (by blk_simp) (by blk_simp)).symm
    case' p7 =>
      idx_vars x
      refine Eq.trans ?_ (dcwF_one _ _ _ _ _ _ _ _ ⟨1536 + x1.val, by omega⟩ (by blk_simp) (by blk_simp)).symm
    case' p8 =>
      idx_vars x
      refine Eq.trans ?_ (dcwF_zero _ _ _ _ _ _ _ _ ⟨1536 + x1.val, by omega⟩ (by blk_simp) (by blk_simp)).symm
    case' p9 =>
      idx_vars x
      refine Eq.trans ?_ (dcwF_two _ _ _ _ _ _ _ _ ⟨1024 + x1.val, by omega⟩ (by blk_simp) (by blk_simp)).symm
    case' p10 =>
      idx_vars x
      refine Eq.trans ?_ (dcwF_one _ _ _ _ _ _ _ _ ⟨1024 + x1.val, by omega⟩ (by blk_simp) (by blk_simp)).symm
    case' p11 =>
      idx_vars x
      refine Eq.trans ?_ (dcwF_zero _ _ _ _ _ _ _ _ ⟨1024 + x1.val, by omega⟩ (by blk_simp) (by blk_simp)).symm
    case' p12 =>
      idx_vars x
      refine Eq.trans ?_ (dcwF_two _ _ _ _ _ _ _ _ ⟨512 + x1.val, by omega⟩ (by blk_simp) (by blk_simp)).symm
    case' p13 =>
      idx_vars x
      refine Eq.trans ?_ (dcwF_one _ _ _ _ _ _ _ _ ⟨512 + x1.val, by omega⟩ (by blk_simp) (by blk_simp)).symm
    case' p14 =>
      idx_vars x
      refine Eq.trans ?_ (dcwF_zero _ _ _ _ _ _ _ _ ⟨512 + x1.val, by omega⟩ (by blk_simp) (by blk_simp)).symm
    case' p15 =>
      idx_vars x
      refine Eq.trans ?_ (dcwF_two _ _ _ _ _ _ _ _ ⟨0 + x1.val, by omega⟩ (by blk_simp) (by blk_simp)).symm
    case' p16 =>
      idx_vars x
      refine Eq.trans ?_ (dcwF_one _ _ _ _ _ _ _ _ ⟨0 + x1.val, by omega⟩ (by blk_simp) (by blk_simp)).symm
    case' p17 =>
      idx_vars x
      refine Eq.trans ?_ (dcwF_zero _ _ _ _ _ _ _ _ ⟨0 + x1.val, by omega⟩ (by blk_simp) (by blk_simp)).symm
    all_goals pointwise [k0_pay1, k0_pay2, k0_pay3, k0_pay4, k0_pay5, k0_pay6, k0_pay7, k0_pay8, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, dconvF, dactF, slopeF, cdfF, rowF, u1F, u2F]
  case cov =>
    exact View.cover_of_tiledBy _ ![1, 256] (by sl_kernel_rfl) y

theorem ptB_9 (c : Dev nD) (t : Fin cfg0.N) (h0 : ¬t.val % 16 = 0) (h1 : ¬t.val % 16 = 15) (y : S1x2816.Idx) :
    (outsAt0 (F := Ideal) m c t.val t.isLt).2.2.1 y = dcbF (iblk m c 0 t) (iblk m c 2 t) (iblk m c 3 t) (iblk m c 6 t) (outsAt0 (F := Ideal) m c (t.val - 1) (Nat.lt_of_le_of_lt (Nat.sub_le _ _) t.isLt)).2.2.1 y := by
  rw [outsAt0_B m c t h0 h1]
  dsimp only
  frame_out
  try simp only [read_unread_whole]
  clear h0 h1
  generalize (outsAt0 (F := Ideal) m c (t.val - 1) (Nat.lt_of_le_of_lt (Nat.sub_le _ _) t.isLt)).2.2.2.2.1 = C
  generalize (outsAt0 (F := Ideal) m c (t.val - 1) (Nat.lt_of_le_of_lt (Nat.sub_le _ _) t.isLt)).2.2.1 = O
  refine canon_take (e := .f32) 6 (dcbF (iblk m c 0 t) (iblk m c 2 t) (iblk m c 3 t) (iblk m c 6 t) O) _ y ?pc ?cov
  case pc =>
    refine ⟨fun x => ?p0, fun x => ?p1, fun x => ?p2, fun x => ?p3, fun x => ?p4, fun x => ?p5, trivial⟩
    case' p0 =>
      idx_vars x
      simp only [dcbF]
      blk_simp
    case' p1 =>
      idx_vars x
      simp only [dcbF]
      blk_simp
    case' p2 =>
      idx_vars x
      simp only [dcbF]
      blk_simp
    case' p3 =>
      idx_vars x
      simp only [dcbF]
      blk_simp
    case' p4 =>
      idx_vars x
      simp only [dcbF]
      blk_simp
    case' p5 =>
      idx_vars x
      simp only [dcbF]
      blk_simp
    all_goals pointwise [k0_pay1, k0_pay2, k0_pay3, k0_pay4, k0_pay5, k0_pay6, k0_pay7, k0_pay8, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, dconvF, dactF, slopeF, cdfF, rowF, u1F, u2F]
  case cov =>
    exact View.cover_of_tiledBy _ ![1, 256] (by sl_kernel_rfl) y

theorem ptB_s0 (c : Dev nD) (t : Fin cfg0.N) (h0 : ¬t.val % 16 = 0) (h1 : ¬t.val % 16 = 15) (y : S8x2816.Idx) :
    (outsAt0 (F := Ideal) m c t.val t.isLt).2.2.2.2.1 y = carF (iblk m c 0 t) (iblk m c 2 t) (iblk m c 3 t) (iblk m c 6 t) y := by
  rw [outsAt0_B m c t h0 h1]
  dsimp only
  frame_out
  try simp only [read_unread_whole]
  clear h0 h1
  generalize (outsAt0 (F := Ideal) m c (t.val - 1) (Nat.lt_of_le_of_lt (Nat.sub_le _ _) t.isLt)).2.2.2.2.1 = C
  refine canon_take (e := .f32) 6 (carF (iblk m c 0 t) (iblk m c 2 t) (iblk m c 3 t) (iblk m c 6 t)) _ y ?pc ?cov
  case pc =>
    refine ⟨fun x => ?p0, fun x => ?p1, fun x => ?p2, fun x => ?p3, fun x => ?p4, fun x => ?p5, trivial⟩
    case' p0 =>
      idx_vars x
      simp only [carF]
      blk_simp
    case' p1 =>
      idx_vars x
      simp only [carF]
      blk_simp
    case' p2 =>
      idx_vars x
      simp only [carF]
      blk_simp
    case' p3 =>
      idx_vars x
      simp only [carF]
      blk_simp
    case' p4 =>
      idx_vars x
      simp only [carF]
      blk_simp
    case' p5 =>
      idx_vars x
      simp only [carF]
      blk_simp
    all_goals pointwise [k0_pay1, k0_pay2, k0_pay3, k0_pay4, k0_pay5, k0_pay6, k0_pay7, k0_pay8, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, dconvF, dactF, slopeF, cdfF, rowF, u1F, u2F]
  case cov =>
    exact View.cover_of_tiledBy _ ![8, 256] (by sl_kernel_rfl) y

theorem ptB_s1 (c : Dev nD) (t : Fin cfg0.N) (h0 : ¬t.val % 16 = 0) (h1 : ¬t.val % 16 = 15) (y : S2816x1024.Idx) :
    (outsAt0 (F := Ideal) m c t.val t.isLt).2.2.2.2.2 y = accF (iblk m c 0 t) (iblk m c 4 t) (outsAt0 (F := Ideal) m c (t.val - 1) (Nat.lt_of_le_of_lt (Nat.sub_le _ _) t.isLt)).2.2.2.2.2 y := by
  rw [outsAt0_B m c t h0 h1]
  dsimp only
  frame_out
  try simp only [read_unread_whole]
  clear h0 h1
  generalize (outsAt0 (F := Ideal) m c (t.val - 1) (Nat.lt_of_le_of_lt (Nat.sub_le _ _) t.isLt)).2.2.2.2.1 = C
  generalize (outsAt0 (F := Ideal) m c (t.val - 1) (Nat.lt_of_le_of_lt (Nat.sub_le _ _) t.isLt)).2.2.2.2.2 = O
  refine canon_take (e := .f32) 6 (accF (iblk m c 0 t) (iblk m c 4 t) O) _ y ?pc ?cov
  case pc =>
    refine ⟨fun x => ?p0, fun x => ?p1, fun x => ?p2, fun x => ?p3, fun x => ?p4, fun x => ?p5, trivial⟩
    case' p0 =>
      idx_vars x
      simp only [accF]
      blk_simp
    case' p1 =>
      idx_vars x
      simp only [accF]
      blk_simp
    case' p2 =>
      idx_vars x
      simp only [accF]
      blk_simp
    case' p3 =>
      idx_vars x
      simp only [accF]
      blk_simp
    case' p4 =>
      idx_vars x
      simp only [accF]
      blk_simp
    case' p5 =>
      idx_vars x
      simp only [accF]
      blk_simp
    all_goals pointwise [k0_pay1, k0_pay2, k0_pay3, k0_pay4, k0_pay5, k0_pay6, k0_pay7, k0_pay8, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, dconvF, dactF, slopeF, cdfF, rowF, u1F, u2F]
  case cov =>
    exact View.cover_of_tiledBy _ ![256, 1024] (by sl_kernel_rfl) y

end Cert.KernelIdeal.Mlp
end
-- ==== Proof.MlpC.lean ====
module

public import proofs.«01_k».proof.Proof.Gen.KernelIdeal.Frame
public import Idealize.ShloMosaic.Lib.Pipeline.ValueKit
public import Idealize.ShloMosaic.Lib.Pipeline.ReadBack
public import proofs.«01_k».proof.Proof.MlpForms

@[expose] public section
set_option maxRecDepth 16384
set_option maxHeartbeats 2000000
noncomputable section
open Idealize.ShloMosaic Idealize.ShloMosaic.TcCoe Idealize.SL.Sem
open Idealize.ShloMosaic.Pipeline (Dat)
namespace Cert.KernelIdeal.Mlp
open Cert.KernelIdeal Cert.KernelIdeal.Gen
variable (m : (ℓ : Loc nD τ sig) → Buf (Elt Ideal) ℓ)

theorem ptC_7 (c : Dev nD) (t : Fin cfg0.N) (h0 : ¬t.val % 16 = 0) (h1 : t.val % 16 = 15) (y : S256x5632.Idx) :
    (outsAt0 (F := Ideal) m c t.val t.isLt).1 y = dgvF (iblk m c 0 t) (iblk m c 2 t) (iblk m c 3 t) (iblk m c 5 t) (iblk m c 6 t) (outsAt0 (F := Ideal) m c (t.val - 1) (Nat.lt_of_le_of_lt (Nat.sub_le _ _) t.isLt)).2.2.2.2.1 y := by
  rw [outsAt0_C m c t h0 h1]
  dsimp only
  frame_out
  try simp only [read_unread_whole]
  clear h0 h1
  generalize (outsAt0 (F := Ideal) m c (t.val - 1) (Nat.lt_of_le_of_lt (Nat.sub_le _ _) t.isLt)).2.2.2.2.1 = C
  refine canon_take (e := .bf16) 12 (dgvF (iblk m c 0 t) (iblk m c 2 t) (iblk m c 3 t) (iblk m c 5 t) (iblk m c 6 t) C) _ y ?pc ?cov
  case pc =>
    refine ⟨fun x => ?p0, fun x => ?p1, fun x => ?p2, fun x => ?p3, fun x => ?p4, fun x => ?p5, fun x => ?p6, fun x => ?p7, fun x => ?p8, fun x => ?p9, fun x => ?p10, fun x => ?p11, trivial⟩
    case' p0 =>
      idx_vars x
      refine Eq.trans ?_ (dgvF_val _ _ _ _ _ _ _ x0 ⟨2560 + x1.val, by omega⟩ (by blk_simp) (by blk_simp <;> (dsimp only; omega))).symm
    case' p1 =>
      idx_vars x
      refine Eq.trans ?_ (dgvF_gate _ _ _ _ _ _ _ x0 ⟨2560 + x1.val, by omega⟩ (by blk_simp) (by blk_simp)).symm
    case' p2 =>
      idx_vars x
      refine Eq.trans ?_ (dgvF_val _ _ _ _ _ _ _ x0 ⟨2048 + x1.val, by omega⟩ (by blk_simp) (by blk_simp <;> (dsimp only; omega))).symm
    case' p3 =>
      idx_vars x
      refine Eq.trans ?_ (dgvF_gate _ _ _ _ _ _ _ x0 ⟨2048 + x1.val, by omega⟩ (by blk_simp) (by blk_simp)).symm
    case' p4 =>
      idx_vars x
      refine Eq.trans ?_ (dgvF_val _ _ _ _ _ _ _ x0 ⟨1536 + x1.val, by omega⟩ (by blk_simp) (by blk_simp <;> (dsimp only; omega))).symm
    case' p5 =>
      idx_vars x
      refine Eq.trans ?_ (dgvF_gate _ _ _ _ _ _ _ x0 ⟨1536 + x1.val, by omega⟩ (by blk_simp) (by blk_simp)).symm
    case' p6 =>
      idx_vars x
      refine Eq.trans ?_ (dgvF_val _ _ _ _ _ _ _ x0 ⟨1024 + x1.val, by omega⟩ (by blk_simp) (by blk_simp <;> (dsimp only; omega))).symm
    case' p7 =>
      idx_vars x
      refine Eq.trans ?_ (dgvF_gate _ _ _ _ _ _ _ x0 ⟨1024 + x1.val, by omega⟩ (by blk_simp) (by blk_simp)).symm
    case' p8 =>
      idx_vars x
      refine Eq.trans ?_ (dgvF_val _ _ _ _ _ _ _ x0 ⟨512 + x1.val, by omega⟩ (by blk_simp) (by blk_simp <;> (dsimp only; omega))).symm
    case' p9 =>
      idx_vars x
      refine Eq.trans ?_ (dgvF_gate _ _ _ _ _ _ _ x0 ⟨512 + x1.val, by omega⟩ (by blk_simp) (by blk_simp)).symm
    case' p10 =>
      idx_vars x
      refine Eq.trans ?_ (dgvF_val _ _ _ _ _ _ _ x0 ⟨0 + x1.val, by omega⟩ (by blk_simp) (by blk_simp <;> (dsimp only; omega))).symm
    case' p11 =>
      idx_vars x
      refine Eq.trans ?_ (dgvF_gate _ _ _ _ _ _ _ x0 ⟨0 + x1.val, by omega⟩ (by blk_simp) (by blk_simp)).symm
    all_goals pointwise [k0_pay1, k0_pay2, k0_pay3, k0_pay4, k0_pay5, k0_pay6, k0_pay7, k0_pay8, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, dvalF, dconvF, dactF, slopeF, cdfF, rowF, u1F, u2F, dgateF]
  case cov =>
    exact View.cover_of_tiledBy _ ![256, 256] (by sl_kernel_rfl) y

theorem ptC_8 (c : Dev nD) (t : Fin cfg0.N) (h0 : ¬t.val % 16 = 0) (h1 : t.val % 16 = 15) (y : S3x2816.Idx) :
    (outsAt0 (F := Ideal) m c t.val t.isLt).2.1 y = dcwF (iblk m c 0 t) (iblk m c 1 t) (iblk m c 2 t) (iblk m c 3 t) (iblk m c 6 t) (outsAt0 (F := Ideal) m c (t.val - 1) (Nat.lt_of_le_of_lt (Nat.sub_le _ _) t.isLt)).2.2.2.2.1 (outsAt0 (F := Ideal) m c (t.val - 1) (Nat.lt_of_le_of_lt (Nat.sub_le _ _) t.isLt)).2.1 y := by
  rw [outsAt0_C m c t h0 h1]
  dsimp only
  frame_out
  try simp only [read_unread_whole]
  clear h0 h1
  generalize (outsAt0 (F := Ideal) m c (t.val - 1) (Nat.lt_of_le_of_lt (Nat.sub_le _ _) t.isLt)).2.2.2.2.1 = C
  generalize (outsAt0 (F := Ideal) m c (t.val - 1) (Nat.lt_of_le_of_lt (Nat.sub_le _ _) t.isLt)).2.1 = O
  refine canon_take (e := .f32) 18 (dcwF (iblk m c 0 t) (iblk m c 1 t) (iblk m c 2 t) (iblk m c 3 t) (iblk m c 6 t) C O) _ y ?pc ?cov
  case pc =>
    refine ⟨fun x => ?p0, fun x => ?p1, fun x => ?p2, fun x => ?p3, fun x => ?p4, fun x => ?p5, fun x => ?p6, fun x => ?p7, fun x => ?p8, fun x => ?p9, fun x => ?p10, fun x => ?p11, fun x => ?p12, fun x => ?p13, fun x => ?p14, fun x => ?p15, fun x => ?p16, fun x => ?p17, trivial⟩
    case' p0 =>
      idx_vars x
      refine Eq.trans ?_ (dcwF_two _ _ _ _ _ _ _ _ ⟨2560 + x1.val, by omega⟩ (by blk_simp) (by blk_simp)).symm
    case' p1 =>
      idx_vars x
      refine Eq.trans ?_ (dcwF_one _ _ _ _ _ _ _ _ ⟨2560 + x1.val, by omega⟩ (by blk_simp) (by blk_simp)).symm
    case' p2 =>
      idx_vars x
      refine Eq.trans ?_ (dcwF_zero _ _ _ _ _ _ _ _ ⟨2560 + x1.val, by omega⟩ (by blk_simp) (by blk_simp)).symm
    case' p3 =>
      idx_vars x
      refine Eq.trans ?_ (dcwF_two _ _ _ _ _ _ _ _ ⟨2048 + x1.val, by omega⟩ (by blk_simp) (by blk_simp)).symm
    case' p4 =>
      idx_vars x
      refine Eq.trans ?_ (dcwF_one _ _ _ _ _ _ _ _ ⟨2048 + x1.val, by omega⟩ (by blk_simp) (by blk_simp)).symm
    case' p5 =>
      idx_vars x
      refine Eq.trans ?_ (dcwF_zero _ _ _ _ _ _ _ _ ⟨2048 + x1.val, by omega⟩ (by blk_simp) (by blk_simp)).symm
    case' p6 =>
      idx_vars x
      refine Eq.trans ?_ (dcwF_two _ _ _ _ _ _ _ _ ⟨1536 + x1.val, by omega⟩ (by blk_simp) (by blk_simp)).symm
    case' p7 =>
      idx_vars x
      refine Eq.trans ?_ (dcwF_one _ _ _ _ _ _ _ _ ⟨1536 + x1.val, by omega⟩ (by blk_simp) (by blk_simp)).symm
    case' p8 =>
      idx_vars x
      refine Eq.trans ?_ (dcwF_zero _ _ _ _ _ _ _ _ ⟨1536 + x1.val, by omega⟩ (by blk_simp) (by blk_simp)).symm
    case' p9 =>
      idx_vars x
      refine Eq.trans ?_ (dcwF_two _ _ _ _ _ _ _ _ ⟨1024 + x1.val, by omega⟩ (by blk_simp) (by blk_simp)).symm
    case' p10 =>
      idx_vars x
      refine Eq.trans ?_ (dcwF_one _ _ _ _ _ _ _ _ ⟨1024 + x1.val, by omega⟩ (by blk_simp) (by blk_simp)).symm
    case' p11 =>
      idx_vars x
      refine Eq.trans ?_ (dcwF_zero _ _ _ _ _ _ _ _ ⟨1024 + x1.val, by omega⟩ (by blk_simp) (by blk_simp)).symm
    case' p12 =>
      idx_vars x
      refine Eq.trans ?_ (dcwF_two _ _ _ _ _ _ _ _ ⟨512 + x1.val, by omega⟩ (by blk_simp) (by blk_simp)).symm
    case' p13 =>
      idx_vars x
      refine Eq.trans ?_ (dcwF_one _ _ _ _ _ _ _ _ ⟨512 + x1.val, by omega⟩ (by blk_simp) (by blk_simp)).symm
    case' p14 =>
      idx_vars x
      refine Eq.trans ?_ (dcwF_zero _ _ _ _ _ _ _ _ ⟨512 + x1.val, by omega⟩ (by blk_simp) (by blk_simp)).symm
    case' p15 =>
      idx_vars x
      refine Eq.trans ?_ (dcwF_two _ _ _ _ _ _ _ _ ⟨0 + x1.val, by omega⟩ (by blk_simp) (by blk_simp)).symm
    case' p16 =>
      idx_vars x
      refine Eq.trans ?_ (dcwF_one _ _ _ _ _ _ _ _ ⟨0 + x1.val, by omega⟩ (by blk_simp) (by blk_simp)).symm
    case' p17 =>
      idx_vars x
      refine Eq.trans ?_ (dcwF_zero _ _ _ _ _ _ _ _ ⟨0 + x1.val, by omega⟩ (by blk_simp) (by blk_simp)).symm
    all_goals pointwise [k0_pay1, k0_pay2, k0_pay3, k0_pay4, k0_pay5, k0_pay6, k0_pay7, k0_pay8, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, dconvF, dactF, slopeF, cdfF, rowF, u1F, u2F]
  case cov =>
    exact View.cover_of_tiledBy _ ![1, 256] (by sl_kernel_rfl) y

theorem ptC_9 (c : Dev nD) (t : Fin cfg0.N) (h0 : ¬t.val % 16 = 0) (h1 : t.val % 16 = 15) (y : S1x2816.Idx) :
    (outsAt0 (F := Ideal) m c t.val t.isLt).2.2.1 y = dcbF (iblk m c 0 t) (iblk m c 2 t) (iblk m c 3 t) (iblk m c 6 t) (outsAt0 (F := Ideal) m c (t.val - 1) (Nat.lt_of_le_of_lt (Nat.sub_le _ _) t.isLt)).2.2.1 y := by
  rw [outsAt0_C m c t h0 h1]
  dsimp only
  frame_out
  try simp only [read_unread_whole]
  clear h0 h1
  generalize (outsAt0 (F := Ideal) m c (t.val - 1) (Nat.lt_of_le_of_lt (Nat.sub_le _ _) t.isLt)).2.2.2.2.1 = C
  generalize (outsAt0 (F := Ideal) m c (t.val - 1) (Nat.lt_of_le_of_lt (Nat.sub_le _ _) t.isLt)).2.2.1 = O
  refine canon_take (e := .f32) 6 (dcbF (iblk m c 0 t) (iblk m c 2 t) (iblk m c 3 t) (iblk m c 6 t) O) _ y ?pc ?cov
  case pc =>
    refine ⟨fun x => ?p0, fun x => ?p1, fun x => ?p2, fun x => ?p3, fun x => ?p4, fun x => ?p5, trivial⟩
    case' p0 =>
      idx_vars x
      simp only [dcbF]
      blk_simp
    case' p1 =>
      idx_vars x
      simp only [dcbF]
      blk_simp
    case' p2 =>
      idx_vars x
      simp only [dcbF]
      blk_simp
    case' p3 =>
      idx_vars x
      simp only [dcbF]
      blk_simp
    case' p4 =>
      idx_vars x
      simp only [dcbF]
      blk_simp
    case' p5 =>
      idx_vars x
      simp only [dcbF]
      blk_simp
    all_goals pointwise [k0_pay1, k0_pay2, k0_pay3, k0_pay4, k0_pay5, k0_pay6, k0_pay7, k0_pay8, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, dconvF, dactF, slopeF, cdfF, rowF, u1F, u2F]
  case cov =>
    exact View.cover_of_tiledBy _ ![1, 256] (by sl_kernel_rfl) y

theorem ptC_s0 (c : Dev nD) (t : Fin cfg0.N) (h0 : ¬t.val % 16 = 0) (h1 : t.val % 16 = 15) (y : S8x2816.Idx) :
    (outsAt0 (F := Ideal) m c t.val t.isLt).2.2.2.2.1 y = carF (iblk m c 0 t) (iblk m c 2 t) (iblk m c 3 t) (iblk m c 6 t) y := by
  rw [outsAt0_C m c t h0 h1]
  dsimp only
  frame_out
  try simp only [read_unread_whole]
  clear h0 h1
  generalize (outsAt0 (F := Ideal) m c (t.val - 1) (Nat.lt_of_le_of_lt (Nat.sub_le _ _) t.isLt)).2.2.2.2.1 = C
  refine canon_take (e := .f32) 6 (carF (iblk m c 0 t) (iblk m c 2 t) (iblk m c 3 t) (iblk m c 6 t)) _ y ?pc ?cov
  case pc =>
    refine ⟨fun x => ?p0, fun x => ?p1, fun x => ?p2, fun x => ?p3, fun x => ?p4, fun x => ?p5, trivial⟩
    case' p0 =>
      idx_vars x
      simp only [carF]
      blk_simp
    case' p1 =>
      idx_vars x
      simp only [carF]
      blk_simp
    case' p2 =>
      idx_vars x
      simp only [carF]
      blk_simp
    case' p3 =>
      idx_vars x
      simp only [carF]
      blk_simp
    case' p4 =>
      idx_vars x
      simp only [carF]
      blk_simp
    case' p5 =>
      idx_vars x
      simp only [carF]
      blk_simp
    all_goals pointwise [k0_pay1, k0_pay2, k0_pay3, k0_pay4, k0_pay5, k0_pay6, k0_pay7, k0_pay8, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, dconvF, dactF, slopeF, cdfF, rowF, u1F, u2F]
  case cov =>
    exact View.cover_of_tiledBy _ ![8, 256] (by sl_kernel_rfl) y

theorem ptC_s1 (c : Dev nD) (t : Fin cfg0.N) (h0 : ¬t.val % 16 = 0) (h1 : t.val % 16 = 15) (y : S2816x1024.Idx) :
    (outsAt0 (F := Ideal) m c t.val t.isLt).2.2.2.2.2 y = accF (iblk m c 0 t) (iblk m c 4 t) (outsAt0 (F := Ideal) m c (t.val - 1) (Nat.lt_of_le_of_lt (Nat.sub_le _ _) t.isLt)).2.2.2.2.2 y := by
  rw [outsAt0_C m c t h0 h1]
  dsimp only
  frame_out
  try simp only [read_unread_whole]
  clear h0 h1
  generalize (outsAt0 (F := Ideal) m c (t.val - 1) (Nat.lt_of_le_of_lt (Nat.sub_le _ _) t.isLt)).2.2.2.2.1 = C
  generalize (outsAt0 (F := Ideal) m c (t.val - 1) (Nat.lt_of_le_of_lt (Nat.sub_le _ _) t.isLt)).2.2.2.2.2 = O
  refine canon_take (e := .f32) 6 (accF (iblk m c 0 t) (iblk m c 4 t) O) _ y ?pc ?cov
  case pc =>
    refine ⟨fun x => ?p0, fun x => ?p1, fun x => ?p2, fun x => ?p3, fun x => ?p4, fun x => ?p5, trivial⟩
    case' p0 =>
      idx_vars x
      simp only [accF]
      blk_simp
    case' p1 =>
      idx_vars x
      simp only [accF]
      blk_simp
    case' p2 =>
      idx_vars x
      simp only [accF]
      blk_simp
    case' p3 =>
      idx_vars x
      simp only [accF]
      blk_simp
    case' p4 =>
      idx_vars x
      simp only [accF]
      blk_simp
    case' p5 =>
      idx_vars x
      simp only [accF]
      blk_simp
    all_goals pointwise [k0_pay1, k0_pay2, k0_pay3, k0_pay4, k0_pay5, k0_pay6, k0_pay7, k0_pay8, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, dconvF, dactF, slopeF, cdfF, rowF, u1F, u2F]
  case cov =>
    exact View.cover_of_tiledBy _ ![256, 1024] (by sl_kernel_rfl) y

theorem ptC_10 (c : Dev nD) (t : Fin cfg0.N) (h0 : ¬t.val % 16 = 0) (h1 : t.val % 16 = 15) (y : S2816x1024.Idx) :
    (outsAt0 (F := Ideal) m c t.val t.isLt).2.2.2.1 y = accF (iblk m c 0 t) (iblk m c 4 t) (outsAt0 (F := Ideal) m c (t.val - 1) (Nat.lt_of_le_of_lt (Nat.sub_le _ _) t.isLt)).2.2.2.2.2 y := by
  rw [outsAt0_C m c t h0 h1]
  dsimp only
  frame_open
  simp (disch := decide) only [↓View.readCov_skip, ↓View.readCov_fill, ↓View.readCov_cons_toLoadRect]
  frame_out
  try simp only [read_unread_whole]
  clear h0 h1
  generalize (outsAt0 (F := Ideal) m c (t.val - 1) (Nat.lt_of_le_of_lt (Nat.sub_le _ _) t.isLt)).2.2.2.2.1 = C
  generalize (outsAt0 (F := Ideal) m c (t.val - 1) (Nat.lt_of_le_of_lt (Nat.sub_le _ _) t.isLt)).2.2.2.2.2 = O
  refine canon_take (e := .bf16) 6 (accF (iblk m c 0 t) (iblk m c 4 t) O) _ y ?pc ?cov
  case pc =>
    refine ⟨fun x => ?p0, fun x => ?p1, fun x => ?p2, fun x => ?p3, fun x => ?p4, fun x => ?p5, trivial⟩
    case' p0 =>
      idx_vars x
      simp only [accF]
      blk_simp
    case' p1 =>
      idx_vars x
      simp only [accF]
      blk_simp
    case' p2 =>
      idx_vars x
      simp only [accF]
      blk_simp
    case' p3 =>
      idx_vars x
      simp only [accF]
      blk_simp
    case' p4 =>
      idx_vars x
      simp only [accF]
      blk_simp
    case' p5 =>
      idx_vars x
      simp only [accF]
      blk_simp
    all_goals pointwise [k0_pay1, k0_pay2, k0_pay3, k0_pay4, k0_pay5, k0_pay6, k0_pay7, k0_pay8, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, dconvF, dactF, slopeF, cdfF, rowF, u1F, u2F]
  case cov =>
    exact View.cover_of_tiledBy _ ![256, 1024] (by sl_kernel_rfl) y

end Cert.KernelIdeal.Mlp
end
-- ==== Proof.MlpFold.lean ====
module

public import proofs.«01_k».proof.Proof.MlpA
public import proofs.«01_k».proof.Proof.MlpB
public import proofs.«01_k».proof.Proof.MlpC

@[expose] public section
set_option maxRecDepth 16384
noncomputable section
open Idealize.ShloMosaic Idealize.ShloMosaic.TcCoe Idealize.SL.Sem
open Idealize.ShloMosaic.Pipeline (Dat)
namespace Cert.KernelIdeal.Mlp
open Cert.KernelIdeal Cert.KernelIdeal.Gen

/-! The gradients over whole arrays: `dh` the output's gradient, `g`, `v`, `x`, `a` gate, value, convolution and activation, `w` the taps, `p` the
down projection. -/
section
variable (dh : FVec Ideal S4096x1024 .f32) (g v x a : FVec Ideal S4096x2816 .bf16) (w : FVec Ideal S3x2816 .f32) (p : FVec Ideal S2816x1024 .bf16)

/-- the gradient of the activation at row `n` -/
def dactG (n : Fin 4096) (j : Fin 2816) : EReal := ∑ d : Fin 1024, dh (ix2 n d) * p (ix2 j d)

/-- the gradient of the convolution's result at row `n`, zero past the last row -/
def dcG (j : Fin 2816) (n : ℕ) : EReal :=
  if h : n < 4096 then dactG dh p ⟨n, h⟩ j * v (ix2 ⟨n, h⟩ j) * slopeF (x (ix2 ⟨n, h⟩ j)) else 0

/-- the gradient of the gate -/
def gateG (n : Fin 4096) (j : Fin 2816) : EReal :=
  w (ix2 ⟨2, by decide⟩ j) * dcG dh v x p j n.val + w (ix2 ⟨1, by decide⟩ j) * dcG dh v x p j (n.val + 1)
    + w (ix2 ⟨0, by decide⟩ j) * dcG dh v x p j (n.val + 2)

/-- the gradient of the value -/
def valG (n : Fin 4096) (j : Fin 2816) : EReal := dactG dh p n j * (x (ix2 n j) * cdfF (x (ix2 n j)))

/-- the gradients of gate and value side by side -/
def gvG (y : S4096x5632.Idx) : EReal :=
  if h : (y 1).val < 2816 then gateG dh v x w p ⟨(y 0).val, (y 0).isLt⟩ ⟨(y 1).val, h⟩
  else valG dh x p ⟨(y 0).val, (y 0).isLt⟩ ⟨(y 1).val - 2816, Nat.sub_lt_left_of_lt_add (not_lt.mp h) (y 1).isLt⟩

theorem gvG_gate (y : S4096x5632.Idx) (n : Fin 4096) (j : Fin 2816) (h0 : (y 0).val = n.val) (h1 : (y 1).val = j.val) :
    gvG dh v x w p y = gateG dh v x w p n j := by
  have h2 : (y 1).val < 2816 := h1 ▸ j.isLt
  unfold gvG
  rw [dif_pos h2]
  congr 1 <;> exact Fin.ext (by assumption)

theorem gvG_val (y : S4096x5632.Idx) (n : Fin 4096) (j : Fin 2816) (h0 : (y 0).val = n.val) (h1 : (y 1).val = 2816 + j.val) :
    gvG dh v x w p y = valG dh x p n j := by
  have h2 : ¬(y 1).val < 2816 := by omega
  unfold gvG
  rw [dif_neg h2]
  congr 1
  · exact Fin.ext h0
  · exact Fin.ext (by show (y 1).val - 2816 = _; omega)

/-- the gradient of the taps -/
def cwG (y : S3x2816.Idx) : EReal :=
  ∑ n : Fin 4096, dcG dh v x p ⟨(y 1).val, (y 1).isLt⟩ (n.val + (2 - (y 0).val)) * g (ix2 n ⟨(y 1).val, (y 1).isLt⟩)

/-- the gradient of the bias -/
def cbG (y : S1x2816.Idx) : EReal := ∑ n : Fin 4096, dcG dh v x p ⟨(y 1).val, (y 1).isLt⟩ n.val

/-- the gradient of the down projection -/
def wdG (y : S2816x1024.Idx) : EReal :=
  ∑ n : Fin 4096, a (ix2 n ⟨(y 0).val, (y 0).isLt⟩) * dh (ix2 n ⟨(y 1).val, (y 1).isLt⟩)
end

/-- one row of the carried rows -/
theorem rowF_eq (C : FVec Ideal S8x2816 .f32) (k : Fin 8) (j : Fin 2816) : rowF C (BitVec.ofNat 32 k.val) j = C (ix2 k j) := by
  unfold rowF
  refine (Finset.sum_eq_single k ?_ (fun h => absurd (Finset.mem_univ _) h)).trans ?_
  · intro b _ hb
    refine Scalar.select_of_ne_one (fun h => hb ?_) _ _
    revert h; revert b k; decide
  · exact Scalar.select_of_eq_one (by revert k; decide) _ _

variable (m : (ℓ : Loc nD τ sig) → Buf (Elt Ideal) ℓ)

/-- the row of the whole array that row `r` of point `t`'s block is -/
def rowOf (t : Fin cfg0.N) (r : Fin 256) : Fin 4096 :=
  ⟨(15 - t.val) * 256 + r.val, by have := r.isLt; have := lt_of_lt_of_eq t.isLt (show cfg0.N = 16 from N_0); omega⟩

theorem idx_val : ∀ t : Fin cfg0.N, win0_0.index t = ![15 - t.val, 0] ∧ win0_1.index t = ![15 - t.val, 0] ∧ win0_2.index t = ![15 - t.val, 0]
    ∧ win0_3.index t = ![15 - t.val, 0] ∧ win0_4.index t = ![15 - t.val, 0] ∧ win0_5.index t = ![0, 0] ∧ win0_6.index t = ![0, 0]
    ∧ win0_7.index t = ![15 - t.val, 0] ∧ win0_8.index t = ![0, 0] ∧ win0_9.index t = ![0, 0] ∧ win0_10.index t = ![0, 0] :=
  (by decide +kernel : ∀ t : Fin grid0.N, _)

theorem iblk0 (c : Dev nD) (t : Fin cfg0.N) (r : Fin 256) (d : Fin 1024) :
    iblk m c 0 t (ix2 r d) = V m c main_arg4 (ix2 (rowOf t r) d) := by
  have := idx_val t
  unfold iblk rowOf
  blk_ext [idx_val t]
theorem iblk1 (c : Dev nD) (t : Fin cfg0.N) (r : Fin 256) (j : Fin 2816) :
    iblk m c 1 t (ix2 r j) = V m c main_v34 (ix2 (rowOf t r) j) := by
  unfold iblk rowOf
  blk_ext [idx_val t]
theorem iblk2 (c : Dev nD) (t : Fin cfg0.N) (r : Fin 256) (j : Fin 2816) :
    iblk m c 2 t (ix2 r j) = V m c main_v35 (ix2 (rowOf t r) j) := by
  unfold iblk rowOf
  blk_ext [idx_val t]
theorem iblk3 (c : Dev nD) (t : Fin cfg0.N) (r : Fin 256) (j : Fin 2816) :
    iblk m c 3 t (ix2 r j) = V m c main_v36 (ix2 (rowOf t r) j) := by
  unfold iblk rowOf
  blk_ext [idx_val t]
theorem iblk4 (c : Dev nD) (t : Fin cfg0.N) (r : Fin 256) (j : Fin 2816) :
    iblk m c 4 t (ix2 r j) = V m c main_v37 (ix2 (rowOf t r) j) := by
  unfold iblk rowOf
  blk_ext [idx_val t]
theorem iblk5 (c : Dev nD) (t : Fin cfg0.N) (r : Fin 3) (j : Fin 2816) :
    iblk m c 5 t (ix2 r j) = V m c main_arg1 (ix2 r j) := by
  unfold iblk
  blk_ext [idx_val t]
theorem iblk6 (c : Dev nD) (t : Fin cfg0.N) (r : Fin 2816) (j : Fin 1024) :
    iblk m c 6 t (ix2 r j) = V m c main_v38 (ix2 r j) := by
  unfold iblk
  blk_ext [idx_val t]

theorem N16 (t : Fin cfg0.N) : t.val < 16 := lt_of_lt_of_eq t.isLt (show cfg0.N = 16 from N_0)

/-- the gradient of the convolution's result over the whole arrays -/
abbrev dcV (c : Dev nD) (j : Fin 2816) (n : ℕ) : EReal :=
  dcG (V m c main_arg4) (V m c main_v35) (V m c main_v36) (V m c main_v38) j n

theorem dactF_eq (c : Dev nD) (t : Fin cfg0.N) (r : Fin 256) (j : Fin 2816) :
    dactF (iblk m c 0 t) (iblk m c 6 t) r j = dactG (V m c main_arg4) (V m c main_v38) (rowOf t r) j :=
  Finset.sum_congr rfl fun d _ => congrArg₂ (fun a b : EReal => a * b) (iblk0 m c t r d) (iblk6 m c t j d)

theorem dconvF_eq (c : Dev nD) (t : Fin cfg0.N) (r : Fin 256) (j : Fin 2816) :
    dconvF (iblk m c 0 t) (iblk m c 2 t) (iblk m c 3 t) (iblk m c 6 t) r j = dcV m c j ((15 - t.val) * 256 + r.val) := by
  have h : (15 - t.val) * 256 + r.val < 4096 := (rowOf t r).isLt
  unfold dconvF dcV dcG
  rw [dif_pos h, dactF_eq, iblk2, iblk3]
  rfl

/-- The rows carried into point `t` are the first two rows after its block. -/
def Carried (c : Dev nD) (t : Fin cfg0.N) (C : FVec Ideal S8x2816 .f32) : Prop :=
  ∀ (k : Fin 8) (j : Fin 2816), C (ix2 k j) = dcV m c j ((15 - t.val) * 256 + 256 + k.val)

theorem carried_first (c : Dev nD) (t : Fin cfg0.N) (h0 : t.val % 16 = 0) : Carried m c t (k0_pay9 (F := Ideal)) := fun k j => by
  have e : t.val = 0 := by have := N16 t; omega
  unfold dcV dcG
  rw [dif_neg (by omega)]
  pointwise [k0_pay9]

theorem carF_eq (c : Dev nD) (t : Fin cfg0.N) (k : Fin 8) (j : Fin 2816) :
    carF (iblk m c 0 t) (iblk m c 2 t) (iblk m c 3 t) (iblk m c 6 t) (ix2 k j) = dcV m c j ((15 - t.val) * 256 + k.val) :=
  dconvF_eq m c t ⟨k.val, lt_trans k.isLt (by decide)⟩ j

theorem carry_after (c : Dev nD) (t : Fin cfg0.N) (k : Fin 8) (j : Fin 2816) :
    (outsAt0 (F := Ideal) m c t.val t.isLt).2.2.2.2.1 (ix2 k j) = dcV m c j ((15 - t.val) * 256 + k.val) := by
  rw [← carF_eq m c t k j]
  by_cases h0 : t.val % 16 = 0
  · exact ptA_s0 m c t h0 (by omega) _
  · by_cases h1 : t.val % 16 = 15
    · exact ptC_s0 m c t h0 h1 _
    · exact ptB_s0 m c t h0 h1 _

theorem carried_next (c : Dev nD) (t : Fin cfg0.N) (h0 : ¬t.val % 16 = 0) :
    Carried m c t (outsAt0 (F := Ideal) m c (t.val - 1) (Nat.lt_of_le_of_lt (Nat.sub_le _ _) t.isLt)).2.2.2.2.1 := fun k j => by
  have e := carry_after m c ⟨t.val - 1, Nat.lt_of_le_of_lt (Nat.sub_le _ _) t.isLt⟩ k j
  refine e.trans (congrArg _ ?_)
  have := N16 t
  dsimp only
  omega

section
variable (c : Dev nD) (t : Fin cfg0.N) (C : FVec Ideal S8x2816 .f32) (hC : Carried m c t C)
include hC

theorem u1F_eq (r : Fin 256) (j : Fin 2816) :
    u1F (iblk m c 0 t) (iblk m c 2 t) (iblk m c 3 t) (iblk m c 6 t) C r j = dcV m c j ((15 - t.val) * 256 + r.val + 1) := by
  unfold u1F
  by_cases h : r.val = 255
  · rw [Scalar.select_of_eq_one (by rw [h]; decide)]
    refine (rowF_eq C ⟨0, by decide⟩ j).trans ((hC _ j).trans (congrArg _ ?_))
    dsimp only
    omega
  · rw [Scalar.select_of_ne_one (by revert h; revert r; decide), dconvF_eq]
    refine congrArg _ ?_
    have := r.isLt
    dsimp only
    omega

theorem u2F_eq (r : Fin 256) (j : Fin 2816) :
    u2F (iblk m c 0 t) (iblk m c 2 t) (iblk m c 3 t) (iblk m c 6 t) C r j = dcV m c j ((15 - t.val) * 256 + r.val + 2) := by
  unfold u2F
  by_cases h : r.val = 255
  · rw [Scalar.select_of_eq_one (by rw [h]; decide)]
    refine (rowF_eq C ⟨1, by decide⟩ j).trans ((hC _ j).trans (congrArg _ ?_))
    dsimp only
    omega
  · rw [Scalar.select_of_ne_one (by revert h; revert r; decide)]
    by_cases h' : r.val = 254
    · rw [Scalar.select_of_eq_one (by rw [h']; decide)]
      refine (rowF_eq C ⟨0, by decide⟩ j).trans ((hC _ j).trans (congrArg _ ?_))
      dsimp only
      omega
    · rw [Scalar.select_of_ne_one (by revert h'; clear h; revert r; decide), dconvF_eq]
      refine congrArg _ ?_
      have := r.isLt
      dsimp only
      omega

theorem dgateF_eq (r : Fin 256) (j : Fin 2816) :
    dgateF (iblk m c 0 t) (iblk m c 2 t) (iblk m c 3 t) (iblk m c 5 t) (iblk m c 6 t) C r j
      = gateG (V m c main_arg4) (V m c main_v35) (V m c main_v36) (V m c main_arg1) (V m c main_v38) (rowOf t r) j := by
  unfold dgateF gateG
  rw [u1F_eq m c t C hC, u2F_eq m c t C hC, dconvF_eq, iblk5, iblk5, iblk5]
  rfl

theorem dcwI_eq (k : ℕ) (hk : k < 3) (j : Fin 2816) :
    dcwI (iblk m c 0 t) (iblk m c 1 t) (iblk m c 2 t) (iblk m c 3 t) (iblk m c 6 t) C k j
      = ∑ r : Fin 256, dcV m c j ((rowOf t r).val + (2 - k)) * V m c main_v34 (ix2 (rowOf t r) j) := by
  unfold dcwI
  obtain rfl | rfl | rfl : k = 0 ∨ k = 1 ∨ k = 2 := by omega
  · rw [if_neg (by decide), if_neg (by decide)]
    refine Finset.sum_congr rfl fun r _ => ?_
    rw [u2F_eq m c t C hC, iblk1]
    rfl
  · rw [if_neg (by decide), if_pos rfl]
    refine Finset.sum_congr rfl fun r _ => ?_
    rw [u1F_eq m c t C hC, iblk1]
    rfl
  · rw [if_pos rfl]
    refine Finset.sum_congr rfl fun r _ => ?_
    rw [dconvF_eq, iblk1]
    rfl
end

/-- Sixteen blocks of 256 rows taken from the last to the first are the 4096 rows. -/
theorem sum_rows (f : Fin 4096 → EReal) : ∑ t : Fin cfg0.N, ∑ r : Fin 256, f (rowOf t r) = ∑ n : Fin 4096, f n := by
  have hb : ∀ (s : Fin 16) (r : Fin 256), (15 - s.val) * 256 + r.val < 4096 := fun s r => by omega
  have hb' : ∀ (s : Fin 16) (r : Fin 256), s.val * 256 + r.val < 4096 := fun s r => by omega
  refine (Fintype.sum_equiv (finCongr (show cfg0.N = 16 from N_0)) _ (fun s : Fin 16 => ∑ r : Fin 256, f ⟨(15 - s.val) * 256 + r.val, hb s r⟩)
    (fun t => rfl)).trans ?_
  refine (Fintype.sum_equiv Fin.revPerm _ (fun s : Fin 16 => ∑ r : Fin 256, f ⟨s.val * 256 + r.val, hb' s r⟩) (fun s => ?_)).trans ?_
  · refine Finset.sum_congr rfl fun r _ => congrArg f (Fin.ext ?_)
    show (15 - s.val) * 256 + r.val = (16 - (s.val + 1)) * 256 + r.val
    omega
  · exact Fin.sum_mul_add_fin 16 256 f

/-- the gradients of gate and value at a row of a block -/
theorem out7 (c : Dev nD) (t : Fin cfg0.N) (y : S256x5632.Idx) :
    (outsAt0 (F := Ideal) m c t.val t.isLt).1 y
      = gvG (V m c main_arg4) (V m c main_v35) (V m c main_v36) (V m c main_arg1) (V m c main_v38)
          (ix2 (rowOf t ⟨(y 0).val, (y 0).isLt⟩) ⟨(y 1).val, (y 1).isLt⟩) := by
  have H : ∀ C, Carried m c t C → dgvF (iblk m c 0 t) (iblk m c 2 t) (iblk m c 3 t) (iblk m c 5 t) (iblk m c 6 t) C y
      = gvG (V m c main_arg4) (V m c main_v35) (V m c main_v36) (V m c main_arg1) (V m c main_v38)
          (ix2 (rowOf t ⟨(y 0).val, (y 0).isLt⟩) ⟨(y 1).val, (y 1).isLt⟩) := fun C hC => by
    by_cases h : (y 1).val < 2816
    · refine (dgvF_gate _ _ _ _ _ _ y ⟨(y 0).val, (y 0).isLt⟩ ⟨(y 1).val, h⟩ rfl rfl).trans ?_
      refine Eq.trans ?_ (gvG_gate _ _ _ _ _ _ (rowOf t ⟨(y 0).val, (y 0).isLt⟩) ⟨(y 1).val, h⟩ rfl rfl).symm
      exact dgateF_eq m c t C hC _ _
    · have h1 : (y 1).val < 5632 := (y 1).isLt
      have h2 : (y 1).val = 2816 + ((y 1).val - 2816) := by omega
      refine (dgvF_val _ _ _ _ _ _ y ⟨(y 0).val, (y 0).isLt⟩ ⟨(y 1).val - 2816, by omega⟩ rfl h2).trans ?_
      refine Eq.trans ?_ (gvG_val _ _ _ _ _ _ (rowOf t ⟨(y 0).val, (y 0).isLt⟩) ⟨(y 1).val - 2816, by omega⟩ rfl h2).symm
      unfold dvalF valG
      rw [dactF_eq, iblk3]
  by_cases h0 : t.val % 16 = 0
  · exact (ptA_7 m c t h0 (by omega) y).trans (H _ (carried_first m c t h0))
  · by_cases h1 : t.val % 16 = 15
    · exact (ptC_7 m c t h0 h1 y).trans (H _ (carried_next m c t h0))
    · exact (ptB_7 m c t h0 h1 y).trans (H _ (carried_next m c t h0))

/-- the gradient of the taps after the last point -/
theorem out8 (c : Dev nD) (y : S3x2816.Idx) :
    (outsAt0 (F := Ideal) m c t0_15.val t0_15.isLt).2.1 y
      = cwG (V m c main_arg4) (V m c main_v34) (V m c main_v35) (V m c main_v36) (V m c main_v38) y := by
  rw [Pipeline.eq_sum_fin_of_reset_step_apply_last (fun n h => (outsAt0 (F := Ideal) m c n h).2.1) 16 (fun _ => (0 : EReal))
    (fun t y => ∑ r : Fin 256, dcV m c ⟨(y 1).val, (y 1).isLt⟩ ((rowOf t r).val + (2 - (y 0).val)) * V m c main_v34 (ix2 (rowOf t r) ⟨(y 1).val, (y 1).isLt⟩))
    ?hA ?hB (le_of_eq N_0) t0_15 rfl y]
  case hA =>
    intro t h0 y
    refine (ptA_8 m c t h0 (by omega) y).trans ?_
    unfold dcwF
    rw [dcwI_eq m c t _ (carried_first m c t h0) _ (y 0).isLt]
    refine congrArg (fun z : EReal => z + _) ?_
    pointwise [k0_pay10]
  case hB =>
    intro t h0 y
    have e : ∀ O : FVec Ideal S3x2816 .f32, dcwF (iblk m c 0 t) (iblk m c 1 t) (iblk m c 2 t) (iblk m c 3 t) (iblk m c 6 t)
      (outsAt0 (F := Ideal) m c (t.val - 1) (Nat.lt_of_le_of_lt (Nat.sub_le _ _) t.isLt)).2.2.2.2.1 O y = O y + _ := fun O => by
      unfold dcwF
      rw [dcwI_eq m c t _ (carried_next m c t h0) _ (y 0).isLt]
      exact congrArg (fun z : EReal => z + _) (congrArg O (funext fun k => by fin_cases k <;> rfl))
    by_cases h1 : t.val % 16 = 15
    · exact (ptC_8 m c t h0 h1 y).trans (e _)
    · exact (ptB_8 m c t h0 h1 y).trans (e _)
  rw [zero_add]
  exact sum_rows (fun n => dcV m c ⟨(y 1).val, (y 1).isLt⟩ (n.val + (2 - (y 0).val)) * V m c main_v34 (ix2 n ⟨(y 1).val, (y 1).isLt⟩))

/-- the gradient of the bias after the last point -/
theorem out9 (c : Dev nD) (y : S1x2816.Idx) :
    (outsAt0 (F := Ideal) m c t0_15.val t0_15.isLt).2.2.1 y = cbG (V m c main_arg4) (V m c main_v35) (V m c main_v36) (V m c main_v38) y := by
  rw [Pipeline.eq_sum_fin_of_reset_step_apply_last (fun n h => (outsAt0 (F := Ideal) m c n h).2.2.1) 16 (fun _ => (0 : EReal))
    (fun t y => ∑ r : Fin 256, dcV m c ⟨(y 1).val, (y 1).isLt⟩ (rowOf t r).val)
    ?hA ?hB (le_of_eq N_0) t0_15 rfl y]
  case hA =>
    intro t h0 y
    refine (ptA_9 m c t h0 (by omega) y).trans ?_
    unfold dcbF
    refine congrArg₂ (fun a b : EReal => a + b) ?_ (Finset.sum_congr rfl fun r _ => dconvF_eq m c t r _)
    pointwise [k0_pay11]
  case hB =>
    intro t h0 y
    have e : ∀ O : FVec Ideal S1x2816 .f32, dcbF (iblk m c 0 t) (iblk m c 2 t) (iblk m c 3 t) (iblk m c 6 t) O y = O y + _ := fun O => by
      unfold dcbF
      exact congrArg₂ (fun a b : EReal => a + b) (congrArg O (funext fun k => by fin_cases k <;> exact Fin.ext (by first | rfl | (have := (y 0).isLt; exact (Nat.lt_one_iff.mp this).symm)))) (Finset.sum_congr rfl fun r _ => dconvF_eq m c t r _)
    by_cases h1 : t.val % 16 = 15
    · exact (ptC_9 m c t h0 h1 y).trans (e _)
    · exact (ptB_9 m c t h0 h1 y).trans (e _)
  rw [zero_add]
  exact sum_rows (fun n => dcV m c ⟨(y 1).val, (y 1).isLt⟩ n.val)

/-- the activation as the call reads it -/
abbrev actV (c : Dev nD) : FVec Ideal S4096x2816 .bf16 := V m c main_v37
/-- the output's gradient as the call reads it -/
abbrev doutV (c : Dev nD) : FVec Ideal S4096x1024 .f32 := V m c main_arg4

theorem accF_eq (c : Dev nD) (t : Fin cfg0.N) (O : FVec Ideal S2816x1024 .f32) (y : S2816x1024.Idx) :
    accF (iblk m c 0 t) (iblk m c 4 t) O y = O y + ∑ r : Fin 256, actV m c (ix2 (rowOf t r) ⟨(y 0).val, (y 0).isLt⟩)
      * doutV m c (ix2 (rowOf t r) ⟨(y 1).val, (y 1).isLt⟩) := by
  unfold accF
  exact congrArg₂ (fun a b : EReal => a + b) (congrArg O (funext fun k => by fin_cases k <;> rfl))
    (Finset.sum_congr rfl fun r _ => congrArg₂ (fun a b : EReal => a * b) (iblk4 m c t r _) (iblk0 m c t r _))

/-- the accumulated gradient of the down projection after the last point -/
theorem outs1 (c : Dev nD) (y : S2816x1024.Idx) :
    (outsAt0 (F := Ideal) m c t0_15.val t0_15.isLt).2.2.2.2.2 y = wdG (V m c main_arg4) (V m c main_v37) y := by
  rw [Pipeline.eq_sum_fin_of_reset_step_apply_last (fun n h => (outsAt0 (F := Ideal) m c n h).2.2.2.2.2) 16 (fun _ => (0 : EReal))
    (fun t y => ∑ r : Fin 256, actV m c (ix2 (rowOf t r) ⟨(y 0).val, (y 0).isLt⟩) * doutV m c (ix2 (rowOf t r) ⟨(y 1).val, (y 1).isLt⟩))
    ?hA ?hB (le_of_eq N_0) t0_15 rfl y]
  case hA =>
    intro t h0 y
    refine ((ptA_s1 m c t h0 (by omega) y).trans (accF_eq m c t _ y)).trans ?_
    refine congrArg (fun z : EReal => z + _) ?_
    pointwise [k0_pay12]
  case hB =>
    intro t h0 y
    by_cases h1 : t.val % 16 = 15
    · exact (ptC_s1 m c t h0 h1 y).trans (accF_eq m c t _ y)
    · exact (ptB_s1 m c t h0 h1 y).trans (accF_eq m c t _ y)
  rw [zero_add]
  exact sum_rows (fun n => actV m c (ix2 n ⟨(y 0).val, (y 0).isLt⟩) * doutV m c (ix2 n ⟨(y 1).val, (y 1).isLt⟩))

/-- the gradient of the down projection after the last point -/
theorem out10 (c : Dev nD) (y : S2816x1024.Idx) :
    (outsAt0 (F := Ideal) m c t0_15.val t0_15.isLt).2.2.2.1 y = wdG (V m c main_arg4) (V m c main_v37) y := by
  have h0 : ¬t0_15.val % 16 = 0 := by decide
  have h1 : t0_15.val % 16 = 15 := by decide
  exact ((ptC_10 m c t0_15 h0 h1 y).trans (ptC_s1 m c t0_15 h0 h1 y).symm).trans (outs1 m c y)

theorem final7 (c : Dev nD) : (dats m 0 c).arrAt 7 cfg0.N
    = gvG (V m c main_arg4) (V m c main_v35) (V m c main_v36) (V m c main_arg1) (V m c main_v38) := by
  refine (dats m 0 c).arrAt_eq_of_covers 7 _ (by decide +kernel) fun t hf y => ?_
  blk_simp
  rw [after0_7, out7]
  refine congrArg _ ?_
  unfold rowOf
  blk_ext [idx_val t]

theorem final8 (c : Dev nD) : (dats m 0 c).arrAt 8 cfg0.N
    = cwG (V m c main_arg4) (V m c main_v34) (V m c main_v35) (V m c main_v36) (V m c main_v38) := by
  refine (dats m 0 c).arrAt_eq_of_after_last 8 t0_15 (by decide +kernel) _ fun j => ?_
  blk_simp
  rw [after0_8, out8]

theorem final9 (c : Dev nD) : (dats m 0 c).arrAt 9 cfg0.N
    = cbG (V m c main_arg4) (V m c main_v35) (V m c main_v36) (V m c main_v38) := by
  refine (dats m 0 c).arrAt_eq_of_after_last 9 t0_15 (by decide +kernel) _ fun j => ?_
  blk_simp
  rw [after0_9, out9]

theorem final10 (c : Dev nD) : (dats m 0 c).arrAt 10 cfg0.N = wdG (V m c main_arg4) (V m c main_v37) := by
  refine (dats m 0 c).arrAt_eq_of_after_last 10 t0_15 (by decide +kernel) _ fun j => ?_
  blk_simp
  rw [after0_10, out10]

end Cert.KernelIdeal.Mlp
end
-- ==== Proof.MlpRef.lean ====
module

public import proofs.«01_k».proof.Proof.Gen.ReferenceIdeal.Read
public import proofs.«01_k».proof.Proof.MlpFold
public import proofs.«01_k».proof.Proof.Gelu

@[expose] public section
set_option maxRecDepth 16384
noncomputable section
open Idealize.ShloMosaic Idealize.ShloMosaic.TcCoe Idealize.SL.Sem Idealize.ShloMosaic.StableHlo
namespace Cert.MlpRef
open Cert.ReferenceIdeal Cert.ReferenceIdeal.Read Cert.KernelIdeal.Mlp

/-! The reference's four results are the gradients over whole arrays. -/

/-- Shifting the first factor of a product by one row, its last row being zero. -/
theorem shift_one (N : ℕ) (f g : ℕ → EReal) (hf : f (N + 1) = 0) :
    ∑ x : Fin (N + 1), f x.val * (if 1 + x.val < 2 then 0 else g (1 + x.val - 2)) = ∑ n : Fin (N + 1), f (n.val + 1) * g n.val := by
  rw [Fin.sum_univ_succ, Fin.sum_univ_castSucc (f := fun n : Fin (N + 1) => f (n.val + 1) * g n.val)]
  rw [if_pos (by show 1 + 0 < 2; decide), mul_zero, zero_add]
  have : f ((Fin.last N).val + 1) = 0 := hf
  rw [this, zero_mul, add_zero]
  refine Finset.sum_congr rfl fun x _ => ?_
  rw [if_neg (by show ¬ 1 + (x.val + 1) < 2; omega)]
  exact congrArg₂ (fun a b : EReal => a * b) rfl (congrArg g (by show 1 + (x.val + 1) - 2 = x.val; omega))

/-- Shifting the first factor of a product by two rows, its last two rows being zero. -/
theorem shift_two (N : ℕ) (f g : ℕ → EReal) (h1 : f (N + 2) = 0) (h2 : f (N + 3) = 0) :
    ∑ x : Fin N, f (2 + x.val) * g x.val = ∑ n : Fin (N + 2), f (n.val + 2) * g n.val := by
  rw [Fin.sum_univ_castSucc (n := N + 1), Fin.sum_univ_castSucc (n := N)]
  have e1 : f ((Fin.last (N + 1)).val + 2) = 0 := h2
  have e2 : f ((Fin.castSucc (Fin.last N)).val + 2) = 0 := h1
  rw [e1, e2, zero_mul, zero_mul, add_zero, add_zero]
  refine Finset.sum_congr rfl fun x _ => ?_
  exact congrArg₂ (fun a b : EReal => a * b) (congrArg f (by show 2 + x.val = x.val + 2; omega)) rfl

variable (x0 : (⟨S4096x5632, .f32⟩ : BufTy).Contents (Elt Ideal)) (x1 : (⟨S3x2816, .f32⟩ : BufTy).Contents (Elt Ideal))
  (x2 : (⟨S1x2816, .f32⟩ : BufTy).Contents (Elt Ideal)) (x3 : (⟨S2816x1024, .f32⟩ : BufTy).Contents (Elt Ideal))
  (x4 : (⟨S4096x1024, .f32⟩ : BufTy).Contents (Elt Ideal))

/-- the gate -/
abbrev gA : FVec Ideal S4096x2816 .bf16 := val_main_v0 (F := Ideal) x0
/-- the value -/
abbrev vA : FVec Ideal S4096x2816 .bf16 := val_main_v1 (F := Ideal) x0
/-- the convolution -/
abbrev xA : FVec Ideal S4096x2816 .bf16 := val_main_v26 (F := Ideal) x0 x1 x2
/-- the activation -/
abbrev aA : FVec Ideal S4096x2816 .bf16 := val_main_v37 (F := Ideal) x0 x1 x2

theorem named_slope : Named.named (F := Ideal) KernelIdeal.κ "gelu_slope" (φ := .f32) 0x3ECC422A#32
    = ((112292272998273 / 281474976710656 : ℝ) : EReal) :=
  IdealRules.named_const.ideal_named_scalar _ _ _ _ rfl

/-- The product of the activation's gradient and the value is real at every place. -/
def RealProd : Prop := ∀ (n : Fin 4096) (j : Fin 2816), ∃ a : ℝ, (∑ d : Fin 1024, x4 (ix2 n d) * x3 (ix2 j d)) * vA x0 (ix2 n j) = (a : EReal)

variable (hR : RealProd x0 x3 x4)

section
include hR
theorem dc_apply (n : Fin 4096) (j : Fin 2816) :
    val_main_v54 (F := Ideal) x0 x1 x2 x3 x4 (ix2 n j) = dcG x4 (vA x0) (xA x0 x1 x2) x3 j n.val := by
  obtain ⟨a, ha⟩ := hR n j
  unfold dcG dactG slopeF cdfF
  rw [dif_pos n.isLt, named_slope]
  unfold val_main_v54 val_main_v51 val_main_v50 val_main_v48 val_main_v47 val_main_v44 val_main_v43 val_main_v35 val_main_v34 val_main_v33 val_main_v28 val_main_v27 val_main_v53 val_main_v45 val_main_v43 val_main_v32 val_main_v31 val_main_v29 val_main_v30 val_main_v41 val_main_v46 val_main_v49 val_main_v52 val_main_cst_1 val_main_cst_2 val_main_cst_3 val_main_cst_4 val_main_cst_5
  unfold vA at ha ⊢
  unfold xA
  generalize val_main_v26 (F := Ideal) x0 x1 x2 = X
  revert ha
  generalize val_main_v1 (F := Ideal) x0 = V
  intro ha
  pointwise
  rw [ha, Gelu.ofBits_c, Gelu.ofBits_half, Gelu.ofBits_k, zero_sub]
  exact (Gelu.slope _ a).symm

theorem v89_apply (n : Fin 4096) (j : Fin 2816) :
    val_main_v89 (F := Ideal) x0 x1 x2 x3 x4 (ix2 n j) = gateG x4 (vA x0) (xA x0 x1 x2) x1 x3 n j := by
  have hD := dc_apply x0 x1 x2 x3 x4 hR
  unfold val_main_v89 val_main_v84 val_main_v71 val_main_v61 val_main_v70 val_main_v83 val_main_v56 val_main_v65 val_main_v78
  revert hD
  generalize val_main_v54 (F := Ideal) x0 x1 x2 x3 x4 = D
  intro hD
  pointwise [val_main_v55, val_main_v64, val_main_v77, val_main_v23, val_main_v21, val_main_v20, val_main_v16, val_main_v14, val_main_v13, val_main_v8, val_main_v6, val_main_v5, val_main_cst_8, val_main_cst_12, val_main_cst_17]
  unfold gateG
  refine congrArg₂ (fun a b : EReal => a + b) (congrArg₂ (fun a b : EReal => a + b) ?_ ?_) ?_
  · rw [hD]; rfl
  · by_cases h : n.val + 1 < 4096
    · rw [dif_pos (by omega), hD]
      exact congrArg₂ (fun a b : EReal => a * b) rfl (congrArg _ (by show 2 + n.val - 1 = n.val + 1; omega))
    · rw [dif_neg (by omega)]
      unfold dcG
      rw [dif_neg h, mul_zero]
  · by_cases h : n.val + 2 < 4096
    · rw [dif_pos (by omega), hD]
      exact congrArg₂ (fun a b : EReal => a * b) rfl (congrArg _ (by show 2 + n.val = n.val + 2; omega))
    · rw [dif_neg (by omega)]
      unfold dcG
      rw [dif_neg h, mul_zero]

theorem ref7 : val_main_v91 (F := Ideal) x0 x1 x2 x3 x4 = gvG x4 (vA x0) (xA x0 x1 x2) x1 x3 := by
  funext y
  have hD := v89_apply x0 x1 x2 x3 x4 hR
  by_cases h : (y 1).val < 2816
  · rw [gvG_gate _ _ _ _ _ y ⟨(y 0).val, (y 0).isLt⟩ ⟨(y 1).val, h⟩ rfl rfl, ← hD]
    unfold val_main_v91 val_main_v90
    generalize val_main_v89 (F := Ideal) x0 x1 x2 x3 x4 = D
    pointwise
    rw [dif_pos h]
  · have h1 : (y 1).val < 5632 := (y 1).isLt
    have h2 : (y 1).val = 2816 + ((y 1).val - 2816) := by omega
    rw [gvG_val _ _ _ _ _ y ⟨(y 0).val, (y 0).isLt⟩ ⟨(y 1).val - 2816, by omega⟩ rfl h2]
    unfold valG dactG cdfF
    unfold val_main_v91 val_main_v90 val_main_v42 val_main_v36 val_main_v28 val_main_v27 val_main_v32 val_main_v31 val_main_v29 val_main_v30 val_main_v41  val_main_cst_1 val_main_cst_2
    unfold xA
    generalize val_main_v89 (F := Ideal) x0 x1 x2 x3 x4 = D
    generalize val_main_v26 (F := Ideal) x0 x1 x2 = X
    pointwise
    rw [dif_neg h, mul_comm, Gelu.ofBits_half, Gelu.ofBits_k]
    exact congrArg (fun z : EReal => _ * z) (Gelu.gelu_eq _).symm

theorem ref9 : val_main_v76 (F := Ideal) x0 x1 x2 x3 x4 = cbG x4 (vA x0) (xA x0 x1 x2) x3 := by
  funext y
  have hD := dc_apply x0 x1 x2 x3 x4 hR
  unfold val_main_v76 val_main_v75 val_main_cst_14
  revert hD
  generalize val_main_v54 (F := Ideal) x0 x1 x2 x3 x4 = D
  intro hD
  unfold cbG
  pointwise
  exact Finset.sum_congr rfl fun n _ => hD n _

theorem ref8 : val_main_v87 (F := Ideal) x0 x1 x2 x3 x4 = cwG x4 (gA x0) (vA x0) (xA x0 x1 x2) x3 := by
  funext y
  obtain ⟨k, j, rfl⟩ : ∃ (k : Fin 3) (j : Fin 2816), y = ix2 k j := ⟨y 0, y 1, funext fun a => by fin_cases a <;> rfl⟩
  have hD := dc_apply x0 x1 x2 x3 x4 hR
  unfold val_main_v87 val_main_v86 val_main_v85 val_main_v74 val_main_v73 val_main_v63 val_main_v72 val_main_v62 val_main_v82 val_main_v81 val_main_v80 val_main_v69 val_main_v68 val_main_v67 val_main_v60 val_main_v59 val_main_v58 val_main_v57 val_main_v66 val_main_v79
  revert hD
  generalize val_main_v54 (F := Ideal) x0 x1 x2 x3 x4 = D
  intro hD
  pointwise [val_main_v22, val_main_v15, val_main_v7, val_main_v3, val_main_cst_9, val_main_cst_13, val_main_cst_18, val_main_cst_6, val_main_cst_7, val_main_cst_10,val_main_cst_11,val_main_cst_15,val_main_cst_16, val_main_v2, val_main_cst]
  unfold cwG
  show _ = ∑ n : Fin 4096, dcG x4 (vA x0) (xA x0 x1 x2) x3 j (n.val + (2 - k.val)) * val_main_v0 (F := Ideal) x0 (ix2 n j)
  obtain hk | hk | hk : k.val = 0 ∨ k.val = 1 ∨ k.val = 2 := by omega
  · rw [dif_neg (by omega), dif_neg (by omega), dif_pos (by omega), zero_add, zero_add, Fin.sum_univ_one, hk]
    have e0 : ∀ f : Fin 2 → EReal, ∑ x : Fin 2, f x * 0 = 0 := fun f => Finset.sum_eq_zero fun x _ => mul_zero _
    rw [e0, zero_add]
    have := shift_two 4094 (dcG x4 (vA x0) (xA x0 x1 x2) x3 j) (fun n => if h : n < 4096 then val_main_v0 (F := Ideal) x0 (ix2 ⟨n, h⟩ j) else 0)
      (dif_neg (by decide)) (dif_neg (by decide))
    refine Eq.trans (Finset.sum_congr rfl fun x _ => ?_) (this.trans (Finset.sum_congr rfl fun x _ => ?_))
    · rw [hD, dif_pos (by omega)]
    · rw [dif_pos x.isLt]
  · rw [dif_neg (by omega), dif_pos (by omega), dif_neg (by omega), zero_add, add_zero, Fin.sum_univ_one, hk]
    have := shift_one 4095 (dcG x4 (vA x0) (xA x0 x1 x2) x3 j) (fun n => if h : n < 4096 then val_main_v0 (F := Ideal) x0 (ix2 ⟨n, h⟩ j) else 0)
      (dif_neg (by decide))
    refine Eq.trans (Finset.sum_congr rfl fun x _ => ?_) (this.trans (Finset.sum_congr rfl fun x _ => ?_))
    · rw [hD]
      refine congrArg (fun z : EReal => _ * z) ?_
      by_cases h : 1 + x.val < 2
      · rw [dif_pos h, if_pos h]
      · rw [dif_neg h, if_neg h, dif_pos (by omega)]
    · rw [dif_pos x.isLt]
  · rw [dif_pos (by omega), dif_neg (by omega), dif_neg (by omega), add_zero, add_zero, Fin.sum_univ_one, hk]
    exact Finset.sum_congr rfl fun x _ => by rw [hD]; rfl

end

theorem ref10 : val_main_v92 (F := Ideal) x0 x1 x2 x4 = wdG x4 (aA x0 x1 x2) := by
  funext y
  unfold val_main_v92 val_main_v40 val_main_v39 wdG aA
  generalize val_main_v37 (F := Ideal) x0 x1 x2 = D
  pointwise
  exact Finset.sum_congr rfl fun n _ => mul_comm _ _

end Cert.MlpRef
end
-- ==== Proof.MlpPre.lean ====
module

public import proofs.«01_k».proof.Defs
public import proofs.«01_k».proof.Proof.Gen.Pre_finite
public import proofs.«01_k».proof.Proof.MlpRef
public import Idealize.ShloMosaic.Lib.ReduceAll

@[expose] public section

noncomputable section

namespace Cert.MlpRef

open Idealize.ShloMosaic Idealize.SL.Sem Cert.ReferenceIdeal Cert.ReferenceIdeal.Read

/-! What the precondition says: the values, the last matrix and the incoming gradient are real numbers. -/

theorem andi_one (a b : BitVec 1) : IntOp.andi a b = 1#1 ↔ a = 1#1 ∧ b = 1#1 := by revert a b; decide

/-- An extended real whose absolute value is below the infinite pattern is a real number. -/
theorem real_of_cmp (x : EReal) (h : FloatOps.cmpf (F := Ideal) (φ := .f32) .olt (FloatOps.hostAbsf (F := Ideal) (φ := .f32) x) (FloatOps.ofBits (F := Ideal) .f32 0x7F800000#32) = 1#1) :
    ∃ a : ℝ, x = (a : EReal) := by
  have hb : FloatOps.ofBits (F := Ideal) .f32 0x7F800000#32 = (⊤ : EReal) := by
    show Ideal.ieee 8 23 0x7F800000#32 = ⊤
    rw [Ideal.ieee, if_pos (by decide), if_pos (by decide), if_neg (by decide)]
  rw [hb] at h
  induction x using EReal.rec with
  | coe a => exact ⟨a, rfl⟩
  | bot => exact absurd h (by simp [FloatOps.cmpf, FloatOps.hostAbsf, Ideal.cmp])
  | top => exact absurd h (by simp [FloatOps.cmpf, FloatOps.hostAbsf, Ideal.cmp])

instance : Subsingleton Cert.Pre_finite.S_.Idx := ⟨fun _ _ => funext fun i => i.elim0⟩

theorem pre_real (x0 : FVec Ideal Cert.Pre_finite.S4096x5632 .f32) (x1 : FVec Ideal Cert.Pre_finite.S3x2816 .f32) (x2 : FVec Ideal Cert.Pre_finite.S1x2816 .f32)
    (x3 : FVec Ideal Cert.Pre_finite.S2816x1024 .f32) (x4 : FVec Ideal Cert.Pre_finite.S4096x1024 .f32)
    (h : Cert.Pre_finite.fn (F := Ideal) x0 x1 x2 x3 x4 = fun _ => 1#1) :
    (∀ i, ∃ a : ℝ, vA x0 i = (a : EReal)) ∧ (∀ i, ∃ a : ℝ, x3 i = (a : EReal)) ∧ (∀ i, ∃ a : ℝ, x4 i = (a : EReal)) := by
  have e := congrFun h (fun i => i.elim0)
  simp only [Cert.Pre_finite.fn, andi, andi_one] at e
  obtain ⟨⟨e0, e3⟩, e4⟩ := e
  refine ⟨fun i => ?_, fun i => ?_, fun i => ?_⟩
  · exact real_of_cmp _ (Host.reduce_andi_all _ _ _ _ _ e0 i)
  · exact real_of_cmp _ (Host.reduce_andi_all _ _ _ _ _ e3 i)
  · exact real_of_cmp _ (Host.reduce_andi_all _ _ _ _ _ e4 i)

/-- Under the precondition the product of the activation's gradient and the value is real at every place. -/
theorem realProd (x0 : FVec Ideal Cert.Pre_finite.S4096x5632 .f32) (x1 : FVec Ideal Cert.Pre_finite.S3x2816 .f32) (x2 : FVec Ideal Cert.Pre_finite.S1x2816 .f32)
    (x3 : FVec Ideal Cert.Pre_finite.S2816x1024 .f32) (x4 : FVec Ideal Cert.Pre_finite.S4096x1024 .f32)
    (h : Cert.Pre_finite.fn (F := Ideal) x0 x1 x2 x3 x4 = fun _ => 1#1) : RealProd x0 x3 x4 := by
  obtain ⟨h0, h3, h4⟩ := pre_real x0 x1 x2 x3 x4 h
  intro n j
  obtain ⟨v, hv⟩ := h0 (ix2 n j)
  choose a ha using h3
  choose b hb using h4
  refine ⟨(∑ d : Fin 1024, b (ix2 n d) * a (ix2 j d)) * v, ?_⟩
  rw [hv]
  simp only [ha, hb]
  have hs : ((∑ d : Fin 1024, b (ix2 n d) * a (ix2 j d) : ℝ) : EReal) = ∑ d : Fin 1024, ((b (ix2 n d) * a (ix2 j d) : ℝ) : EReal) :=
    map_sum (⟨⟨fun r : ℝ => (r : EReal), rfl⟩, EReal.coe_add⟩ : ℝ →+ EReal) _ _
  rw [EReal.coe_mul, hs]
  simp only [EReal.coe_mul]

end Cert.MlpRef
end
-- ==== Proof.UpBwdA.lean ====
module

public import proofs.«01_k».proof.Proof.Gen.Kernel4Ideal.Frame.Runs
public import Idealize.ShloMosaic.Lib.Claim

@[expose] public section
set_option maxRecDepth 16384
noncomputable section
namespace Cert.Kernel4Ideal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen
variable {F : FTy → Type} [FloatOps F]
local notation "𝕄" => MT nD τ sig Unit (Elt F) ℕ (Pipeline.UD sig nD τ) ℕ
variable (c : Dev nD) (i : grid0.Coords) {arg1 : Memref sig .tc .vmem S256x5632 .bf16} {arg3 : Memref sig .tc .vmem S256x1024 .f32} {arg4 : Memref sig .tc .vmem S1x1024 .f32} {arg5 : Memref sig .tc .vmem S256x1024 .f32} {arg6 : Memref sig .tc .vmem S1024x1024 .bf16} {arg7 : Memref sig .tc .vmem S256x1024 .bf16} {arg8 arg9 arg10 : Memref sig .tc .vmem S256x512 .f32} {arg11 arg12 : Memref sig .tc .vmem S1x512 .f32} {arg13 : Memref sig .tc .vmem S256x1024 .f32} {arg14 : Memref sig .tc .vmem S1x1024 .f32} {arg15 arg16 : Memref sig .tc .vmem S256x512 .f32} {arg17 : Memref sig .tc .vmem S256x512 .bf16} {arg18 arg19 : Memref sig .tc .vmem S1x512 .f32} {arg20 : Memref sig .tc .vmem S1024x1024 .bf16} {arg21 : Memref sig .tc .vmem S1024x5632 .bf16} {arg23 : Memref sig .tc .vmem S1024x1024 .f32}
  (harg1 : arg1.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg23 : arg23.IsWhole)
section
variable (hc0 : cond0_0 i) (hc1 : ¬cond0_1 i) (x0 : Vec F S256x5632 .bf16) (x1 : Vec F S256x1024 .f32) (x2 : Vec F S1x1024 .f32) (x3 : Vec F S256x1024 .f32) (x4 : Vec F S1024x1024 .bf16) (x5 : Vec F S256x1024 .bf16) (x6 x7 x8 : Vec F S256x512 .f32) (x9 x10 : Vec F S1x512 .f32) (fh0 : HbBuf0 (F := F) c hbM0_0)
set_option maxHeartbeats 2000000 in
/-- The run of the body in case A, and the pieces it leaves. -/
noncomputable def kernelRun0_A :
    Σ' (L11 : List (View.Piece (Elt F) S256x1024 .f32)), Σ' (L12 : List (View.Piece (Elt F) S1x1024 .f32)), Σ' (L13 : List (View.Piece (Elt F) S256x512 .f32)), Σ' (L14 : List (View.Piece (Elt F) S256x512 .f32)), Σ' (L15 : List (View.Piece (Elt F) S256x512 .bf16)), Σ' (L16 : List (View.Piece (Elt F) S1x512 .f32)), Σ' (L17 : List (View.Piece (Elt F) S1x512 .f32)), Σ' (L18 : List (View.Piece (Elt F) S1024x1024 .bf16)), Σ' (LS0 : List (View.Piece (Elt F) S1024x5632 .bf16)), { LS1 : List (View.Piece (Elt F) S1024x1024 .f32) //
      ∀ (xi18 : Vec F S1024x1024 .bf16) (W : Waits sig Unit) (K : PUnit → sProp 𝕄),
        iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xi18 ∗ (∃ d, owns (c : Thread nD τ) arg21 fullShare d) ∗ (∃ d, owns (c : Thread nD τ) arg23 fullShare d) ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ hbPt0 c hbM0_0 fh0 ∗ owes (c : Thread nD τ) 0 W
            ∗ (iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ owns (c : Thread nD τ) arg20 fullShare xi18 ∗ (∃ f, arg21.view.loc (c : Thread nD τ) ↦[arg21.view.set]{fullShare} arg21.view.writes (Elt F) f LS0) ∗ (∃ f, arg23.view.loc (c : Thread nD τ) ↦[arg23.view.set]{fullShare} arg23.view.writes (Elt F) f LS1) ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ hbPt0 c hbM0_0 fh0 ∗ (∃ W', owes (c : Thread nD τ) 0 W')) -∗ K ⟨⟩))
          ⊢ wp frame (wpE (defs₀ (F := F)) Variants.none c none) Set.univ (cc0_up_out_bwd i arg1 harg1 (Memref.whole main_v37) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 cc0_scratch1 arg23 harg23) K } := by
  refine ⟨?_, ?_, ?_, ?_, ?_, ?_, ?_, [], ?_, ?_, fun xi18 W K => ?run⟩
  case run =>
    simp only [cc0_up_out_bwd_eq_skeleton]; unfold cc0_up_out_bwd_skel
    simp only [k0_part7_eq_skeleton, k0_part3_eq_skeleton, k0_part1_eq_skeleton, k0_part2_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%f18, %hf18, H18⟩, ⟨%ds0, %fs0, -, HS0⟩, ⟨%ds1, %fs1, -, HS1⟩, Hq0, Hq1, Hq2, Hq3, Hh0, HW, Hk⟩
    obtain rfl := harg1.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg20.eq_unread hf18
    set_option sl_exec.dmaWindow true in
    set_option sl_exec.dmaWindowSet true in
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]
    · iexists _; isplitr; · ipureintro; exact harg20.read_unread _
      iexact H18
    isplitl [HS0]; · iexists _; iexact HS0
    isplitl [HS1]; · iexists _; iexact HS1
    iframe Hq0 Hq1 Hq2 Hq3 Hh0
    iexists _; iexact HW
theorem cover0_A_11 (y : S256x1024.Idx) :
    ∃ pc ∈ (kernelRun0_A c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 fh0).1, y ∈ pc.1.set :=
  View.cover_of_tiledL (kernelRun0_A c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 fh0).1 S256x1024.size (by sl_kernel_rfl) y
def out0_A_11 : Vec F S256x1024 .f32 :=
  VO0_11.read (Elt F) (VO0_11.writes (Elt F) VO0_11.junk (kernelRun0_A c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 fh0).1)
theorem cover0_A_12 (y : S1x1024.Idx) :
    ∃ pc ∈ (kernelRun0_A c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 fh0).2.1, y ∈ pc.1.set :=
  View.cover_of_tiledL (kernelRun0_A c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 fh0).2.1 S1x1024.size (by sl_kernel_rfl) y
def out0_A_12 : Vec F S1x1024 .f32 :=
  VO0_12.read (Elt F) (VO0_12.writes (Elt F) VO0_12.junk (kernelRun0_A c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 fh0).2.1)
theorem cover0_A_13 (y : S256x512.Idx) :
    ∃ pc ∈ (kernelRun0_A c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 fh0).2.2.1, y ∈ pc.1.set :=
  View.cover_of_tiledL (kernelRun0_A c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 fh0).2.2.1 S256x512.size (by sl_kernel_rfl) y
def out0_A_13 : Vec F S256x512 .f32 :=
  VO0_13.read (Elt F) (VO0_13.writes (Elt F) VO0_13.junk (kernelRun0_A c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 fh0).2.2.1)
theorem cover0_A_14 (y : S256x512.Idx) :
    ∃ pc ∈ (kernelRun0_A c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 fh0).2.2.2.1, y ∈ pc.1.set :=
  View.cover_of_tiledL (kernelRun0_A c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 fh0).2.2.2.1 S256x512.size (by sl_kernel_rfl) y
def out0_A_14 : Vec F S256x512 .f32 :=
  VO0_14.read (Elt F) (VO0_14.writes (Elt F) VO0_14.junk (kernelRun0_A c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 fh0).2.2.2.1)
theorem cover0_A_15 (y : S256x512.Idx) :
    ∃ pc ∈ (kernelRun0_A c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 fh0).2.2.2.2.1, y ∈ pc.1.set :=
  View.cover_of_tiledL (kernelRun0_A c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 fh0).2.2.2.2.1 S256x512.size (by sl_kernel_rfl) y
def out0_A_15 : Vec F S256x512 .bf16 :=
  VO0_15.read (Elt F) (VO0_15.writes (Elt F) VO0_15.junk (kernelRun0_A c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 fh0).2.2.2.2.1)
theorem cover0_A_16 (y : S1x512.Idx) :
    ∃ pc ∈ (kernelRun0_A c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 fh0).2.2.2.2.2.1, y ∈ pc.1.set :=
  View.cover_of_tiledL (kernelRun0_A c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 fh0).2.2.2.2.2.1 S1x512.size (by sl_kernel_rfl) y
def out0_A_16 : Vec F S1x512 .f32 :=
  VO0_16.read (Elt F) (VO0_16.writes (Elt F) VO0_16.junk (kernelRun0_A c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 fh0).2.2.2.2.2.1)
theorem cover0_A_17 (y : S1x512.Idx) :
    ∃ pc ∈ (kernelRun0_A c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 fh0).2.2.2.2.2.2.1, y ∈ pc.1.set :=
  View.cover_of_tiledL (kernelRun0_A c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 fh0).2.2.2.2.2.2.1 S1x512.size (by sl_kernel_rfl) y
def out0_A_17 : Vec F S1x512 .f32 :=
  VO0_17.read (Elt F) (VO0_17.writes (Elt F) VO0_17.junk (kernelRun0_A c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 fh0).2.2.2.2.2.2.1)
def out0_A_18 : Vec F S1024x1024 .bf16 :=
  VO0_18.read (Elt F) (VO0_18.writes (Elt F) VO0_18.junk (kernelRun0_A c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 fh0).2.2.2.2.2.2.2.1)
theorem scover0_A_0 (y : S1024x5632.Idx) :
    ∃ pc ∈ (kernelRun0_A c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 fh0).2.2.2.2.2.2.2.2.1, y ∈ pc.1.set :=
  View.cover_of_tiledL (kernelRun0_A c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 fh0).2.2.2.2.2.2.2.2.1 S1024x1408.size (by sl_kernel_rfl) y
def sout0_A_0 : Vec F S1024x5632 .bf16 :=
  VS0_0.read (Elt F) (VS0_0.writes (Elt F) VS0_0.junk (kernelRun0_A c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 fh0).2.2.2.2.2.2.2.2.1)
theorem scover0_A_1 (y : S1024x1024.Idx) :
    ∃ pc ∈ (kernelRun0_A c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 fh0).2.2.2.2.2.2.2.2.2.1, y ∈ pc.1.set :=
  View.cover_of_tiledL (kernelRun0_A c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 fh0).2.2.2.2.2.2.2.2.2.1 S1024x1024.size (by sl_kernel_rfl) y
def sout0_A_1 : Vec F S1024x1024 .f32 :=
  VS0_1.read (Elt F) (VS0_1.writes (Elt F) VS0_1.junk (kernelRun0_A c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 fh0).2.2.2.2.2.2.2.2.2.1)
end
end Cert.Kernel4Ideal.Run
end
-- ==== Proof.UpBwdB.lean ====
module

public import proofs.«01_k».proof.Proof.Gen.Kernel4Ideal.Frame.Runs
public import Idealize.ShloMosaic.Lib.Claim

@[expose] public section
set_option maxRecDepth 16384
noncomputable section
namespace Cert.Kernel4Ideal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen
variable {F : FTy → Type} [FloatOps F]
local notation "𝕄" => MT nD τ sig Unit (Elt F) ℕ (Pipeline.UD sig nD τ) ℕ
variable (c : Dev nD) (i : grid0.Coords) {arg1 : Memref sig .tc .vmem S256x5632 .bf16} {arg3 : Memref sig .tc .vmem S256x1024 .f32} {arg4 : Memref sig .tc .vmem S1x1024 .f32} {arg5 : Memref sig .tc .vmem S256x1024 .f32} {arg6 : Memref sig .tc .vmem S1024x1024 .bf16} {arg7 : Memref sig .tc .vmem S256x1024 .bf16} {arg8 arg9 arg10 : Memref sig .tc .vmem S256x512 .f32} {arg11 arg12 : Memref sig .tc .vmem S1x512 .f32} {arg13 : Memref sig .tc .vmem S256x1024 .f32} {arg14 : Memref sig .tc .vmem S1x1024 .f32} {arg15 arg16 : Memref sig .tc .vmem S256x512 .f32} {arg17 : Memref sig .tc .vmem S256x512 .bf16} {arg18 arg19 : Memref sig .tc .vmem S1x512 .f32} {arg20 : Memref sig .tc .vmem S1024x1024 .bf16} {arg21 : Memref sig .tc .vmem S1024x5632 .bf16} {arg23 : Memref sig .tc .vmem S1024x1024 .f32}
  (harg1 : arg1.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg23 : arg23.IsWhole)
section
variable (hc0 : ¬cond0_0 i) (hc1 : ¬cond0_1 i) (x0 : Vec F S256x5632 .bf16) (x1 : Vec F S256x1024 .f32) (x2 : Vec F S1x1024 .f32) (x3 : Vec F S256x1024 .f32) (x4 : Vec F S1024x1024 .bf16) (x5 : Vec F S256x1024 .bf16) (x6 x7 x8 : Vec F S256x512 .f32) (x9 x10 : Vec F S1x512 .f32) (xo12 : Vec F S1x1024 .f32) (xo16 xo17 : Vec F S1x512 .f32) (xs0 : Vec F S1024x5632 .bf16) (xs1 : Vec F S1024x1024 .f32) (fh0 : HbBuf0 (F := F) c hbM0_0)
set_option maxHeartbeats 2000000 in
/-- The run of the body in case B, and the pieces it leaves. -/
noncomputable def kernelRun0_B :
    Σ' (L11 : List (View.Piece (Elt F) S256x1024 .f32)), Σ' (L12 : List (View.Piece (Elt F) S1x1024 .f32)), Σ' (L13 : List (View.Piece (Elt F) S256x512 .f32)), Σ' (L14 : List (View.Piece (Elt F) S256x512 .f32)), Σ' (L15 : List (View.Piece (Elt F) S256x512 .bf16)), Σ' (L16 : List (View.Piece (Elt F) S1x512 .f32)), Σ' (L17 : List (View.Piece (Elt F) S1x512 .f32)), Σ' (L18 : List (View.Piece (Elt F) S1024x1024 .bf16)), Σ' (LS0 : List (View.Piece (Elt F) S1024x5632 .bf16)), { LS1 : List (View.Piece (Elt F) S1024x1024 .f32) //
      ∀ (xi18 : Vec F S1024x1024 .bf16) (W : Waits sig Unit) (K : PUnit → sProp 𝕄),
        iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare xo12 ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xo16 ∗ owns (c : Thread nD τ) arg19 fullShare xo17 ∗ owns (c : Thread nD τ) arg20 fullShare xi18 ∗ owns (c : Thread nD τ) arg21 fullShare xs0 ∗ owns (c : Thread nD τ) arg23 fullShare xs1 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ hbPt0 c hbM0_0 fh0 ∗ owes (c : Thread nD τ) 0 W
            ∗ (iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ owns (c : Thread nD τ) arg20 fullShare xi18 ∗ owns (c : Thread nD τ) arg21 fullShare xs0 ∗ (∃ f, arg23.view.loc (c : Thread nD τ) ↦[arg23.view.set]{fullShare} arg23.view.writes (Elt F) f LS1) ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ hbPt0 c hbM0_0 fh0 ∗ (∃ W', owes (c : Thread nD τ) 0 W')) -∗ K ⟨⟩))
          ⊢ wp frame (wpE (defs₀ (F := F)) Variants.none c none) Set.univ (cc0_up_out_bwd i arg1 harg1 (Memref.whole main_v37) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 cc0_scratch1 arg23 harg23) K } := by
  refine ⟨?_, ?_, ?_, ?_, ?_, ?_, ?_, [], [], ?_, fun xi18 W K => ?run⟩
  case run =>
    simp only [cc0_up_out_bwd_eq_skeleton]; unfold cc0_up_out_bwd_skel
    simp only [k0_part7_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%d13, %f13, -, H13⟩, ⟨%d14, %f14, -, H14⟩, ⟨%d15, %f15, -, H15⟩, ⟨%f16, %hf16, H16⟩, ⟨%f17, %hf17, H17⟩, ⟨%f18, %hf18, H18⟩, ⟨%fs0, %hfs0, HS0⟩, ⟨%fs1, %hfs1, HS1⟩, Hq0, Hq1, Hq2, Hq3, Hh0, HW, Hk⟩
    obtain rfl := harg1.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hf12; obtain rfl := harg18.eq_unread hf16; obtain rfl := harg19.eq_unread hf17; obtain rfl := harg20.eq_unread hf18; obtain rfl := harg21.eq_unread hfs0; obtain rfl := harg23.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]
    · iexists _; isplitr; · ipureintro; exact harg20.read_unread _
      iexact H18
    isplitl [HS0]
    · iexists _; isplitr; · ipureintro; exact harg21.read_unread _
      iexact HS0
    isplitl [HS1]; · iexists _; iexact HS1
    iframe Hq0 Hq1 Hq2 Hq3 Hh0
    iexists _; iexact HW
theorem cover0_B_11 (y : S256x1024.Idx) :
    ∃ pc ∈ (kernelRun0_B c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).1, y ∈ pc.1.set :=
  View.cover_of_tiledL (kernelRun0_B c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).1 S256x1024.size (by sl_kernel_rfl) y
def out0_B_11 : Vec F S256x1024 .f32 :=
  VO0_11.read (Elt F) (VO0_11.writes (Elt F) VO0_11.junk (kernelRun0_B c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).1)
theorem cover0_B_12 (y : S1x1024.Idx) :
    ∃ pc ∈ (kernelRun0_B c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).2.1, y ∈ pc.1.set :=
  View.cover_of_tiledL (kernelRun0_B c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).2.1 S1x1024.size (by sl_kernel_rfl) y
def out0_B_12 : Vec F S1x1024 .f32 :=
  VO0_12.read (Elt F) (VO0_12.writes (Elt F) VO0_12.junk (kernelRun0_B c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).2.1)
theorem cover0_B_13 (y : S256x512.Idx) :
    ∃ pc ∈ (kernelRun0_B c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).2.2.1, y ∈ pc.1.set :=
  View.cover_of_tiledL (kernelRun0_B c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).2.2.1 S256x512.size (by sl_kernel_rfl) y
def out0_B_13 : Vec F S256x512 .f32 :=
  VO0_13.read (Elt F) (VO0_13.writes (Elt F) VO0_13.junk (kernelRun0_B c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).2.2.1)
theorem cover0_B_14 (y : S256x512.Idx) :
    ∃ pc ∈ (kernelRun0_B c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).2.2.2.1, y ∈ pc.1.set :=
  View.cover_of_tiledL (kernelRun0_B c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).2.2.2.1 S256x512.size (by sl_kernel_rfl) y
def out0_B_14 : Vec F S256x512 .f32 :=
  VO0_14.read (Elt F) (VO0_14.writes (Elt F) VO0_14.junk (kernelRun0_B c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).2.2.2.1)
theorem cover0_B_15 (y : S256x512.Idx) :
    ∃ pc ∈ (kernelRun0_B c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).2.2.2.2.1, y ∈ pc.1.set :=
  View.cover_of_tiledL (kernelRun0_B c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).2.2.2.2.1 S256x512.size (by sl_kernel_rfl) y
def out0_B_15 : Vec F S256x512 .bf16 :=
  VO0_15.read (Elt F) (VO0_15.writes (Elt F) VO0_15.junk (kernelRun0_B c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).2.2.2.2.1)
theorem cover0_B_16 (y : S1x512.Idx) :
    ∃ pc ∈ (kernelRun0_B c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).2.2.2.2.2.1, y ∈ pc.1.set :=
  View.cover_of_tiledL (kernelRun0_B c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).2.2.2.2.2.1 S1x512.size (by sl_kernel_rfl) y
def out0_B_16 : Vec F S1x512 .f32 :=
  VO0_16.read (Elt F) (VO0_16.writes (Elt F) VO0_16.junk (kernelRun0_B c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).2.2.2.2.2.1)
theorem cover0_B_17 (y : S1x512.Idx) :
    ∃ pc ∈ (kernelRun0_B c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).2.2.2.2.2.2.1, y ∈ pc.1.set :=
  View.cover_of_tiledL (kernelRun0_B c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).2.2.2.2.2.2.1 S1x512.size (by sl_kernel_rfl) y
def out0_B_17 : Vec F S1x512 .f32 :=
  VO0_17.read (Elt F) (VO0_17.writes (Elt F) VO0_17.junk (kernelRun0_B c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).2.2.2.2.2.2.1)
def out0_B_18 : Vec F S1024x1024 .bf16 :=
  VO0_18.read (Elt F) (VO0_18.writes (Elt F) VO0_18.junk (kernelRun0_B c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).2.2.2.2.2.2.2.1)
theorem scover0_B_1 (y : S1024x1024.Idx) :
    ∃ pc ∈ (kernelRun0_B c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).2.2.2.2.2.2.2.2.2.1, y ∈ pc.1.set :=
  View.cover_of_tiledL (kernelRun0_B c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).2.2.2.2.2.2.2.2.2.1 S1024x1024.size (by sl_kernel_rfl) y
def sout0_B_1 : Vec F S1024x1024 .f32 :=
  VS0_1.read (Elt F) (VS0_1.writes (Elt F) VS0_1.junk (kernelRun0_B c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).2.2.2.2.2.2.2.2.2.1)
end
end Cert.Kernel4Ideal.Run
end
-- ==== Proof.UpBwdC.lean ====
module

public import proofs.«01_k».proof.Proof.Gen.Kernel4Ideal.Frame.Runs
public import Idealize.ShloMosaic.Lib.Claim

@[expose] public section
set_option maxRecDepth 16384
noncomputable section
namespace Cert.Kernel4Ideal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen
variable {F : FTy → Type} [FloatOps F]
local notation "𝕄" => MT nD τ sig Unit (Elt F) ℕ (Pipeline.UD sig nD τ) ℕ
variable (c : Dev nD) (i : grid0.Coords) {arg1 : Memref sig .tc .vmem S256x5632 .bf16} {arg3 : Memref sig .tc .vmem S256x1024 .f32} {arg4 : Memref sig .tc .vmem S1x1024 .f32} {arg5 : Memref sig .tc .vmem S256x1024 .f32} {arg6 : Memref sig .tc .vmem S1024x1024 .bf16} {arg7 : Memref sig .tc .vmem S256x1024 .bf16} {arg8 arg9 arg10 : Memref sig .tc .vmem S256x512 .f32} {arg11 arg12 : Memref sig .tc .vmem S1x512 .f32} {arg13 : Memref sig .tc .vmem S256x1024 .f32} {arg14 : Memref sig .tc .vmem S1x1024 .f32} {arg15 arg16 : Memref sig .tc .vmem S256x512 .f32} {arg17 : Memref sig .tc .vmem S256x512 .bf16} {arg18 arg19 : Memref sig .tc .vmem S1x512 .f32} {arg20 : Memref sig .tc .vmem S1024x1024 .bf16} {arg21 : Memref sig .tc .vmem S1024x5632 .bf16} {arg23 : Memref sig .tc .vmem S1024x1024 .f32}
  (harg1 : arg1.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg23 : arg23.IsWhole)
section
variable (hc0 : ¬cond0_0 i) (hc1 : cond0_1 i) (x0 : Vec F S256x5632 .bf16) (x1 : Vec F S256x1024 .f32) (x2 : Vec F S1x1024 .f32) (x3 : Vec F S256x1024 .f32) (x4 : Vec F S1024x1024 .bf16) (x5 : Vec F S256x1024 .bf16) (x6 x7 x8 : Vec F S256x512 .f32) (x9 x10 : Vec F S1x512 .f32) (xo12 : Vec F S1x1024 .f32) (xo16 xo17 : Vec F S1x512 .f32) (xs0 : Vec F S1024x5632 .bf16) (xs1 : Vec F S1024x1024 .f32) (fh0 : HbBuf0 (F := F) c hbM0_0)
set_option maxHeartbeats 2000000 in
/-- The run of the body in case C, and the pieces it leaves. -/
noncomputable def kernelRun0_C :
    Σ' (L11 : List (View.Piece (Elt F) S256x1024 .f32)), Σ' (L12 : List (View.Piece (Elt F) S1x1024 .f32)), Σ' (L13 : List (View.Piece (Elt F) S256x512 .f32)), Σ' (L14 : List (View.Piece (Elt F) S256x512 .f32)), Σ' (L15 : List (View.Piece (Elt F) S256x512 .bf16)), Σ' (L16 : List (View.Piece (Elt F) S1x512 .f32)), Σ' (L17 : List (View.Piece (Elt F) S1x512 .f32)), Σ' (L18 : List (View.Piece (Elt F) S1024x1024 .bf16)), Σ' (LS0 : List (View.Piece (Elt F) S1024x5632 .bf16)), { LS1 : List (View.Piece (Elt F) S1024x1024 .f32) //
      ∀ (W : Waits sig Unit) (K : PUnit → sProp 𝕄),
        iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare xo12 ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xo16 ∗ owns (c : Thread nD τ) arg19 fullShare xo17 ∗ (∃ d, owns (c : Thread nD τ) arg20 fullShare d) ∗ owns (c : Thread nD τ) arg21 fullShare xs0 ∗ owns (c : Thread nD τ) arg23 fullShare xs1 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ hbPt0 c hbM0_0 fh0 ∗ owes (c : Thread nD τ) 0 W
            ∗ (iprop(owns (c : Thread nD τ) arg1 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ owns (c : Thread nD τ) arg21 fullShare xs0 ∗ (∃ f, arg23.view.loc (c : Thread nD τ) ↦[arg23.view.set]{fullShare} arg23.view.writes (Elt F) f LS1) ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ hbPt0 c hbM0_0 fh0 ∗ (∃ W', owes (c : Thread nD τ) 0 W')) -∗ K ⟨⟩))
          ⊢ wp frame (wpE (defs₀ (F := F)) Variants.none c none) Set.univ (cc0_up_out_bwd i arg1 harg1 (Memref.whole main_v37) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 cc0_scratch1 arg23 harg23) K } := by
  refine ⟨?_, ?_, ?_, ?_, ?_, ?_, ?_, ?_, [], ?_, fun W K => ?run⟩
  case run =>
    simp only [cc0_up_out_bwd_eq_skeleton]; unfold cc0_up_out_bwd_skel
    simp only [k0_part7_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%d13, %f13, -, H13⟩, ⟨%d14, %f14, -, H14⟩, ⟨%d15, %f15, -, H15⟩, ⟨%f16, %hf16, H16⟩, ⟨%f17, %hf17, H17⟩, ⟨%d18, %f18, -, H18⟩, ⟨%fs0, %hfs0, HS0⟩, ⟨%fs1, %hfs1, HS1⟩, Hq0, Hq1, Hq2, Hq3, Hh0, HW, Hk⟩
    obtain rfl := harg1.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hf12; obtain rfl := harg18.eq_unread hf16; obtain rfl := harg19.eq_unread hf17; obtain rfl := harg21.eq_unread hfs0; obtain rfl := harg23.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [HS0]
    · iexists _; isplitr; · ipureintro; exact harg21.read_unread _
      iexact HS0
    isplitl [HS1]; · iexists _; iexact HS1
    iframe Hq0 Hq1 Hq2 Hq3 Hh0
    iexists _; iexact HW
theorem cover0_C_11 (y : S256x1024.Idx) :
    ∃ pc ∈ (kernelRun0_C c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).1, y ∈ pc.1.set :=
  View.cover_of_tiledL (kernelRun0_C c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).1 S256x1024.size (by sl_kernel_rfl) y
def out0_C_11 : Vec F S256x1024 .f32 :=
  VO0_11.read (Elt F) (VO0_11.writes (Elt F) VO0_11.junk (kernelRun0_C c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).1)
theorem cover0_C_12 (y : S1x1024.Idx) :
    ∃ pc ∈ (kernelRun0_C c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).2.1, y ∈ pc.1.set :=
  View.cover_of_tiledL (kernelRun0_C c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).2.1 S1x1024.size (by sl_kernel_rfl) y
def out0_C_12 : Vec F S1x1024 .f32 :=
  VO0_12.read (Elt F) (VO0_12.writes (Elt F) VO0_12.junk (kernelRun0_C c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).2.1)
theorem cover0_C_13 (y : S256x512.Idx) :
    ∃ pc ∈ (kernelRun0_C c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).2.2.1, y ∈ pc.1.set :=
  View.cover_of_tiledL (kernelRun0_C c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).2.2.1 S256x512.size (by sl_kernel_rfl) y
def out0_C_13 : Vec F S256x512 .f32 :=
  VO0_13.read (Elt F) (VO0_13.writes (Elt F) VO0_13.junk (kernelRun0_C c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).2.2.1)
theorem cover0_C_14 (y : S256x512.Idx) :
    ∃ pc ∈ (kernelRun0_C c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).2.2.2.1, y ∈ pc.1.set :=
  View.cover_of_tiledL (kernelRun0_C c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).2.2.2.1 S256x512.size (by sl_kernel_rfl) y
def out0_C_14 : Vec F S256x512 .f32 :=
  VO0_14.read (Elt F) (VO0_14.writes (Elt F) VO0_14.junk (kernelRun0_C c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).2.2.2.1)
theorem cover0_C_15 (y : S256x512.Idx) :
    ∃ pc ∈ (kernelRun0_C c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).2.2.2.2.1, y ∈ pc.1.set :=
  View.cover_of_tiledL (kernelRun0_C c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).2.2.2.2.1 S256x512.size (by sl_kernel_rfl) y
def out0_C_15 : Vec F S256x512 .bf16 :=
  VO0_15.read (Elt F) (VO0_15.writes (Elt F) VO0_15.junk (kernelRun0_C c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).2.2.2.2.1)
theorem cover0_C_16 (y : S1x512.Idx) :
    ∃ pc ∈ (kernelRun0_C c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).2.2.2.2.2.1, y ∈ pc.1.set :=
  View.cover_of_tiledL (kernelRun0_C c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).2.2.2.2.2.1 S1x512.size (by sl_kernel_rfl) y
def out0_C_16 : Vec F S1x512 .f32 :=
  VO0_16.read (Elt F) (VO0_16.writes (Elt F) VO0_16.junk (kernelRun0_C c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).2.2.2.2.2.1)
theorem cover0_C_17 (y : S1x512.Idx) :
    ∃ pc ∈ (kernelRun0_C c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).2.2.2.2.2.2.1, y ∈ pc.1.set :=
  View.cover_of_tiledL (kernelRun0_C c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).2.2.2.2.2.2.1 S1x512.size (by sl_kernel_rfl) y
def out0_C_17 : Vec F S1x512 .f32 :=
  VO0_17.read (Elt F) (VO0_17.writes (Elt F) VO0_17.junk (kernelRun0_C c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).2.2.2.2.2.2.1)
theorem cover0_C_18 (y : S1024x1024.Idx) :
    ∃ pc ∈ (kernelRun0_C c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).2.2.2.2.2.2.2.1, y ∈ pc.1.set :=
  View.cover_of_tiledL (kernelRun0_C c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).2.2.2.2.2.2.2.1 S1024x1024.size (by sl_kernel_rfl) y
def out0_C_18 : Vec F S1024x1024 .bf16 :=
  VO0_18.read (Elt F) (VO0_18.writes (Elt F) VO0_18.junk (kernelRun0_C c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).2.2.2.2.2.2.2.1)
theorem scover0_C_1 (y : S1024x1024.Idx) :
    ∃ pc ∈ (kernelRun0_C c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).2.2.2.2.2.2.2.2.2.1, y ∈ pc.1.set :=
  View.cover_of_tiledL (kernelRun0_C c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).2.2.2.2.2.2.2.2.2.1 S1024x1024.size (by sl_kernel_rfl) y
def sout0_C_1 : Vec F S1024x1024 .f32 :=
  VS0_1.read (Elt F) (VS0_1.writes (Elt F) VS0_1.junk (kernelRun0_C c i harg1 harg3 harg4 harg5 harg6 harg7 harg8 harg9 harg10 harg11 harg12 harg13 harg14 harg15 harg16 harg17 harg18 harg19 harg20 harg21 harg23 hc0 hc1 x0 x1 x2 x3 x4 x5 x6 x7 x8 x9 x10 xo12 xo16 xo17 xs0 xs1 fh0).2.2.2.2.2.2.2.2.2.1)
end
end Cert.Kernel4Ideal.Run
end
-- ==== Proof.UpBwdRun.lean ====
module

public import proofs.«01_k».proof.Proof.UpBwdA
public import proofs.«01_k».proof.Proof.UpBwdB
public import proofs.«01_k».proof.Proof.UpBwdC

@[expose] public section
set_option maxRecDepth 16384
noncomputable section
namespace Cert.Kernel4Ideal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen
variable {F : FTy → Type} [FloatOps F]
local notation "𝕄" => MT nD τ sig Unit (Elt F) ℕ (Pipeline.UD sig nD τ) ℕ
variable (m : (ℓ : Loc nD τ sig) → Buf (Elt F) ℓ) (ρ : Dev nD → PrngReg)
theorem hscM0_0 : scM0_0.IsWhole := Memref.isWhole_whole _
theorem hscM0_1 : scM0_1.IsWhole := Memref.isWhole_whole _
/-- What a point of case A leaves. -/
def pt0_A (c : Dev nD) (t : Fin cfg0.N) (h0 : t.val % 16 = 0) (h1 : ¬t.val % 16 = 15) : Vec F S256x1024 .f32 × Vec F S1x1024 .f32 × Vec F S256x512 .f32 × Vec F S256x512 .f32 × Vec F S256x512 .bf16 × Vec F S1x512 .f32 × Vec F S1x512 .f32 × Vec F S1024x1024 .bf16 × Vec F S1024x5632 .bf16 × Vec F S1024x1024 .f32 :=
  (out0_A_11 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) hscM0_0 hscM0_1 ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v37), out0_A_12 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) hscM0_0 hscM0_1 ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v37), out0_A_13 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) hscM0_0 hscM0_1 ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v37), out0_A_14 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) hscM0_0 hscM0_1 ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v37), out0_A_15 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) hscM0_0 hscM0_1 ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v37), out0_A_16 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) hscM0_0 hscM0_1 ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v37), out0_A_17 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) hscM0_0 hscM0_1 ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v37), out0_A_18 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) hscM0_0 hscM0_1 ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v37), sout0_A_0 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) hscM0_0 hscM0_1 ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v37), sout0_A_1 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) hscM0_0 hscM0_1 ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v37))
/-- What a point of case B leaves, after `P`. -/
def pt0_B (c : Dev nD) (t : Fin cfg0.N) (h0 : ¬t.val % 16 = 0) (h1 : ¬t.val % 16 = 15) (P : Vec F S256x1024 .f32 × Vec F S1x1024 .f32 × Vec F S256x512 .f32 × Vec F S256x512 .f32 × Vec F S256x512 .bf16 × Vec F S1x512 .f32 × Vec F S1x512 .f32 × Vec F S1024x1024 .bf16 × Vec F S1024x5632 .bf16 × Vec F S1024x1024 .f32) : Vec F S256x1024 .f32 × Vec F S1x1024 .f32 × Vec F S256x512 .f32 × Vec F S256x512 .f32 × Vec F S256x512 .bf16 × Vec F S1x512 .f32 × Vec F S1x512 .f32 × Vec F S1024x1024 .bf16 × Vec F S1024x5632 .bf16 × Vec F S1024x1024 .f32 :=
  (out0_B_11 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) hscM0_0 hscM0_1 (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) P.2.1 P.2.2.2.2.2.1 P.2.2.2.2.2.2.1 P.2.2.2.2.2.2.2.2.1 P.2.2.2.2.2.2.2.2.2 (V m c main_v37), out0_B_12 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) hscM0_0 hscM0_1 (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) P.2.1 P.2.2.2.2.2.1 P.2.2.2.2.2.2.1 P.2.2.2.2.2.2.2.2.1 P.2.2.2.2.2.2.2.2.2 (V m c main_v37), out0_B_13 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) hscM0_0 hscM0_1 (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) P.2.1 P.2.2.2.2.2.1 P.2.2.2.2.2.2.1 P.2.2.2.2.2.2.2.2.1 P.2.2.2.2.2.2.2.2.2 (V m c main_v37), out0_B_14 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) hscM0_0 hscM0_1 (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) P.2.1 P.2.2.2.2.2.1 P.2.2.2.2.2.2.1 P.2.2.2.2.2.2.2.2.1 P.2.2.2.2.2.2.2.2.2 (V m c main_v37), out0_B_15 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) hscM0_0 hscM0_1 (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) P.2.1 P.2.2.2.2.2.1 P.2.2.2.2.2.2.1 P.2.2.2.2.2.2.2.2.1 P.2.2.2.2.2.2.2.2.2 (V m c main_v37), out0_B_16 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) hscM0_0 hscM0_1 (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) P.2.1 P.2.2.2.2.2.1 P.2.2.2.2.2.2.1 P.2.2.2.2.2.2.2.2.1 P.2.2.2.2.2.2.2.2.2 (V m c main_v37), out0_B_17 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) hscM0_0 hscM0_1 (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) P.2.1 P.2.2.2.2.2.1 P.2.2.2.2.2.2.1 P.2.2.2.2.2.2.2.2.1 P.2.2.2.2.2.2.2.2.2 (V m c main_v37), out0_B_18 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) hscM0_0 hscM0_1 (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) P.2.1 P.2.2.2.2.2.1 P.2.2.2.2.2.2.1 P.2.2.2.2.2.2.2.2.1 P.2.2.2.2.2.2.2.2.2 (V m c main_v37), P.2.2.2.2.2.2.2.2.1, sout0_B_1 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) hscM0_0 hscM0_1 (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) P.2.1 P.2.2.2.2.2.1 P.2.2.2.2.2.2.1 P.2.2.2.2.2.2.2.2.1 P.2.2.2.2.2.2.2.2.2 (V m c main_v37))
/-- What a point of case C leaves, after `P`. -/
def pt0_C (c : Dev nD) (t : Fin cfg0.N) (h0 : ¬t.val % 16 = 0) (h1 : t.val % 16 = 15) (P : Vec F S256x1024 .f32 × Vec F S1x1024 .f32 × Vec F S256x512 .f32 × Vec F S256x512 .f32 × Vec F S256x512 .bf16 × Vec F S1x512 .f32 × Vec F S1x512 .f32 × Vec F S1024x1024 .bf16 × Vec F S1024x5632 .bf16 × Vec F S1024x1024 .f32) : Vec F S256x1024 .f32 × Vec F S1x1024 .f32 × Vec F S256x512 .f32 × Vec F S256x512 .f32 × Vec F S256x512 .bf16 × Vec F S1x512 .f32 × Vec F S1x512 .f32 × Vec F S1024x1024 .bf16 × Vec F S1024x5632 .bf16 × Vec F S1024x1024 .f32 :=
  (out0_C_11 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) hscM0_0 hscM0_1 (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) P.2.1 P.2.2.2.2.2.1 P.2.2.2.2.2.2.1 P.2.2.2.2.2.2.2.2.1 P.2.2.2.2.2.2.2.2.2 (V m c main_v37), out0_C_12 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) hscM0_0 hscM0_1 (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) P.2.1 P.2.2.2.2.2.1 P.2.2.2.2.2.2.1 P.2.2.2.2.2.2.2.2.1 P.2.2.2.2.2.2.2.2.2 (V m c main_v37), out0_C_13 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) hscM0_0 hscM0_1 (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) P.2.1 P.2.2.2.2.2.1 P.2.2.2.2.2.2.1 P.2.2.2.2.2.2.2.2.1 P.2.2.2.2.2.2.2.2.2 (V m c main_v37), out0_C_14 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) hscM0_0 hscM0_1 (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) P.2.1 P.2.2.2.2.2.1 P.2.2.2.2.2.2.1 P.2.2.2.2.2.2.2.2.1 P.2.2.2.2.2.2.2.2.2 (V m c main_v37), out0_C_15 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) hscM0_0 hscM0_1 (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) P.2.1 P.2.2.2.2.2.1 P.2.2.2.2.2.2.1 P.2.2.2.2.2.2.2.2.1 P.2.2.2.2.2.2.2.2.2 (V m c main_v37), out0_C_16 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) hscM0_0 hscM0_1 (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) P.2.1 P.2.2.2.2.2.1 P.2.2.2.2.2.2.1 P.2.2.2.2.2.2.2.2.1 P.2.2.2.2.2.2.2.2.2 (V m c main_v37), out0_C_17 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) hscM0_0 hscM0_1 (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) P.2.1 P.2.2.2.2.2.1 P.2.2.2.2.2.2.1 P.2.2.2.2.2.2.2.2.1 P.2.2.2.2.2.2.2.2.2 (V m c main_v37), out0_C_18 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) hscM0_0 hscM0_1 (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) P.2.1 P.2.2.2.2.2.1 P.2.2.2.2.2.2.1 P.2.2.2.2.2.2.2.2.1 P.2.2.2.2.2.2.2.2.2 (V m c main_v37), P.2.2.2.2.2.2.2.2.1, sout0_C_1 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) hscM0_0 hscM0_1 (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) P.2.1 P.2.2.2.2.2.1 P.2.2.2.2.2.2.1 P.2.2.2.2.2.2.2.2.1 P.2.2.2.2.2.2.2.2.2 (V m c main_v37))
/-- What the outputs and the carried scratch hold after point `n`. -/
def outsAt0 (c : Dev nD) : (n : ℕ) → n < cfg0.N → Vec F S256x1024 .f32 × Vec F S1x1024 .f32 × Vec F S256x512 .f32 × Vec F S256x512 .f32 × Vec F S256x512 .bf16 × Vec F S1x512 .f32 × Vec F S1x512 .f32 × Vec F S1024x1024 .bf16 × Vec F S1024x5632 .bf16 × Vec F S1024x1024 .f32
  | 0, hn => pt0_A m c ⟨0, hn⟩ (Nat.zero_mod _) (by show ¬ 0 % _ = _; decide)
  | n + 1, hn =>
    if h0 : (n + 1) % 16 = 0 then
      if h1 : (n + 1) % 16 = 15 then
        False.elim (by have hN : n + 1 < 16 := lt_of_lt_of_eq hn (show cfg0.N = 16 from N_0); omega)
      else
        pt0_A m c ⟨n + 1, hn⟩ h0 h1
    else
      if h1 : (n + 1) % 16 = 15 then
        pt0_C m c ⟨n + 1, hn⟩ h0 h1 (outsAt0 c n (Nat.lt_of_succ_lt hn))
      else
        pt0_B m c ⟨n + 1, hn⟩ h0 h1 (outsAt0 c n (Nat.lt_of_succ_lt hn))
theorem outsAt0_A (c : Dev nD) (t : Fin cfg0.N) (h0 : t.val % 16 = 0) (h1 : ¬t.val % 16 = 15) :
    outsAt0 m c t.val t.isLt = pt0_A m c t h0 h1 := by
  obtain ⟨n, hn⟩ := t
  cases n with
  | zero => exact rfl
  | succ n => exact (dif_pos h0).trans ((dif_neg h1).trans rfl)
theorem outsAt0_B (c : Dev nD) (t : Fin cfg0.N) (h0 : ¬t.val % 16 = 0) (h1 : ¬t.val % 16 = 15) :
    outsAt0 m c t.val t.isLt = pt0_B m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)
theorem outsAt0_C (c : Dev nD) (t : Fin cfg0.N) (h0 : ¬t.val % 16 = 0) (h1 : t.val % 16 = 15) :
    outsAt0 m c t.val t.isLt = pt0_C m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2.2.2.2.2.2.1) ∗ owns (c : Thread nD τ) scM0_1 fullShare ((outsAt0 m c n hn).2.2.2.2.2.2.2.2.2)) ∗ (∃ r, prngReg c r) ∗ iprop(semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0) ∗ iprop(hbPt0 c hbM0_0 (V m c main_v37)))
theorem PhiS_zero (c : Dev nD) (n : ℕ) (h : n ≤ cfg0.N) (hz : n = 0) : PhiS m c n h = Pipeline.ΦD osem0 spec0 H0 (V m) c := by
  subst hz; rfl
theorem PhiS_succ (c : Dev nD) (n : ℕ) (hn : n < cfg0.N) :
    PhiS m c (n + 1) hn = iprop(iprop(owns (c : Thread nD τ) scM0_0 fullShare ((outsAt0 m c n hn).2.2.2.2.2.2.2.2.1) ∗ owns (c : Thread nD τ) scM0_1 fullShare ((outsAt0 m c n hn).2.2.2.2.2.2.2.2.2)) ∗ (∃ r, prngReg c r) ∗ iprop(semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0) ∗ iprop(hbPt0 c hbM0_0 (V m c main_v37))) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.1) ∗ owns (c : Thread nD τ) scM0_1 fullShare ((outsAt0 m c (n - 1) (by omega)).2.2.2.2.2.2.2.2.2)) ∗ (∃ r, prngReg c r) ∗ iprop(semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0) ∗ iprop(hbPt0 c hbM0_0 (V m c main_v37))) := by
  cases n with
  | zero => exact absurd rfl hz
  | succ n => rfl
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t.val t.isLt).1
    | ⟨12, _⟩ => (outsAt0 m c t.val t.isLt).2.1
    | ⟨13, _⟩ => (outsAt0 m c t.val t.isLt).2.2.1
    | ⟨14, _⟩ => (outsAt0 m c t.val t.isLt).2.2.2.1
    | ⟨15, _⟩ => (outsAt0 m c t.val t.isLt).2.2.2.2.1
    | ⟨16, _⟩ => (outsAt0 m c t.val t.isLt).2.2.2.2.2.1
    | ⟨17, _⟩ => (outsAt0 m c t.val t.isLt).2.2.2.2.2.2.1
    | ⟨18, _⟩ => (outsAt0 m c t.val t.isLt).2.2.2.2.2.2.2.1
    | ⟨_ + 19, h⟩ => absurd h (Nat.not_lt.2 (Nat.le_add_left _ _))
  Φ t := PhiS m c t.val (Nat.le_of_lt_succ t.isLt)
  q _ := fullShare
  owed _ := 0
theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t.val t.isLt).1 := by dsimp only [dats]
theorem after0_12 (c : Dev nD) (t : Fin cfg0.N) : (dats m 0 c).after 12 t = (outsAt0 m c t.val t.isLt).2.1 := by dsimp only [dats]
theorem after0_13 (c : Dev nD) (t : Fin cfg0.N) : (dats m 0 c).after 13 t = (outsAt0 m c t.val t.isLt).2.2.1 := by dsimp only [dats]
theorem after0_14 (c : Dev nD) (t : Fin cfg0.N) : (dats m 0 c).after 14 t = (outsAt0 m c t.val t.isLt).2.2.2.1 := by dsimp only [dats]
theorem after0_15 (c : Dev nD) (t : Fin cfg0.N) : (dats m 0 c).after 15 t = (outsAt0 m c t.val t.isLt).2.2.2.2.1 := by dsimp only [dats]
theorem after0_16 (c : Dev nD) (t : Fin cfg0.N) : (dats m 0 c).after 16 t = (outsAt0 m c t.val t.isLt).2.2.2.2.2.1 := by dsimp only [dats]
theorem after0_17 (c : Dev nD) (t : Fin cfg0.N) : (dats m 0 c).after 17 t = (outsAt0 m c t.val t.isLt).2.2.2.2.2.2.1 := by dsimp only [dats]
theorem after0_18 (c : Dev nD) (t : Fin cfg0.N) : (dats m 0 c).after 18 t = (outsAt0 m c t.val t.isLt).2.2.2.2.2.2.2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_12_B (c : Dev nD) (t : Fin cfg0.N) (h0 : ¬t.val % 16 = 0) (h1 : ¬t.val % 16 = 15) (d) :
    (dats m 0 c).before 12 t d = (outsAt0 m c (t.val - 1) (Nat.lt_of_le_of_lt (Nat.sub_le _ _) t.isLt)).2.1 := by
  have hN : t.val < 16 := lt_of_lt_of_eq t.isLt (show cfg0.N = 16 from N_0)
  rw [Dat.before_out_kept _ 12 rfl t (by omega) (Bool.eq_false_iff.mpr fun h => by have := (flush0_12 _).mp h; dsimp only at this; omega)
    (fun _ => rfl) (fun _ _ => rfl)]
  dsimp only [dats]
theorem before0_16_B (c : Dev nD) (t : Fin cfg0.N) (h0 : ¬t.val % 16 = 0) (h1 : ¬t.val % 16 = 15) (d) :
    (dats m 0 c).before 16 t d = (outsAt0 m c (t.val - 1) (Nat.lt_of_le_of_lt (Nat.sub_le _ _) t.isLt)).2.2.2.2.2.1 := by
  have hN : t.val < 16 := lt_of_lt_of_eq t.isLt (show cfg0.N = 16 from N_0)
  rw [Dat.before_out_kept _ 16 rfl t (by omega) (Bool.eq_false_iff.mpr fun h => by have := (flush0_16 _).mp h; dsimp only at this; omega)
    (fun _ => rfl) (fun _ _ => rfl)]
  dsimp only [dats]
theorem before0_17_B (c : Dev nD) (t : Fin cfg0.N) (h0 : ¬t.val % 16 = 0) (h1 : ¬t.val % 16 = 15) (d) :
    (dats m 0 c).before 17 t d = (outsAt0 m c (t.val - 1) (Nat.lt_of_le_of_lt (Nat.sub_le _ _) t.isLt)).2.2.2.2.2.2.1 := by
  have hN : t.val < 16 := lt_of_lt_of_eq t.isLt (show cfg0.N = 16 from N_0)
  rw [Dat.before_out_kept _ 17 rfl t (by omega) (Bool.eq_false_iff.mpr fun h => by have := (flush0_17 _).mp h; dsimp only at this; omega)
    (fun _ => rfl) (fun _ _ => rfl)]
  dsimp only [dats]
theorem before0_12_C (c : Dev nD) (t : Fin cfg0.N) (h0 : ¬t.val % 16 = 0) (h1 : t.val % 16 = 15) (d) :
    (dats m 0 c).before 12 t d = (outsAt0 m c (t.val - 1) (Nat.lt_of_le_of_lt (Nat.sub_le _ _) t.isLt)).2.1 := by
  have hN : t.val < 16 := lt_of_lt_of_eq t.isLt (show cfg0.N = 16 from N_0)
  rw [Dat.before_out_kept _ 12 rfl t (by omega) (Bool.eq_false_iff.mpr fun h => by have := (flush0_12 _).mp h; dsimp only at this; omega)
    (fun _ => rfl) (fun _ _ => rfl)]
  dsimp only [dats]
theorem before0_16_C (c : Dev nD) (t : Fin cfg0.N) (h0 : ¬t.val % 16 = 0) (h1 : t.val % 16 = 15) (d) :
    (dats m 0 c).before 16 t d = (outsAt0 m c (t.val - 1) (Nat.lt_of_le_of_lt (Nat.sub_le _ _) t.isLt)).2.2.2.2.2.1 := by
  have hN : t.val < 16 := lt_of_lt_of_eq t.isLt (show cfg0.N = 16 from N_0)
  rw [Dat.before_out_kept _ 16 rfl t (by omega) (Bool.eq_false_iff.mpr fun h => by have := (flush0_16 _).mp h; dsimp only at this; omega)
    (fun _ => rfl) (fun _ _ => rfl)]
  dsimp only [dats]
theorem before0_17_C (c : Dev nD) (t : Fin cfg0.N) (h0 : ¬t.val % 16 = 0) (h1 : t.val % 16 = 15) (d) :
    (dats m 0 c).before 17 t d = (outsAt0 m c (t.val - 1) (Nat.lt_of_le_of_lt (Nat.sub_le _ _) t.isLt)).2.2.2.2.2.2.1 := by
  have hN : t.val < 16 := lt_of_lt_of_eq t.isLt (show cfg0.N = 16 from N_0)
  rw [Dat.before_out_kept _ 17 rfl t (by omega) (Bool.eq_false_iff.mpr fun h => by have := (flush0_17 _).mp h; dsimp only at this; omega)
    (fun _ => rfl) (fun _ _ => rfl)]
  dsimp only [dats]
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t)
theorem lv0_0 (c : Dev nD) (t : Fin cfg0.N) : (dats m 0 c).leavesExact 0 t = owns (c : Thread nD τ) (ms0_0 t) fullShare (iblk m c 0 t) := by
  unfold Dat.leavesExact; rw [liveAt0_0 t, after0_0]
theorem lv0_1 (c : Dev nD) (t : Fin cfg0.N) : (dats m 0 c).leavesExact 1 t = owns (c : Thread nD τ) (ms0_1 t) fullShare (iblk m c 1 t) := by
  unfold Dat.leavesExact; rw [liveAt0_1 t, after0_1]
theorem lv0_2 (c : Dev nD) (t : Fin cfg0.N) : (dats m 0 c).leavesExact 2 t = owns (c : Thread nD τ) (ms0_2 t) fullShare (iblk m c 2 t) := by
  unfold Dat.leavesExact; rw [liveAt0_2 t, after0_2]
theorem lv0_3 (c : Dev nD) (t : Fin cfg0.N) : (dats m 0 c).leavesExact 3 t = owns (c : Thread nD τ) (ms0_3 t) fullShare (iblk m c 3 t) := by
  unfold Dat.leavesExact; rw [liveAt0_3 t, after0_3]
theorem lv0_4 (c : Dev nD) (t : Fin cfg0.N) : (dats m 0 c).leavesExact 4 t = owns (c : Thread nD τ) (ms0_4 t) fullShare (iblk m c 4 t) := by
  unfold Dat.leavesExact; rw [liveAt0_4 t, after0_4]
theorem lv0_5 (c : Dev nD) (t : Fin cfg0.N) : (dats m 0 c).leavesExact 5 t = owns (c : Thread nD τ) (ms0_5 t) fullShare (iblk m c 5 t) := by
  unfold Dat.leavesExact; rw [liveAt0_5 t, after0_5]
theorem lv0_6 (c : Dev nD) (t : Fin cfg0.N) : (dats m 0 c).leavesExact 6 t = owns (c : Thread nD τ) (ms0_6 t) fullShare (iblk m c 6 t) := by
  unfold Dat.leavesExact; rw [liveAt0_6 t, after0_6]
theorem lv0_7 (c : Dev nD) (t : Fin cfg0.N) : (dats m 0 c).leavesExact 7 t = owns (c : Thread nD τ) (ms0_7 t) fullShare (iblk m c 7 t) := by
  unfold Dat.leavesExact; rw [liveAt0_7 t, after0_7]
theorem lv0_8 (c : Dev nD) (t : Fin cfg0.N) : (dats m 0 c).leavesExact 8 t = owns (c : Thread nD τ) (ms0_8 t) fullShare (iblk m c 8 t) := by
  unfold Dat.leavesExact; rw [liveAt0_8 t, after0_8]
theorem lv0_9 (c : Dev nD) (t : Fin cfg0.N) : (dats m 0 c).leavesExact 9 t = owns (c : Thread nD τ) (ms0_9 t) fullShare (iblk m c 9 t) := by
  unfold Dat.leavesExact; rw [liveAt0_9 t, after0_9]
theorem lv0_10 (c : Dev nD) (t : Fin cfg0.N) : (dats m 0 c).leavesExact 10 t = owns (c : Thread nD τ) (ms0_10 t) fullShare (iblk m c 10 t) := by
  unfold Dat.leavesExact; rw [liveAt0_10 t, after0_10]
theorem lv0_11 (c : Dev nD) (t : Fin cfg0.N) : (dats m 0 c).leavesExact 11 t = owns (c : Thread nD τ) (ms0_11 t) fullShare ((outsAt0 m c t.val t.isLt).1) := by
  unfold Dat.leavesExact; rw [liveAt0_11 t, after0_11]
theorem lv0_12 (c : Dev nD) (t : Fin cfg0.N) : (dats m 0 c).leavesExact 12 t = owns (c : Thread nD τ) (ms0_12 t) fullShare ((outsAt0 m c t.val t.isLt).2.1) := by
  unfold Dat.leavesExact; rw [liveAt0_12 t, after0_12]
theorem lv0_13 (c : Dev nD) (t : Fin cfg0.N) : (dats m 0 c).leavesExact 13 t = owns (c : Thread nD τ) (ms0_13 t) fullShare ((outsAt0 m c t.val t.isLt).2.2.1) := by
  unfold Dat.leavesExact; rw [liveAt0_13 t, after0_13]
theorem lv0_14 (c : Dev nD) (t : Fin cfg0.N) : (dats m 0 c).leavesExact 14 t = owns (c : Thread nD τ) (ms0_14 t) fullShare ((outsAt0 m c t.val t.isLt).2.2.2.1) := by
  unfold Dat.leavesExact; rw [liveAt0_14 t, after0_14]
theorem lv0_15 (c : Dev nD) (t : Fin cfg0.N) : (dats m 0 c).leavesExact 15 t = owns (c : Thread nD τ) (ms0_15 t) fullShare ((outsAt0 m c t.val t.isLt).2.2.2.2.1) := by
  unfold Dat.leavesExact; rw [liveAt0_15 t, after0_15]
theorem lv0_16 (c : Dev nD) (t : Fin cfg0.N) : (dats m 0 c).leavesExact 16 t = owns (c : Thread nD τ) (ms0_16 t) fullShare ((outsAt0 m c t.val t.isLt).2.2.2.2.2.1) := by
  unfold Dat.leavesExact; rw [liveAt0_16 t, after0_16]
theorem lv0_17 (c : Dev nD) (t : Fin cfg0.N) : (dats m 0 c).leavesExact 17 t = owns (c : Thread nD τ) (ms0_17 t) fullShare ((outsAt0 m c t.val t.isLt).2.2.2.2.2.2.1) := by
  unfold Dat.leavesExact; rw [liveAt0_17 t, after0_17]
set_option maxHeartbeats 24000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = PhiS m c (t.val + 1) t.isLt from rfl, PhiS_succ]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · by_cases h1 : t.val % 16 = 15
    · exfalso; omega
    · rw [lv0_0, lv0_1]
      rw [lv0_2, lv0_3]
      rw [lv0_4, lv0_5]
      rw [lv0_6, lv0_7]
      rw [lv0_8, lv0_9]
      rw [lv0_10, lv0_11]
      rw [lv0_12, lv0_13]
      rw [lv0_14, lv0_15]
      rw [lv0_16, lv0_17]
      rw [Dat.leavesExact_idle (dats m 0 c) 18 t (idleAt0_18_A t ((hcond0_0 t).mpr h0) (fun h => h1 ((hcond0_1 t).mp h))) (noFlush0_18_A t ((hcond0_0 t).mpr h0) (fun h => h1 ((hcond0_1 t).mp h)))]
      by_cases hz : t.val = 0
      · rw [PhiS_castSucc m c t, PhiS_zero m c _ _ hz, PhiD0_eq]
        rw [outsAt0_A m c t h0 h1]
        unfold pt0_A; (try dsimp only); unfold out0_A_11 out0_A_12 out0_A_13 out0_A_14 out0_A_15 out0_A_16 out0_A_17 sout0_A_0 sout0_A_1; (try dsimp only)
        iintro ⟨⟨⟨HS0, HS1⟩, Hg, ⟨Hq0, Hq1, Hq2, Hq3⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
        iapply ((kernelRun0_A c (grid0.coords t) _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v37)).2.2.2.2.2.2.2.2.2.2 _ W _)
        iframe H0 H1 H2 H3 H4 H5 H6 H7 H8 H9 H10
        isplitl [H11]; · iexists _; iexact H11
        isplitl [H12]; · iexists _; iexact H12
        isplitl [H13]; · iexists _; iexact H13
        isplitl [H14]; · iexists _; iexact H14
        isplitl [H15]; · iexists _; iexact H15
        isplitl [H16]; · iexists _; iexact H16
        isplitl [H17]; · iexists _; iexact H17
        iframe H18 HS0 HS1 Hq0 Hq1 Hq2 Hq3 Hh0 HW
        iintro ⟨H0, H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, H18, ⟨%es0, HS0⟩, ⟨%es1, HS1⟩, Hq0, Hq1, Hq2, Hq3, Hh0, ⟨%W', HW'⟩⟩
        isplitl [HS0 HS1 Hg Hq0 Hq1 Hq2 Hq3 Hh0]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _)
          isplitl [Hg]
          · iexact Hg
          isplitl [Hq0 Hq1 Hq2 Hq3]
          · isplitl [Hq0]; · iexact Hq0
            iframe Hq1 Hq2
            iexact Hq3
          iexact Hh0
        isplitl [HW']
        · iexists W'; isplitr; · ipureintro; exact fun _ _ => Or.inl trivial
          iexact HW'
        iframe H0 H1 H2 H3 H4 H5 H6 H7 H8 H9 H10
        isplitl [H11]
        · unfold owns; iexists _; isplitr
          swap; · iexact H11
          ipureintro; exact View.read_writes_of_cover _ _ _ _ _ (cover0_A_11 c _ _ _ _ _ _ _ _ _ _ _ _ _ _ _ _ _ _ _ _ _ _ _ _ _ _ _ _ _ _ _ _ _ _ _ _)
        isplitl [H12]
        · unfold owns; iexists _; isplitr
          swap; · iexact H12
          ipureintro; exact View.read_writes_of_cover _ _ _ _ _ (cover0_A_12 c _ _ _ _ _ _ _ _ _ _ _ _ _ _ _ _ _ _ _ _ _ _ _ _ _ _ _ _ _ _ _ _ _ _ _ _)
        isplitl [H13]
        · unfold owns; iexists _; isplitr
          swap; · iexact H13
          ipureintro; exact View.read_writes_of_cover _ _ _ _ _ (cover0_A_13 c _ _ _ _ _ _ _ _ _ _ _ _ _ _ _ _ _ _ _ _ _ _ _ _ _ _ _ _ _ _ _ _ _ _ _ _)
        isplitl [H14]
        · unfold owns; iexists _; isplitr
          swap; · iexact H14
          ipureintro; exact View.read_writes_of_cover _ _ _ _ _ (cover0_A_14 c _ _ _ _ _ _ _ _ _ _ _ _ _ _ _ _ _ _ _ _ _ _ _ _ _ _ _ _ _ _ _ _ _ _ _ _)
        isplitl [H15]
        · unfold owns; iexists _; isplitr
          swap; · iexact H15
          ipureintro; exact View.read_writes_of_cover _ _ _ _ _ (cover0_A_15 c _ _ _ _ _ _ _ _ _ _ _ _ _ _ _ _ _ _ _ _ _ _ _ _ _ _ _ _ _ _ _ _ _ _ _ _)
        isplitl [H16]
        · unfold owns; iexists _; isplitr
          swap; · iexact H16
          ipureintro; exact View.read_writes_of_cover _ _ _ _ _ (cover0_A_16 c _ _ _ _ _ _ _ _ _ _ _ _ _ _ _ _ _ _ _ _ _ _ _ _ _ _ _ _ _ _ _ _ _ _ _ _)
        isplitl [H17]
        · unfold owns; iexists _; isplitr
          swap; · iexact H17
          ipureintro; exact View.read_writes_of_cover _ _ _ _ _ (cover0_A_17 c _ _ _ _ _ _ _ _ _ _ _ _ _ _ _ _ _ _ _ _ _ _ _ _ _ _ _ _ _ _ _ _ _ _ _ _)
        iexists _; iexact H18
      · exfalso; have hN : t.val < 16 := lt_of_lt_of_eq t.isLt (show cfg0.N = 16 from N_0); omega
  · by_cases h1 : t.val % 16 = 15
    · rw [lv0_0, lv0_1]
      rw [lv0_2, lv0_3]
      rw [lv0_4, lv0_5]
      rw [lv0_6, lv0_7]
      rw [lv0_8, lv0_9]
      rw [lv0_10, lv0_11]
      rw [lv0_12, lv0_13]
      rw [lv0_14, lv0_15]
      rw [lv0_16, lv0_17]
      rw [show (dats m 0 c).leavesExact 18 t = owns (c : Thread nD τ) (ms0_18 t) fullShare ((dats m 0 c).after 18 t) from by
      unfold Dat.leavesExact; rw [liveAt0_18_C t (fun h => h0 ((hcond0_0 t).mp h)) ((hcond0_1 t).mpr h1)], after0_18]
      by_cases hz : t.val = 0
      · exfalso; have hN : t.val < 16 := lt_of_lt_of_eq t.isLt (show cfg0.N = 16 from N_0); omega
      · rw [PhiS_castSucc m c t, PhiS_pos m c _ _ hz]
        rw [outsAt0_C m c t h0 h1]
        simp only [before0_12_C m c t h0 h1, before0_16_C m c t h0 h1, before0_17_C m c t h0 h1]
        unfold pt0_C; (try dsimp only); unfold out0_C_11 out0_C_12 out0_C_13 out0_C_14 out0_C_15 out0_C_16 out0_C_17 out0_C_18 sout0_C_1; (try dsimp only)
        iintro ⟨⟨⟨HS0, HS1⟩, Hg, ⟨Hq0, Hq1, Hq2, Hq3⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
        iapply ((kernelRun0_C c (grid0.coords t) _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ _ _ (V m c main_v37)).2.2.2.2.2.2.2.2.2.2 W _)
        iframe H0 H1 H2 H3 H4 H5 H6 H7 H8 H9 H10
        isplitl [H11]; · iexists _; iexact H11
        isplitl [H12]; · iexact H12
        isplitl [H13]; · iexists _; iexact H13
        isplitl [H14]; · iexists _; iexact H14
        isplitl [H15]; · iexists _; iexact H15
        iframe H16 H17
        isplitl [H18]; · iexists _; iexact H18
        iframe HS0 HS1 Hq0 Hq1 Hq2 Hq3 Hh0 HW
        iintro ⟨H0, H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, ⟨%e18, H18⟩, HS0, ⟨%es1, HS1⟩, Hq0, Hq1, Hq2, Hq3, Hh0, ⟨%W', HW'⟩⟩
        isplitl [HS0 HS1 Hg Hq0 Hq1 Hq2 Hq3 Hh0]
        · isplitl [HS0 HS1]
          · isplitl [HS0]; · iexact HS0
            unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _ _ _ _ _ _ _ _ _)
          isplitl [Hg]
          · iexact Hg
          isplitl [Hq0 Hq1 Hq2 Hq3]
          · isplitl [Hq0]; · iexact Hq0
            iframe Hq1 Hq2
            iexact Hq3
          iexact Hh0
        isplitl [HW']
        · iexists W'; isplitr; · ipureintro; exact fun _ _ => Or.inl trivial
          iexact HW'
        iframe H0 H1 H2 H3 H4 H5 H6 H7 H8 H9 H10
        isplitl [H11]
        · unfold owns; iexists _; isplitr
          swap; · iexact H11
          ipureintro; exact View.read_writes_of_cover _ _ _ _ _ (cover0_C_11 c _ _ _ _ _ _ _ _ _ _ _ _ _ _ _ _ _ _ _ _ _ _ _ _ _ _ _ _ _ _ _ _ _ _ _ _ _ _ _ _ _)
        isplitl [H12]
        · unfold owns; iexists _; isplitr
          swap; · iexact H12
          ipureintro; exact View.read_writes_of_cover _ _ _ _ _ (cover0_C_12 c _ _ _ _ _ _ _ _ _ _ _ _ _ _ _ _ _ _ _ _ _ _ _ _ _ _ _ _ _ _ _ _ _ _ _ _ _ _ _ _ _)
        isplitl [H13]
        · unfold owns; iexists _; isplitr
          swap; · iexact H13
          ipureintro; exact View.read_writes_of_cover _ _ _ _ _ (cover0_C_13 c _ _ _ _ _ _ _ _ _ _ _ _ _ _ _ _ _ _ _ _ _ _ _ _ _ _ _ _ _ _ _ _ _ _ _ _ _ _ _ _ _)
        isplitl [H14]
        · unfold owns; iexists _; isplitr
          swap; · iexact H14
          ipureintro; exact View.read_writes_of_cover _ _ _ _ _ (cover0_C_14 c _ _ _ _ _ _ _ _ _ _ _ _ _ _ _ _ _ _ _ _ _ _ _ _ _ _ _ _ _ _ _ _ _ _ _ _ _ _ _ _ _)
        isplitl [H15]
        · unfold owns; iexists _; isplitr
          swap; · iexact H15
          ipureintro; exact View.read_writes_of_cover _ _ _ _ _ (cover0_C_15 c _ _ _ _ _ _ _ _ _ _ _ _ _ _ _ _ _ _ _ _ _ _ _ _ _ _ _ _ _ _ _ _ _ _ _ _ _ _ _ _ _)
        isplitl [H16]
        · unfold owns; iexists _; isplitr
          swap; · iexact H16
          ipureintro; exact View.read_writes_of_cover _ _ _ _ _ (cover0_C_16 c _ _ _ _ _ _ _ _ _ _ _ _ _ _ _ _ _ _ _ _ _ _ _ _ _ _ _ _ _ _ _ _ _ _ _ _ _ _ _ _ _)
        isplitl [H17]
        · unfold owns; iexists _; isplitr
          swap; · iexact H17
          ipureintro; exact View.read_writes_of_cover _ _ _ _ _ (cover0_C_17 c _ _ _ _ _ _ _ _ _ _ _ _ _ _ _ _ _ _ _ _ _ _ _ _ _ _ _ _ _ _ _ _ _ _ _ _ _ _ _ _ _)
        unfold owns; iexists _; isplitr
        swap; · iexact H18
        ipureintro; exact View.read_writes_of_cover _ _ _ _ _ (cover0_C_18 c _ _ _ _ _ _ _ _ _ _ _ _ _ _ _ _ _ _ _ _ _ _ _ _ _ _ _ _ _ _ _ _ _ _ _ _ _ _ _ _ _)
    · rw [lv0_0, lv0_1]
      rw [lv0_2, lv0_3]
      rw [lv0_4, lv0_5]
      rw [lv0_6, lv0_7]
      rw [lv0_8, lv0_9]
      rw [lv0_10, lv0_11]
      rw [lv0_12, lv0_13]
      rw [lv0_14, lv0_15]
      rw [lv0_16, lv0_17]
      rw [Dat.leavesExact_idle (dats m 0 c) 18 t (idleAt0_18_B t (fun h => h0 ((hcond0_0 t).mp h)) (fun h => h1 ((hcond0_1 t).mp h))) (noFlush0_18_B t (fun h => h0 ((hcond0_0 t).mp h)) (fun h => h1 ((hcond0_1 t).mp h)))]
      by_cases hz : t.val = 0
      · exfalso; have hN : t.val < 16 := lt_of_lt_of_eq t.isLt (show cfg0.N = 16 from N_0); omega
      · rw [PhiS_castSucc m c t, PhiS_pos m c _ _ hz]
        rw [outsAt0_B m c t h0 h1]
        simp only [before0_12_B m c t h0 h1, before0_16_B m c t h0 h1, before0_17_B m c t h0 h1]
        unfold pt0_B; (try dsimp only); unfold out0_B_11 out0_B_12 out0_B_13 out0_B_14 out0_B_15 out0_B_16 out0_B_17 sout0_B_1; (try dsimp only)
        iintro ⟨⟨⟨HS0, HS1⟩, Hg, ⟨Hq0, Hq1, Hq2, Hq3⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
        iapply ((kernelRun0_B c (grid0.coords t) _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ _ _ (V m c main_v37)).2.2.2.2.2.2.2.2.2.2 _ W _)
        iframe H0 H1 H2 H3 H4 H5 H6 H7 H8 H9 H10
        isplitl [H11]; · iexists _; iexact H11
        isplitl [H12]; · iexact H12
        isplitl [H13]; · iexists _; iexact H13
        isplitl [H14]; · iexists _; iexact H14
        isplitl [H15]; · iexists _; iexact H15
        iframe H16 H17 H18 HS0 HS1 Hq0 Hq1 Hq2 Hq3 Hh0 HW
        iintro ⟨H0, H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, H18, HS0, ⟨%es1, HS1⟩, Hq0, Hq1, Hq2, Hq3, Hh0, ⟨%W', HW'⟩⟩
        isplitl [HS0 HS1 Hg Hq0 Hq1 Hq2 Hq3 Hh0]
        · isplitl [HS0 HS1]
          · isplitl [HS0]; · iexact HS0
            unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _ _ _ _ _ _ _ _)
          isplitl [Hg]
          · iexact Hg
          isplitl [Hq0 Hq1 Hq2 Hq3]
          · isplitl [Hq0]; · iexact Hq0
            iframe Hq1 Hq2
            iexact Hq3
          iexact Hh0
        isplitl [HW']
        · iexists W'; isplitr; · ipureintro; exact fun _ _ => Or.inl trivial
          iexact HW'
        iframe H0 H1 H2 H3 H4 H5 H6 H7 H8 H9 H10
        isplitl [H11]
        · unfold owns; iexists _; isplitr
          swap; · iexact H11
          ipureintro; exact View.read_writes_of_cover _ _ _ _ _ (cover0_B_11 c _ _ _ _ _ _ _ _ _ _ _ _ _ _ _ _ _ _ _ _ _ _ _ _ _ _ _ _ _ _ _ _ _ _ _ _ _ _ _ _ _)
        isplitl [H12]
        · unfold owns; iexists _; isplitr
          swap; · iexact H12
          ipureintro; exact View.read_writes_of_cover _ _ _ _ _ (cover0_B_12 c _ _ _ _ _ _ _ _ _ _ _ _ _ _ _ _ _ _ _ _ _ _ _ _ _ _ _ _ _ _ _ _ _ _ _ _ _ _ _ _ _)
        isplitl [H13]
        · unfold owns; iexists _; isplitr
          swap; · iexact H13
          ipureintro; exact View.read_writes_of_cover _ _ _ _ _ (cover0_B_13 c _ _ _ _ _ _ _ _ _ _ _ _ _ _ _ _ _ _ _ _ _ _ _ _ _ _ _ _ _ _ _ _ _ _ _ _ _ _ _ _ _)
        isplitl [H14]
        · unfold owns; iexists _; isplitr
          swap; · iexact H14
          ipureintro; exact View.read_writes_of_cover _ _ _ _ _ (cover0_B_14 c _ _ _ _ _ _ _ _ _ _ _ _ _ _ _ _ _ _ _ _ _ _ _ _ _ _ _ _ _ _ _ _ _ _ _ _ _ _ _ _ _)
        isplitl [H15]
        · unfold owns; iexists _; isplitr
          swap; · iexact H15
          ipureintro; exact View.read_writes_of_cover _ _ _ _ _ (cover0_B_15 c _ _ _ _ _ _ _ _ _ _ _ _ _ _ _ _ _ _ _ _ _ _ _ _ _ _ _ _ _ _ _ _ _ _ _ _ _ _ _ _ _)
        isplitl [H16]
        · unfold owns; iexists _; isplitr
          swap; · iexact H16
          ipureintro; exact View.read_writes_of_cover _ _ _ _ _ (cover0_B_16 c _ _ _ _ _ _ _ _ _ _ _ _ _ _ _ _ _ _ _ _ _ _ _ _ _ _ _ _ _ _ _ _ _ _ _ _ _ _ _ _ _)
        isplitl [H17]
        · unfold owns; iexists _; isplitr
          swap; · iexact H17
          ipureintro; exact View.read_writes_of_cover _ _ _ _ _ (cover0_B_17 c _ _ _ _ _ _ _ _ _ _ _ _ _ _ _ _ _ _ _ _ _ _ _ _ _ _ _ _ _ _ _ _ _ _ _ _ _ _ _ _ _)
        iexists _; iexact H18
theorem defs₀_row (t : Fin cfg0.N) :
    defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1⟩, Hg, ⟨Hq0, Hq1, Hq2, Hq3⟩, Hh0⟩
  isplitl [HS0 HS1]
  · isplitl [HS0]
    · iexists _; iexact HS0
    iexists _; iexact HS1
  isplitl [Hg]; · iexact Hg
  isplitl [Hq0 Hq1 Hq2 Hq3]
  · isplitl [Hq0]; · iexact Hq0
    isplitl [Hq1]; · iexact Hq1
    isplitl [Hq2]; · iexact Hq2
    iexact Hq3
  iexact Hh0
theorem hout (c : Dev nD) : (dats m 0 c).Φ (Fin.last cfg0.N) ⊢ Pipeline.ΦD osem0 spec0 H0 (V m) c :=
  Phi_out m c _ (by rw [Fin.val_last]; have : cfg0.N = 16 := N_0; omega)
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)
theorem run_main : θ_run defs (onTc (τ := τ) (main (F := F))) (s₀ m ρ) (Pipeline.FramePost cfgs (dats m) 0 (V m)) :=
  (θ_run defs _ _).mono (fun _ h => h.1) (run_main_quiescent m ρ)
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)
/-- The run, with what each result and argument then holds. -/
theorem run_blocks : θ_run defs (onTc (τ := τ) (main (F := F))) ⟨m, fun _ => 0, ρ⟩ fun r => ∀ c : Dev nD,
      r.2.mem ((c : Thread nD τ).loc main_v40_0) = (dats m 0 c).arrAt 11 cfg0.N
      ∧ r.2.mem ((c : Thread nD τ).loc main_v40_1) = (dats m 0 c).arrAt 12 cfg0.N
      ∧ r.2.mem ((c : Thread nD τ).loc main_v40_2) = (dats m 0 c).arrAt 13 cfg0.N
      ∧ r.2.mem ((c : Thread nD τ).loc main_v40_3) = (dats m 0 c).arrAt 14 cfg0.N
      ∧ r.2.mem ((c : Thread nD τ).loc main_v40_4) = (dats m 0 c).arrAt 15 cfg0.N
      ∧ r.2.mem ((c : Thread nD τ).loc main_v40_5) = (dats m 0 c).arrAt 16 cfg0.N
      ∧ r.2.mem ((c : Thread nD τ).loc main_v40_6) = (dats m 0 c).arrAt 17 cfg0.N
      ∧ r.2.mem ((c : Thread nD τ).loc main_v40_7) = (dats m 0 c).arrAt 18 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h.1 c).1 11, (h.1 c).1 12, (h.1 c).1 13, (h.1 c).1 14, (h.1 c).1 15, (h.1 c).1 16, (h.1 c).1 17, (h.1 c).1 18, h.2 c⟩)
    (θ_run_and (run_main m ρ) (unchanged m ρ))
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))
end Cert.Kernel4Ideal.Run
end
-- ==== Proof.UpBwdPt.lean ====
module

public import proofs.«01_k».proof.Proof.UpBwdRun
public import Idealize.ShloMosaic.Lib.Pipeline.ValueKit
public import Idealize.ShloMosaic.Lib.Pipeline.ReadBack
public import proofs.«01_k».proof.Proof.MlpForms

@[expose] public section
set_option maxRecDepth 16384
set_option maxHeartbeats 2000000
noncomputable section
open Idealize.ShloMosaic Idealize.ShloMosaic.TcCoe Idealize.SL.Sem
open Idealize.ShloMosaic.Pipeline (Dat)
namespace Cert.Kernel4Ideal.Bwd
open Cert.Kernel4Ideal Cert.Kernel4Ideal.Gen Cert.Kernel4Ideal.Run
open Cert.KernelIdeal.Mlp (canon_take)
/-- four column blocks side by side -/
def wideF (W : FVec Ideal S4x1024x1408 .bf16) (y : S1024x5632.Idx) : EReal :=
  W (ix3 ⟨(y 1).val / 1408, by have h1 : (y 1).val < 5632 := (y 1).isLt; omega⟩ ⟨(y 0).val, (y 0).isLt⟩
    ⟨(y 1).val % 1408, Nat.mod_lt _ (by decide)⟩)

theorem wideF_at (W : FVec Ideal S4x1024x1408 .bf16) (y : S1024x5632.Idx) (s : Fin 4) (i : Fin 1024) (j : Fin 1408)
    (h0 : (y 0).val = i.val) (h1 : (y 1).val = s.val * 1408 + j.val) : wideF W y = W (ix3 s i j) := by
  unfold wideF
  have hj := j.isLt
  congr 2 <;> refine Fin.ext ?_ <;> dsimp only <;> omega

/-- the four pieces of the columns, stored side by side -/
theorem canonW (W : FVec Ideal S4x1024x1408 .bf16) (P0 P1 P2 P3 : FVec Ideal S1024x1408 .bf16)
    (h0 : ∀ i j, P0 (ix2 i j) = W (ix3 0 i j)) (h1 : ∀ i j, P1 (ix2 i j) = W (ix3 1 i j))
    (h2 : ∀ i j, P2 (ix2 i j) = W (ix3 2 i j)) (h3 : ∀ i j, P3 (ix2 i j) = W (ix3 3 i j)) (y : S1024x5632.Idx) :
    View.canon (Val := Elt Ideal) (e := .bf16) [⟨Rect.unit ![0, 4224] ![1024, 1408] inb_S1024x5632_S1024x1408_0_4224, P3⟩,
      ⟨Rect.unit ![0, 2816] ![1024, 1408] inb_S1024x5632_S1024x1408_0_2816, P2⟩,
      ⟨Rect.unit ![0, 1408] ![1024, 1408] inb_S1024x5632_S1024x1408_0_1408, P1⟩,
      ⟨Rect.unit ![0, 0] ![1024, 1408] inb_S1024x5632_S1024x1408_0_0, P0⟩] y = wideF W y := by
  refine canon_take (e := .bf16) 4 (wideF W) _ y ?pc ?cov
  case pc =>
    refine ⟨fun x => ?p0, fun x => ?p1, fun x => ?p2, fun x => ?p3, trivial⟩
    case p0 =>
      idx_vars x
      exact (h3 x0 x1).trans (wideF_at W _ 3 x0 x1 (by blk_simp) (by blk_simp; rfl)).symm
    case p1 =>
      idx_vars x
      exact (h2 x0 x1).trans (wideF_at W _ 2 x0 x1 (by blk_simp) (by blk_simp; rfl)).symm
    case p2 =>
      idx_vars x
      exact (h1 x0 x1).trans (wideF_at W _ 1 x0 x1 (by blk_simp) (by blk_simp; rfl)).symm
    case p3 =>
      idx_vars x
      exact (h0 x0 x1).trans (wideF_at W _ 0 x0 x1 (by blk_simp) (by blk_simp; exact (Nat.zero_add _).symm)).symm
  case cov =>
    exact View.cover_of_tiledBy _ ![1024, 1408] (by sl_kernel_rfl) y

theorem readW (W : FVec Ideal S4x1024x1408 .bf16) (P0 P1 P2 P3 : FVec Ideal S1024x1408 .bf16)
    (h0 : ∀ i j, P0 (ix2 i j) = W (ix3 0 i j)) (h1 : ∀ i j, P1 (ix2 i j) = W (ix3 1 i j))
    (h2 : ∀ i j, P2 (ix2 i j) = W (ix3 2 i j)) (h3 : ∀ i j, P3 (ix2 i j) = W (ix3 3 i j)) (R : Rect S1024x5632) :
    (View.whole cc0_scratch0).readCov (Val := Elt Ideal) [⟨Rect.unit ![0, 4224] ![1024, 1408] inb_S1024x5632_S1024x1408_0_4224, P3⟩,
      ⟨Rect.unit ![0, 2816] ![1024, 1408] inb_S1024x5632_S1024x1408_0_2816, P2⟩,
      ⟨Rect.unit ![0, 1408] ![1024, 1408] inb_S1024x5632_S1024x1408_0_1408, P1⟩,
      ⟨Rect.unit ![0, 0] ![1024, 1408] inb_S1024x5632_S1024x1408_0_0, P0⟩] R.toLoadRect = View.ld (wideF W) R := by
  rw [View.readCov_eq_canon']
  funext j
  exact canonW W P0 P1 P2 P3 h0 h1 h2 h3 _

theorem part_at (W : FVec Ideal S4x1024x1408 .bf16) (s : Fin 4) (inb : ∀ a, ![s.val, 0, 0] a + ![1, 1024, 1408] a ≤ S4x1024x1408.size a)
    (h) (i : Fin 1024) (j : Fin 1408) : (ReadAs.same (Val := Elt Ideal) (s := S1024x1408) (e := .bf16)).apply (View.read (Elt Ideal)
      (((View.whole main_v37).slice (Rect.unit ![s.val, 0, 0] ![1, 1024, 1408] inb)).reshape S1024x1408 h) W) (ix2 i j) = W (ix3 s i j) := by
  show shapeCast (s := S1x1024x1408) S1024x1408 (fun x => W ((Rect.unit (s := S4x1024x1408) ![s.val, 0, 0] ![1, 1024, 1408] inb).emb x)) h (ix2 i j) = _
  pointwise []
  blk_ext []

variable (m : (ℓ : Loc nD τ sig) → Buf (Elt Ideal) ℓ)

/-- a load from the columns as the first point gathers them -/
theorem readV (c : Dev nD) (h0 h1 h2 h3) (R : Rect S1024x5632) :
    (View.whole cc0_scratch0).readCov (Val := Elt Ideal) [⟨Rect.unit ![0, 4224] ![1024, 1408] inb_S1024x5632_S1024x1408_0_4224, (ReadAs.same (Val := Elt Ideal) (s := S1024x1408) (e := .bf16)).apply (View.read (Elt Ideal)
      (((View.whole main_v37).slice (Rect.unit ![3, 0, 0] ![1, 1024, 1408] inb_S4x1024x1408_S1x1024x1408_3_0_0)).reshape S1024x1408 h3) (V m c main_v37))⟩,
      ⟨Rect.unit ![0, 2816] ![1024, 1408] inb_S1024x5632_S1024x1408_0_2816, (ReadAs.same (Val := Elt Ideal) (s := S1024x1408) (e := .bf16)).apply (View.read (Elt Ideal)
      (((View.whole main_v37).slice (Rect.unit ![2, 0, 0] ![1, 1024, 1408] inb_S4x1024x1408_S1x1024x1408_2_0_0)).reshape S1024x1408 h2) (V m c main_v37))⟩,
      ⟨Rect.unit ![0, 1408] ![1024, 1408] inb_S1024x5632_S1024x1408_0_1408, (ReadAs.same (Val := Elt Ideal) (s := S1024x1408) (e := .bf16)).apply (View.read (Elt Ideal)
      (((View.whole main_v37).slice (Rect.unit ![1, 0, 0] ![1, 1024, 1408] inb_S4x1024x1408_S1x1024x1408_1_0_0)).reshape S1024x1408 h1) (V m c main_v37))⟩,
      ⟨Rect.unit ![0, 0] ![1024, 1408] inb_S1024x5632_S1024x1408_0_0, (ReadAs.same (Val := Elt Ideal) (s := S1024x1408) (e := .bf16)).apply (View.read (Elt Ideal)
      (((View.whole main_v37).slice (Rect.unit ![0, 0, 0] ![1, 1024, 1408] inb_S4x1024x1408_S1x1024x1408_0_0_0)).reshape S1024x1408 h0) (V m c main_v37))⟩] R.toLoadRect = View.ld (wideF (V m c main_v37)) R :=
  readW _ _ _ _ _ (part_at _ 0 _ _) (part_at _ 1 _ _) (part_at _ 2 _ _) (part_at _ 3 _ _) R

section
variable (c : Dev nD) (t : Fin cfg0.N) (W : FVec Ideal S1024x5632 .bf16)
/-- the gradient of the normed rows, times the gain -/
abbrev dF : FVec Ideal S256x1024 .f32 := k0_pay11 (iblk m c 0 t) W (iblk m c 2 t)
/-- its sum along a row against the normed rows -/
abbrev sF : FVec Ideal S256x1 .f32 := k0_pay12 (iblk m c 0 t) W (iblk m c 1 t) (iblk m c 2 t)
/-- the gradient of the mixed columns -/
abbrev xF : FVec Ideal S256x1024 .f32 := k0_pay17 (k0_pay8 (iblk m c 1 t)) (k0_pay9 (iblk m c 1 t)) (iblk m c 3 t) (dF m c t W) (sF m c t W) k0_pay13 (iblk m c 4 t)
/-- the reciprocal roots of the heads, over their columns, and the normed heads -/
abbrev rrF : FVec Ideal S256x512 .f32 := k0_pay26 (iblk m c 7 t) (k0_pay24 (iblk m c 7 t)) (k0_pay25 (iblk m c 7 t))
abbrev rnF : FVec Ideal S256x512 .f32 := k0_pay27 (iblk m c 7 t) (k0_pay24 (iblk m c 7 t)) (k0_pay25 (iblk m c 7 t))
/-- what a point leaves, besides the last result, from the columns and the sums so far -/
abbrev ptF (G : FVec Ideal S1x1024 .f32) (A H : FVec Ideal S1x512 .f32) (O : FVec Ideal S1024x1024 .f32) : FVec Ideal S256x1024 .f32 × FVec Ideal S1x1024 .f32 × FVec Ideal S256x512 .f32 × FVec Ideal S256x512 .f32 × FVec Ideal S256x512 .bf16 × FVec Ideal S1x512 .f32 × FVec Ideal S1x512 .f32 × FVec Ideal S1024x5632 .bf16 × FVec Ideal S1024x1024 .f32 :=
  (k0_pay14 (k0_pay8 (iblk m c 1 t)) (k0_pay9 (iblk m c 1 t)) (iblk m c 3 t) (dF m c t W) (sF m c t W) k0_pay13,
    k0_pay10 (iblk m c 0 t) W (iblk m c 1 t) G,
    k0_pay22 (k0_pay18 (k0_pay8 (iblk m c 1 t)) (k0_pay9 (iblk m c 1 t)) (iblk m c 3 t) (dF m c t W) (sF m c t W) k0_pay13 (iblk m c 4 t)) (k0_pay19 (iblk m c 6 t)) (k0_pay20 (iblk m c 6 t)) (iblk m c 9 t),
    k0_pay32 (k0_pay23 (xF m c t W)) (iblk m c 8 t) (iblk m c 10 t) (rrF m c t) (rnF m c t) (k0_pay28 (iblk m c 8 t)),
    k0_pay29 (k0_pay23 (xF m c t W)) (iblk m c 8 t) (iblk m c 10 t) (iblk m c 7 t) (k0_pay24 (iblk m c 7 t)) (k0_pay25 (iblk m c 7 t)),
    k0_pay21 (k0_pay8 (iblk m c 1 t)) (k0_pay9 (iblk m c 1 t)) (iblk m c 3 t) (dF m c t W) (sF m c t W) k0_pay13 (iblk m c 4 t) (iblk m c 6 t) A,
    k0_pay31 (k0_pay23 (xF m c t W)) (iblk m c 8 t) (rnF m c t) (k0_pay28 (iblk m c 8 t)) H,
    W,
    k0_pay16 (k0_pay8 (iblk m c 1 t)) (k0_pay9 (iblk m c 1 t)) (iblk m c 3 t) (dF m c t W) (sF m c t W) k0_pay13 O (iblk m c 5 t))
end

/-- a point's leavings without the last result -/
abbrev butF (o : FVec Ideal S256x1024 .f32 × FVec Ideal S1x1024 .f32 × FVec Ideal S256x512 .f32 × FVec Ideal S256x512 .f32 × FVec Ideal S256x512 .bf16 × FVec Ideal S1x512 .f32 × FVec Ideal S1x512 .f32 × FVec Ideal S1024x1024 .bf16 × FVec Ideal S1024x5632 .bf16 × FVec Ideal S1024x1024 .f32) : FVec Ideal S256x1024 .f32 × FVec Ideal S1x1024 .f32 × FVec Ideal S256x512 .f32 × FVec Ideal S256x512 .f32 × FVec Ideal S256x512 .bf16 × FVec Ideal S1x512 .f32 × FVec Ideal S1x512 .f32 × FVec Ideal S1024x5632 .bf16 × FVec Ideal S1024x1024 .f32 :=
  (o.1, o.2.1, o.2.2.1, o.2.2.2.1, o.2.2.2.2.1, o.2.2.2.2.2.1, o.2.2.2.2.2.2.1, o.2.2.2.2.2.2.2.2)

theorem ptB (c : Dev nD) (t : Fin cfg0.N) (h0 : ¬t.val % 16 = 0) (h1 : ¬t.val % 16 = 15) (P : _) (hP : outsAt0 (F := Ideal) m c (t.val - 1) (Nat.lt_of_le_of_lt (Nat.sub_le _ _) t.isLt) = P) :
    butF (outsAt0 (F := Ideal) m c t.val t.isLt) = ptF m c t P.2.2.2.2.2.2.2.2.1 P.2.1 P.2.2.2.2.2.1 P.2.2.2.2.2.2.1 P.2.2.2.2.2.2.2.2.2 := by
  refine Prod.ext ?_ (Prod.ext ?_ (Prod.ext ?_ (Prod.ext ?_ (Prod.ext ?_ (Prod.ext ?_ (Prod.ext ?_ (Prod.ext ?d ?_)))))))
  case d =>
    dsimp only
    rw [outsAt0_B m c t h0 h1, pt0_B, hP]
  all_goals
    dsimp only
    rw [outsAt0_B m c t h0 h1, pt0_B, hP]
    dsimp only
    frame_out
    try simp only [read_unread_whole]

theorem ptC (c : Dev nD) (t : Fin cfg0.N) (h0 : ¬t.val % 16 = 0) (h1 : t.val % 16 = 15) (P : _) (hP : outsAt0 (F := Ideal) m c (t.val - 1) (Nat.lt_of_le_of_lt (Nat.sub_le _ _) t.isLt) = P) :
    butF (outsAt0 (F := Ideal) m c t.val t.isLt) = ptF m c t P.2.2.2.2.2.2.2.2.1 P.2.1 P.2.2.2.2.2.1 P.2.2.2.2.2.2.1 P.2.2.2.2.2.2.2.2.2 := by
  refine Prod.ext ?_ (Prod.ext ?_ (Prod.ext ?_ (Prod.ext ?_ (Prod.ext ?_ (Prod.ext ?_ (Prod.ext ?_ (Prod.ext ?d ?_)))))))
  case d =>
    dsimp only
    rw [outsAt0_C m c t h0 h1, pt0_C, hP]
  all_goals
    dsimp only
    rw [outsAt0_C m c t h0 h1, pt0_C, hP]
    dsimp only
    frame_out
    try simp only [read_unread_whole]

/-- at the last point the last result is the sum kept beside -/
theorem ptC_18 (c : Dev nD) (t : Fin cfg0.N) (h0 : ¬t.val % 16 = 0) (h1 : t.val % 16 = 15) (P : _) (hP : outsAt0 (F := Ideal) m c (t.val - 1) (Nat.lt_of_le_of_lt (Nat.sub_le _ _) t.isLt) = P) :
    (outsAt0 (F := Ideal) m c t.val t.isLt).2.2.2.2.2.2.2.1 = k0_pay1 (F := Ideal) (ptF m c t P.2.2.2.2.2.2.2.2.1 P.2.1 P.2.2.2.2.2.1 P.2.2.2.2.2.2.1 P.2.2.2.2.2.2.2.2.2).2.2.2.2.2.2.2.2 := by
  rw [outsAt0_C m c t h0 h1, pt0_C, hP]
  dsimp only
  frame_open
  try simp (disch := decide) only [↓View.readCov_fill]
  frame_out
  try simp only [read_unread_whole]

/-- the columns as the first point gathers them, read whole -/
theorem readAll (c : Dev nD) (W : FVec Ideal S1024x5632 .bf16) : View.ld (Val := Elt Ideal) (S := S1024x5632) (e' := .bf16) W (Rect.unit ![0, 0] ![1024, 5632] inb_S1024x5632_S1024x5632_0_0) = W := by
  funext j
  refine congrArg W ?_
  idx_vars j
  refine funext fun a => Fin.ext ?_
  match a with
  | ⟨0, _⟩ => show 0 + 1 * j0.val = j0.val; omega
  | ⟨1, _⟩ => show 0 + 1 * j1.val = j1.val; omega

theorem ptA (c : Dev nD) (t : Fin cfg0.N) (h0 : t.val % 16 = 0) (h1 : ¬t.val % 16 = 15) :
    butF (outsAt0 (F := Ideal) m c t.val t.isLt) = ptF m c t (wideF (V m c main_v37)) k0_pay2 k0_pay3 k0_pay4 k0_pay5 := by
  refine Prod.ext ?_ (Prod.ext ?_ (Prod.ext ?_ (Prod.ext ?_ (Prod.ext ?_ (Prod.ext ?_ (Prod.ext ?_ (Prod.ext ?d ?_)))))))
  case d =>
    dsimp only
    rw [outsAt0_A m c t h0 h1, pt0_A]
    dsimp only
    frame_open
    frame_out
    clear h0 h1
    exact funext fun y => canonW _ _ _ _ _ (part_at _ 0 _ _) (part_at _ 1 _ _) (part_at _ 2 _ _) (part_at _ 3 _ _) y
  all_goals
    dsimp only
    rw [outsAt0_A m c t h0 h1, pt0_A]
    dsimp only
    frame_open
    try simp (disch := decide) only [↓View.readCov_fill]
    frame_out
    rw [readV m c (by rfl) (by rfl) (by rfl) (by rfl) (Rect.unit ![0, 0] ![1024, 5632] inb_S1024x5632_S1024x5632_0_0), readAll c]

theorem carried (c : Dev nD) : ∀ (n : ℕ) (h : n < cfg0.N), (outsAt0 (F := Ideal) m c n h).2.2.2.2.2.2.2.2.1 = wideF (V m c main_v37)
  | 0, h => congrArg (fun p => p.2.2.2.2.2.2.2.1) (ptA m c ⟨0, h⟩ rfl (by show ¬ 0 % _ = _; decide))
  | n + 1, h => by
    by_cases h0 : (n + 1) % 16 = 0
    · exact congrArg (fun p => p.2.2.2.2.2.2.2.1) (ptA m c ⟨n + 1, h⟩ h0 (by show ¬ (n + 1) % _ = _; omega))
    · by_cases h1 : (n + 1) % 16 = 15
      · exact (congrArg (fun p => p.2.2.2.2.2.2.2.1) (ptC m c ⟨n + 1, h⟩ h0 h1 _ rfl)).trans (carried c n (Nat.lt_of_succ_lt h))
      · exact (congrArg (fun p => p.2.2.2.2.2.2.2.1) (ptB m c ⟨n + 1, h⟩ h0 h1 _ rfl)).trans (carried c n (Nat.lt_of_succ_lt h))

/-- a later point, whatever its case -/
theorem pt_step (c : Dev nD) (t : Fin cfg0.N) (h0 : ¬t.val % 16 = 0) (P : _) (hP : outsAt0 (F := Ideal) m c (t.val - 1) (Nat.lt_of_le_of_lt (Nat.sub_le _ _) t.isLt) = P) :
    butF (outsAt0 (F := Ideal) m c t.val t.isLt) = ptF m c t (wideF (V m c main_v37)) P.2.1 P.2.2.2.2.2.1 P.2.2.2.2.2.2.1 P.2.2.2.2.2.2.2.2.2 := by
  have hW : P.2.2.2.2.2.2.2.2.1 = wideF (V m c main_v37) := by rw [← hP]; exact carried m c _ _
  rw [← hW]
  by_cases h1 : t.val % 16 = 15
  · exact ptC m c t h0 h1 P hP
  · exact ptB m c t h0 h1 P hP

end Cert.Kernel4Ideal.Bwd
end
-- ==== Proof.UpBwdRef.lean ====
module

public import proofs.«01_k».proof.Proof.Norm
public import proofs.«01_k».proof.Proof.MlpForms
public import Idealize.ShloMosaic.Lib.Pipeline.ValueKit
public import Idealize.ShloMosaic.Lib.Pipeline.ReadBack
public import proofs.«01_k».proof.Proof.Gen.Reference4Ideal.Read

@[expose] public section
set_option maxRecDepth 16384
set_option maxHeartbeats 400000
noncomputable section
open Idealize.ShloMosaic Idealize.ShloMosaic.TcCoe Idealize.SL.Sem
namespace Cert.Kernel4Ideal.Bwd
open Cert.Reference4Ideal

theorem ofBits_i512 : Ideal.ofBits .f32 0x3B000000#32 = (((1 : ℝ) / 512 : ℝ) : EReal) := by
  simp [Ideal.ofBits, Ideal.ieee, -EReal.coe_mul]; norm_num
theorem ofBits_i128 : Ideal.ofBits .f32 0x3C000000#32 = (((1 : ℝ) / 128 : ℝ) : EReal) := by
  simp [Ideal.ofBits, Ideal.ieee, -EReal.coe_mul]; norm_num
theorem div_512 (x : EReal) : Ideal.div x (Ideal.ofBits .f32 0x44000000#32) = x * Ideal.ofBits .f32 0x3B000000#32 := by
  have e1 : Ideal.ofBits .f32 0x44000000#32 = ((512 : ℝ) : EReal) := by simp [Ideal.ofBits, Ideal.ieee, -EReal.coe_mul]; norm_num
  rw [e1, ofBits_i512, Ideal.div, if_neg (by norm_num), ← EReal.coe_inv]
  norm_num
theorem div_128 (x : EReal) : Ideal.div x (Ideal.ofBits .f32 0x43000000#32) = x * Ideal.ofBits .f32 0x3C000000#32 := by
  have e1 : Ideal.ofBits .f32 0x43000000#32 = ((128 : ℝ) : EReal) := by simp [Ideal.ofBits, Ideal.ieee, -EReal.coe_mul]; norm_num
  rw [e1, ofBits_i128, Ideal.div, if_neg (by norm_num), ← EReal.coe_inv]
  norm_num

/-! The rows' formulas, in the kernel's form. -/

/-- the reciprocal root of a row of 512, and of a head of 128, from the sum of squares -/
def rmsA (s : EReal) : EReal := Ideal.rsqrt (s * Ideal.ofBits .f32 0x3B000000#32 + Ideal.ofBits .f32 0x358637BD#32)
def rmsH (s : EReal) : EReal := Ideal.rsqrt (s * Ideal.ofBits .f32 0x3C000000#32 + Ideal.ofBits .f32 0x358637BD#32)
/-- the gradient through the norm of a row of 1024, added to another -/
def dhR (d x : Fin 1024 → EReal) (h : EReal) (i : Fin 1024) : EReal :=
  h + Cert.Norm.rms (∑ k, x k * x k) * (d i - x i * Cert.Norm.rms (∑ k, x k * x k) * ((∑ k, d k * (x k * Cert.Norm.rms (∑ k, x k * x k))) * Ideal.ofBits .f32 0x3A800000#32))
/-- the gradient through the norm of a row of 512 -/
def daR (d x : Fin 512 → EReal) (i : Fin 512) : EReal :=
  rmsA (∑ k, x k * x k) * (d i - x i * rmsA (∑ k, x k * x k) * ((∑ k, d k * (x k * rmsA (∑ k, x k * x k))) * Ideal.ofBits .f32 0x3B000000#32))
/-- column `k` of the head that column `i` is in -/
def hd (i : Fin 512) (k : Fin 128) : Fin 512 := ⟨i.val / 128 * 128 + k.val, by omega⟩
/-- the reciprocal root of column `i`'s head -/
def rrR (x : Fin 512 → EReal) (i : Fin 512) : EReal := rmsH (∑ k, x (hd i k) * x (hd i k))
/-- the gradient through the norms of the heads -/
def drR (d x : Fin 512 → EReal) (i : Fin 512) : EReal :=
  rrR x i * (d i - x i * rrR x i * ((∑ k, d (hd i k) * (x (hd i k) * rrR x (hd i k))) * Ideal.ofBits .f32 0x3C000000#32))
/-- the logistic function, and the silu's slope times a gradient -/
def sgR (g : EReal) : EReal := Ideal.div 1 (1 + Ideal.exp (-g))
def dgR (c g : EReal) : EReal := c * (sgR g * (1 + g * (1 - sgR g)))
/-- the gradient of the normed heads' columns before the gain, from the gradient of the mixed columns -/
def dyR (d g x5 : EReal) : EReal := d * (g * sgR g) * x5

theorem hd_div (i : Fin 512) (k : Fin 128) : (hd i k).val / 128 = i.val / 128 := by
  show (i.val / 128 * 128 + k.val) / 128 = _
  have := k.isLt
  omega
theorem hd_hd (i : Fin 512) (k l : Fin 128) : hd (hd i k) l = hd i l := by
  refine Fin.ext ?_
  show (hd i k).val / 128 * 128 + l.val = i.val / 128 * 128 + l.val
  rw [hd_div]
theorem rr_hd (x : Fin 512 → EReal) (i : Fin 512) (k : Fin 128) : rrR x (hd i k) = rrR x i := by
  unfold rrR
  simp only [hd_hd]

namespace Ref
open Cert.Reference4Ideal.Read
variable (x0 x1 : FVec Ideal S4096x512 .f32) (x2 : FVec Ideal S4096x2048 .f32) (x3 : FVec Ideal S4096x1024 .f32) (x4 x5 : FVec Ideal S1x512 .f32) (x6 : FVec Ideal S1024x1024 .f32)
  (x7 : FVec Ideal S1x1024 .f32) (x8 : FVec Ideal S1024x5632 .f32) (x9 : FVec Ideal S4096x1024 .f32) (x10 : FVec Ideal S4096x5632 .f32)

theorem r58 (n : Fin 4096) (i : Fin 1024) : (val_main_v58 (F := Ideal) x8 x10) (ix2 n i) = (∑ j : Fin 5632, x10 (ix2 n j) * x8 (ix2 i j) : EReal) := by
  pointwise [val_main_v58]

theorem r79 (n : Fin 4096) (i : Fin 1024) : (val_main_v79 (F := Ideal) x0 x1 x2 x3 x4 x5 x6 x7 x8 x9 x10) (ix2 n i)
    = dhR (fun k => (val_main_v58 (F := Ideal) x8 x10) (ix2 n k) * x7 (ix2 ⟨0, by decide⟩ k)) (fun k => (val_main_v39 (F := Ideal) x0 x1 x2 x3 x4 x5 x6) (ix2 n k)) (x9 (ix2 n i)) i := by
  unfold dhR
  refine Eq.trans ?_ (Cert.Norm.bwd1024 (fun k => (val_main_v39 (F := Ideal) x0 x1 x2 x3 x4 x5 x6) (ix2 n k)) (fun k => (val_main_v58 (F := Ideal) x8 x10) (ix2 n k) * x7 (ix2 ⟨0, by decide⟩ k)) (x9 (ix2 n i)) i).symm
  unfold Cert.Norm.rms
  unfold val_main_v79 val_main_v78 val_main_v77 val_main_v76 val_main_v75 val_main_v74 val_main_v73 val_main_v72 val_main_v70 val_main_v69 val_main_v68 val_main_v67 val_main_v66 val_main_v65 val_main_v64 val_main_v63 val_main_v50 val_main_v48 val_main_v47 val_main_v46 val_main_v44 val_main_v42 val_main_v41 val_main_v40
  generalize (val_main_v39 (F := Ideal) x0 x1 x2 x3 x4 x5 x6) = H
  generalize (val_main_v58 (F := Ideal) x8 x10) = D
  pointwise [val_main_v62, val_main_v71, val_main_v49, val_main_v45, val_main_v43, val_main_cst_7, val_main_cst_8, val_main_cst_9, val_main_cst_10, val_main_cst_12, val_main_cst_13, val_main_cst_14, Cert.Norm.div_n]
  simp only [Fintype.sum_unique]

theorem r61 (i : Fin 1024) : (val_main_v61 (F := Ideal) x0 x1 x2 x3 x4 x5 x6 x8 x10) (ix2 ⟨0, by decide⟩ i)
    = (∑ n : Fin 4096, (val_main_v58 (F := Ideal) x8 x10) (ix2 n i) * ((val_main_v39 (F := Ideal) x0 x1 x2 x3 x4 x5 x6) (ix2 n i) * Cert.Norm.rms (∑ k : Fin 1024, (val_main_v39 (F := Ideal) x0 x1 x2 x3 x4 x5 x6) (ix2 n k) * (val_main_v39 (F := Ideal) x0 x1 x2 x3 x4 x5 x6) (ix2 n k))) : EReal) := by
  unfold Cert.Norm.rms
  unfold val_main_v61 val_main_v60 val_main_v59 val_main_v52 val_main_v51 val_main_v47 val_main_v46 val_main_v44 val_main_v42 val_main_v41 val_main_v40
  generalize (val_main_v39 (F := Ideal) x0 x1 x2 x3 x4 x5 x6) = H
  generalize (val_main_v58 (F := Ideal) x8 x10) = D
  pointwise [val_main_v43, val_main_v45, val_main_cst_7, val_main_cst_8, val_main_cst_9, val_main_cst_11, Cert.Norm.div_n]
  exact Finset.sum_congr rfl fun n _ => mul_comm (G := EReal) _ _

theorem r131 (k i : Fin 1024) : (val_main_v131 (F := Ideal) x0 x1 x2 x3 x4 x5 x6 x7 x8 x9 x10) (ix2 k i) = (∑ n : Fin 4096, (val_main_v37 (F := Ideal) x0 x1 x2 x4 x5) (ix2 n k) * (val_main_v79 (F := Ideal) x0 x1 x2 x3 x4 x5 x6 x7 x8 x9 x10) (ix2 n i) : EReal) := by
  unfold val_main_v131 val_main_v81 val_main_v80
  generalize (val_main_v37 (F := Ideal) x0 x1 x2 x4 x5) = M
  generalize (val_main_v79 (F := Ideal) x0 x1 x2 x3 x4 x5 x6 x7 x8 x9 x10) = D
  pointwise []
  exact Finset.sum_congr rfl fun n _ => mul_comm (G := EReal) _ _

theorem r82 (n : Fin 4096) (k : Fin 1024) : (val_main_v82 (F := Ideal) x0 x1 x2 x3 x4 x5 x6 x7 x8 x9 x10) (ix2 n k) = (∑ i : Fin 1024, (val_main_v79 (F := Ideal) x0 x1 x2 x3 x4 x5 x6 x7 x8 x9 x10) (ix2 n i) * x6 (ix2 k i) : EReal) := by
  unfold val_main_v82
  generalize (val_main_v79 (F := Ideal) x0 x1 x2 x3 x4 x5 x6 x7 x8 x9 x10) = D
  pointwise []

theorem r88 (i : Fin 512) : (val_main_v88 (F := Ideal) x0 x1 x2 x3 x4 x5 x6 x7 x8 x9 x10) (ix2 ⟨0, by decide⟩ i)
    = (∑ n : Fin 4096, (val_main_v82 (F := Ideal) x0 x1 x2 x3 x4 x5 x6 x7 x8 x9 x10) (ix2 n ⟨i.val, by omega⟩) * (x0 (ix2 n i) * rmsA (∑ k : Fin 512, x0 (ix2 n k) * x0 (ix2 n k))) : EReal) := by
  unfold rmsA
  unfold val_main_v88 val_main_v87 val_main_v86 val_main_v83
  generalize (val_main_v82 (F := Ideal) x0 x1 x2 x3 x4 x5 x6 x7 x8 x9 x10) = D
  pointwise [val_main_v21, val_main_v22, val_main_v23, val_main_v24, val_main_v25, val_main_v26, val_main_v27, val_main_v28, val_main_v32, val_main_v33, val_main_cst_3, val_main_cst_4, val_main_cst_5, val_main_cst_15, div_512]
  exact Finset.sum_congr rfl fun n _ => mul_comm (G := EReal) _ _

theorem bwdA (x d : Fin 512 → EReal) (k : Fin 512) : daR d x k = d k * rmsA (∑ j, x j * x j)
        + x k * ((∑ j, x j * d j) * (Ideal.ofBits .f32 0xBF000000#32 * Ideal.div (rmsA (∑ j, x j * x j))
          ((∑ j, x j * x j) * Ideal.ofBits .f32 0x3B000000#32 + Ideal.ofBits .f32 0x358637BD#32)) * Ideal.ofBits .f32 0x3B000000#32)
        + (∑ j, x j * d j) * (Ideal.ofBits .f32 0xBF000000#32 * Ideal.div (rmsA (∑ j, x j * x j))
          ((∑ j, x j * x j) * Ideal.ofBits .f32 0x3B000000#32 + Ideal.ofBits .f32 0x358637BD#32)) * Ideal.ofBits .f32 0x3B000000#32 * x k := by
  unfold daR rmsA
  rw [ofBits_i512, Cert.Norm.ofBits_eps, Cert.Norm.ofBits_half]
  have e := Cert.Norm.bwd x d (1 / 512) (8796093 / 8796093022208) (by norm_num) (by norm_num) 0 k
  rw [zero_add, zero_add] at e
  exact e

theorem bwdH (x d : Fin 128 → EReal) (k : Fin 128) :
    rmsH (∑ j, x j * x j) * (d k - x k * rmsH (∑ j, x j * x j) * ((∑ j, d j * (x j * rmsH (∑ j, x j * x j))) * Ideal.ofBits .f32 0x3C000000#32)) = d k * rmsH (∑ j, x j * x j)
        + x k * ((∑ j, x j * d j) * (Ideal.ofBits .f32 0xBF000000#32 * Ideal.div (rmsH (∑ j, x j * x j))
          ((∑ j, x j * x j) * Ideal.ofBits .f32 0x3C000000#32 + Ideal.ofBits .f32 0x358637BD#32)) * Ideal.ofBits .f32 0x3C000000#32)
        + (∑ j, x j * d j) * (Ideal.ofBits .f32 0xBF000000#32 * Ideal.div (rmsH (∑ j, x j * x j))
          ((∑ j, x j * x j) * Ideal.ofBits .f32 0x3C000000#32 + Ideal.ofBits .f32 0x358637BD#32)) * Ideal.ofBits .f32 0x3C000000#32 * x k := by
  unfold rmsH
  rw [ofBits_i128, Cert.Norm.ofBits_eps, Cert.Norm.ofBits_half]
  have e := Cert.Norm.bwd x d (1 / 128) (8796093 / 8796093022208) (by norm_num) (by norm_num) 0 k
  rw [zero_add, zero_add] at e
  exact e

theorem bwdD (x d : Fin 512 → EReal) (i : Fin 512) : drR d x i = d i * rmsH (∑ j, x (hd i j) * x (hd i j))
        + x i * ((∑ j, x (hd i j) * d (hd i j)) * (Ideal.ofBits .f32 0xBF000000#32 * Ideal.div (rmsH (∑ j, x (hd i j) * x (hd i j)))
          ((∑ j, x (hd i j) * x (hd i j)) * Ideal.ofBits .f32 0x3C000000#32 + Ideal.ofBits .f32 0x358637BD#32)) * Ideal.ofBits .f32 0x3C000000#32)
        + (∑ j, x (hd i j) * d (hd i j)) * (Ideal.ofBits .f32 0xBF000000#32 * Ideal.div (rmsH (∑ j, x (hd i j) * x (hd i j)))
          ((∑ j, x (hd i j) * x (hd i j)) * Ideal.ofBits .f32 0x3C000000#32 + Ideal.ofBits .f32 0x358637BD#32)) * Ideal.ofBits .f32 0x3C000000#32 * x i := by
  unfold drR
  simp only [rr_hd]
  unfold rrR
  have h : hd i ⟨i.val % 128, Nat.mod_lt _ (by decide)⟩ = i := Fin.ext (Nat.div_add_mod' _ _)
  have e := bwdH (fun k => x (hd i k)) (fun k => d (hd i k)) ⟨i.val % 128, Nat.mod_lt _ (by decide)⟩
  simp only [h] at e
  exact e

theorem r104 (n : Fin 4096) (i : Fin 512) : (val_main_v104 (F := Ideal) x0 x1 x2 x3 x4 x5 x6 x7 x8 x9 x10) (ix2 n i)
    = daR (fun k => (val_main_v82 (F := Ideal) x0 x1 x2 x3 x4 x5 x6 x7 x8 x9 x10) (ix2 n ⟨k.val, by omega⟩) * x4 (ix2 ⟨0, by decide⟩ k)) (fun k => x0 (ix2 n k)) i := by
  rw [bwdA]
  unfold rmsA
  unfold val_main_v104 val_main_v103 val_main_v102 val_main_v101 val_main_v100 val_main_v99 val_main_v98 val_main_v96 val_main_v95 val_main_v93 val_main_v92 val_main_v91 val_main_v90 val_main_v83
  generalize (val_main_v82 (F := Ideal) x0 x1 x2 x3 x4 x5 x6 x7 x8 x9 x10) = D
  pointwise [val_main_v94, val_main_v97, val_main_v89, val_main_v21, val_main_v22, val_main_v23, val_main_v24, val_main_v25, val_main_v26, val_main_v27, val_main_v28, val_main_v29, val_main_v30, val_main_v31, val_main_cst_3, val_main_cst_4, val_main_cst_5, val_main_cst_6, val_main_cst_16, val_main_cst_17, val_main_cst_18, div_512]
  simp only [Fintype.sum_unique]

theorem r130 (n : Fin 4096) (i : Fin 512) : (val_main_v130 (F := Ideal) x0 x1 x2 x3 x4 x5 x6 x7 x8 x9 x10) (ix2 n i)
    = (x1 (ix2 n i) * rrR (fun k => x1 (ix2 n k)) i * x5 (ix2 ⟨0, by decide⟩ i) * (val_main_v82 (F := Ideal) x0 x1 x2 x3 x4 x5 x6 x7 x8 x9 x10) (ix2 n ⟨512 + i.val, by omega⟩) * sgR (x2 (ix2 n ⟨1536 + i.val, by omega⟩))
      + x2 (ix2 n ⟨1536 + i.val, by omega⟩) * (x1 (ix2 n i) * rrR (fun k => x1 (ix2 n k)) i * x5 (ix2 ⟨0, by decide⟩ i) * (val_main_v82 (F := Ideal) x0 x1 x2 x3 x4 x5 x6 x7 x8 x9 x10) (ix2 n ⟨512 + i.val, by omega⟩))
        * (sgR (x2 (ix2 n ⟨1536 + i.val, by omega⟩)) * (1 - sgR (x2 (ix2 n ⟨1536 + i.val, by omega⟩)))) : EReal) := by
  unfold rrR rmsH sgR hd
  unfold val_main_v130 val_main_v108 val_main_v107 val_main_call1_v2 val_main_call1_v1 val_main_call1_v0 val_main_v105 val_main_v85 val_main_v84
  generalize (val_main_v82 (F := Ideal) x0 x1 x2 x3 x4 x5 x6 x7 x8 x9 x10) = D
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_cst, val_main_cst_0, val_main_cst_1, val_main_cst_2, val_main_call0_v0, val_main_call0_v1, val_main_call0_v2, val_main_call0_v3, val_main_call0_v4, val_main_call0_v6, val_main_call0_v7, val_main_v19_0, val_main_v19_1, val_main_v19_2, val_main_call0_cst, val_main_call0_cst_0, val_main_call0_cst_1, div_128]

theorem r128 (i : Fin 512) : (val_main_v128 (F := Ideal) x0 x1 x2 x3 x4 x5 x6 x7 x8 x9 x10) (ix2 ⟨0, by decide⟩ i)
    = (∑ n : Fin 4096, (val_main_v82 (F := Ideal) x0 x1 x2 x3 x4 x5 x6 x7 x8 x9 x10) (ix2 n ⟨512 + i.val, by omega⟩) * (x2 (ix2 n ⟨1536 + i.val, by omega⟩) * sgR (x2 (ix2 n ⟨1536 + i.val, by omega⟩)))
        * (x1 (ix2 n i) * rrR (fun k => x1 (ix2 n k)) i) : EReal) := by
  unfold rrR rmsH sgR hd
  unfold val_main_v128 val_main_v111 val_main_v110 val_main_v109 val_main_v106 val_main_v85 val_main_v84
  generalize (val_main_v82 (F := Ideal) x0 x1 x2 x3 x4 x5 x6 x7 x8 x9 x10) = D
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_cst, val_main_cst_0, val_main_cst_1, val_main_cst_2, val_main_call0_v0, val_main_call0_v1, val_main_call0_v2, val_main_call0_v3, val_main_call0_v4, val_main_call0_v6, val_main_call0_v7, val_main_v19_0, val_main_v19_1, val_main_v19_2, val_main_call0_cst, val_main_call0_cst_0, val_main_call0_cst_1, val_main_cst_19, div_128]
  exact Finset.sum_congr rfl fun n _ => mul_comm (G := EReal) _ _

theorem r129 (n : Fin 4096) (i : Fin 512) : (val_main_v129 (F := Ideal) x0 x1 x2 x3 x4 x5 x6 x7 x8 x9 x10) (ix2 n i)
    = drR (fun k => dyR ((val_main_v82 (F := Ideal) x0 x1 x2 x3 x4 x5 x6 x7 x8 x9 x10) (ix2 n ⟨512 + k.val, by omega⟩)) (x2 (ix2 n ⟨1536 + k.val, by omega⟩)) (x5 (ix2 ⟨0, by decide⟩ k))) (fun k => x1 (ix2 n k)) i := by
  rw [bwdD]
  unfold dyR sgR rmsH hd
  unfold val_main_v129 val_main_v127 val_main_v126 val_main_v125 val_main_v124 val_main_v123 val_main_v122 val_main_v121 val_main_v119 val_main_v118 val_main_v116 val_main_v115 val_main_v114 val_main_v113 val_main_v106 val_main_v85 val_main_v84
  generalize (val_main_v82 (F := Ideal) x0 x1 x2 x3 x4 x5 x6 x7 x8 x9 x10) = D
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_cst, val_main_cst_0, val_main_cst_1, val_main_cst_2, val_main_call0_v0, val_main_call0_v1, val_main_call0_v2, val_main_call0_v3, val_main_call0_v4, val_main_call0_v6, val_main_call0_v7, val_main_v19_0, val_main_v19_1, val_main_v19_2, val_main_call0_cst, val_main_call0_cst_0, val_main_call0_cst_1, val_main_v112, val_main_v117, val_main_v120, val_main_cst_20, val_main_cst_21, val_main_cst_22, div_128]
  simp only [Fintype.sum_unique]
end Ref
end Cert.Kernel4Ideal.Bwd
end
-- ==== Proof.UpBwdPay.lean ====
module

public import proofs.«01_k».proof.Proof.UpBwdRun
public import proofs.«01_k».proof.Proof.UpBwdRef

@[expose] public section
set_option maxRecDepth 16384
set_option maxHeartbeats 400000
noncomputable section
open Idealize.ShloMosaic Idealize.ShloMosaic.TcCoe Idealize.SL.Sem
namespace Cert.Kernel4Ideal.Bwd
open Cert.Kernel4Ideal Cert.Kernel4Ideal.Gen

theorem pay6 (a : FVec Ideal S256x5632 .bf16) (w : FVec Ideal S1024x5632 .bf16) (r : Fin 256) (i : Fin 1024) :
    k0_pay6 (F := Ideal) a w (ix2 r i) = (∑ j : Fin 5632, a (ix2 r j) * w (ix2 i j) : EReal) := by
  pointwise [k0_pay6]

section
variable (a : FVec Ideal S256x5632 .bf16) (w : FVec Ideal S1024x5632 .bf16) (h dh : FVec Ideal S256x1024 .f32) (g2 : FVec Ideal S1x1024 .f32)

theorem pay14 (r : Fin 256) (i : Fin 1024) :
    k0_pay14 (F := Ideal) (k0_pay8 h) (k0_pay9 h) dh (k0_pay11 a w g2) (k0_pay12 a w h g2) k0_pay13 (ix2 r i)
      = dhR (fun k => k0_pay6 (F := Ideal) a w (ix2 r k) * g2 (ix2 ⟨0, by decide⟩ k)) (fun k => h (ix2 r k)) (dh (ix2 r i)) i := by
  unfold k0_pay14 k0_pay12 k0_pay11 dhR Cert.Norm.rms
  generalize k0_pay6 (F := Ideal) a w = D
  pointwise [k0_pay7, k0_pay8, k0_pay9, k0_pay13]

theorem pay10 (G : FVec Ideal S1x1024 .f32) (i : Fin 1024) :
    k0_pay10 (F := Ideal) a w h G (ix2 ⟨0, by decide⟩ i) = (G (ix2 ⟨0, by decide⟩ i)
      + ∑ r : Fin 256, k0_pay6 (F := Ideal) a w (ix2 r i) * (h (ix2 r i) * Cert.Norm.rms (∑ k : Fin 1024, h (ix2 r k) * h (ix2 r k))) : EReal) := by
  unfold k0_pay10 Cert.Norm.rms
  generalize k0_pay6 (F := Ideal) a w = D
  pointwise [k0_pay7, k0_pay8, k0_pay9]
end

section
variable (v16 v32 v33 : FVec Ideal S256x1 .f32) (v18 v26 v29 X : FVec Ideal S256x1024 .f32) (hX : k0_pay14 (F := Ideal) v16 v18 v26 v29 v32 v33 = X)
include hX

theorem pay16 (O : FVec Ideal S1024x1024 .f32) (M : FVec Ideal S256x1024 .bf16) (k i : Fin 1024) :
    k0_pay16 (F := Ideal) v16 v18 v26 v29 v32 v33 O M (ix2 k i) = (O (ix2 k i) + ∑ r : Fin 256, M (ix2 r k) * X (ix2 r i) : EReal) := by
  unfold k0_pay16 k0_pay15
  rw [hX]
  pointwise []

theorem pay17 (wo : FVec Ideal S1024x1024 .bf16) (r : Fin 256) (k : Fin 1024) :
    k0_pay17 (F := Ideal) v16 v18 v26 v29 v32 v33 wo (ix2 r k) = (∑ i : Fin 1024, X (ix2 r i) * wo (ix2 k i) : EReal) := by
  unfold k0_pay17 k0_pay15
  rw [hX]
  pointwise []
end

section
variable (v16 v32 v33 : FVec Ideal S256x1 .f32) (v18 v26 v29 X : FVec Ideal S256x1024 .f32) (wo : FVec Ideal S1024x1024 .bf16)
  (hX : k0_pay17 (F := Ideal) v16 v18 v26 v29 v32 v33 wo = X)
include hX

theorem pay21 (at' : FVec Ideal S256x512 .f32) (A : FVec Ideal S1x512 .f32) (i : Fin 512) :
    k0_pay21 (F := Ideal) v16 v18 v26 v29 v32 v33 wo at' A (ix2 ⟨0, by decide⟩ i) = (A (ix2 ⟨0, by decide⟩ i)
      + ∑ r : Fin 256, X (ix2 r ⟨i.val, by omega⟩) * (at' (ix2 r i) * rmsA (∑ k : Fin 512, at' (ix2 r k) * at' (ix2 r k))) : EReal) := by
  unfold k0_pay21 k0_pay18 rmsA
  rw [hX]
  pointwise [k0_pay20, k0_pay19]

theorem pay22 (at' : FVec Ideal S256x512 .f32) (g : FVec Ideal S1x512 .f32) (r : Fin 256) (i : Fin 512) :
    k0_pay22 (F := Ideal) (k0_pay18 v16 v18 v26 v29 v32 v33 wo) (k0_pay19 at') (k0_pay20 at') g (ix2 r i)
      = daR (fun k => X (ix2 r ⟨k.val, by omega⟩) * g (ix2 ⟨0, by decide⟩ k)) (fun k => at' (ix2 r k)) i := by
  unfold k0_pay22 k0_pay18 daR rmsA
  rw [hX]
  pointwise [k0_pay20, k0_pay19]
end

/-- the four heads -/
theorem heads (i : Fin 512) : (i.val / 128 * 128 = 0 ∧ i.val < 128) ∨ (i.val / 128 * 128 = 128 ∧ ¬i.val < 128 ∧ i.val - 128 < 128)
    ∨ (i.val / 128 * 128 = 256 ∧ ¬i.val < 128 ∧ ¬i.val - 128 < 128 ∧ i.val - 128 - 128 < 128)
    ∨ (i.val / 128 * 128 = 384 ∧ ¬i.val < 128 ∧ ¬i.val - 128 < 128 ∧ ¬i.val - 128 - 128 < 128) := by
  omega

theorem pay26 (x : FVec Ideal S256x512 .f32) (r : Fin 256) (i : Fin 512) :
    k0_pay26 (F := Ideal) x (k0_pay24 x) (k0_pay25 x) (ix2 r i) = rrR (fun k => x (ix2 r k)) i := by
  unfold rrR rmsH hd
  pointwise [k0_pay26, k0_pay24, k0_pay25]
  obtain ⟨h, c1⟩ | ⟨h, c1, c2⟩ | ⟨h, c1, c2, c3⟩ | ⟨h, c1, c2, c3⟩ := heads i
  · simp only [c1, h, Nat.zero_add, ↓reduceDIte]
  · simp only [c1, c2, h, ↓reduceDIte]
  · simp only [c1, c2, c3, h, ↓reduceDIte]
  · simp only [c1, c2, c3, h, ↓reduceDIte]

theorem pay28 (g : FVec Ideal S256x512 .f32) (r : Fin 256) (i : Fin 512) : k0_pay28 (F := Ideal) g (ix2 r i) = sgR (g (ix2 r i)) := by
  unfold sgR
  pointwise [k0_pay28, zero_sub]

section
variable (x g : FVec Ideal S256x512 .f32) (g5 : FVec Ideal S1x512 .f32) (X : FVec Ideal S256x1024 .f32)

theorem pay29 (r : Fin 256) (i : Fin 512) :
    k0_pay29 (F := Ideal) (k0_pay23 X) g g5 x (k0_pay24 x) (k0_pay25 x) (ix2 r i)
      = dgR (X (ix2 r ⟨512 + i.val, by omega⟩) * (x (ix2 r i) * rrR (fun k => x (ix2 r k)) i) * g5 (ix2 ⟨0, by decide⟩ i)) (g (ix2 r i)) := by
  rw [← pay26]
  unfold k0_pay29 k0_pay27 dgR
  rw [← pay28]
  generalize k0_pay26 (F := Ideal) x (k0_pay24 x) (k0_pay25 x) = Q
  generalize k0_pay28 (F := Ideal) g = S
  pointwise [k0_pay23]

theorem pay31 (H : FVec Ideal S1x512 .f32) (i : Fin 512) :
    k0_pay31 (F := Ideal) (k0_pay23 X) g (k0_pay27 x (k0_pay24 x) (k0_pay25 x)) (k0_pay28 g) H (ix2 ⟨0, by decide⟩ i) = (H (ix2 ⟨0, by decide⟩ i)
      + ∑ r : Fin 256, X (ix2 r ⟨512 + i.val, by omega⟩) * (g (ix2 r i) * sgR (g (ix2 r i))) * (x (ix2 r i) * rrR (fun k => x (ix2 r k)) i) : EReal) := by
  simp only [← pay26, ← pay28]
  unfold k0_pay31 k0_pay27 k0_pay30
  generalize k0_pay26 (F := Ideal) x (k0_pay24 x) (k0_pay25 x) = Q
  generalize k0_pay28 (F := Ideal) g = S
  pointwise [k0_pay23]

theorem pay32 (r : Fin 256) (i : Fin 512) :
    k0_pay32 (F := Ideal) (k0_pay23 X) g g5 (k0_pay26 x (k0_pay24 x) (k0_pay25 x)) (k0_pay27 x (k0_pay24 x) (k0_pay25 x)) (k0_pay28 g) (ix2 r i)
      = drR (fun k => dyR (X (ix2 r ⟨512 + k.val, by omega⟩)) (g (ix2 r k)) (g5 (ix2 ⟨0, by decide⟩ k))) (fun k => x (ix2 r k)) i := by
  unfold drR dyR
  simp only [← pay26, ← pay28]
  unfold k0_pay32 k0_pay27 k0_pay30 hd
  generalize k0_pay26 (F := Ideal) x (k0_pay24 x) (k0_pay25 x) = Q
  generalize k0_pay28 (F := Ideal) g = S
  pointwise [k0_pay23]
  obtain ⟨h, c1⟩ | ⟨h, c1, c2⟩ | ⟨h, c1, c2, c3⟩ | ⟨h, c1, c2, c3⟩ := heads i
  · simp only [c1, h, Nat.zero_add, ↓reduceDIte]
  · simp only [c1, c2, h, ↓reduceDIte]
  · simp only [c1, c2, c3, h, ↓reduceDIte]
  · simp only [c1, c2, c3, h, ↓reduceDIte]
end
end Cert.Kernel4Ideal.Bwd
end
-- ==== Proof.UpBwdReal.lean ====
/- Which rows' formulas give real numbers, and the two forms of the silu's gradient. -/
module

public import proofs.«01_k».proof.Proof.UpBwdRef

@[expose] public section
noncomputable section
open Idealize.ShloMosaic
namespace Cert.Kernel4Ideal.Bwd

/-- a real number -/
def IsReal (z : EReal) : Prop := ∃ c : ℝ, z = (c : EReal)
theorem IsReal.mul {x y : EReal} (hx : IsReal x) (hy : IsReal y) : IsReal (x * y) := by
  obtain ⟨a, rfl⟩ := hx; obtain ⟨b, rfl⟩ := hy
  exact ⟨a * b, (EReal.coe_mul a b).symm⟩
theorem IsReal.add {x y : EReal} (hx : IsReal x) (hy : IsReal y) : IsReal (x + y) := by
  obtain ⟨a, rfl⟩ := hx; obtain ⟨b, rfl⟩ := hy
  exact ⟨a + b, (EReal.coe_add a b).symm⟩
theorem IsReal.sub {x y : EReal} (hx : IsReal x) (hy : IsReal y) : IsReal (x - y) := by
  obtain ⟨a, rfl⟩ := hx; obtain ⟨b, rfl⟩ := hy
  exact ⟨a - b, (EReal.coe_sub a b).symm⟩
theorem IsReal.sum {n : ℕ} {f : Fin n → EReal} (h : ∀ k, IsReal (f k)) : IsReal (∑ k, f k) := by
  choose g hg using h
  refine ⟨∑ k, g k, ?_⟩
  simp only [hg]
  exact (map_sum (⟨⟨fun r : ℝ => (r : EReal), rfl⟩, EReal.coe_add⟩ : ℝ →+ EReal) _ _).symm

/-- The reciprocal root of a row is real, and so is each entry times it: the root is zero if an entry is infinite. -/
theorem normed {n : ℕ} (x : Fin n → EReal) (i e : ℝ) (hi : 0 < i) (he : 0 < e) :
    IsReal (Ideal.rsqrt ((∑ j, x j * x j) * (i : EReal) + (e : EReal))) ∧ ∀ k, IsReal (x k * Ideal.rsqrt ((∑ j, x j * x j) * (i : EReal) + (e : EReal))) := by
  by_cases hx : ∀ j, x j ≠ ⊤ ∧ x j ≠ ⊥
  · have hy : ∀ j, IsReal (x j) := fun j => ⟨(x j).toReal, (EReal.coe_toReal (hx j).1 (hx j).2).symm⟩
    have hr : IsReal (Ideal.rsqrt ((∑ j, x j * x j) * (i : EReal) + (e : EReal))) := by
      choose y hy using hy
      simp only [hy]
      have hs : (∑ j, (y j : EReal) * (y j : EReal)) = ((∑ j, y j * y j : ℝ) : EReal) := by
        rw [show ((∑ j, y j * y j : ℝ) : EReal) = ∑ j, ((y j * y j : ℝ) : EReal) from
          map_sum (⟨⟨fun r : ℝ => (r : EReal), rfl⟩, EReal.coe_add⟩ : ℝ →+ EReal) _ _]
        rfl
      have hpos : 0 < (∑ j, y j * y j) * i + e :=
        add_pos_of_nonneg_of_pos (mul_nonneg (Finset.sum_nonneg fun j _ => mul_self_nonneg _) hi.le) he
      rw [hs, ← EReal.coe_mul, ← EReal.coe_add]
      refine ⟨(Real.sqrt ((∑ j, y j * y j) * i + e))⁻¹, ?_⟩
      show (if (∑ j, y j * y j) * i + e < 0 then ⊥ else if (∑ j, y j * y j) * i + e = 0 then ⊤ else _) = _
      rw [if_neg (not_lt.mpr hpos.le), if_neg hpos.ne']
    exact ⟨hr, fun k => (hy k).mul hr⟩
  · obtain ⟨j, hj⟩ := not_forall.mp hx
    have ht : (∑ j, x j * x j) = ⊤ := Cert.Norm.sq_top x j (by by_contra hc; exact hj ⟨fun h => hc (Or.inl h), fun h => hc (Or.inr h)⟩)
    have hv : (∑ j, x j * x j) * (i : EReal) + (e : EReal) = ⊤ := by
      rw [ht, EReal.top_mul_coe_of_pos hi]; rfl
    rw [hv, show Ideal.rsqrt ⊤ = 0 from rfl]
    exact ⟨⟨0, rfl⟩, fun k => ⟨0, mul_zero _⟩⟩

theorem dhR_real (d x : Fin 1024 → EReal) (h : EReal) (hd : ∀ k, IsReal (d k)) (hh : IsReal h) (i : Fin 1024) : IsReal (dhR d x h i) := by
  obtain ⟨h1, h2⟩ := normed x (1 / 1024) (8796093 / 8796093022208) (by norm_num) (by norm_num)
  rw [← Cert.Norm.ofBits_inv, ← Cert.Norm.ofBits_eps] at h1 h2
  have hc : IsReal (Ideal.ofBits .f32 0x3A800000#32) := ⟨_, Cert.Norm.ofBits_inv⟩
  exact hh.add (h1.mul ((hd i).sub ((h2 i).mul ((IsReal.sum fun k => (hd k).mul (h2 k)).mul hc))))

theorem head_real (x : Fin 512 → EReal) (i : Fin 512) : IsReal (x i * rrR x i) := by
  have h := (normed (fun k => x (hd i k)) (1 / 128) (8796093 / 8796093022208) (by norm_num) (by norm_num)).2 ⟨i.val % 128, Nat.mod_lt _ (by decide)⟩
  rw [← ofBits_i128, ← Cert.Norm.ofBits_eps] at h
  have e : hd i ⟨i.val % 128, Nat.mod_lt _ (by decide)⟩ = i := Fin.ext (Nat.div_add_mod' _ _)
  simp only [e] at h
  exact h

/-- The silu's gradient, in its two forms, at a real incoming gradient. -/
theorem silu_two (c g : EReal) (hc : IsReal c) : dgR c g = c * sgR g + g * c * (sgR g * (1 - sgR g)) := by
  obtain ⟨c, rfl⟩ := hc
  unfold dgR
  induction g with
  | bot =>
    have e : sgR ⊥ = 0 := by
      show Ideal.div 1 (1 + ⊤) = 0
      rw [show (1 : EReal) + ⊤ = ⊤ from rfl, Ideal.div, if_neg (by decide)]; simp
    rw [e]; simp
  | top =>
    have e : sgR ⊤ = 1 := by
      show Ideal.div 1 (1 + 0) = 1
      rw [add_zero, Ideal.div, if_neg (by norm_num)]; simp
    have e0 : (1 : EReal) - 1 = 0 := by
      show ((1 : ℝ) : EReal) - ((1 : ℝ) : EReal) = 0
      rw [← EReal.coe_sub, sub_self]; rfl
    rw [e, e0]; simp
  | coe g =>
    have e : sgR (g : EReal) = (((1 + Real.exp (-g))⁻¹ : ℝ) : EReal) := by
      show Ideal.div 1 (1 + ((Real.exp (-g) : ℝ) : EReal)) = _
      have hp : 0 < 1 + Real.exp (-g) := by positivity
      rw [show (1 : EReal) + ((Real.exp (-g) : ℝ) : EReal) = ((1 + Real.exp (-g) : ℝ) : EReal) by norm_cast, Ideal.div, if_neg (by exact_mod_cast hp.ne'), ← EReal.coe_inv, one_mul]
    rw [e]
    generalize (1 + Real.exp (-g))⁻¹ = s
    norm_cast
    ring

end Cert.Kernel4Ideal.Bwd
end
-- ==== Proof.UpBwd.lean ====
module

public import proofs.«01_k».proof.Proof.UpBwdPt
public import proofs.«01_k».proof.Proof.UpBwdPay
public import proofs.«01_k».proof.Proof.UpBwdReal

@[expose] public section
set_option maxRecDepth 16384
set_option maxHeartbeats 400000
noncomputable section
open Idealize.ShloMosaic Idealize.ShloMosaic.TcCoe Idealize.SL.Sem
open Idealize.ShloMosaic.Pipeline (Dat)
namespace Cert.Kernel4Ideal.Bwd
open Cert.Kernel4Ideal Cert.Kernel4Ideal.Gen Cert.Kernel4Ideal.Run

variable (m : (ℓ : Loc nD τ sig) → Buf (Elt Ideal) ℓ)

/-! The arguments, and the stages of the reference at them. -/
abbrev a0 (c : Dev nD) : FVec Ideal S4096x512 .f32 := m ((c.tc : Thread nD τ).loc main_arg0)
abbrev a1 (c : Dev nD) : FVec Ideal S4096x512 .f32 := m ((c.tc : Thread nD τ).loc main_arg1)
abbrev a2 (c : Dev nD) : FVec Ideal S4096x2048 .f32 := m ((c.tc : Thread nD τ).loc main_arg2)
abbrev a3 (c : Dev nD) : FVec Ideal S4096x1024 .f32 := m ((c.tc : Thread nD τ).loc main_arg3)
abbrev a4 (c : Dev nD) : FVec Ideal S1x512 .f32 := m ((c.tc : Thread nD τ).loc main_arg4)
abbrev a5 (c : Dev nD) : FVec Ideal S1x512 .f32 := m ((c.tc : Thread nD τ).loc main_arg5)
abbrev a6 (c : Dev nD) : FVec Ideal S1024x1024 .f32 := m ((c.tc : Thread nD τ).loc main_arg6)
abbrev a7 (c : Dev nD) : FVec Ideal S1x1024 .f32 := m ((c.tc : Thread nD τ).loc main_arg7)
abbrev a8 (c : Dev nD) : FVec Ideal S1024x5632 .f32 := m ((c.tc : Thread nD τ).loc main_arg8)
abbrev a9 (c : Dev nD) : FVec Ideal S4096x1024 .f32 := m ((c.tc : Thread nD τ).loc main_arg9)
abbrev a10 (c : Dev nD) : FVec Ideal S4096x5632 .f32 := m ((c.tc : Thread nD τ).loc main_arg10)
abbrev R37 (c : Dev nD) : FVec Ideal S4096x1024 .f32 := Cert.Reference4Ideal.Read.val_main_v37 (F := Ideal) (a0 m c) (a1 m c) (a2 m c) (a4 m c) (a5 m c)
abbrev R39 (c : Dev nD) : FVec Ideal S4096x1024 .f32 := Cert.Reference4Ideal.Read.val_main_v39 (F := Ideal) (a0 m c) (a1 m c) (a2 m c) (a3 m c) (a4 m c) (a5 m c) (a6 m c)
abbrev R58 (c : Dev nD) : FVec Ideal S4096x1024 .f32 := Cert.Reference4Ideal.Read.val_main_v58 (F := Ideal) (a8 m c) (a10 m c)
abbrev R79 (c : Dev nD) : FVec Ideal S4096x1024 .f32 := Cert.Reference4Ideal.Read.val_main_v79 (F := Ideal) (a0 m c) (a1 m c) (a2 m c) (a3 m c) (a4 m c) (a5 m c) (a6 m c) (a7 m c) (a8 m c) (a9 m c) (a10 m c)
abbrev R82 (c : Dev nD) : FVec Ideal S4096x1024 .f32 := Cert.Reference4Ideal.Read.val_main_v82 (F := Ideal) (a0 m c) (a1 m c) (a2 m c) (a3 m c) (a4 m c) (a5 m c) (a6 m c) (a7 m c) (a8 m c) (a9 m c) (a10 m c)

theorem idx_val : ∀ t : Fin cfg0.N, win0_0.index t = ![t.val, 0] ∧ win0_1.index t = ![t.val, 0] ∧ win0_3.index t = ![t.val, 0] ∧ win0_5.index t = ![t.val, 0] ∧ win0_6.index t = ![t.val, 0] ∧ win0_7.index t = ![t.val, 0] ∧ win0_8.index t = ![t.val, 3] ∧ win0_11.index t = ![t.val, 0] ∧ win0_13.index t = ![t.val, 0] ∧ win0_14.index t = ![t.val, 0] ∧ win0_15.index t = ![t.val, 0]
    ∧ win0_2.index t = ![0, 0] ∧ win0_4.index t = ![0, 0] ∧ win0_9.index t = ![0, 0] ∧ win0_10.index t = ![0, 0] ∧ win0_12.index t = ![0, 0] ∧ win0_16.index t = ![0, 0] ∧ win0_17.index t = ![0, 0] ∧ win0_18.index t = ![0, 0] :=
  (by decide +kernel : ∀ t : Fin grid0.N, _)

theorem N16 (t : Fin cfg0.N) : t.val < 16 := lt_of_lt_of_eq t.isLt (show cfg0.N = 16 from N_0)

/-- the row of the whole arrays that row `r` of point `t`'s blocks is -/
def rowOf (t : Fin cfg0.N) (r : Fin 256) : Fin 4096 := ⟨t.val * 256 + r.val, by have := N16 t; omega⟩

open Cert.Reference4Ideal.Read in
theorem entry31 (c : Dev nD) : V m c main_v31 = R37 m c := by
  entry_read
  rfl
theorem entry39 (c : Dev nD) : V m c main_v39 = R37 m c := by
  refine Eq.trans ?_ (entry31 m c)
  entry_read
  rfl
open Cert.Reference4Ideal.Read in
theorem entry33 (c : Dev nD) : V m c main_v33 = R39 m c := by
  have e : R39 m c = val_main_v39 (F := Ideal) (a0 m c) (a1 m c) (a2 m c) (a3 m c) (a4 m c) (a5 m c) (a6 m c) := rfl
  unfold val_main_v39 val_main_v38 at e
  rw [e]
  refine Eq.trans ?_ (congrArg (fun M => addf (a3 m c) (Host.dotGeneral Cert.Reference4Ideal.dot_S4096x1024_S1024x1024_S4096x1024_1_0_0_1_n_n none M (a6 m c))) (entry31 m c))
  entry_read
  rfl
theorem iblk0 (c : Dev nD) (t : Fin cfg0.N) (r : Fin 256) (j : Fin 5632) : iblk m c 0 t (ix2 r j) = a10 m c (ix2 (rowOf t r) j) := by
  refine Eq.trans (b := V m c main_v34 (ix2 (rowOf t r) j)) ?_ ?_
  · unfold iblk rowOf
    blk_ext [idx_val t]
  · entry_read
    rfl
theorem iblk1 (c : Dev nD) (t : Fin cfg0.N) (r : Fin 256) (j : Fin 1024) : iblk m c 1 t (ix2 r j) = R39 m c (ix2 (rowOf t r) j) := by
  refine Eq.trans (b := V m c main_v33 (ix2 (rowOf t r) j)) ?_ ?_
  · unfold iblk rowOf
    blk_ext [idx_val t]
  · rw [entry33]
theorem iblk2 (c : Dev nD) (t : Fin cfg0.N) (j : Fin 1024) : iblk m c 2 t (ix2 ⟨0, by decide⟩ j) = a7 m c (ix2 ⟨0, by decide⟩ j) := by
  refine Eq.trans (b := V m c main_arg7 (ix2 ⟨0, by decide⟩ j)) ?_ ?_
  · unfold iblk
    blk_ext [idx_val t]
  · rw [V_main_arg7]
theorem iblk3 (c : Dev nD) (t : Fin cfg0.N) (r : Fin 256) (j : Fin 1024) : iblk m c 3 t (ix2 r j) = a9 m c (ix2 (rowOf t r) j) := by
  refine Eq.trans (b := V m c main_arg9 (ix2 (rowOf t r) j)) ?_ ?_
  · unfold iblk rowOf
    blk_ext [idx_val t]
  · rw [V_main_arg9]
theorem iblk4 (c : Dev nD) (t : Fin cfg0.N) (i : Fin 1024) (j : Fin 1024) : iblk m c 4 t (ix2 i j) = a6 m c (ix2 i j) := by
  refine Eq.trans (b := V m c main_v38 (ix2 i j)) ?_ ?_
  · unfold iblk
    blk_ext [idx_val t]
  · entry_read
    rfl
theorem iblk5 (c : Dev nD) (t : Fin cfg0.N) (r : Fin 256) (j : Fin 1024) : iblk m c 5 t (ix2 r j) = R37 m c (ix2 (rowOf t r) j) := by
  refine Eq.trans (b := V m c main_v39 (ix2 (rowOf t r) j)) ?_ ?_
  · unfold iblk rowOf
    blk_ext [idx_val t]
  · rw [entry39]
theorem iblk6 (c : Dev nD) (t : Fin cfg0.N) (r : Fin 256) (j : Fin 512) : iblk m c 6 t (ix2 r j) = a0 m c (ix2 (rowOf t r) j) := by
  refine Eq.trans (b := V m c main_arg0 (ix2 (rowOf t r) j)) ?_ ?_
  · unfold iblk rowOf
    blk_ext [idx_val t]
  · rw [V_main_arg0]
theorem iblk7 (c : Dev nD) (t : Fin cfg0.N) (r : Fin 256) (j : Fin 512) : iblk m c 7 t (ix2 r j) = a1 m c (ix2 (rowOf t r) j) := by
  refine Eq.trans (b := V m c main_arg1 (ix2 (rowOf t r) j)) ?_ ?_
  · unfold iblk rowOf
    blk_ext [idx_val t]
  · rw [V_main_arg1]
theorem iblk8 (c : Dev nD) (t : Fin cfg0.N) (r : Fin 256) (j : Fin 512) : iblk m c 8 t (ix2 r j) = a2 m c (ix2 (rowOf t r) ⟨1536 + j.val, by omega⟩) := by
  refine Eq.trans (b := V m c main_arg2 (ix2 (rowOf t r) ⟨1536 + j.val, by omega⟩)) ?_ ?_
  · unfold iblk rowOf
    blk_ext [idx_val t]
  · rw [V_main_arg2]
theorem iblk9 (c : Dev nD) (t : Fin cfg0.N) (j : Fin 512) : iblk m c 9 t (ix2 ⟨0, by decide⟩ j) = a4 m c (ix2 ⟨0, by decide⟩ j) := by
  refine Eq.trans (b := V m c main_arg4 (ix2 ⟨0, by decide⟩ j)) ?_ ?_
  · unfold iblk
    blk_ext [idx_val t]
  · rw [V_main_arg4]
theorem iblk10 (c : Dev nD) (t : Fin cfg0.N) (j : Fin 512) : iblk m c 10 t (ix2 ⟨0, by decide⟩ j) = a5 m c (ix2 ⟨0, by decide⟩ j) := by
  refine Eq.trans (b := V m c main_arg5 (ix2 ⟨0, by decide⟩ j)) ?_ ?_
  · unfold iblk
    blk_ext [idx_val t]
  · rw [V_main_arg5]

theorem entry37 (c : Dev nD) (y : S4x1024x1408.Idx) : V m c main_v37 y = a8 m c
    (ix2 ⟨(y 1).val, (y 1).isLt⟩ ⟨(y 0).val * 1408 + (y 2).val,
      by have h0 : (y 0).val < 4 := (y 0).isLt; have h2 : (y 2).val < 1408 := (y 2).isLt; omega⟩) := by
  have e : V m c main_v37 = transpose S4x1024x1408 [1, 0, 2] (shapeCast S1024x4x1408 (truncf (F := Ideal) .bf16 (a8 m c) bitsLt_bf16_f32)
      shapeCasts_S1024x5632_S1024x4x1408) transposes_S1024x4x1408_S4x1024x1408_1_0_2 := by
    entry_read
    rfl
  rw [e]
  generalize a8 m c = w
  idx_vars y
  pointwise []

/-- the columns as the matrix they are cut from -/
theorem wide_entry (c : Dev nD) (d : Fin 1024) (j : Fin 5632) : wideF (V m c main_v37) (ix2 d j) = a8 m c (ix2 d j) := by
  unfold wideF
  refine (entry37 m c _).trans (congrArg _ ?_)
  refine funext fun k => Fin.ext ?_
  match k with
  | ⟨0, _⟩ => rfl
  | ⟨1, _⟩ => exact Nat.div_add_mod' _ _

abbrev wV (c : Dev nD) : FVec Ideal S1024x5632 .bf16 := wideF (V m c main_v37)

theorem du_eq (c : Dev nD) (t : Fin cfg0.N) (r : Fin 256) (i : Fin 1024) :
    k0_pay6 (F := Ideal) (iblk m c 0 t) (wV m c) (ix2 r i) = R58 m c (ix2 (rowOf t r) i) := by
  refine (pay6 _ _ r i).trans (Eq.trans (Finset.sum_congr rfl fun j _ =>
    congrArg₂ (fun a b : EReal => a * b) (iblk0 m c t r j) (wide_entry m c i j)) ?_)
  exact (Ref.r58 (a8 m c) (a10 m c) (rowOf t r) i).symm

/-- the gradient of the stream, a point's block -/
abbrev dhF (c : Dev nD) (t : Fin cfg0.N) : FVec Ideal S256x1024 .f32 :=
  k0_pay14 (k0_pay8 (iblk m c 1 t)) (k0_pay9 (iblk m c 1 t)) (iblk m c 3 t) (dF m c t (wV m c)) (sF m c t (wV m c)) k0_pay13

theorem dh_eq (c : Dev nD) (t : Fin cfg0.N) (r : Fin 256) (i : Fin 1024) : dhF m c t (ix2 r i) = R79 m c (ix2 (rowOf t r) i) := by
  refine (pay14 _ _ _ _ _ r i).trans (Eq.trans ?_ (Ref.r79 (a0 m c) (a1 m c) (a2 m c) (a3 m c) (a4 m c) (a5 m c) (a6 m c) (a7 m c) (a8 m c) (a9 m c) (a10 m c) (rowOf t r) i).symm)
  simp only [iblk1, iblk2, iblk3]
  exact congrArg (fun d => dhR d _ _ i) (funext fun k => congrArg (fun z : EReal => z * _) (du_eq m c t r k))

theorem dm_eq (c : Dev nD) (t : Fin cfg0.N) (r : Fin 256) (k : Fin 1024) : xF m c t (wV m c) (ix2 r k) = R82 m c (ix2 (rowOf t r) k) := by
  refine (pay17 _ _ _ _ _ _ (dhF m c t) rfl _ r k).trans (Eq.trans ?_ (Ref.r82 (a0 m c) (a1 m c) (a2 m c) (a3 m c) (a4 m c) (a5 m c) (a6 m c) (a7 m c) (a8 m c) (a9 m c) (a10 m c) (rowOf t r) k).symm)
  exact Finset.sum_congr rfl fun i _ => congrArg₂ (fun a b : EReal => a * b) (dh_eq m c t r i) (iblk4 m c t k i)

/-! The four results that are blocks of rows. -/
theorem rows_eq (c : Dev nD) (t : Fin cfg0.N) : ∃ G A H O, butF (outsAt0 (F := Ideal) m c t.val t.isLt) = ptF m c t (wV m c) G A H O := by
  by_cases h0 : t.val % 16 = 0
  · exact ⟨_, _, _, _, ptA m c t h0 (by omega)⟩
  · exact ⟨_, _, _, _, pt_step m c t h0 _ rfl⟩

/-- the arguments that the precondition is about -/
structure Reals (c : Dev nD) : Prop where
  r5 : ∀ i, IsReal (a5 m c i)
  r6 : ∀ i, IsReal (a6 m c i)
  r7 : ∀ i, IsReal (a7 m c i)
  r8 : ∀ i, IsReal (a8 m c i)
  r9 : ∀ i, IsReal (a9 m c i)
  r10 : ∀ i, IsReal (a10 m c i)

/-- under the precondition the gradient of the mixed columns is real -/
theorem dm_real (c : Dev nD) (hr : Reals m c) (n : Fin 4096) (k : Fin 1024) : IsReal (R82 m c (ix2 n k)) := by
  unfold R82
  rw [Ref.r82]
  refine IsReal.sum fun i => IsReal.mul ?_ (hr.r6 _)
  rw [Ref.r79]
  refine dhR_real _ _ _ (fun k => IsReal.mul ?_ (hr.r7 _)) (hr.r9 _) i
  rw [Ref.r58]
  exact IsReal.sum fun j => (hr.r10 _).mul (hr.r8 _)

theorem ct_real (c : Dev nD) (hr : Reals m c) (n : Fin 4096) (i : Fin 512) :
    IsReal (R82 m c (ix2 n ⟨512 + i.val, by omega⟩) * (a1 m c (ix2 n i) * rrR (fun k => a1 m c (ix2 n k)) i) * a5 m c (ix2 ⟨0, by decide⟩ i)) :=
  ((dm_real m c hr n _).mul (head_real (fun k => a1 m c (ix2 n k)) i)).mul (hr.r5 _)

theorem out11 (c : Dev nD) (t : Fin cfg0.N) (y : S256x1024.Idx) : (outsAt0 (F := Ideal) m c t.val t.isLt).1 y
    = Cert.Reference4Ideal.Read.val_main_v79 (F := Ideal) (a0 m c) (a1 m c) (a2 m c) (a3 m c) (a4 m c) (a5 m c) (a6 m c) (a7 m c) (a8 m c) (a9 m c) (a10 m c) (ix2 (rowOf t ⟨(y 0).val, (y 0).isLt⟩) ⟨(y 1).val, (y 1).isLt⟩) := by
  obtain ⟨G, A, H, O, e⟩ := rows_eq m c t
  refine (congrFun (congrArg (fun p => p.1) e) y).trans ?_
  clear e
  unfold ptF
  dsimp only
  idx_vars y
  exact dh_eq m c t y0 y1

theorem kout11 (c : Dev nD) : (dats m 0 c).arrAt 11 cfg0.N = Cert.Reference4Ideal.Read.val_main_v79 (F := Ideal) (a0 m c) (a1 m c) (a2 m c) (a3 m c) (a4 m c) (a5 m c) (a6 m c) (a7 m c) (a8 m c) (a9 m c) (a10 m c) := by
  refine (dats m 0 c).arrAt_eq_of_covers 11 _ (by decide +kernel) fun t hf y => ?_
  blk_simp
  refine (out11 m c t y).trans ?_
  refine congrArg (Cert.Reference4Ideal.Read.val_main_v79 (F := Ideal) (a0 m c) (a1 m c) (a2 m c) (a3 m c) (a4 m c) (a5 m c) (a6 m c) (a7 m c) (a8 m c) (a9 m c) (a10 m c)) ?_
  unfold rowOf
  blk_ext [idx_val t]

theorem out13 (c : Dev nD) (t : Fin cfg0.N) (y : S256x512.Idx) : (outsAt0 (F := Ideal) m c t.val t.isLt).2.2.1 y
    = Cert.Reference4Ideal.Read.val_main_v104 (F := Ideal) (a0 m c) (a1 m c) (a2 m c) (a3 m c) (a4 m c) (a5 m c) (a6 m c) (a7 m c) (a8 m c) (a9 m c) (a10 m c) (ix2 (rowOf t ⟨(y 0).val, (y 0).isLt⟩) ⟨(y 1).val, (y 1).isLt⟩) := by
  obtain ⟨G, A, H, O, e⟩ := rows_eq m c t
  refine (congrFun (congrArg (fun p => p.2.2.1) e) y).trans ?_
  clear e
  unfold ptF
  dsimp only
  idx_vars y
  refine (pay22 _ _ _ _ _ _ (xF m c t (wV m c)) _ rfl _ _ y0 y1).trans (Eq.trans ?_ (Ref.r104 (a0 m c) (a1 m c) (a2 m c) (a3 m c) (a4 m c) (a5 m c) (a6 m c) (a7 m c) (a8 m c) (a9 m c) (a10 m c) _ y1).symm)
  simp only [iblk6, iblk9]
  exact congrArg (fun d => daR d _ y1) (funext fun k => congrArg (fun z : EReal => z * _) (dm_eq m c t y0 _))

theorem kout13 (c : Dev nD) : (dats m 0 c).arrAt 13 cfg0.N = Cert.Reference4Ideal.Read.val_main_v104 (F := Ideal) (a0 m c) (a1 m c) (a2 m c) (a3 m c) (a4 m c) (a5 m c) (a6 m c) (a7 m c) (a8 m c) (a9 m c) (a10 m c) := by
  refine (dats m 0 c).arrAt_eq_of_covers 13 _ (by decide +kernel) fun t hf y => ?_
  blk_simp
  refine (out13 m c t y).trans ?_
  refine congrArg (Cert.Reference4Ideal.Read.val_main_v104 (F := Ideal) (a0 m c) (a1 m c) (a2 m c) (a3 m c) (a4 m c) (a5 m c) (a6 m c) (a7 m c) (a8 m c) (a9 m c) (a10 m c)) ?_
  unfold rowOf
  blk_ext [idx_val t]

theorem out14 (c : Dev nD) (t : Fin cfg0.N) (y : S256x512.Idx) : (outsAt0 (F := Ideal) m c t.val t.isLt).2.2.2.1 y
    = Cert.Reference4Ideal.Read.val_main_v129 (F := Ideal) (a0 m c) (a1 m c) (a2 m c) (a3 m c) (a4 m c) (a5 m c) (a6 m c) (a7 m c) (a8 m c) (a9 m c) (a10 m c) (ix2 (rowOf t ⟨(y 0).val, (y 0).isLt⟩) ⟨(y 1).val, (y 1).isLt⟩) := by
  obtain ⟨G, A, H, O, e⟩ := rows_eq m c t
  refine (congrFun (congrArg (fun p => p.2.2.2.1) e) y).trans ?_
  clear e
  unfold ptF
  dsimp only
  idx_vars y
  refine (pay32 _ _ _ _ y0 y1).trans (Eq.trans ?_ (Ref.r129 (a0 m c) (a1 m c) (a2 m c) (a3 m c) (a4 m c) (a5 m c) (a6 m c) (a7 m c) (a8 m c) (a9 m c) (a10 m c) _ y1).symm)
  simp only [iblk7, iblk8, iblk10]
  exact congrArg (fun d => drR d _ y1) (funext fun k => congrArg (fun z : EReal => dyR z _ _) (dm_eq m c t y0 _))

theorem kout14 (c : Dev nD) : (dats m 0 c).arrAt 14 cfg0.N = Cert.Reference4Ideal.Read.val_main_v129 (F := Ideal) (a0 m c) (a1 m c) (a2 m c) (a3 m c) (a4 m c) (a5 m c) (a6 m c) (a7 m c) (a8 m c) (a9 m c) (a10 m c) := by
  refine (dats m 0 c).arrAt_eq_of_covers 14 _ (by decide +kernel) fun t hf y => ?_
  blk_simp
  refine (out14 m c t y).trans ?_
  refine congrArg (Cert.Reference4Ideal.Read.val_main_v129 (F := Ideal) (a0 m c) (a1 m c) (a2 m c) (a3 m c) (a4 m c) (a5 m c) (a6 m c) (a7 m c) (a8 m c) (a9 m c) (a10 m c)) ?_
  unfold rowOf
  blk_ext [idx_val t]

theorem out15 (c : Dev nD) (hr : Reals m c) (t : Fin cfg0.N) (y : S256x512.Idx) : (outsAt0 (F := Ideal) m c t.val t.isLt).2.2.2.2.1 y
    = Cert.Reference4Ideal.Read.val_main_v130 (F := Ideal) (a0 m c) (a1 m c) (a2 m c) (a3 m c) (a4 m c) (a5 m c) (a6 m c) (a7 m c) (a8 m c) (a9 m c) (a10 m c) (ix2 (rowOf t ⟨(y 0).val, (y 0).isLt⟩) ⟨(y 1).val, (y 1).isLt⟩) := by
  obtain ⟨G, A, H, O, e⟩ := rows_eq m c t
  refine (congrFun (congrArg (fun p => p.2.2.2.2.1) e) y).trans ?_
  clear e
  unfold ptF
  dsimp only
  idx_vars y
  refine (pay29 _ _ _ _ y0 y1).trans (Eq.trans ?_ (Ref.r130 (a0 m c) (a1 m c) (a2 m c) (a3 m c) (a4 m c) (a5 m c) (a6 m c) (a7 m c) (a8 m c) (a9 m c) (a10 m c) (rowOf t y0) y1).symm)
  simp only [iblk7, iblk8, iblk10]
  rw [dm_eq, silu_two _ _ (ct_real m c hr _ _)]
  generalize sgR _ = s
  generalize rrR _ _ = q
  generalize a1 m c _ = a
  generalize a5 m c _ = b
  unfold R82
  generalize Cert.Reference4Ideal.Read.val_main_v82 (F := Ideal) (a0 m c) (a1 m c) (a2 m c) (a3 m c) (a4 m c) (a5 m c) (a6 m c) (a7 m c) (a8 m c) (a9 m c) (a10 m c) _ = d
  rw [show a * q * b * d = d * (a * q) * b by ac_rfl]

theorem kout15 (c : Dev nD) (hr : Reals m c) : (dats m 0 c).arrAt 15 cfg0.N = Cert.Reference4Ideal.Read.val_main_v130 (F := Ideal) (a0 m c) (a1 m c) (a2 m c) (a3 m c) (a4 m c) (a5 m c) (a6 m c) (a7 m c) (a8 m c) (a9 m c) (a10 m c) := by
  refine (dats m 0 c).arrAt_eq_of_covers 15 _ (by decide +kernel) fun t hf y => ?_
  blk_simp
  refine (out15 m c hr t y).trans ?_
  refine congrArg (Cert.Reference4Ideal.Read.val_main_v130 (F := Ideal) (a0 m c) (a1 m c) (a2 m c) (a3 m c) (a4 m c) (a5 m c) (a6 m c) (a7 m c) (a8 m c) (a9 m c) (a10 m c)) ?_
  unfold rowOf
  blk_ext [idx_val t]

/-! The four results that are sums over all the rows. -/

/-- one row's part of result 12 -/
def t12 (c : Dev nD) (n : Fin 4096) (i : Fin 1024) : EReal := R58 m c (ix2 n i) * (R39 m c (ix2 n i) * Cert.Norm.rms (∑ k : Fin 1024, R39 m c (ix2 n k) * R39 m c (ix2 n k)))
theorem step12 (c : Dev nD) (t : Fin cfg0.N) (O : FVec Ideal S1x1024 .f32) (y : S1x1024.Idx) :
    k0_pay10 (F := Ideal) (iblk m c 0 t) (wV m c) (iblk m c 1 t) O y
      = O y + ∑ r : Fin 256, t12 m c (rowOf t r) ⟨(y 1).val, (y 1).isLt⟩ := by
  idx_vars y
  obtain rfl : y0 = ⟨0, by decide⟩ := Subsingleton.elim _ _
  refine (pay10 _ _ _ _ y1).trans (congrArg (fun z : EReal => _ + z) (Finset.sum_congr rfl fun r _ => ?_))
  simp only [iblk1]
  rw [du_eq]
  rfl

theorem last12 (c : Dev nD) (t : Fin cfg0.N) (ht : t.val = 15) (y : S1x1024.Idx) : (outsAt0 (F := Ideal) m c t.val t.isLt).2.1 y
    = ∑ n : Fin 4096, t12 m c n ⟨(y 1).val, (y 1).isLt⟩ := by
  rw [Pipeline.eq_sum_fin_of_reset_step_apply_last (fun n h => (outsAt0 (F := Ideal) m c n h).2.1) 16 (fun _ => (0 : EReal))
    (fun t y => ∑ r : Fin 256, t12 m c (rowOf t r) ⟨(y 1).val, (y 1).isLt⟩) ?hA ?hB (le_of_eq N_0) t (ht ▸ rfl) y]
  case hA =>
    intro t h0 y
    have e := congrFun (congrArg (fun p => p.2.1) (ptA m c t h0 (by omega))) y
    refine e.trans ((step12 m c t _ y).trans (congrArg (fun z : EReal => z + _) ?_))
    pointwise [k0_pay2]
  case hB =>
    intro t h0 y
    exact (congrFun (congrArg (fun p => p.2.1) (pt_step m c t h0 _ rfl)) y).trans (step12 m c t _ y)
  rw [zero_add]
  exact Fin.sum_mul_add_fin 16 256 (fun n : Fin 4096 => t12 m c n ⟨(y 1).val, (y 1).isLt⟩)

theorem flush12 (t : Fin cfg0.N) (h : (cfg0.win 12).flush t = true) : t.val = 15 := by
  have key : ∀ t : Fin grid0.N, (cfg0.win 12).flush t = true → t.val = 15 := by decide +kernel
  exact key t h

theorem kout12 (c : Dev nD) : (dats m 0 c).arrAt 12 cfg0.N = Cert.Reference4Ideal.Read.val_main_v61 (F := Ideal) (a0 m c) (a1 m c) (a2 m c) (a3 m c) (a4 m c) (a5 m c) (a6 m c) (a8 m c) (a10 m c) := by
  refine (dats m 0 c).arrAt_eq_of_covers 12 _ (by decide +kernel) fun t hf y => ?_
  have ht := flush12 t hf
  blk_simp
  refine (last12 m c t ht y).trans (Eq.trans (Ref.r61 (a0 m c) (a1 m c) (a2 m c) (a3 m c) (a4 m c) (a5 m c) (a6 m c) (a8 m c) (a10 m c) _).symm ?_)
  refine congrArg (Cert.Reference4Ideal.Read.val_main_v61 (F := Ideal) (a0 m c) (a1 m c) (a2 m c) (a3 m c) (a4 m c) (a5 m c) (a6 m c) (a8 m c) (a10 m c)) ?_
  blk_ext [idx_val t]

/-- one row's part of result 16 -/
def t16 (c : Dev nD) (n : Fin 4096) (i : Fin 512) : EReal := R82 m c (ix2 n ⟨i.val, by omega⟩) * (a0 m c (ix2 n i) * rmsA (∑ k : Fin 512, a0 m c (ix2 n k) * a0 m c (ix2 n k)))
theorem step16 (c : Dev nD) (t : Fin cfg0.N) (O : FVec Ideal S1x512 .f32) (y : S1x512.Idx) :
    k0_pay21 (F := Ideal) (k0_pay8 (iblk m c 1 t)) (k0_pay9 (iblk m c 1 t)) (iblk m c 3 t) (dF m c t (wV m c)) (sF m c t (wV m c)) k0_pay13 (iblk m c 4 t) (iblk m c 6 t) O y
      = O y + ∑ r : Fin 256, t16 m c (rowOf t r) ⟨(y 1).val, (y 1).isLt⟩ := by
  idx_vars y
  obtain rfl : y0 = ⟨0, by decide⟩ := Subsingleton.elim _ _
  refine (pay21 _ _ _ _ _ _ (xF m c t (wV m c)) _ rfl _ _ y1).trans (congrArg (fun z : EReal => _ + z) (Finset.sum_congr rfl fun r _ => ?_))
  simp only [iblk6]
  rw [dm_eq]
  rfl

theorem last16 (c : Dev nD) (t : Fin cfg0.N) (ht : t.val = 15) (y : S1x512.Idx) : (outsAt0 (F := Ideal) m c t.val t.isLt).2.2.2.2.2.1 y
    = ∑ n : Fin 4096, t16 m c n ⟨(y 1).val, (y 1).isLt⟩ := by
  rw [Pipeline.eq_sum_fin_of_reset_step_apply_last (fun n h => (outsAt0 (F := Ideal) m c n h).2.2.2.2.2.1) 16 (fun _ => (0 : EReal))
    (fun t y => ∑ r : Fin 256, t16 m c (rowOf t r) ⟨(y 1).val, (y 1).isLt⟩) ?hA ?hB (le_of_eq N_0) t (ht ▸ rfl) y]
  case hA =>
    intro t h0 y
    have e := congrFun (congrArg (fun p => p.2.2.2.2.2.1) (ptA m c t h0 (by omega))) y
    refine e.trans ((step16 m c t _ y).trans (congrArg (fun z : EReal => z + _) ?_))
    pointwise [k0_pay3]
  case hB =>
    intro t h0 y
    exact (congrFun (congrArg (fun p => p.2.2.2.2.2.1) (pt_step m c t h0 _ rfl)) y).trans (step16 m c t _ y)
  rw [zero_add]
  exact Fin.sum_mul_add_fin 16 256 (fun n : Fin 4096 => t16 m c n ⟨(y 1).val, (y 1).isLt⟩)

theorem flush16 (t : Fin cfg0.N) (h : (cfg0.win 16).flush t = true) : t.val = 15 := by
  have key : ∀ t : Fin grid0.N, (cfg0.win 16).flush t = true → t.val = 15 := by decide +kernel
  exact key t h

theorem kout16 (c : Dev nD) : (dats m 0 c).arrAt 16 cfg0.N = Cert.Reference4Ideal.Read.val_main_v88 (F := Ideal) (a0 m c) (a1 m c) (a2 m c) (a3 m c) (a4 m c) (a5 m c) (a6 m c) (a7 m c) (a8 m c) (a9 m c) (a10 m c) := by
  refine (dats m 0 c).arrAt_eq_of_covers 16 _ (by decide +kernel) fun t hf y => ?_
  have ht := flush16 t hf
  blk_simp
  refine (last16 m c t ht y).trans (Eq.trans (Ref.r88 (a0 m c) (a1 m c) (a2 m c) (a3 m c) (a4 m c) (a5 m c) (a6 m c) (a7 m c) (a8 m c) (a9 m c) (a10 m c) _).symm ?_)
  refine congrArg (Cert.Reference4Ideal.Read.val_main_v88 (F := Ideal) (a0 m c) (a1 m c) (a2 m c) (a3 m c) (a4 m c) (a5 m c) (a6 m c) (a7 m c) (a8 m c) (a9 m c) (a10 m c)) ?_
  blk_ext [idx_val t]

/-- one row's part of result 17 -/
def t17 (c : Dev nD) (n : Fin 4096) (i : Fin 512) : EReal := R82 m c (ix2 n ⟨512 + i.val, by omega⟩) * (a2 m c (ix2 n ⟨1536 + i.val, by omega⟩) * sgR (a2 m c (ix2 n ⟨1536 + i.val, by omega⟩))) * (a1 m c (ix2 n i) * rrR (fun k => a1 m c (ix2 n k)) i)
theorem step17 (c : Dev nD) (t : Fin cfg0.N) (O : FVec Ideal S1x512 .f32) (y : S1x512.Idx) :
    k0_pay31 (F := Ideal) (k0_pay23 (xF m c t (wV m c))) (iblk m c 8 t) (rnF m c t) (k0_pay28 (iblk m c 8 t)) O y
      = O y + ∑ r : Fin 256, t17 m c (rowOf t r) ⟨(y 1).val, (y 1).isLt⟩ := by
  idx_vars y
  obtain rfl : y0 = ⟨0, by decide⟩ := Subsingleton.elim _ _
  refine (pay31 _ _ _ _ y1).trans (congrArg (fun z : EReal => _ + z) (Finset.sum_congr rfl fun r _ => ?_))
  simp only [iblk7, iblk8]
  rw [dm_eq]
  rfl

theorem last17 (c : Dev nD) (t : Fin cfg0.N) (ht : t.val = 15) (y : S1x512.Idx) : (outsAt0 (F := Ideal) m c t.val t.isLt).2.2.2.2.2.2.1 y
    = ∑ n : Fin 4096, t17 m c n ⟨(y 1).val, (y 1).isLt⟩ := by
  rw [Pipeline.eq_sum_fin_of_reset_step_apply_last (fun n h => (outsAt0 (F := Ideal) m c n h).2.2.2.2.2.2.1) 16 (fun _ => (0 : EReal))
    (fun t y => ∑ r : Fin 256, t17 m c (rowOf t r) ⟨(y 1).val, (y 1).isLt⟩) ?hA ?hB (le_of_eq N_0) t (ht ▸ rfl) y]
  case hA =>
    intro t h0 y
    have e := congrFun (congrArg (fun p => p.2.2.2.2.2.2.1) (ptA m c t h0 (by omega))) y
    refine e.trans ((step17 m c t _ y).trans (congrArg (fun z : EReal => z + _) ?_))
    pointwise [k0_pay4]
  case hB =>
    intro t h0 y
    exact (congrFun (congrArg (fun p => p.2.2.2.2.2.2.1) (pt_step m c t h0 _ rfl)) y).trans (step17 m c t _ y)
  rw [zero_add]
  exact Fin.sum_mul_add_fin 16 256 (fun n : Fin 4096 => t17 m c n ⟨(y 1).val, (y 1).isLt⟩)

theorem flush17 (t : Fin cfg0.N) (h : (cfg0.win 17).flush t = true) : t.val = 15 := by
  have key : ∀ t : Fin grid0.N, (cfg0.win 17).flush t = true → t.val = 15 := by decide +kernel
  exact key t h

theorem kout17 (c : Dev nD) : (dats m 0 c).arrAt 17 cfg0.N = Cert.Reference4Ideal.Read.val_main_v128 (F := Ideal) (a0 m c) (a1 m c) (a2 m c) (a3 m c) (a4 m c) (a5 m c) (a6 m c) (a7 m c) (a8 m c) (a9 m c) (a10 m c) := by
  refine (dats m 0 c).arrAt_eq_of_covers 17 _ (by decide +kernel) fun t hf y => ?_
  have ht := flush17 t hf
  blk_simp
  refine (last17 m c t ht y).trans (Eq.trans (Ref.r128 (a0 m c) (a1 m c) (a2 m c) (a3 m c) (a4 m c) (a5 m c) (a6 m c) (a7 m c) (a8 m c) (a9 m c) (a10 m c) _).symm ?_)
  refine congrArg (Cert.Reference4Ideal.Read.val_main_v128 (F := Ideal) (a0 m c) (a1 m c) (a2 m c) (a3 m c) (a4 m c) (a5 m c) (a6 m c) (a7 m c) (a8 m c) (a9 m c) (a10 m c)) ?_
  blk_ext [idx_val t]

/-- one row's part of the gradient of the output projection -/
def t18 (c : Dev nD) (n : Fin 4096) (k i : Fin 1024) : EReal := R37 m c (ix2 n k) * R79 m c (ix2 n i)
theorem step18 (c : Dev nD) (t : Fin cfg0.N) (O : FVec Ideal S1024x1024 .f32) (y : S1024x1024.Idx) :
    k0_pay16 (F := Ideal) (k0_pay8 (iblk m c 1 t)) (k0_pay9 (iblk m c 1 t)) (iblk m c 3 t) (dF m c t (wV m c)) (sF m c t (wV m c)) k0_pay13 O (iblk m c 5 t) y
      = O y + ∑ r : Fin 256, t18 m c (rowOf t r) ⟨(y 0).val, (y 0).isLt⟩ ⟨(y 1).val, (y 1).isLt⟩ := by
  idx_vars y
  refine (pay16 _ _ _ _ _ _ (dhF m c t) rfl _ _ y0 y1).trans (congrArg (fun z : EReal => _ + z) (Finset.sum_congr rfl fun r _ => ?_))
  rw [dh_eq, iblk5]
  rfl

theorem last18 (c : Dev nD) (t : Fin cfg0.N) (ht : t.val = 15) (y : S1024x1024.Idx) : (outsAt0 (F := Ideal) m c t.val t.isLt).2.2.2.2.2.2.2.2.2 y
    = ∑ n : Fin 4096, t18 m c n ⟨(y 0).val, (y 0).isLt⟩ ⟨(y 1).val, (y 1).isLt⟩ := by
  rw [Pipeline.eq_sum_fin_of_reset_step_apply_last (fun n h => (outsAt0 (F := Ideal) m c n h).2.2.2.2.2.2.2.2.2) 16 (fun _ => (0 : EReal))
    (fun t y => ∑ r : Fin 256, t18 m c (rowOf t r) ⟨(y 0).val, (y 0).isLt⟩ ⟨(y 1).val, (y 1).isLt⟩) ?hA ?hB (le_of_eq N_0) t (ht ▸ rfl) y]
  case hA =>
    intro t h0 y
    have e := congrFun (congrArg (fun p => p.2.2.2.2.2.2.2.2) (ptA m c t h0 (by omega))) y
    refine e.trans ((step18 m c t _ y).trans (congrArg (fun z : EReal => z + _) ?_))
    idx_vars y
    pointwise [k0_pay5]
  case hB =>
    intro t h0 y
    exact (congrFun (congrArg (fun p => p.2.2.2.2.2.2.2.2) (pt_step m c t h0 _ rfl)) y).trans (step18 m c t _ y)
  rw [zero_add]
  exact Fin.sum_mul_add_fin 16 256 (fun n : Fin 4096 => t18 m c n ⟨(y 0).val, (y 0).isLt⟩ ⟨(y 1).val, (y 1).isLt⟩)

theorem out18 (c : Dev nD) (t : Fin cfg0.N) (ht : t.val = 15) (y : S1024x1024.Idx) : (outsAt0 (F := Ideal) m c t.val t.isLt).2.2.2.2.2.2.2.1 y
    = ∑ n : Fin 4096, t18 m c n ⟨(y 0).val, (y 0).isLt⟩ ⟨(y 1).val, (y 1).isLt⟩ := by
  have h0 : ¬t.val % 16 = 0 := by omega
  have h1 : t.val % 16 = 15 := by omega
  refine (congrFun (ptC_18 m c t h0 h1 _ rfl) y).trans ?_
  have e := (congrFun (congrArg (fun p => p.2.2.2.2.2.2.2.2) (ptC m c t h0 h1 _ rfl)) y).symm.trans (last18 m c t ht y)
  exact e

theorem flush18 (t : Fin cfg0.N) (h : (cfg0.win 18).flush t = true) : t.val = 15 := by
  have key : ∀ t : Fin grid0.N, (cfg0.win 18).flush t = true → t.val = 15 := by decide +kernel
  exact key t h

theorem kout18 (c : Dev nD) : (dats m 0 c).arrAt 18 cfg0.N = Cert.Reference4Ideal.Read.val_main_v131 (F := Ideal) (a0 m c) (a1 m c) (a2 m c) (a3 m c) (a4 m c) (a5 m c) (a6 m c) (a7 m c) (a8 m c) (a9 m c) (a10 m c) := by
  refine (dats m 0 c).arrAt_eq_of_covers 18 _ (by decide +kernel) fun t hf y => ?_
  have ht := flush18 t hf
  blk_simp
  refine (out18 m c t ht y).trans (Eq.trans (Ref.r131 (a0 m c) (a1 m c) (a2 m c) (a3 m c) (a4 m c) (a5 m c) (a6 m c) (a7 m c) (a8 m c) (a9 m c) (a10 m c) _ _).symm ?_)
  refine congrArg (Cert.Reference4Ideal.Read.val_main_v131 (F := Ideal) (a0 m c) (a1 m c) (a2 m c) (a3 m c) (a4 m c) (a5 m c) (a6 m c) (a7 m c) (a8 m c) (a9 m c) (a10 m c)) ?_
  blk_ext [idx_val t]

end Cert.Kernel4Ideal.Bwd
end
-- ==== Proof.UpBwdPre.lean ====
module

public import proofs.«01_k».proof.Defs
public import proofs.«01_k».proof.Proof.Gen.Pre_finite4
public import proofs.«01_k».proof.Proof.MlpPre
public import proofs.«01_k».proof.Proof.UpBwd

@[expose] public section
noncomputable section
open Idealize.ShloMosaic Idealize.ShloMosaic.TcCoe Idealize.SL.Sem
namespace Cert.Kernel4Ideal.Bwd
open Cert.Kernel4Ideal Cert.MlpRef

instance : Subsingleton Cert.Pre_finite4.S_.Idx := ⟨fun _ _ => funext fun i => i.elim0⟩

/-- What the precondition says of the arguments. -/
theorem reals (m : (ℓ : Loc nD τ sig) → Buf (Elt Ideal) ℓ) (c : Dev nD)
    (h : Cert.Pre_finite4.fn (F := Ideal) (a0 m c) (a1 m c) (a2 m c) (a3 m c) (a4 m c) (a5 m c) (a6 m c) (a7 m c) (a8 m c) (a9 m c) (a10 m c) = fun _ => 1#1) :
    Reals m c := by
  have e := congrFun h (fun i => i.elim0)
  simp only [Cert.Pre_finite4.fn, Cert.Pre_finite4.fn_part1, andi, andi_one] at e
  obtain ⟨⟨⟨⟨⟨e5, e6⟩, e7⟩, e8⟩, e9⟩, e10⟩ := e
  exact ⟨fun i => real_of_cmp _ (Host.reduce_andi_all _ _ _ _ _ e5 i), fun i => real_of_cmp _ (Host.reduce_andi_all _ _ _ _ _ e6 i),
    fun i => real_of_cmp _ (Host.reduce_andi_all _ _ _ _ _ e7 i), fun i => real_of_cmp _ (Host.reduce_andi_all _ _ _ _ _ e8 i),
    fun i => real_of_cmp _ (Host.reduce_andi_all _ _ _ _ _ e9 i), fun i => real_of_cmp _ (Host.reduce_andi_all _ _ _ _ _ e10 i)⟩

end Cert.Kernel4Ideal.Bwd
end
-- ==== Proof.MlpFwdA.lean ====
module

public import proofs.«01_k».proof.Proof.Gen.Kernel5Ideal.Frame.Runs
public import Idealize.ShloMosaic.Lib.Claim

@[expose] public section
set_option maxRecDepth 16384
noncomputable section
namespace Cert.Kernel5Ideal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen
variable {F : FTy → Type} [FloatOps F]
local notation "𝕄" => MT nD τ sig Unit (Elt F) ℕ (Pipeline.UD sig nD τ) ℕ
variable (c : Dev nD) (i : grid0.Coords) {arg1 arg2 arg3 : Memref sig .tc .vmem S256x512 .f32} {arg4 : Memref sig .tc .vmem S256x1024 .f32} {arg5 arg6 : Memref sig .tc .vmem S1x512 .f32} {arg7 : Memref sig .tc .vmem S1024x1024 .bf16} {arg8 : Memref sig .tc .vmem S1x1024 .f32} {arg10 : Memref sig .tc .vmem S3x2816 .f32} {arg11 : Memref sig .tc .vmem S1x2816 .f32} {arg12 : Memref sig .tc .vmem S2816x1024 .bf16} {arg13 : Memref sig .tc .vmem S1x1024 .f32} {arg14 arg15 : Memref sig .tc .vmem S256x1024 .f32} {arg16 arg17 : Memref sig .tc .vmem S256x1024 .bf16} {arg18 arg19 arg20 arg21 : Memref sig .tc .vmem S256x2816 .bf16} {arg22 : Memref sig .tc .vmem S256x1024 .f32} {arg23 : Memref sig .tc .vmem S1x128 .f32} {arg24 : Memref sig .tc .vmem S1x1024 .f32} {arg25 : Memref sig .tc .vmem S8x2816 .f32} {arg26 : Memref sig .tc .vmem S1024x5632 .bf16}
  (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole) (harg25 : arg25.IsWhole) (harg26 : arg26.IsWhole)
section
variable (hc0 : cond0_0 i) (x0 x1 x2 : Vec F S256x512 .f32) (x3 : Vec F S256x1024 .f32) (x4 x5 : Vec F S1x512 .f32) (x6 : Vec F S1024x1024 .bf16) (x7 : Vec F S1x1024 .f32) (x8 : Vec F S3x2816 .f32) (x9 : Vec F S1x2816 .f32) (x10 : Vec F S2816x1024 .bf16) (x11 : Vec F S1x1024 .f32) (x12 : Vec F S256x1024 .f32) (fh0 : HbBuf0 (F := F) c hbM0_0)
set_option maxHeartbeats 2000000 in
/-- The run of the body in case A, and the pieces it leaves. -/
noncomputable def kernelRun0_A :
    Σ' (L13 : List (View.Piece (Elt F) S256x1024 .f32)), Σ' (L14 : List (View.Piece (Elt F) S256x1024 .bf16)), Σ' (L15 : List (View.Piece (Elt F) S256x1024 .bf16)), Σ' (L16 : List (View.Piece (Elt F) S256x2816 .bf16)), Σ' (L17 : List (View.Piece (Elt F) S256x2816 .bf16)), Σ' (L18 : List (View.Piece (Elt F) S256x2816 .bf16)), Σ' (L19 : List (View.Piece (Elt F) S256x2816 .bf16)), Σ' (L20 : List (View.Piece (Elt F) S256x1024 .f32)), Σ' (L21 : List (View.Piece (Elt F) S1x128 .f32)), Σ' (L22 : List (View.Piece (Elt F) S1x1024 .f32)), Σ' (LS0 : List (View.Piece (Elt F) S8x2816 .f32)), { LS1 : List (View.Piece (Elt F) S1024x5632 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f LS0) ∗ (∃ f, arg26.view.loc (c : Thread nD τ) ↦[arg26.view.set]{fullShare} arg26.view.writes (Elt F) f LS1) ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ hbPt0 c hbM0_0 fh0 ∗ (∃ W', owes (c : Thread nD τ) 0 W')) -∗ K ⟨⟩))
          ⊢ wp frame (wpE (defs₀ (F := F)) Variants.none c none) Set.univ (cc0_mlp_fwd i arg1 harg1 arg2 harg2 arg3 harg3 arg4 harg4 arg5 harg5 arg6 harg6 arg7 harg7 arg8 harg8 (Memref.whole main_v3) (Memref.isWhole_whole _) arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 cc0_scratch2) K } := by
  refine ⟨?_, ?_, ?_, ?_, ?_, ?_, ?_, ?_, ?_, ?_, ?_, ?_, fun W K => ?run⟩
  case run =>
    simp only [cc0_mlp_fwd_eq_skeleton]; unfold cc0_mlp_fwd_skel
    simp only [k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%ds0, %fs0, -, HS0⟩, ⟨%ds1, %fs1, -, HS1⟩, Hq0, Hq1, Hq2, Hq3, Hh0, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf8; obtain rfl := harg11.eq_unread hf9; obtain rfl := harg12.eq_unread hf10; obtain rfl := harg13.eq_unread hf11; obtain rfl := harg14.eq_unread hf12
    set_option sl_exec.dmaWindow true in
    set_option sl_exec.dmaWindowSet true in
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [HS0]; · iexists _; iexact HS0
    isplitl [HS1]; · iexists _; iexact HS1
    iframe Hq0 Hq1 Hq2 Hq3 Hh0
    iexists _; iexact HW
theorem cover0_A_13 (y : S256x1024.Idx) :
    ∃ pc ∈ (kernelRun0_A c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 fh0).1, y ∈ pc.1.set :=
  View.cover_of_tiledL (kernelRun0_A c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 fh0).1 S256x1024.size (by sl_kernel_rfl) y
def out0_A_13 : Vec F S256x1024 .f32 :=
  VO0_13.read (Elt F) (VO0_13.writes (Elt F) VO0_13.junk (kernelRun0_A c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 fh0).1)
theorem cover0_A_14 (y : S256x1024.Idx) :
    ∃ pc ∈ (kernelRun0_A c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 fh0).2.1, y ∈ pc.1.set :=
  View.cover_of_tiledL (kernelRun0_A c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 fh0).2.1 S256x1024.size (by sl_kernel_rfl) y
def out0_A_14 : Vec F S256x1024 .bf16 :=
  VO0_14.read (Elt F) (VO0_14.writes (Elt F) VO0_14.junk (kernelRun0_A c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 fh0).2.1)
theorem cover0_A_15 (y : S256x1024.Idx) :
    ∃ pc ∈ (kernelRun0_A c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 fh0).2.2.1, y ∈ pc.1.set :=
  View.cover_of_tiledL (kernelRun0_A c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 fh0).2.2.1 S256x1024.size (by sl_kernel_rfl) y
def out0_A_15 : Vec F S256x1024 .bf16 :=
  VO0_15.read (Elt F) (VO0_15.writes (Elt F) VO0_15.junk (kernelRun0_A c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 fh0).2.2.1)
theorem cover0_A_16 (y : S256x2816.Idx) :
    ∃ pc ∈ (kernelRun0_A c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 fh0).2.2.2.1, y ∈ pc.1.set :=
  View.cover_of_tiledBy (kernelRun0_A c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 fh0).2.2.2.1 ![256, 256] (by sl_kernel_rfl) y
def out0_A_16 : Vec F S256x2816 .bf16 :=
  VO0_16.read (Elt F) (VO0_16.writes (Elt F) VO0_16.junk (kernelRun0_A c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 fh0).2.2.2.1)
theorem cover0_A_17 (y : S256x2816.Idx) :
    ∃ pc ∈ (kernelRun0_A c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 fh0).2.2.2.2.1, y ∈ pc.1.set :=
  View.cover_of_tiledBy (kernelRun0_A c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 fh0).2.2.2.2.1 ![256, 256] (by sl_kernel_rfl) y
def out0_A_17 : Vec F S256x2816 .bf16 :=
  VO0_17.read (Elt F) (VO0_17.writes (Elt F) VO0_17.junk (kernelRun0_A c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 fh0).2.2.2.2.1)
theorem cover0_A_18 (y : S256x2816.Idx) :
    ∃ pc ∈ (kernelRun0_A c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 fh0).2.2.2.2.2.1, y ∈ pc.1.set :=
  View.cover_of_tiledBy (kernelRun0_A c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 fh0).2.2.2.2.2.1 ![256, 256] (by sl_kernel_rfl) y
def out0_A_18 : Vec F S256x2816 .bf16 :=
  VO0_18.read (Elt F) (VO0_18.writes (Elt F) VO0_18.junk (kernelRun0_A c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 fh0).2.2.2.2.2.1)
theorem cover0_A_19 (y : S256x2816.Idx) :
    ∃ pc ∈ (kernelRun0_A c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 fh0).2.2.2.2.2.2.1, y ∈ pc.1.set :=
  View.cover_of_tiledBy (kernelRun0_A c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 fh0).2.2.2.2.2.2.1 ![256, 256] (by sl_kernel_rfl) y
def out0_A_19 : Vec F S256x2816 .bf16 :=
  VO0_19.read (Elt F) (VO0_19.writes (Elt F) VO0_19.junk (kernelRun0_A c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 fh0).2.2.2.2.2.2.1)
theorem cover0_A_20 (y : S256x1024.Idx) :
    ∃ pc ∈ (kernelRun0_A c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 fh0).2.2.2.2.2.2.2.1, y ∈ pc.1.set :=
  View.cover_of_tiledL (kernelRun0_A c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 fh0).2.2.2.2.2.2.2.1 S256x1024.size (by sl_kernel_rfl) y
def out0_A_20 : Vec F S256x1024 .f32 :=
  VO0_20.read (Elt F) (VO0_20.writes (Elt F) VO0_20.junk (kernelRun0_A c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 fh0).2.2.2.2.2.2.2.1)
theorem cover0_A_21 (y : S1x128.Idx) :
    ∃ pc ∈ (kernelRun0_A c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 fh0).2.2.2.2.2.2.2.2.1, y ∈ pc.1.set :=
  View.cover_of_tiledL (kernelRun0_A c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 fh0).2.2.2.2.2.2.2.2.1 S1x128.size (by sl_kernel_rfl) y
def out0_A_21 : Vec F S1x128 .f32 :=
  VO0_21.read (Elt F) (VO0_21.writes (Elt F) VO0_21.junk (kernelRun0_A c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 fh0).2.2.2.2.2.2.2.2.1)
theorem cover0_A_22 (y : S1x1024.Idx) :
    ∃ pc ∈ (kernelRun0_A c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 fh0).2.2.2.2.2.2.2.2.2.1, y ∈ pc.1.set :=
  View.cover_of_tiledL (kernelRun0_A c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 fh0).2.2.2.2.2.2.2.2.2.1 S1x1024.size (by sl_kernel_rfl) y
def out0_A_22 : Vec F S1x1024 .f32 :=
  VO0_22.read (Elt F) (VO0_22.writes (Elt F) VO0_22.junk (kernelRun0_A c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 fh0).2.2.2.2.2.2.2.2.2.1)
theorem scover0_A_0 (y : S8x2816.Idx) :
    ∃ pc ∈ (kernelRun0_A c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 fh0).2.2.2.2.2.2.2.2.2.2.1, y ∈ pc.1.set :=
  View.cover_of_wholeMem (kernelRun0_A c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 fh0).2.2.2.2.2.2.2.2.2.2.1 (by sl_whole_mem) y
def sout0_A_0 : Vec F S8x2816 .f32 :=
  VS0_0.read (Elt F) (VS0_0.writes (Elt F) VS0_0.junk (kernelRun0_A c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 fh0).2.2.2.2.2.2.2.2.2.2.1)
theorem scover0_A_1 (y : S1024x5632.Idx) :
    ∃ pc ∈ (kernelRun0_A c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 fh0).2.2.2.2.2.2.2.2.2.2.2.1, y ∈ pc.1.set :=
  View.cover_of_tiledL (kernelRun0_A c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 fh0).2.2.2.2.2.2.2.2.2.2.2.1 S1024x1408.size (by sl_kernel_rfl) y
def sout0_A_1 : Vec F S1024x5632 .bf16 :=
  VS0_1.read (Elt F) (VS0_1.writes (Elt F) VS0_1.junk (kernelRun0_A c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 fh0).2.2.2.2.2.2.2.2.2.2.2.1)
end
end Cert.Kernel5Ideal.Run
end
-- ==== Proof.MlpFwdB.lean ====
module

public import proofs.«01_k».proof.Proof.Gen.Kernel5Ideal.Frame.Runs
public import Idealize.ShloMosaic.Lib.Claim

@[expose] public section
set_option maxRecDepth 16384
noncomputable section
namespace Cert.Kernel5Ideal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen
variable {F : FTy → Type} [FloatOps F]
local notation "𝕄" => MT nD τ sig Unit (Elt F) ℕ (Pipeline.UD sig nD τ) ℕ
variable (c : Dev nD) (i : grid0.Coords) {arg1 arg2 arg3 : Memref sig .tc .vmem S256x512 .f32} {arg4 : Memref sig .tc .vmem S256x1024 .f32} {arg5 arg6 : Memref sig .tc .vmem S1x512 .f32} {arg7 : Memref sig .tc .vmem S1024x1024 .bf16} {arg8 : Memref sig .tc .vmem S1x1024 .f32} {arg10 : Memref sig .tc .vmem S3x2816 .f32} {arg11 : Memref sig .tc .vmem S1x2816 .f32} {arg12 : Memref sig .tc .vmem S2816x1024 .bf16} {arg13 : Memref sig .tc .vmem S1x1024 .f32} {arg14 arg15 : Memref sig .tc .vmem S256x1024 .f32} {arg16 arg17 : Memref sig .tc .vmem S256x1024 .bf16} {arg18 arg19 arg20 arg21 : Memref sig .tc .vmem S256x2816 .bf16} {arg22 : Memref sig .tc .vmem S256x1024 .f32} {arg23 : Memref sig .tc .vmem S1x128 .f32} {arg24 : Memref sig .tc .vmem S1x1024 .f32} {arg25 : Memref sig .tc .vmem S8x2816 .f32} {arg26 : Memref sig .tc .vmem S1024x5632 .bf16}
  (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) (harg23 : arg23.IsWhole) (harg24 : arg24.IsWhole) (harg25 : arg25.IsWhole) (harg26 : arg26.IsWhole)
section
variable (hc0 : ¬cond0_0 i) (x0 x1 x2 : Vec F S256x512 .f32) (x3 : Vec F S256x1024 .f32) (x4 x5 : Vec F S1x512 .f32) (x6 : Vec F S1024x1024 .bf16) (x7 : Vec F S1x1024 .f32) (x8 : Vec F S3x2816 .f32) (x9 : Vec F S1x2816 .f32) (x10 : Vec F S2816x1024 .bf16) (x11 : Vec F S1x1024 .f32) (x12 : Vec F S256x1024 .f32) (xo21 : Vec F S1x128 .f32) (xo22 : Vec F S1x1024 .f32) (xs0 : Vec F S8x2816 .f32) (xs1 : Vec F S1024x5632 .bf16) (fh0 : HbBuf0 (F := F) c hbM0_0)
set_option maxHeartbeats 2000000 in
/-- The run of the body in case B, and the pieces it leaves. -/
noncomputable def kernelRun0_B :
    Σ' (L13 : List (View.Piece (Elt F) S256x1024 .f32)), Σ' (L14 : List (View.Piece (Elt F) S256x1024 .bf16)), Σ' (L15 : List (View.Piece (Elt F) S256x1024 .bf16)), Σ' (L16 : List (View.Piece (Elt F) S256x2816 .bf16)), Σ' (L17 : List (View.Piece (Elt F) S256x2816 .bf16)), Σ' (L18 : List (View.Piece (Elt F) S256x2816 .bf16)), Σ' (L19 : List (View.Piece (Elt F) S256x2816 .bf16)), Σ' (L20 : List (View.Piece (Elt F) S256x1024 .f32)), Σ' (L21 : List (View.Piece (Elt F) S1x128 .f32)), Σ' (L22 : List (View.Piece (Elt F) S1x1024 .f32)), Σ' (LS0 : List (View.Piece (Elt F) S8x2816 .f32)), { LS1 : List (View.Piece (Elt F) S1024x5632 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ owns (c : Thread nD τ) arg23 fullShare xo21 ∗ owns (c : Thread nD τ) arg24 fullShare xo22 ∗ owns (c : Thread nD τ) arg25 fullShare xs0 ∗ owns (c : Thread nD τ) arg26 fullShare xs1 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f LS0) ∗ owns (c : Thread nD τ) arg26 fullShare xs1 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ hbPt0 c hbM0_0 fh0 ∗ (∃ W', owes (c : Thread nD τ) 0 W')) -∗ K ⟨⟩))
          ⊢ wp frame (wpE (defs₀ (F := F)) Variants.none c none) Set.univ (cc0_mlp_fwd i arg1 harg1 arg2 harg2 arg3 harg3 arg4 harg4 arg5 harg5 arg6 harg6 arg7 harg7 arg8 harg8 (Memref.whole main_v3) (Memref.isWhole_whole _) arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 cc0_scratch2) K } := by
  refine ⟨?_, ?_, ?_, ?_, ?_, ?_, ?_, ?_, ?_, ?_, ?_, [], fun W K => ?run⟩
  case run =>
    simp only [cc0_mlp_fwd_eq_skeleton]; unfold cc0_mlp_fwd_skel
    simp only [k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%f21, %hf21, H21⟩, ⟨%f22, %hf22, H22⟩, ⟨%fs0, %hfs0, HS0⟩, ⟨%fs1, %hfs1, HS1⟩, Hq0, Hq1, Hq2, Hq3, Hh0, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf8; obtain rfl := harg11.eq_unread hf9; obtain rfl := harg12.eq_unread hf10; obtain rfl := harg13.eq_unread hf11; obtain rfl := harg14.eq_unread hf12; obtain rfl := harg23.eq_unread hf21; obtain rfl := harg24.eq_unread hf22; obtain rfl := harg25.eq_unread hfs0; obtain rfl := harg26.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [HS0]; · iexists _; iexact HS0
    isplitl [HS1]
    · iexists _; isplitr; · ipureintro; exact harg26.read_unread _
      iexact HS1
    iframe Hq0 Hq1 Hq2 Hq3 Hh0
    iexists _; iexact HW
theorem cover0_B_13 (y : S256x1024.Idx) :
    ∃ pc ∈ (kernelRun0_B c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 xo21 xo22 xs0 xs1 fh0).1, y ∈ pc.1.set :=
  View.cover_of_tiledL (kernelRun0_B c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 xo21 xo22 xs0 xs1 fh0).1 S256x1024.size (by sl_kernel_rfl) y
def out0_B_13 : Vec F S256x1024 .f32 :=
  VO0_13.read (Elt F) (VO0_13.writes (Elt F) VO0_13.junk (kernelRun0_B c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 xo21 xo22 xs0 xs1 fh0).1)
theorem cover0_B_14 (y : S256x1024.Idx) :
    ∃ pc ∈ (kernelRun0_B c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 xo21 xo22 xs0 xs1 fh0).2.1, y ∈ pc.1.set :=
  View.cover_of_tiledL (kernelRun0_B c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 xo21 xo22 xs0 xs1 fh0).2.1 S256x1024.size (by sl_kernel_rfl) y
def out0_B_14 : Vec F S256x1024 .bf16 :=
  VO0_14.read (Elt F) (VO0_14.writes (Elt F) VO0_14.junk (kernelRun0_B c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 xo21 xo22 xs0 xs1 fh0).2.1)
theorem cover0_B_15 (y : S256x1024.Idx) :
    ∃ pc ∈ (kernelRun0_B c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 xo21 xo22 xs0 xs1 fh0).2.2.1, y ∈ pc.1.set :=
  View.cover_of_tiledL (kernelRun0_B c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 xo21 xo22 xs0 xs1 fh0).2.2.1 S256x1024.size (by sl_kernel_rfl) y
def out0_B_15 : Vec F S256x1024 .bf16 :=
  VO0_15.read (Elt F) (VO0_15.writes (Elt F) VO0_15.junk (kernelRun0_B c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 xo21 xo22 xs0 xs1 fh0).2.2.1)
theorem cover0_B_16 (y : S256x2816.Idx) :
    ∃ pc ∈ (kernelRun0_B c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 xo21 xo22 xs0 xs1 fh0).2.2.2.1, y ∈ pc.1.set :=
  View.cover_of_tiledBy (kernelRun0_B c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 xo21 xo22 xs0 xs1 fh0).2.2.2.1 ![256, 256] (by sl_kernel_rfl) y
def out0_B_16 : Vec F S256x2816 .bf16 :=
  VO0_16.read (Elt F) (VO0_16.writes (Elt F) VO0_16.junk (kernelRun0_B c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 xo21 xo22 xs0 xs1 fh0).2.2.2.1)
theorem cover0_B_17 (y : S256x2816.Idx) :
    ∃ pc ∈ (kernelRun0_B c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 xo21 xo22 xs0 xs1 fh0).2.2.2.2.1, y ∈ pc.1.set :=
  View.cover_of_tiledBy (kernelRun0_B c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 xo21 xo22 xs0 xs1 fh0).2.2.2.2.1 ![256, 256] (by sl_kernel_rfl) y
def out0_B_17 : Vec F S256x2816 .bf16 :=
  VO0_17.read (Elt F) (VO0_17.writes (Elt F) VO0_17.junk (kernelRun0_B c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 xo21 xo22 xs0 xs1 fh0).2.2.2.2.1)
theorem cover0_B_18 (y : S256x2816.Idx) :
    ∃ pc ∈ (kernelRun0_B c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 xo21 xo22 xs0 xs1 fh0).2.2.2.2.2.1, y ∈ pc.1.set :=
  View.cover_of_tiledBy (kernelRun0_B c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 xo21 xo22 xs0 xs1 fh0).2.2.2.2.2.1 ![256, 256] (by sl_kernel_rfl) y
def out0_B_18 : Vec F S256x2816 .bf16 :=
  VO0_18.read (Elt F) (VO0_18.writes (Elt F) VO0_18.junk (kernelRun0_B c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 xo21 xo22 xs0 xs1 fh0).2.2.2.2.2.1)
theorem cover0_B_19 (y : S256x2816.Idx) :
    ∃ pc ∈ (kernelRun0_B c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 xo21 xo22 xs0 xs1 fh0).2.2.2.2.2.2.1, y ∈ pc.1.set :=
  View.cover_of_tiledBy (kernelRun0_B c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 xo21 xo22 xs0 xs1 fh0).2.2.2.2.2.2.1 ![256, 256] (by sl_kernel_rfl) y
def out0_B_19 : Vec F S256x2816 .bf16 :=
  VO0_19.read (Elt F) (VO0_19.writes (Elt F) VO0_19.junk (kernelRun0_B c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 xo21 xo22 xs0 xs1 fh0).2.2.2.2.2.2.1)
theorem cover0_B_20 (y : S256x1024.Idx) :
    ∃ pc ∈ (kernelRun0_B c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 xo21 xo22 xs0 xs1 fh0).2.2.2.2.2.2.2.1, y ∈ pc.1.set :=
  View.cover_of_tiledL (kernelRun0_B c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 xo21 xo22 xs0 xs1 fh0).2.2.2.2.2.2.2.1 S256x1024.size (by sl_kernel_rfl) y
def out0_B_20 : Vec F S256x1024 .f32 :=
  VO0_20.read (Elt F) (VO0_20.writes (Elt F) VO0_20.junk (kernelRun0_B c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 xo21 xo22 xs0 xs1 fh0).2.2.2.2.2.2.2.1)
theorem cover0_B_21 (y : S1x128.Idx) :
    ∃ pc ∈ (kernelRun0_B c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 xo21 xo22 xs0 xs1 fh0).2.2.2.2.2.2.2.2.1, y ∈ pc.1.set :=
  View.cover_of_tiledL (kernelRun0_B c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 xo21 xo22 xs0 xs1 fh0).2.2.2.2.2.2.2.2.1 S1x128.size (by sl_kernel_rfl) y
def out0_B_21 : Vec F S1x128 .f32 :=
  VO0_21.read (Elt F) (VO0_21.writes (Elt F) VO0_21.junk (kernelRun0_B c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 xo21 xo22 xs0 xs1 fh0).2.2.2.2.2.2.2.2.1)
theorem cover0_B_22 (y : S1x1024.Idx) :
    ∃ pc ∈ (kernelRun0_B c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 xo21 xo22 xs0 xs1 fh0).2.2.2.2.2.2.2.2.2.1, y ∈ pc.1.set :=
  View.cover_of_tiledL (kernelRun0_B c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 xo21 xo22 xs0 xs1 fh0).2.2.2.2.2.2.2.2.2.1 S1x1024.size (by sl_kernel_rfl) y
def out0_B_22 : Vec F S1x1024 .f32 :=
  VO0_22.read (Elt F) (VO0_22.writes (Elt F) VO0_22.junk (kernelRun0_B c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 xo21 xo22 xs0 xs1 fh0).2.2.2.2.2.2.2.2.2.1)
theorem scover0_B_0 (y : S8x2816.Idx) :
    ∃ pc ∈ (kernelRun0_B c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 xo21 xo22 xs0 xs1 fh0).2.2.2.2.2.2.2.2.2.2.1, y ∈ pc.1.set :=
  View.cover_of_tiledBy (kernelRun0_B c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 xo21 xo22 xs0 xs1 fh0).2.2.2.2.2.2.2.2.2.2.1 ![8, 256] (by sl_kernel_rfl) y
def sout0_B_0 : Vec F S8x2816 .f32 :=
  VS0_0.read (Elt F) (VS0_0.writes (Elt F) VS0_0.junk (kernelRun0_B c i harg1 harg2 harg3 harg4 harg5 harg6 harg7 harg8 harg10 harg11 harg12 harg13 harg14 harg15 harg16 harg17 harg18 harg19 harg20 harg21 harg22 harg23 harg24 harg25 harg26 hc0 x0 x1 x2 x3 x4 x5 x6 x7 x8 x9 x10 x11 x12 xo21 xo22 xs0 xs1 fh0).2.2.2.2.2.2.2.2.2.2.1)
end
end Cert.Kernel5Ideal.Run
end
-- ==== Proof.MlpFwdRun.lean ====
module

public import proofs.«01_k».proof.Proof.MlpFwdA
public import proofs.«01_k».proof.Proof.MlpFwdB

@[expose] public section
set_option maxRecDepth 16384
noncomputable section
namespace Cert.Kernel5Ideal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen
variable {F : FTy → Type} [FloatOps F]
local notation "𝕄" => MT nD τ sig Unit (Elt F) ℕ (Pipeline.UD sig nD τ) ℕ
variable (m : (ℓ : Loc nD τ sig) → Buf (Elt F) ℓ) (ρ : Dev nD → PrngReg)
theorem hscM0_0 : scM0_0.IsWhole := Memref.isWhole_whole _
theorem hscM0_1 : scM0_1.IsWhole := Memref.isWhole_whole _
/-- What a point of case A leaves. -/
def pt0_A (c : Dev nD) (t : Fin cfg0.N) (h0 : t.val % 16 = 0) : Vec F S256x1024 .f32 × Vec F S256x1024 .bf16 × Vec F S256x1024 .bf16 × Vec F S256x2816 .bf16 × Vec F S256x2816 .bf16 × Vec F S256x2816 .bf16 × Vec F S256x2816 .bf16 × Vec F S256x1024 .f32 × Vec F S1x128 .f32 × Vec F S1x1024 .f32 × Vec F S8x2816 .f32 × Vec F S1024x5632 .bf16 :=
  (out0_A_13 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) (hs0_19 t) (hs0_20 t) (hs0_21 t) (hs0_22 t) hscM0_0 hscM0_1 ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (V m c main_v3), out0_A_14 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) (hs0_19 t) (hs0_20 t) (hs0_21 t) (hs0_22 t) hscM0_0 hscM0_1 ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (V m c main_v3), out0_A_15 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) (hs0_19 t) (hs0_20 t) (hs0_21 t) (hs0_22 t) hscM0_0 hscM0_1 ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (V m c main_v3), out0_A_16 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) (hs0_19 t) (hs0_20 t) (hs0_21 t) (hs0_22 t) hscM0_0 hscM0_1 ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (V m c main_v3), out0_A_17 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) (hs0_19 t) (hs0_20 t) (hs0_21 t) (hs0_22 t) hscM0_0 hscM0_1 ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (V m c main_v3), out0_A_18 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) (hs0_19 t) (hs0_20 t) (hs0_21 t) (hs0_22 t) hscM0_0 hscM0_1 ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (V m c main_v3), out0_A_19 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) (hs0_19 t) (hs0_20 t) (hs0_21 t) (hs0_22 t) hscM0_0 hscM0_1 ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (V m c main_v3), out0_A_20 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) (hs0_19 t) (hs0_20 t) (hs0_21 t) (hs0_22 t) hscM0_0 hscM0_1 ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (V m c main_v3), out0_A_21 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) (hs0_19 t) (hs0_20 t) (hs0_21 t) (hs0_22 t) hscM0_0 hscM0_1 ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (V m c main_v3), out0_A_22 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) (hs0_19 t) (hs0_20 t) (hs0_21 t) (hs0_22 t) hscM0_0 hscM0_1 ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (V m c main_v3), sout0_A_0 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) (hs0_19 t) (hs0_20 t) (hs0_21 t) (hs0_22 t) hscM0_0 hscM0_1 ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (V m c main_v3), sout0_A_1 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) (hs0_19 t) (hs0_20 t) (hs0_21 t) (hs0_22 t) hscM0_0 hscM0_1 ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (V m c main_v3))
/-- What a point of case B leaves, after `P`. -/
def pt0_B (c : Dev nD) (t : Fin cfg0.N) (h0 : ¬t.val % 16 = 0) (P : Vec F S256x1024 .f32 × Vec F S256x1024 .bf16 × Vec F S256x1024 .bf16 × Vec F S256x2816 .bf16 × Vec F S256x2816 .bf16 × Vec F S256x2816 .bf16 × Vec F S256x2816 .bf16 × Vec F S256x1024 .f32 × Vec F S1x128 .f32 × Vec F S1x1024 .f32 × Vec F S8x2816 .f32 × Vec F S1024x5632 .bf16) : Vec F S256x1024 .f32 × Vec F S256x1024 .bf16 × Vec F S256x1024 .bf16 × Vec F S256x2816 .bf16 × Vec F S256x2816 .bf16 × Vec F S256x2816 .bf16 × Vec F S256x2816 .bf16 × Vec F S256x1024 .f32 × Vec F S1x128 .f32 × Vec F S1x1024 .f32 × Vec F S8x2816 .f32 × Vec F S1024x5632 .bf16 :=
  (out0_B_13 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) (hs0_19 t) (hs0_20 t) (hs0_21 t) (hs0_22 t) hscM0_0 hscM0_1 (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) P.2.2.2.2.2.2.2.2.1 P.2.2.2.2.2.2.2.2.2.1 P.2.2.2.2.2.2.2.2.2.2.1 P.2.2.2.2.2.2.2.2.2.2.2 (V m c main_v3), out0_B_14 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) (hs0_19 t) (hs0_20 t) (hs0_21 t) (hs0_22 t) hscM0_0 hscM0_1 (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) P.2.2.2.2.2.2.2.2.1 P.2.2.2.2.2.2.2.2.2.1 P.2.2.2.2.2.2.2.2.2.2.1 P.2.2.2.2.2.2.2.2.2.2.2 (V m c main_v3), out0_B_15 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) (hs0_19 t) (hs0_20 t) (hs0_21 t) (hs0_22 t) hscM0_0 hscM0_1 (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) P.2.2.2.2.2.2.2.2.1 P.2.2.2.2.2.2.2.2.2.1 P.2.2.2.2.2.2.2.2.2.2.1 P.2.2.2.2.2.2.2.2.2.2.2 (V m c main_v3), out0_B_16 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) (hs0_19 t) (hs0_20 t) (hs0_21 t) (hs0_22 t) hscM0_0 hscM0_1 (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) P.2.2.2.2.2.2.2.2.1 P.2.2.2.2.2.2.2.2.2.1 P.2.2.2.2.2.2.2.2.2.2.1 P.2.2.2.2.2.2.2.2.2.2.2 (V m c main_v3), out0_B_17 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) (hs0_19 t) (hs0_20 t) (hs0_21 t) (hs0_22 t) hscM0_0 hscM0_1 (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) P.2.2.2.2.2.2.2.2.1 P.2.2.2.2.2.2.2.2.2.1 P.2.2.2.2.2.2.2.2.2.2.1 P.2.2.2.2.2.2.2.2.2.2.2 (V m c main_v3), out0_B_18 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) (hs0_19 t) (hs0_20 t) (hs0_21 t) (hs0_22 t) hscM0_0 hscM0_1 (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) P.2.2.2.2.2.2.2.2.1 P.2.2.2.2.2.2.2.2.2.1 P.2.2.2.2.2.2.2.2.2.2.1 P.2.2.2.2.2.2.2.2.2.2.2 (V m c main_v3), out0_B_19 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) (hs0_19 t) (hs0_20 t) (hs0_21 t) (hs0_22 t) hscM0_0 hscM0_1 (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) P.2.2.2.2.2.2.2.2.1 P.2.2.2.2.2.2.2.2.2.1 P.2.2.2.2.2.2.2.2.2.2.1 P.2.2.2.2.2.2.2.2.2.2.2 (V m c main_v3), out0_B_20 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) (hs0_19 t) (hs0_20 t) (hs0_21 t) (hs0_22 t) hscM0_0 hscM0_1 (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) P.2.2.2.2.2.2.2.2.1 P.2.2.2.2.2.2.2.2.2.1 P.2.2.2.2.2.2.2.2.2.2.1 P.2.2.2.2.2.2.2.2.2.2.2 (V m c main_v3), out0_B_21 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) (hs0_19 t) (hs0_20 t) (hs0_21 t) (hs0_22 t) hscM0_0 hscM0_1 (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) P.2.2.2.2.2.2.2.2.1 P.2.2.2.2.2.2.2.2.2.1 P.2.2.2.2.2.2.2.2.2.2.1 P.2.2.2.2.2.2.2.2.2.2.2 (V m c main_v3), out0_B_22 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) (hs0_19 t) (hs0_20 t) (hs0_21 t) (hs0_22 t) hscM0_0 hscM0_1 (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) P.2.2.2.2.2.2.2.2.1 P.2.2.2.2.2.2.2.2.2.1 P.2.2.2.2.2.2.2.2.2.2.1 P.2.2.2.2.2.2.2.2.2.2.2 (V m c main_v3), sout0_B_0 c (grid0.coords t) (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (hs0_14 t) (hs0_15 t) (hs0_16 t) (hs0_17 t) (hs0_18 t) (hs0_19 t) (hs0_20 t) (hs0_21 t) (hs0_22 t) hscM0_0 hscM0_1 (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) P.2.2.2.2.2.2.2.2.1 P.2.2.2.2.2.2.2.2.2.1 P.2.2.2.2.2.2.2.2.2.2.1 P.2.2.2.2.2.2.2.2.2.2.2 (V m c main_v3), P.2.2.2.2.2.2.2.2.2.2.2)
/-- What the outputs and the carried scratch hold after point `n`. -/
def outsAt0 (c : Dev nD) : (n : ℕ) → n < cfg0.N → Vec F S256x1024 .f32 × Vec F S256x1024 .bf16 × Vec F S256x1024 .bf16 × Vec F S256x2816 .bf16 × Vec F S256x2816 .bf16 × Vec F S256x2816 .bf16 × Vec F S256x2816 .bf16 × Vec F S256x1024 .f32 × Vec F S1x128 .f32 × Vec F S1x1024 .f32 × Vec F S8x2816 .f32 × Vec F S1024x5632 .bf16
  | 0, hn => pt0_A m c ⟨0, hn⟩ (Nat.zero_mod _)
  | n + 1, hn =>
    if h0 : (n + 1) % 16 = 0 then
      pt0_A m c ⟨n + 1, hn⟩ h0
    else
      pt0_B m c ⟨n + 1, hn⟩ h0 (outsAt0 c n (Nat.lt_of_succ_lt hn))
theorem outsAt0_A (c : Dev nD) (t : Fin cfg0.N) (h0 : t.val % 16 = 0) :
    outsAt0 m c t.val t.isLt = pt0_A m c t h0 := by
  obtain ⟨n, hn⟩ := t
  cases n with
  | zero => exact rfl
  | succ n => exact (dif_pos h0).trans rfl
theorem outsAt0_B (c : Dev nD) (t : Fin cfg0.N) (h0 : ¬t.val % 16 = 0) :
    outsAt0 m c t.val t.isLt = pt0_B m c t h0 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2.2.2.2.2.2.2.2.1) ∗ owns (c : Thread nD τ) scM0_1 fullShare ((outsAt0 m c n hn).2.2.2.2.2.2.2.2.2.2.2)) ∗ (∃ r, prngReg c r) ∗ iprop(semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0) ∗ iprop(hbPt0 c hbM0_0 (V m c main_v3)))
theorem PhiS_zero (c : Dev nD) (n : ℕ) (h : n ≤ cfg0.N) (hz : n = 0) : PhiS m c n h = Pipeline.ΦD osem0 spec0 H0 (V m) c := by
  subst hz; rfl
theorem PhiS_succ (c : Dev nD) (n : ℕ) (hn : n < cfg0.N) :
    PhiS m c (n + 1) hn = iprop(iprop(owns (c : Thread nD τ) scM0_0 fullShare ((outsAt0 m c n hn).2.2.2.2.2.2.2.2.2.2.1) ∗ owns (c : Thread nD τ) scM0_1 fullShare ((outsAt0 m c n hn).2.2.2.2.2.2.2.2.2.2.2)) ∗ (∃ r, prngReg c r) ∗ iprop(semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0) ∗ iprop(hbPt0 c hbM0_0 (V m c main_v3))) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.2.2.1) ∗ owns (c : Thread nD τ) scM0_1 fullShare ((outsAt0 m c (n - 1) (by omega)).2.2.2.2.2.2.2.2.2.2.2)) ∗ (∃ r, prngReg c r) ∗ iprop(semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0) ∗ iprop(hbPt0 c hbM0_0 (V m c main_v3))) := by
  cases n with
  | zero => exact absurd rfl hz
  | succ n => rfl
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt0 m c t.val t.isLt).1
    | ⟨14, _⟩ => (outsAt0 m c t.val t.isLt).2.1
    | ⟨15, _⟩ => (outsAt0 m c t.val t.isLt).2.2.1
    | ⟨16, _⟩ => (outsAt0 m c t.val t.isLt).2.2.2.1
    | ⟨17, _⟩ => (outsAt0 m c t.val t.isLt).2.2.2.2.1
    | ⟨18, _⟩ => (outsAt0 m c t.val t.isLt).2.2.2.2.2.1
    | ⟨19, _⟩ => (outsAt0 m c t.val t.isLt).2.2.2.2.2.2.1
    | ⟨20, _⟩ => (outsAt0 m c t.val t.isLt).2.2.2.2.2.2.2.1
    | ⟨21, _⟩ => (outsAt0 m c t.val t.isLt).2.2.2.2.2.2.2.2.1
    | ⟨22, _⟩ => (outsAt0 m c t.val t.isLt).2.2.2.2.2.2.2.2.2.1
    | ⟨_ + 23, h⟩ => absurd h (Nat.not_lt.2 (Nat.le_add_left _ _))
  Φ t := PhiS m c t.val (Nat.le_of_lt_succ t.isLt)
  q _ := fullShare
  owed _ := 0
theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = (outsAt0 m c t.val t.isLt).1 := by dsimp only [dats]
theorem after0_14 (c : Dev nD) (t : Fin cfg0.N) : (dats m 0 c).after 14 t = (outsAt0 m c t.val t.isLt).2.1 := by dsimp only [dats]
theorem after0_15 (c : Dev nD) (t : Fin cfg0.N) : (dats m 0 c).after 15 t = (outsAt0 m c t.val t.isLt).2.2.1 := by dsimp only [dats]
theorem after0_16 (c : Dev nD) (t : Fin cfg0.N) : (dats m 0 c).after 16 t = (outsAt0 m c t.val t.isLt).2.2.2.1 := by dsimp only [dats]
theorem after0_17 (c : Dev nD) (t : Fin cfg0.N) : (dats m 0 c).after 17 t = (outsAt0 m c t.val t.isLt).2.2.2.2.1 := by dsimp only [dats]
theorem after0_18 (c : Dev nD) (t : Fin cfg0.N) : (dats m 0 c).after 18 t = (outsAt0 m c t.val t.isLt).2.2.2.2.2.1 := by dsimp only [dats]
theorem after0_19 (c : Dev nD) (t : Fin cfg0.N) : (dats m 0 c).after 19 t = (outsAt0 m c t.val t.isLt).2.2.2.2.2.2.1 := by dsimp only [dats]
theorem after0_20 (c : Dev nD) (t : Fin cfg0.N) : (dats m 0 c).after 20 t = (outsAt0 m c t.val t.isLt).2.2.2.2.2.2.2.1 := by dsimp only [dats]
theorem after0_21 (c : Dev nD) (t : Fin cfg0.N) : (dats m 0 c).after 21 t = (outsAt0 m c t.val t.isLt).2.2.2.2.2.2.2.2.1 := by dsimp only [dats]
theorem after0_22 (c : Dev nD) (t : Fin cfg0.N) : (dats m 0 c).after 22 t = (outsAt0 m c t.val t.isLt).2.2.2.2.2.2.2.2.2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_21_B (c : Dev nD) (t : Fin cfg0.N) (h0 : ¬t.val % 16 = 0) (d) :
    (dats m 0 c).before 21 t d = (outsAt0 m c (t.val - 1) (Nat.lt_of_le_of_lt (Nat.sub_le _ _) t.isLt)).2.2.2.2.2.2.2.2.1 := by
  have hN : t.val < 16 := lt_of_lt_of_eq t.isLt (show cfg0.N = 16 from N_0)
  rw [Dat.before_out_kept _ 21 rfl t (by omega) (Bool.eq_false_iff.mpr fun h => by have := (flush0_21 _).mp h; dsimp only at this; omega)
    (fun _ => rfl) (fun _ _ => rfl)]
  dsimp only [dats]
theorem before0_22_B (c : Dev nD) (t : Fin cfg0.N) (h0 : ¬t.val % 16 = 0) (d) :
    (dats m 0 c).before 22 t d = (outsAt0 m c (t.val - 1) (Nat.lt_of_le_of_lt (Nat.sub_le _ _) t.isLt)).2.2.2.2.2.2.2.2.2.1 := by
  have hN : t.val < 16 := lt_of_lt_of_eq t.isLt (show cfg0.N = 16 from N_0)
  rw [Dat.before_out_kept _ 22 rfl t (by omega) (Bool.eq_false_iff.mpr fun h => by have := (flush0_22 _).mp h; dsimp only at this; omega)
    (fun _ => rfl) (fun _ _ => rfl)]
  dsimp only [dats]
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t))
set_option maxHeartbeats 19200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = PhiS m c (t.val + 1) t.isLt from rfl, PhiS_succ,
    after0_0, after0_1, after0_2, after0_3, after0_4, after0_5, after0_6, after0_7, after0_8, after0_9, after0_10, after0_11, after0_12, after0_13, after0_14, after0_15, after0_16, after0_17, after0_18, after0_19, after0_20, after0_21, after0_22]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · by_cases hz : t.val = 0
    · rw [PhiS_castSucc m c t, PhiS_zero m c _ _ hz, PhiD0_eq]
      rw [outsAt0_A m c t h0]
      unfold pt0_A; (try dsimp only); unfold out0_A_13 out0_A_14 out0_A_15 out0_A_16 out0_A_17 out0_A_18 out0_A_19 out0_A_20 out0_A_21 out0_A_22 sout0_A_0 sout0_A_1; (try dsimp only)
      iintro ⟨⟨⟨HS0, HS1⟩, Hg, ⟨Hq0, Hq1, Hq2, Hq3⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
      iapply ((kernelRun0_A c (grid0.coords t) _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (V m c main_v3)).2.2.2.2.2.2.2.2.2.2.2.2 W _)
      iframe H0 H1 H2 H3 H4 H5 H6 H7 H8 H9 H10 H11 H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      iframe HS0 HS1 Hq0 Hq1 Hq2 Hq3 Hh0 HW
      iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%es0, HS0⟩, ⟨%es1, HS1⟩, Hq0, Hq1, Hq2, Hq3, Hh0, ⟨%W', HW'⟩⟩
      isplitl [HS0 HS1 Hg Hq0 Hq1 Hq2 Hq3 Hh0]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _ _ _ _ _ _ _ _)
        isplitl [Hg]
        · iexact Hg
        isplitl [Hq0 Hq1 Hq2 Hq3]
        · isplitl [Hq0]; · iexact Hq0
          iframe Hq1 Hq2
          iexact Hq3
        iexact Hh0
      isplitl [HW']
      · iexists W'; isplitr; · ipureintro; exact fun _ _ => Or.inl trivial
        iexact HW'
      iframe H0 H1 H2 H3 H4 H5 H6 H7 H8 H9 H10 H11 H12
      isplitl [H13]
      · unfold owns; iexists _; isplitr
        swap; · iexact H13
        ipureintro; exact View.read_writes_of_cover _ _ _ _ _ (cover0_A_13 c _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_A_14 c _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_A_15 c _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_A_16 c _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_A_17 c _ _ _ _ _ _ _ _ _ _ _ _ _ _ _ _ _ _ _ _ _ _ _ _ _ _ _ _ _ _ _ _ _ _ _ _ _ _ _ _ _)
      isplitl [H18]
      · unfold owns; iexists _; isplitr
        swap; · iexact H18
        ipureintro; exact View.read_writes_of_cover _ _ _ _ _ (cover0_A_18 c _ _ _ _ _ _ _ _ _ _ _ _ _ _ _ _ _ _ _ _ _ _ _ _ _ _ _ _ _ _ _ _ _ _ _ _ _ _ _ _ _)
      isplitl [H19]
      · unfold owns; iexists _; isplitr
        swap; · iexact H19
        ipureintro; exact View.read_writes_of_cover _ _ _ _ _ (cover0_A_19 c _ _ _ _ _ _ _ _ _ _ _ _ _ _ _ _ _ _ _ _ _ _ _ _ _ _ _ _ _ _ _ _ _ _ _ _ _ _ _ _ _)
      isplitl [H20]
      · unfold owns; iexists _; isplitr
        swap; · iexact H20
        ipureintro; exact View.read_writes_of_cover _ _ _ _ _ (cover0_A_20 c _ _ _ _ _ _ _ _ _ _ _ _ _ _ _ _ _ _ _ _ _ _ _ _ _ _ _ _ _ _ _ _ _ _ _ _ _ _ _ _ _)
      isplitl [H21]
      · unfold owns; iexists _; isplitr
        swap; · iexact H21
        ipureintro; exact View.read_writes_of_cover _ _ _ _ _ (cover0_A_21 c _ _ _ _ _ _ _ _ _ _ _ _ _ _ _ _ _ _ _ _ _ _ _ _ _ _ _ _ _ _ _ _ _ _ _ _ _ _ _ _ _)
      unfold owns; iexists _; isplitr
      swap; · iexact H22
      ipureintro; exact View.read_writes_of_cover _ _ _ _ _ (cover0_A_22 c _ _ _ _ _ _ _ _ _ _ _ _ _ _ _ _ _ _ _ _ _ _ _ _ _ _ _ _ _ _ _ _ _ _ _ _ _ _ _ _ _)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc m c t, PhiS_pos m c _ _ hz]
      rw [outsAt0_B m c t h0]
      simp only [before0_21_B m c t h0, before0_22_B m c t h0]
      unfold pt0_B; (try dsimp only); unfold out0_B_13 out0_B_14 out0_B_15 out0_B_16 out0_B_17 out0_B_18 out0_B_19 out0_B_20 out0_B_21 out0_B_22 sout0_B_0; (try dsimp only)
      iintro ⟨⟨⟨HS0, HS1⟩, Hg, ⟨Hq0, Hq1, Hq2, Hq3⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
      iapply ((kernelRun0_B c (grid0.coords t) _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _ _ _ _ (V m c main_v3)).2.2.2.2.2.2.2.2.2.2.2.2 W _)
      iframe H0 H1 H2 H3 H4 H5 H6 H7 H8 H9 H10 H11 H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      iframe H21 H22 HS0 HS1 Hq0 Hq1 Hq2 Hq3 Hh0 HW
      iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%es0, HS0⟩, HS1, Hq0, Hq1, Hq2, Hq3, Hh0, ⟨%W', HW'⟩⟩
      isplitl [HS0 HS1 Hg Hq0 Hq1 Hq2 Hq3 Hh0]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _)
          iexact HS1
        isplitl [Hg]
        · iexact Hg
        isplitl [Hq0 Hq1 Hq2 Hq3]
        · isplitl [Hq0]; · iexact Hq0
          iframe Hq1 Hq2
          iexact Hq3
        iexact Hh0
      isplitl [HW']
      · iexists W'; isplitr; · ipureintro; exact fun _ _ => Or.inl trivial
        iexact HW'
      iframe H0 H1 H2 H3 H4 H5 H6 H7 H8 H9 H10 H11 H12
      isplitl [H13]
      · unfold owns; iexists _; isplitr
        swap; · iexact H13
        ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _)
      isplitl [H18]
      · unfold owns; iexists _; isplitr
        swap; · iexact H18
        ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _)
      isplitl [H19]
      · unfold owns; iexists _; isplitr
        swap; · iexact H19
        ipureintro; exact View.read_writes_of_cover _ _ _ _ _ (cover0_B_19 c _ _ _ _ _ _ _ _ _ _ _ _ _ _ _ _ _ _ _ _ _ _ _ _ _ _ _ _ _ _ _ _ _ _ _ _ _ _ _ _ _ _ _ _ _)
      isplitl [H20]
      · unfold owns; iexists _; isplitr
        swap; · iexact H20
        ipureintro; exact View.read_writes_of_cover _ _ _ _ _ (cover0_B_20 c _ _ _ _ _ _ _ _ _ _ _ _ _ _ _ _ _ _ _ _ _ _ _ _ _ _ _ _ _ _ _ _ _ _ _ _ _ _ _ _ _ _ _ _ _)
      isplitl [H21]
      · unfold owns; iexists _; isplitr
        swap; · iexact H21
        ipureintro; exact View.read_writes_of_cover _ _ _ _ _ (cover0_B_21 c _ _ _ _ _ _ _ _ _ _ _ _ _ _ _ _ _ _ _ _ _ _ _ _ _ _ _ _ _ _ _ _ _ _ _ _ _ _ _ _ _ _ _ _ _)
      unfold owns; iexists _; isplitr
      swap; · iexact H22
      ipureintro; exact View.read_writes_of_cover _ _ _ _ _ (cover0_B_22 c _ _ _ _ _ _ _ _ _ _ _ _ _ _ _ _ _ _ _ _ _ _ _ _ _ _ _ _ _ _ _ _ _ _ _ _ _ _ _ _ _ _ _ _ _)
theorem defs₀_row (t : Fin cfg0.N) :
    defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1⟩, Hg, ⟨Hq0, Hq1, Hq2, Hq3⟩, Hh0⟩
  isplitl [HS0 HS1]
  · isplitl [HS0]
    · iexists _; iexact HS0
    iexists _; iexact HS1
  isplitl [Hg]; · iexact Hg
  isplitl [Hq0 Hq1 Hq2 Hq3]
  · isplitl [Hq0]; · iexact Hq0
    isplitl [Hq1]; · iexact Hq1
    isplitl [Hq2]; · iexact Hq2
    iexact Hq3
  iexact Hh0
theorem hout (c : Dev nD) : (dats m 0 c).Φ (Fin.last cfg0.N) ⊢ Pipeline.ΦD osem0 spec0 H0 (V m) c :=
  Phi_out m c _ (by rw [Fin.val_last]; have : cfg0.N = 16 := N_0; omega)
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)
theorem run_main : θ_run defs (onTc (τ := τ) (main (F := F))) (s₀ m ρ) (Pipeline.FramePost cfgs (dats m) 0 (V m)) :=
  (θ_run defs _ _).mono (fun _ h => h.1) (run_main_quiescent m ρ)
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)
/-- The run, with what each result and argument then holds. -/
theorem run_blocks : θ_run defs (onTc (τ := τ) (main (F := F))) ⟨m, fun _ => 0, ρ⟩ fun r => ∀ c : Dev nD,
      r.2.mem ((c : Thread nD τ).loc main_v5_0) = (dats m 0 c).arrAt 13 cfg0.N
      ∧ r.2.mem ((c : Thread nD τ).loc main_v5_1) = (dats m 0 c).arrAt 14 cfg0.N
      ∧ r.2.mem ((c : Thread nD τ).loc main_v5_2) = (dats m 0 c).arrAt 15 cfg0.N
      ∧ r.2.mem ((c : Thread nD τ).loc main_v5_3) = (dats m 0 c).arrAt 16 cfg0.N
      ∧ r.2.mem ((c : Thread nD τ).loc main_v5_4) = (dats m 0 c).arrAt 17 cfg0.N
      ∧ r.2.mem ((c : Thread nD τ).loc main_v5_5) = (dats m 0 c).arrAt 18 cfg0.N
      ∧ r.2.mem ((c : Thread nD τ).loc main_v5_6) = (dats m 0 c).arrAt 19 cfg0.N
      ∧ r.2.mem ((c : Thread nD τ).loc main_v5_7) = (dats m 0 c).arrAt 20 cfg0.N
      ∧ r.2.mem ((c : Thread nD τ).loc main_v5_8) = (dats m 0 c).arrAt 21 cfg0.N
      ∧ r.2.mem ((c : Thread nD τ).loc main_v5_9) = (dats m 0 c).arrAt 22 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h.1 c).1 13, (h.1 c).1 14, (h.1 c).1 15, (h.1 c).1 16, (h.1 c).1 17, (h.1 c).1 18, (h.1 c).1 19, (h.1 c).1 20, (h.1 c).1 21, (h.1 c).1 22, h.2 c⟩)
    (θ_run_and (run_main m ρ) (unchanged m ρ))
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))
end Cert.Kernel5Ideal.Run
end
-- ==== Proof.MlpFwdPt.lean ====
module

public import proofs.«01_k».proof.Proof.MlpFwdRun
public import Idealize.ShloMosaic.Lib.Pipeline.ValueKit
public import Idealize.ShloMosaic.Lib.Pipeline.ReadBack
public import proofs.«01_k».proof.Proof.MlpForms
public import proofs.«01_k».proof.Proof.Norm
public import proofs.«01_k».proof.Proof.Gen.Reference5Ideal.Read

@[expose] public section
set_option maxRecDepth 16384
set_option maxHeartbeats 400000
noncomputable section
open Idealize.ShloMosaic Idealize.ShloMosaic.TcCoe Idealize.SL.Sem
open Idealize.ShloMosaic.Pipeline (Dat)
namespace Cert.Kernel5Ideal.Fwd
open Cert.Kernel5Ideal Cert.Kernel5Ideal.Gen Cert.Kernel5Ideal.Run
open Cert.KernelIdeal.Mlp (canon_take)
/-- four column blocks side by side -/
def wideF (W : FVec Ideal S4x1024x1408 .bf16) (y : S1024x5632.Idx) : EReal :=
  W (ix3 ⟨(y 1).val / 1408, by have h1 : (y 1).val < 5632 := (y 1).isLt; omega⟩ ⟨(y 0).val, (y 0).isLt⟩
    ⟨(y 1).val % 1408, Nat.mod_lt _ (by decide)⟩)

theorem wideF_at (W : FVec Ideal S4x1024x1408 .bf16) (y : S1024x5632.Idx) (s : Fin 4) (i : Fin 1024) (j : Fin 1408)
    (h0 : (y 0).val = i.val) (h1 : (y 1).val = s.val * 1408 + j.val) : wideF W y = W (ix3 s i j) := by
  unfold wideF
  have hj := j.isLt
  congr 2 <;> refine Fin.ext ?_ <;> dsimp only <;> omega

/-- the four pieces of the columns, stored side by side -/
theorem canonW (W : FVec Ideal S4x1024x1408 .bf16) (P0 P1 P2 P3 : FVec Ideal S1024x1408 .bf16)
    (h0 : ∀ i j, P0 (ix2 i j) = W (ix3 0 i j)) (h1 : ∀ i j, P1 (ix2 i j) = W (ix3 1 i j))
    (h2 : ∀ i j, P2 (ix2 i j) = W (ix3 2 i j)) (h3 : ∀ i j, P3 (ix2 i j) = W (ix3 3 i j)) (y : S1024x5632.Idx) :
    View.canon (Val := Elt Ideal) (e := .bf16) [⟨Rect.unit ![0, 4224] ![1024, 1408] inb_S1024x5632_S1024x1408_0_4224, P3⟩,
      ⟨Rect.unit ![0, 2816] ![1024, 1408] inb_S1024x5632_S1024x1408_0_2816, P2⟩,
      ⟨Rect.unit ![0, 1408] ![1024, 1408] inb_S1024x5632_S1024x1408_0_1408, P1⟩,
      ⟨Rect.unit ![0, 0] ![1024, 1408] inb_S1024x5632_S1024x1408_0_0, P0⟩] y = wideF W y := by
  refine canon_take (e := .bf16) 4 (wideF W) _ y ?pc ?cov
  case pc =>
    refine ⟨fun x => ?p0, fun x => ?p1, fun x => ?p2, fun x => ?p3, trivial⟩
    case p0 =>
      idx_vars x
      exact (h3 x0 x1).trans (wideF_at W _ 3 x0 x1 (by blk_simp) (by blk_simp; rfl)).symm
    case p1 =>
      idx_vars x
      exact (h2 x0 x1).trans (wideF_at W _ 2 x0 x1 (by blk_simp) (by blk_simp; rfl)).symm
    case p2 =>
      idx_vars x
      exact (h1 x0 x1).trans (wideF_at W _ 1 x0 x1 (by blk_simp) (by blk_simp; rfl)).symm
    case p3 =>
      idx_vars x
      exact (h0 x0 x1).trans (wideF_at W _ 0 x0 x1 (by blk_simp) (by blk_simp; exact (Nat.zero_add _).symm)).symm
  case cov =>
    exact View.cover_of_tiledBy _ ![1024, 1408] (by sl_kernel_rfl) y

theorem readW (W : FVec Ideal S4x1024x1408 .bf16) (P0 P1 P2 P3 : FVec Ideal S1024x1408 .bf16)
    (h0 : ∀ i j, P0 (ix2 i j) = W (ix3 0 i j)) (h1 : ∀ i j, P1 (ix2 i j) = W (ix3 1 i j))
    (h2 : ∀ i j, P2 (ix2 i j) = W (ix3 2 i j)) (h3 : ∀ i j, P3 (ix2 i j) = W (ix3 3 i j)) (R : Rect S1024x5632) :
    (View.whole cc0_scratch1).readCov (Val := Elt Ideal) [⟨Rect.unit ![0, 4224] ![1024, 1408] inb_S1024x5632_S1024x1408_0_4224, P3⟩,
      ⟨Rect.unit ![0, 2816] ![1024, 1408] inb_S1024x5632_S1024x1408_0_2816, P2⟩,
      ⟨Rect.unit ![0, 1408] ![1024, 1408] inb_S1024x5632_S1024x1408_0_1408, P1⟩,
      ⟨Rect.unit ![0, 0] ![1024, 1408] inb_S1024x5632_S1024x1408_0_0, P0⟩] R.toLoadRect = View.ld (wideF W) R := by
  rw [View.readCov_eq_canon']
  funext j
  exact canonW W P0 P1 P2 P3 h0 h1 h2 h3 _

theorem part_at (W : FVec Ideal S4x1024x1408 .bf16) (s : Fin 4) (inb : ∀ a, ![s.val, 0, 0] a + ![1, 1024, 1408] a ≤ S4x1024x1408.size a)
    (h) (i : Fin 1024) (j : Fin 1408) : (ReadAs.same (Val := Elt Ideal) (s := S1024x1408) (e := .bf16)).apply (View.read (Elt Ideal)
      (((View.whole main_v3).slice (Rect.unit ![s.val, 0, 0] ![1, 1024, 1408] inb)).reshape S1024x1408 h) W) (ix2 i j) = W (ix3 s i j) := by
  show shapeCast (s := S1x1024x1408) S1024x1408 (fun x => W ((Rect.unit (s := S4x1024x1408) ![s.val, 0, 0] ![1, 1024, 1408] inb).emb x)) h (ix2 i j) = _
  pointwise []
  blk_ext []

variable (m : (ℓ : Loc nD τ sig) → Buf (Elt Ideal) ℓ)

/-- a load from the columns as the first point gathers them -/
theorem readV (c : Dev nD) (h0 h1 h2 h3) (R : Rect S1024x5632) :
    (View.whole cc0_scratch1).readCov (Val := Elt Ideal) [⟨Rect.unit ![0, 4224] ![1024, 1408] inb_S1024x5632_S1024x1408_0_4224, (ReadAs.same (Val := Elt Ideal) (s := S1024x1408) (e := .bf16)).apply (View.read (Elt Ideal)
      (((View.whole main_v3).slice (Rect.unit ![3, 0, 0] ![1, 1024, 1408] inb_S4x1024x1408_S1x1024x1408_3_0_0)).reshape S1024x1408 h3) (V m c main_v3))⟩,
      ⟨Rect.unit ![0, 2816] ![1024, 1408] inb_S1024x5632_S1024x1408_0_2816, (ReadAs.same (Val := Elt Ideal) (s := S1024x1408) (e := .bf16)).apply (View.read (Elt Ideal)
      (((View.whole main_v3).slice (Rect.unit ![2, 0, 0] ![1, 1024, 1408] inb_S4x1024x1408_S1x1024x1408_2_0_0)).reshape S1024x1408 h2) (V m c main_v3))⟩,
      ⟨Rect.unit ![0, 1408] ![1024, 1408] inb_S1024x5632_S1024x1408_0_1408, (ReadAs.same (Val := Elt Ideal) (s := S1024x1408) (e := .bf16)).apply (View.read (Elt Ideal)
      (((View.whole main_v3).slice (Rect.unit ![1, 0, 0] ![1, 1024, 1408] inb_S4x1024x1408_S1x1024x1408_1_0_0)).reshape S1024x1408 h1) (V m c main_v3))⟩,
      ⟨Rect.unit ![0, 0] ![1024, 1408] inb_S1024x5632_S1024x1408_0_0, (ReadAs.same (Val := Elt Ideal) (s := S1024x1408) (e := .bf16)).apply (View.read (Elt Ideal)
      (((View.whole main_v3).slice (Rect.unit ![0, 0, 0] ![1, 1024, 1408] inb_S4x1024x1408_S1x1024x1408_0_0_0)).reshape S1024x1408 h0) (V m c main_v3))⟩] R.toLoadRect = View.ld (wideF (V m c main_v3)) R :=
  readW _ _ _ _ _ (part_at _ 0 _ _) (part_at _ 1 _ _) (part_at _ 2 _ _) (part_at _ 3 _ _) R

section
variable (c : Dev nD) (t : Fin cfg0.N) (C : FVec Ideal S8x2816 .f32) (W : FVec Ideal S1024x5632 .bf16)
/-- the mixers' output, side by side -/
abbrev mixF : FVec Ideal S256x1024 .bf16 := k0_pay7 (k0_pay4 (iblk m c 0 t) (iblk m c 4 t)) (iblk m c 2 t) (iblk m c 1 t) (k0_pay5 (iblk m c 1 t)) (k0_pay6 (iblk m c 1 t)) (iblk m c 5 t)
/-- the rows after the first residual -/
abbrev hF : FVec Ideal S256x1024 .f32 := k0_pay8 (mixF m c t) (iblk m c 3 t) (iblk m c 6 t)
/-- the normed rows -/
abbrev uF : FVec Ideal S256x1024 .bf16 := k0_pay9 (mixF m c t) (iblk m c 3 t) (iblk m c 6 t) (iblk m c 7 t)
/-- the gate's and the value's columns, in two parts -/
abbrev gA : FVec Ideal S256x1536 .bf16 := k0_pay11 (mixF m c t) (iblk m c 3 t) (iblk m c 6 t) (iblk m c 7 t) (View.ld (Val := Elt Ideal) (S := S1024x5632) (e' := .bf16) W (Rect.unit ![0, 0] ![1024, 1536] inb_S1024x5632_S1024x1536_0_0))
abbrev vA : FVec Ideal S256x1536 .bf16 := k0_pay12 (mixF m c t) (iblk m c 3 t) (iblk m c 6 t) (iblk m c 7 t) (View.ld (Val := Elt Ideal) (S := S1024x5632) (e' := .bf16) W (Rect.unit ![0, 2816] ![1024, 1536] inb_S1024x5632_S1024x1536_0_2816))
abbrev gB : FVec Ideal S256x1280 .bf16 := k0_pay22 (uF m c t) (View.ld (Val := Elt Ideal) (S := S1024x5632) (e' := .bf16) W (Rect.unit ![0, 1536] ![1024, 1280] inb_S1024x5632_S1024x1280_0_1536))
abbrev vB : FVec Ideal S256x1280 .bf16 := k0_pay23 (uF m c t) (View.ld (Val := Elt Ideal) (S := S1024x5632) (e' := .bf16) W (Rect.unit ![0, 4352] ![1024, 1280] inb_S1024x5632_S1024x1280_0_4352))
/-- the gate before it is rounded -/
abbrev gE : FVec Ideal S256x1536 .f32 := k0_pay13 (mixF m c t) (iblk m c 3 t) (iblk m c 6 t) (iblk m c 7 t) (View.ld (Val := Elt Ideal) (S := S1024x5632) (e' := .bf16) W (Rect.unit ![0, 0] ![1024, 1536] inb_S1024x5632_S1024x1536_0_0))
/-- the gate one row before, and two with the first tap -/
abbrev sA : FVec Ideal S256x1536 .f32 := k0_pay15 (iota Kind.tc S256x1536 32 [0] iota_S256x1536_d0_w32) (gE m c t W) (View.ld (Val := Elt Ideal) (S := S8x2816) (e' := .f32) C (Rect.unit ![0, 0] ![8, 1536] inb_S8x2816_S8x1536_0_0)) (iota Kind.tc S8x1536 32 [0] iota_S8x1536_d0_w32)
abbrev tA : FVec Ideal S256x1536 .f32 := k0_pay17 (iota Kind.tc S256x1536 32 [0] iota_S256x1536_d0_w32) (gE m c t W) (View.ld (Val := Elt Ideal) (S := S8x2816) (e' := .f32) C (Rect.unit ![0, 0] ![8, 1536] inb_S8x2816_S8x1536_0_0)) (iota Kind.tc S8x1536 32 [0] iota_S8x1536_d0_w32) (View.ld (Val := Elt Ideal) (S := S1x2816) (e' := .f32) (iblk m c 9 t) (Rect.unit ![0, 0] ![1, 1536] inb_S1x2816_S1x1536_0_0)) (View.ld (Val := Elt Ideal) (S := S3x2816) (e' := .f32) (iblk m c 8 t) (Rect.unit ![0, 0] ![1, 1536] inb_S3x2816_S1x1536_0_0))
abbrev sB : FVec Ideal S256x1280 .f32 := k0_pay26 (iota Kind.tc S256x1280 32 [0] iota_S256x1280_d0_w32) (gB m c t W) (View.ld (Val := Elt Ideal) (S := S8x2816) (e' := .f32) C (Rect.unit ![0, 1536] ![8, 1280] inb_S8x2816_S8x1280_0_1536))
abbrev tB : FVec Ideal S256x1280 .f32 := k0_pay27 (iota Kind.tc S256x1280 32 [0] iota_S256x1280_d0_w32) (gB m c t W) (View.ld (Val := Elt Ideal) (S := S8x2816) (e' := .f32) C (Rect.unit ![0, 1536] ![8, 1280] inb_S8x2816_S8x1280_0_1536))
/-- the first part's share of the down projection -/
abbrev yA : FVec Ideal S256x1024 .f32 := k0_pay21 k0_pay10 (vA m c t W) (gE m c t W) (sA m c t C W) (tA m c t C W) (View.ld (Val := Elt Ideal) (S := S3x2816) (e' := .f32) (iblk m c 8 t) (Rect.unit ![1, 0] ![1, 1536] inb_S3x2816_S1x1536_1_0)) (View.ld (Val := Elt Ideal) (S := S3x2816) (e' := .f32) (iblk m c 8 t) (Rect.unit ![2, 0] ![1, 1536] inb_S3x2816_S1x1536_2_0)) (View.ld (Val := Elt Ideal) (S := S2816x1024) (e' := .bf16) (iblk m c 10 t) (Rect.unit ![0, 0] ![1536, 1024] inb_S2816x1024_S1536x1024_0_0))
/-- the normed output rows -/
abbrev nF : FVec Ideal S256x1024 .f32 := k0_pay34 (hF m c t) (yA m c t C W) (vB m c t W) (k0_pay24 (gB m c t W)) (sB m c t C W) (tB m c t C W) (View.ld (Val := Elt Ideal) (S := S1x2816) (e' := .f32) (iblk m c 9 t) (Rect.unit ![0, 1536] ![1, 1280] inb_S1x2816_S1x1280_0_1536)) (View.ld (Val := Elt Ideal) (S := S3x2816) (e' := .f32) (iblk m c 8 t) (Rect.unit ![0, 1536] ![1, 1280] inb_S3x2816_S1x1280_0_1536)) (View.ld (Val := Elt Ideal) (S := S3x2816) (e' := .f32) (iblk m c 8 t) (Rect.unit ![1, 1536] ![1, 1280] inb_S3x2816_S1x1280_1_1536)) (View.ld (Val := Elt Ideal) (S := S3x2816) (e' := .f32) (iblk m c 8 t) (Rect.unit ![2, 1536] ![1, 1280] inb_S3x2816_S1x1280_2_1536)) (View.ld (Val := Elt Ideal) (S := S2816x1024) (e' := .bf16) (iblk m c 10 t) (Rect.unit ![1536, 0] ![1280, 1024] inb_S2816x1024_S1280x1024_1536_0))
/-- two parts of the columns as one array -/
abbrev two (B : FVec Ideal S256x1280 .bf16) (A : FVec Ideal S256x1536 .bf16) : FVec Ideal S256x2816 .bf16 :=
  View.canon (Val := Elt Ideal) (e := .bf16) [⟨(Rect.unit ![0, 1536] ![256, 1280] inb_S256x2816_S256x1280_0_1536), B⟩, ⟨(Rect.unit ![0, 0] ![256, 1536] inb_S256x2816_S256x1536_0_0), A⟩]
/-- what a point leaves, from the rows and the columns it is given and the two sums so far -/
abbrev ptF (L : FVec Ideal S1x128 .f32) (D : FVec Ideal S1x1024 .f32) (T : List (View.Piece (Elt Ideal) S8x2816 .f32)) : FVec Ideal S256x1024 .f32 × FVec Ideal S256x1024 .bf16 × FVec Ideal S256x1024 .bf16
    × FVec Ideal S256x2816 .bf16 × FVec Ideal S256x2816 .bf16 × FVec Ideal S256x2816 .bf16 × FVec Ideal S256x2816 .bf16 × FVec Ideal S256x1024 .f32
    × FVec Ideal S1x128 .f32 × FVec Ideal S1x1024 .f32 × FVec Ideal S8x2816 .f32 × FVec Ideal S1024x5632 .bf16 :=
  (hF m c t, mixF m c t, uF m c t, two (gB m c t W) (gA m c t W), two (vB m c t W) (vA m c t W),
    two (k0_pay31 (k0_pay24 (gB m c t W)) (sB m c t C W) (tB m c t C W) (View.ld (Val := Elt Ideal) (S := S1x2816) (e' := .f32) (iblk m c 9 t) (Rect.unit ![0, 1536] ![1, 1280] inb_S1x2816_S1x1280_0_1536)) (View.ld (Val := Elt Ideal) (S := S3x2816) (e' := .f32) (iblk m c 8 t) (Rect.unit ![0, 1536] ![1, 1280] inb_S3x2816_S1x1280_0_1536)) (View.ld (Val := Elt Ideal) (S := S3x2816) (e' := .f32) (iblk m c 8 t) (Rect.unit ![1, 1536] ![1, 1280] inb_S3x2816_S1x1280_1_1536)) (View.ld (Val := Elt Ideal) (S := S3x2816) (e' := .f32) (iblk m c 8 t) (Rect.unit ![2, 1536] ![1, 1280] inb_S3x2816_S1x1280_2_1536))) (k0_pay20 (gE m c t W) (sA m c t C W) (tA m c t C W) (View.ld (Val := Elt Ideal) (S := S3x2816) (e' := .f32) (iblk m c 8 t) (Rect.unit ![1, 0] ![1, 1536] inb_S3x2816_S1x1536_1_0)) (View.ld (Val := Elt Ideal) (S := S3x2816) (e' := .f32) (iblk m c 8 t) (Rect.unit ![2, 0] ![1, 1536] inb_S3x2816_S1x1536_2_0))),
    two (k0_pay30 (vB m c t W) (k0_pay24 (gB m c t W)) (sB m c t C W) (tB m c t C W) (View.ld (Val := Elt Ideal) (S := S1x2816) (e' := .f32) (iblk m c 9 t) (Rect.unit ![0, 1536] ![1, 1280] inb_S1x2816_S1x1280_0_1536)) (View.ld (Val := Elt Ideal) (S := S3x2816) (e' := .f32) (iblk m c 8 t) (Rect.unit ![0, 1536] ![1, 1280] inb_S3x2816_S1x1280_0_1536)) (View.ld (Val := Elt Ideal) (S := S3x2816) (e' := .f32) (iblk m c 8 t) (Rect.unit ![1, 1536] ![1, 1280] inb_S3x2816_S1x1280_1_1536)) (View.ld (Val := Elt Ideal) (S := S3x2816) (e' := .f32) (iblk m c 8 t) (Rect.unit ![2, 1536] ![1, 1280] inb_S3x2816_S1x1280_2_1536)))
      (k0_pay19 (vA m c t W) (gE m c t W) (sA m c t C W) (tA m c t C W) (View.ld (Val := Elt Ideal) (S := S3x2816) (e' := .f32) (iblk m c 8 t) (Rect.unit ![1, 0] ![1, 1536] inb_S3x2816_S1x1536_1_0)) (View.ld (Val := Elt Ideal) (S := S3x2816) (e' := .f32) (iblk m c 8 t) (Rect.unit ![2, 0] ![1, 1536] inb_S3x2816_S1x1536_2_0))),
    k0_pay39 (k0_pay33 (hF m c t) (yA m c t C W) (vB m c t W) (k0_pay24 (gB m c t W)) (sB m c t C W) (tB m c t C W) (View.ld (Val := Elt Ideal) (S := S1x2816) (e' := .f32) (iblk m c 9 t) (Rect.unit ![0, 1536] ![1, 1280] inb_S1x2816_S1x1280_0_1536)) (View.ld (Val := Elt Ideal) (S := S3x2816) (e' := .f32) (iblk m c 8 t) (Rect.unit ![0, 1536] ![1, 1280] inb_S3x2816_S1x1280_0_1536)) (View.ld (Val := Elt Ideal) (S := S3x2816) (e' := .f32) (iblk m c 8 t) (Rect.unit ![1, 1536] ![1, 1280] inb_S3x2816_S1x1280_1_1536)) (View.ld (Val := Elt Ideal) (S := S3x2816) (e' := .f32) (iblk m c 8 t) (Rect.unit ![2, 1536] ![1, 1280] inb_S3x2816_S1x1280_2_1536)) (View.ld (Val := Elt Ideal) (S := S2816x1024) (e' := .bf16) (iblk m c 10 t) (Rect.unit ![1536, 0] ![1280, 1024] inb_S2816x1024_S1280x1024_1536_0))) (nF m c t C W) (iblk m c 11 t) (iblk m c 12 t),
    k0_pay36 (nF m c t C W) (iblk m c 11 t) (iblk m c 12 t) L, k0_pay38 (nF m c t C W) (iblk m c 11 t) (iblk m c 12 t) D,
    View.canon (Val := Elt Ideal) (e := .f32) (⟨(Rect.unit ![0, 1536] ![8, 1280] inb_S8x2816_S8x1280_0_1536), k0_pay28 (gB m c t W)⟩ :: ⟨(Rect.unit ![0, 0] ![8, 1536] inb_S8x2816_S8x1536_0_0), k0_pay16 (gE m c t W)⟩ :: T), W)
end

theorem ptB (c : Dev nD) (t : Fin cfg0.N) (h0 : ¬t.val % 16 = 0) (P : _)
    (hP : outsAt0 (F := Ideal) m c (t.val - 1) (Nat.lt_of_le_of_lt (Nat.sub_le _ _) t.isLt) = P) :
    outsAt0 (F := Ideal) m c t.val t.isLt = ptF m c t P.2.2.2.2.2.2.2.2.2.2.1 P.2.2.2.2.2.2.2.2.2.2.2 P.2.2.2.2.2.2.2.2.1 P.2.2.2.2.2.2.2.2.2.1 [] := by
  refine Prod.ext ?_ (Prod.ext ?_ (Prod.ext ?_ (Prod.ext ?_ (Prod.ext ?_ (Prod.ext ?_ (Prod.ext ?_ (Prod.ext ?_ (Prod.ext ?_ (Prod.ext ?_ (Prod.ext ?_ ?d))))))))))
  case d => rw [outsAt0_B m c t h0, pt0_B, hP]
  all_goals
    rw [outsAt0_B m c t h0, pt0_B, hP]
    dsimp only
    frame_out
    try simp only [read_unread_whole]

/-- a load from the rows kept over after they are filled -/
theorem fillC (Z : FVec Ideal S8x2816 .f32) (R : Rect S8x2816) :
    (View.whole cc0_scratch0).readCov (Val := Elt Ideal) [⟨Rect.unit ![0, 0] ![8, 2816] inb_S8x2816_S8x2816_0_0, Z⟩] R.toLoadRect = View.ld (Val := Elt Ideal) (S := S8x2816) (e' := .f32) Z R :=
  View.readCov_fill _ _ _ _ _ (by decide)

theorem ptA (c : Dev nD) (t : Fin cfg0.N) (h0 : t.val % 16 = 0) :
    outsAt0 (F := Ideal) m c t.val t.isLt = ptF m c t k0_pay1 (wideF (V m c main_v3)) k0_pay2 k0_pay3 [⟨Rect.unit ![0, 0] ![8, 2816] inb_S8x2816_S8x2816_0_0, k0_pay1 (F := Ideal)⟩] := by
  refine Prod.ext ?_ (Prod.ext ?_ (Prod.ext ?_ (Prod.ext ?_ (Prod.ext ?_ (Prod.ext ?_ (Prod.ext ?_ (Prod.ext ?_ (Prod.ext ?_ (Prod.ext ?_ (Prod.ext ?_ ?d))))))))))
  case d =>
    rw [outsAt0_A m c t h0, pt0_A]
    dsimp only
    frame_open
    frame_out
    clear h0
    exact funext fun y => canonW _ _ _ _ _ (part_at _ 0 _ _) (part_at _ 1 _ _) (part_at _ 2 _ _) (part_at _ 3 _ _) y
  all_goals
    rw [outsAt0_A m c t h0, pt0_A]
    dsimp only
    frame_open
    try simp (disch := decide) only [↓View.readCov_fill, ↓View.readCov_skip (View.whole cc0_scratch0)]
    frame_out
    repeat' first
      | rw [fillC _ (Rect.unit ![0, 1536] ![8, 1280] inb_S8x2816_S8x1280_0_1536)]
      | rw [readV m c (by rfl) (by rfl) (by rfl) (by rfl) (Rect.unit ![0, 1536] ![1024, 1280] inb_S1024x5632_S1024x1280_0_1536)]
      | rw [readV m c (by rfl) (by rfl) (by rfl) (by rfl) (Rect.unit ![0, 4352] ![1024, 1280] inb_S1024x5632_S1024x1280_0_4352)]
      | rw [readV m c (by rfl) (by rfl) (by rfl) (by rfl) (Rect.unit ![0, 2816] ![1024, 1536] inb_S1024x5632_S1024x1536_0_2816)]
      | rw [readV m c (by rfl) (by rfl) (by rfl) (by rfl) (Rect.unit ![0, 0] ![1024, 1536] inb_S1024x5632_S1024x1536_0_0)]

end Cert.Kernel5Ideal.Fwd
end
-- ==== Proof.MlpFwdRef.lean ====
module

public import proofs.«01_k».proof.Proof.MlpFwdRun
public import Idealize.ShloMosaic.Lib.Pipeline.ValueKit
public import Idealize.ShloMosaic.Lib.Pipeline.ReadBack
public import proofs.«01_k».proof.Proof.MlpForms
public import proofs.«01_k».proof.Proof.Norm
public import proofs.«01_k».proof.Proof.Gelu
public import proofs.«01_k».proof.Proof.Gen.Reference5Ideal.Read

@[expose] public section
set_option maxRecDepth 16384
set_option maxHeartbeats 400000
noncomputable section
open Idealize.ShloMosaic Idealize.ShloMosaic.TcCoe Idealize.SL.Sem
open Idealize.ShloMosaic.Pipeline (Dat)
namespace Cert.Kernel5Ideal.Fwd
open Cert.Kernel5Ideal Cert.Kernel5Ideal.Gen Cert.Kernel5Ideal.Run
open Cert.KernelIdeal.Mlp (canon_take)
/-- the convolution from three rows -/
def convF (b w0 w1 w2 z0 z1 z2 : EReal) : EReal := b + w0 * z0 + w1 * z1 + w2 * z2
/-- the gelu times the value -/
def actF (x v : EReal) : EReal :=
  Ideal.ofBits .f32 0x3F000000#32 * x * (1 + Ideal.erf (x * Ideal.ofBits .f32 0x3F3504F3#32)) * v

namespace Ref
open Cert.Reference5Ideal.Read
variable (x0 x1 : FVec Ideal S4096x512 .f32) (x2 : FVec Ideal S4096x2048 .f32) (x3 : FVec Ideal S4096x1024 .f32) (x4 x5 : FVec Ideal S1x512 .f32) (x6 : FVec Ideal S1024x1024 .f32)
  (x7 : FVec Ideal S1x1024 .f32) (x8 : FVec Ideal S1024x5632 .f32) (x9 : FVec Ideal S3x2816 .f32) (x10 : FVec Ideal S1x2816 .f32) (x11 : FVec Ideal S2816x1024 .f32) (x12 : FVec Ideal S1x1024 .f32) (x13 : FVec Ideal S4096x1024 .f32)

theorem r33 (n : Fin 4096) (i : Fin 1024) : val_main_v33 (F := Ideal) x0 x1 x2 x3 x4 x5 x6 (ix2 n i) = (x3 (ix2 n i) + ∑ k : Fin 1024, val_main_v31 (F := Ideal) x0 x1 x2 x4 x5 (ix2 n k) * x6 (ix2 k i) : EReal) := by
  unfold val_main_v33 val_main_v32
  generalize val_main_v31 (F := Ideal) x0 x1 x2 x4 x5 = M
  pointwise []

theorem r45 (n : Fin 4096) (i : Fin 1024) : val_main_v45 (F := Ideal) x0 x1 x2 x3 x4 x5 x6 x7 (ix2 n i) = val_main_v33 (F := Ideal) x0 x1 x2 x3 x4 x5 x6 (ix2 n i) * Cert.Norm.rms (∑ k : Fin 1024, val_main_v33 (F := Ideal) x0 x1 x2 x3 x4 x5 x6 (ix2 n k) * val_main_v33 (F := Ideal) x0 x1 x2 x3 x4 x5 x6 (ix2 n k)) * x7 (ix2 ⟨0, by decide⟩ i) := by
  unfold Cert.Norm.rms
  rw [← Cert.Norm.div_n]
  unfold val_main_v45 val_main_v43 val_main_v42 val_main_v41 val_main_v40 val_main_v38 val_main_v36 val_main_v35 val_main_v34
  generalize val_main_v33 (F := Ideal) x0 x1 x2 x3 x4 x5 x6 = M
  pointwise [val_main_v37, val_main_v39, val_main_v44, val_main_cst_5, val_main_cst_6, val_main_cst_7]
  try simp only [Fintype.sum_unique]

theorem r47 (n : Fin 4096) (j : Fin 2816) : val_main_v47 (F := Ideal) x0 x1 x2 x3 x4 x5 x6 x7 x8 (ix2 n j) = (∑ k : Fin 1024, val_main_v45 (F := Ideal) x0 x1 x2 x3 x4 x5 x6 x7 (ix2 n k) * x8 (ix2 k ⟨j.val, by omega⟩) : EReal) := by
  unfold val_main_v47 val_main_v46
  generalize val_main_v45 (F := Ideal) x0 x1 x2 x3 x4 x5 x6 x7 = M
  pointwise []
theorem r48 (n : Fin 4096) (j : Fin 2816) : val_main_v48 (F := Ideal) x0 x1 x2 x3 x4 x5 x6 x7 x8 (ix2 n j) = (∑ k : Fin 1024, val_main_v45 (F := Ideal) x0 x1 x2 x3 x4 x5 x6 x7 (ix2 n k) * x8 (ix2 k ⟨2816 + j.val, by omega⟩) : EReal) := by
  unfold val_main_v48 val_main_v46
  generalize val_main_v45 (F := Ideal) x0 x1 x2 x3 x4 x5 x6 x7 = M
  pointwise []

/-- the gate's rows after two rows of zeros -/
def padG (j : Fin 2816) (n : ℕ) : EReal := if h : 2 ≤ n ∧ n < 4098 then val_main_v47 (F := Ideal) x0 x1 x2 x3 x4 x5 x6 x7 x8 (ix2 ⟨n - 2, by omega⟩ j) else 0

theorem r72 (n : Fin 4096) (j : Fin 2816) : val_main_v72 (F := Ideal) x0 x1 x2 x3 x4 x5 x6 x7 x8 x9 x10 (ix2 n j) = convF (x10 (ix2 ⟨0, by decide⟩ j)) (x9 (ix2 ⟨0, by decide⟩ j)) (x9 (ix2 1 j)) (x9 (ix2 2 j))
    (padG x0 x1 x2 x3 x4 x5 x6 x7 x8 j n.val) (padG x0 x1 x2 x3 x4 x5 x6 x7 x8 j (n.val + 1)) (padG x0 x1 x2 x3 x4 x5 x6 x7 x8 j (n.val + 2)) := by
  unfold convF padG
  generalize hM : val_main_v47 (F := Ideal) x0 x1 x2 x3 x4 x5 x6 x7 x8 = M
  pointwise [val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v72, val_main_cst_8]
  rw [hM]
  have hn := n.isLt
  have e2 : (⟨n.val + 2 - 2, by omega⟩ : Fin 4096) = n := Fin.ext (by dsimp only; omega)
  have c2 : n.val + 2 < 4098 := by omega
  have e1 : 1 + n.val = n.val + 1 := by omega
  by_cases h0 : n.val < 2
  · by_cases h1 : 1 + n.val < 2
    · have d1 : ¬(1 ≤ n.val ∧ n.val + 1 < 4098) := by omega
      have d0 : ¬(2 ≤ n.val ∧ n.val < 4098) := by omega
      simp only [h0, h1, d0, d1, c2, e2, ↓reduceDIte]
    · have d1 : 1 ≤ n.val ∧ n.val + 1 < 4098 := by omega
      have d0 : ¬(2 ≤ n.val ∧ n.val < 4098) := by omega
      rw [e1] at h1
      simp only [h0, h1, d0, d1, c2, e2, e1, and_self, ↓reduceDIte]
  · have h1 : ¬(n.val + 1 < 2) := by omega
    have d1 : 1 ≤ n.val ∧ n.val + 1 < 4098 := by omega
    have d0 : 2 ≤ n.val ∧ n.val < 4098 := by omega
    simp only [h0, h1, d0, d1, c2, e2, e1, and_self, ↓reduceDIte]

theorem r80 (n : Fin 4096) (j : Fin 2816) : val_main_v80 (F := Ideal) x0 x1 x2 x3 x4 x5 x6 x7 x8 x9 x10 (ix2 n j) = actF (val_main_v72 (F := Ideal) x0 x1 x2 x3 x4 x5 x6 x7 x8 x9 x10 (ix2 n j)) (val_main_v48 (F := Ideal) x0 x1 x2 x3 x4 x5 x6 x7 x8 (ix2 n j)) := by
  unfold actF
  rw [← Cert.Gelu.erfc_neg, ← EReal.neg_mul]
  unfold val_main_v80 val_main_v79 val_main_v78 val_main_v77 val_main_v75 val_main_v74
  generalize val_main_v72 (F := Ideal) x0 x1 x2 x3 x4 x5 x6 x7 x8 x9 x10 = M
  generalize val_main_v48 (F := Ideal) x0 x1 x2 x3 x4 x5 x6 x7 x8 = N
  pointwise [val_main_v73, val_main_v76, val_main_cst_9, val_main_cst_10]

theorem r82 (n : Fin 4096) (i : Fin 1024) : val_main_v82 (F := Ideal) x0 x1 x2 x3 x4 x5 x6 x7 x8 x9 x10 x11 (ix2 n i) = (val_main_v33 (F := Ideal) x0 x1 x2 x3 x4 x5 x6 (ix2 n i) + ∑ j : Fin 2816, val_main_v80 (F := Ideal) x0 x1 x2 x3 x4 x5 x6 x7 x8 x9 x10 (ix2 n j) * x11 (ix2 j i) : EReal) := by
  unfold val_main_v82 val_main_v81
  generalize val_main_v33 (F := Ideal) x0 x1 x2 x3 x4 x5 x6 = M
  generalize val_main_v80 (F := Ideal) x0 x1 x2 x3 x4 x5 x6 x7 x8 x9 x10 = N
  pointwise []

/-- the reciprocal root of a row of the output -/
def rY (n : Fin 4096) : EReal := Cert.Norm.rms (∑ k : Fin 1024, val_main_v82 (F := Ideal) x0 x1 x2 x3 x4 x5 x6 x7 x8 x9 x10 x11 (ix2 n k) * val_main_v82 (F := Ideal) x0 x1 x2 x3 x4 x5 x6 x7 x8 x9 x10 x11 (ix2 n k))

theorem r95 (n : Fin 4096) (i : Fin 1024) : val_main_v95 (F := Ideal) x0 x1 x2 x3 x4 x5 x6 x7 x8 x9 x10 x11 (ix2 n i) = val_main_v82 (F := Ideal) x0 x1 x2 x3 x4 x5 x6 x7 x8 x9 x10 x11 (ix2 n i) * rY x0 x1 x2 x3 x4 x5 x6 x7 x8 x9 x10 x11 n := by
  unfold rY Cert.Norm.rms
  rw [← Cert.Norm.div_n]
  unfold val_main_v95 val_main_v94 val_main_v90 val_main_v89 val_main_v87 val_main_v85 val_main_v84 val_main_v83
  generalize val_main_v82 (F := Ideal) x0 x1 x2 x3 x4 x5 x6 x7 x8 x9 x10 x11 = M
  pointwise [val_main_v86, val_main_v88, val_main_cst_11, val_main_cst_12, val_main_cst_13]
  try simp only [Fintype.sum_unique]

theorem r98 (n : Fin 4096) (i : Fin 1024) : val_main_v98 (F := Ideal) x0 x1 x2 x3 x4 x5 x6 x7 x8 x9 x10 x11 x12 x13 (ix2 n i) = val_main_v95 (F := Ideal) x0 x1 x2 x3 x4 x5 x6 x7 x8 x9 x10 x11 (ix2 n i) * x12 (ix2 ⟨0, by decide⟩ i) - x13 (ix2 n i) := by
  unfold val_main_v98 val_main_v97 val_main_v96
  generalize val_main_v95 (F := Ideal) x0 x1 x2 x3 x4 x5 x6 x7 x8 x9 x10 x11 = M
  pointwise []

theorem half_n : Ideal.ofBits .f32 0x3A000000#32 = (((1 : ℝ) / 2048 : ℝ) : EReal) := by
  simp [Ideal.ofBits, Ideal.ieee, -EReal.coe_mul]; norm_num
theorem one_bits : Ideal.ofBits .f32 0x3F800000#32 = ((1 : ℝ) : EReal) := by
  simp [Ideal.ofBits, Ideal.ieee, -EReal.coe_mul]; norm_num
theorem two_bits : Ideal.ofBits .f32 0x40000000#32 = ((2 : ℝ) : EReal) := by
  simp [Ideal.ofBits, Ideal.ieee, -EReal.coe_mul]; norm_num
theorem half_bits : Ideal.ofBits .f32 0x3F000000#32 = (((1 : ℝ) / 2 : ℝ) : EReal) := by
  simp [Ideal.ofBits, Ideal.ieee, -EReal.coe_mul]; norm_num

theorem r112 (n : Fin 4096) (i : Fin 1024) : val_main_v112 (F := Ideal) x0 x1 x2 x3 x4 x5 x6 x7 x8 x9 x10 x11 x12 x13 (ix2 n i) = val_main_v98 (F := Ideal) x0 x1 x2 x3 x4 x5 x6 x7 x8 x9 x10 x11 x12 x13 (ix2 n i) * Ideal.ofBits .f32 0x3A800000#32 := by
  have e : val_main_v112 (F := Ideal) x0 x1 x2 x3 x4 x5 x6 x7 x8 x9 x10 x11 x12 x13 (ix2 n i) = Ideal.div (Ideal.ofBits .f32 0x3F000000#32 * Ideal.ofBits .f32 0x3F800000#32) (Ideal.ofBits .f32 0x44800000#32)
      * (Ideal.ofBits .f32 0x40000000#32 * val_main_v98 (F := Ideal) x0 x1 x2 x3 x4 x5 x6 x7 x8 x9 x10 x11 x12 x13 (ix2 n i)) := by
    unfold val_main_v112 val_main_v101
    generalize val_main_v98 (F := Ideal) x0 x1 x2 x3 x4 x5 x6 x7 x8 x9 x10 x11 x12 x13 = M
    pointwise [val_main_v111, val_main_v110, val_main_v109, val_main_v108, val_main_v107, val_main_v100, val_main_cst_15, val_main_cst_20, val_main_cst_21, val_main_cst_22]
  rw [e, Cert.Norm.div_n, half_bits, one_bits, two_bits, Cert.Norm.ofBits_inv, ← mul_assoc, mul_comm (val_main_v98 (F := Ideal) x0 x1 x2 x3 x4 x5 x6 x7 x8 x9 x10 x11 x12 x13 (ix2 n i))]
  congr 1
  norm_cast
  norm_num

theorem r106 (i : Fin 128) : val_main_v138 (F := Ideal) x0 x1 x2 x3 x4 x5 x6 x7 x8 x9 x10 x11 x12 x13 (ix2 ⟨0, by decide⟩ i) = ((∑ n : Fin 4096, ∑ k : Fin 1024, val_main_v98 (F := Ideal) x0 x1 x2 x3 x4 x5 x6 x7 x8 x9 x10 x11 x12 x13 (ix2 n k) * val_main_v98 (F := Ideal) x0 x1 x2 x3 x4 x5 x6 x7 x8 x9 x10 x11 x12 x13 (ix2 n k) : EReal)) * Ideal.ofBits .f32 0x3A000000#32 := by
  have e : val_main_v138 (F := Ideal) x0 x1 x2 x3 x4 x5 x6 x7 x8 x9 x10 x11 x12 x13 (ix2 ⟨0, by decide⟩ i) = Ideal.ofBits .f32 0x3F000000#32
      * (∑ n : Fin 4096, Ideal.div (∑ k : Fin 1024, val_main_v98 (F := Ideal) x0 x1 x2 x3 x4 x5 x6 x7 x8 x9 x10 x11 x12 x13 (ix2 n k) * val_main_v98 (F := Ideal) x0 x1 x2 x3 x4 x5 x6 x7 x8 x9 x10 x11 x12 x13 (ix2 n k)) (Ideal.ofBits .f32 0x44800000#32)) := by
    unfold val_main_v138 val_main_v106 val_main_v105 val_main_v104 val_main_v102 val_main_v99
    generalize val_main_v98 (F := Ideal) x0 x1 x2 x3 x4 x5 x6 x7 x8 x9 x10 x11 x12 x13 = M
    pointwise [val_main_v103, val_main_cst_16, val_main_cst_17, val_main_cst_18, val_main_cst_19]
  rw [e]
  simp only [Cert.Norm.div_n]
  rw [Cert.Norm.ofBits_inv, Cert.Norm.sum_mul_coe _ _ (by norm_num), half_bits, half_n, mul_comm, mul_assoc]
  congr 1
  norm_cast
  norm_num

theorem r115 (i : Fin 1024) : val_main_v115 (F := Ideal) x0 x1 x2 x3 x4 x5 x6 x7 x8 x9 x10 x11 x12 x13 (ix2 ⟨0, by decide⟩ i) = (∑ n : Fin 4096, val_main_v95 (F := Ideal) x0 x1 x2 x3 x4 x5 x6 x7 x8 x9 x10 x11 (ix2 n i) * val_main_v112 (F := Ideal) x0 x1 x2 x3 x4 x5 x6 x7 x8 x9 x10 x11 x12 x13 (ix2 n i) : EReal) := by
  unfold val_main_v115 val_main_v114 val_main_v113
  generalize val_main_v95 (F := Ideal) x0 x1 x2 x3 x4 x5 x6 x7 x8 x9 x10 x11 = M
  generalize val_main_v112 (F := Ideal) x0 x1 x2 x3 x4 x5 x6 x7 x8 x9 x10 x11 x12 x13 = N
  pointwise [val_main_cst_23]
  try simp only [Fintype.sum_unique]

theorem r131 (n : Fin 4096) (i : Fin 1024) : val_main_v131 (F := Ideal) x0 x1 x2 x3 x4 x5 x6 x7 x8 x9 x10 x11 x12 x13 (ix2 n i) = rY x0 x1 x2 x3 x4 x5 x6 x7 x8 x9 x10 x11 n * (val_main_v112 (F := Ideal) x0 x1 x2 x3 x4 x5 x6 x7 x8 x9 x10 x11 x12 x13 (ix2 n i) * x12 (ix2 ⟨0, by decide⟩ i)
      - val_main_v95 (F := Ideal) x0 x1 x2 x3 x4 x5 x6 x7 x8 x9 x10 x11 (ix2 n i) * ((∑ k : Fin 1024, val_main_v112 (F := Ideal) x0 x1 x2 x3 x4 x5 x6 x7 x8 x9 x10 x11 x12 x13 (ix2 n k) * x12 (ix2 ⟨0, by decide⟩ k) * val_main_v95 (F := Ideal) x0 x1 x2 x3 x4 x5 x6 x7 x8 x9 x10 x11 (ix2 n k)) * Ideal.ofBits .f32 0x3A800000#32)) := by
  simp only [r95]
  have h := Cert.Norm.bwd1024 (fun k => val_main_v82 (F := Ideal) x0 x1 x2 x3 x4 x5 x6 x7 x8 x9 x10 x11 (ix2 n k)) (fun k => val_main_v112 (F := Ideal) x0 x1 x2 x3 x4 x5 x6 x7 x8 x9 x10 x11 x12 x13 (ix2 n k) * x12 (ix2 ⟨0, by decide⟩ k)) 0 i
  unfold rY
  rw [zero_add, zero_add] at h
  rw [h, ← Cert.Norm.div_n, ← Cert.Norm.div_n]
  unfold Cert.Norm.rms
  rw [← Cert.Norm.div_n]
  unfold val_main_v131 val_main_v130 val_main_v129 val_main_v128 val_main_v127 val_main_v126 val_main_v125 val_main_v123 val_main_v122 val_main_v121 val_main_v120 val_main_v119 val_main_v118 val_main_v117 val_main_v116 val_main_v93 val_main_v91 val_main_v90 val_main_v89 val_main_v87 val_main_v85 val_main_v84 val_main_v83
  generalize val_main_v82 (F := Ideal) x0 x1 x2 x3 x4 x5 x6 x7 x8 x9 x10 x11 = M
  generalize val_main_v112 (F := Ideal) x0 x1 x2 x3 x4 x5 x6 x7 x8 x9 x10 x11 x12 x13 = N
  pointwise [val_main_v124, val_main_v92, val_main_v88, val_main_v86, val_main_cst_11, val_main_cst_12, val_main_cst_13, val_main_cst_14, val_main_cst_24, val_main_cst_25, val_main_cst_26]
  simp only [Fintype.sum_unique]
end Ref
end Cert.Kernel5Ideal.Fwd
end
-- ==== Proof.MlpFwdPay.lean ====
module

public import proofs.«01_k».proof.Proof.MlpFwdRun
public import Idealize.ShloMosaic.Lib.Pipeline.ValueKit
public import Idealize.ShloMosaic.Lib.Pipeline.ReadBack
public import proofs.«01_k».proof.Proof.MlpForms
public import proofs.«01_k».proof.Proof.Norm
public import proofs.«01_k».proof.Proof.MlpFwdRef
public import proofs.«01_k».proof.Proof.Gen.Reference5Ideal.Read

@[expose] public section
set_option maxRecDepth 16384
set_option maxHeartbeats 400000
noncomputable section
open Idealize.ShloMosaic Idealize.ShloMosaic.TcCoe Idealize.SL.Sem
open Idealize.ShloMosaic.Pipeline (Dat)
namespace Cert.Kernel5Ideal.Fwd
open Cert.Kernel5Ideal Cert.Kernel5Ideal.Gen Cert.Kernel5Ideal.Run
open Cert.KernelIdeal.Mlp (canon_take)

theorem div_512 (x : EReal) : Ideal.div x (Ideal.ofBits .f32 0x44000000#32) = x * Ideal.ofBits .f32 0x3B000000#32 := by
  have e1 : Ideal.ofBits .f32 0x44000000#32 = ((512 : ℝ) : EReal) := by simp [Ideal.ofBits, Ideal.ieee, -EReal.coe_mul]; norm_num
  have e2 : Ideal.ofBits .f32 0x3B000000#32 = (((1 : ℝ) / 512 : ℝ) : EReal) := by simp [Ideal.ofBits, Ideal.ieee, -EReal.coe_mul]; norm_num
  rw [e1, e2, Ideal.div, if_neg (by norm_num), ← EReal.coe_inv]
  norm_num
theorem div_128 (x : EReal) : Ideal.div x (Ideal.ofBits .f32 0x43000000#32) = x * Ideal.ofBits .f32 0x3C000000#32 := by
  have e1 : Ideal.ofBits .f32 0x43000000#32 = ((128 : ℝ) : EReal) := by simp [Ideal.ofBits, Ideal.ieee, -EReal.coe_mul]; norm_num
  have e2 : Ideal.ofBits .f32 0x3C000000#32 = (((1 : ℝ) / 128 : ℝ) : EReal) := by simp [Ideal.ofBits, Ideal.ieee, -EReal.coe_mul]; norm_num
  rw [e1, e2, Ideal.div, if_neg (by norm_num), ← EReal.coe_inv]
  norm_num

open Cert.Reference5Ideal.Read in
theorem mix_at (a rr hg : FVec Ideal S256x512 .f32) (x4 x5 : FVec Ideal S1x512 .f32) (x0 x1 : FVec Ideal S4096x512 .f32) (x2 : FVec Ideal S4096x2048 .f32)
    (r : Fin 256) (n : Fin 4096) (h0 : ∀ k, a (ix2 r k) = x0 (ix2 n k)) (h1 : ∀ k, rr (ix2 r k) = x1 (ix2 n k))
    (h2 : ∀ k : Fin 512, hg (ix2 r k) = x2 (ix2 n ⟨1536 + k.val, by omega⟩)) (i : Fin 1024) :
    k0_pay7 (F := Ideal) (k0_pay4 a x4) hg rr (k0_pay5 rr) (k0_pay6 rr) x5 (ix2 r i) = val_main_v31 (F := Ideal) x0 x1 x2 x4 x5 (ix2 n i) := by
  pointwise [k0_pay7, k0_pay4, k0_pay5, k0_pay6, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_call0_v0, val_main_call0_v1, val_main_call0_v2, val_main_call0_v3, val_main_call0_v4, val_main_call0_v5, val_main_call0_cst, val_main_call0_cst_0]
  have e : (i.val - 512) / 128 * 128 + (i.val - 512) % 128 = i.val - 512 := Nat.div_add_mod' _ _
  have hi := i.isLt
  simp only [h0, h1, h2, e, div_512, div_128, zero_sub]
  by_cases c0 : i.val < 512
  · rw [dif_pos c0, dif_pos c0]
  · rw [dif_neg c0, dif_neg c0]
    obtain h | h | h | h : (i.val - 512) / 128 * 128 = 0 ∨ (i.val - 512) / 128 * 128 = 128 ∨ (i.val - 512) / 128 * 128 = 256
        ∨ (i.val - 512) / 128 * 128 = 384 := by omega
    · have c1 : i.val - 512 < 128 := by omega
      simp only [c1, h, Nat.zero_add, ↓reduceDIte]
    · have c1 : ¬i.val - 512 < 128 := by omega
      have c2 : i.val - 512 - 128 < 128 := by omega
      simp only [c1, c2, h, ↓reduceDIte]
    · have c1 : ¬i.val - 512 < 128 := by omega
      have c2 : ¬i.val - 512 - 128 < 128 := by omega
      have c3 : i.val - 512 - 128 - 128 < 128 := by omega
      simp only [c1, c2, c3, h, ↓reduceDIte]
    · have c1 : ¬i.val - 512 < 128 := by omega
      have c2 : ¬i.val - 512 - 128 < 128 := by omega
      have c3 : ¬i.val - 512 - 128 - 128 < 128 := by omega
      simp only [c1, c2, c3, h, ↓reduceDIte]

theorem h_at (M : FVec Ideal S256x1024 .bf16) (X : FVec Ideal S256x1024 .f32) (x6 : FVec Ideal S1024x1024 .f32) (w : FVec Ideal S1024x1024 .bf16)
    (M' x3 : FVec Ideal S4096x1024 .f32) (r : Fin 256) (n : Fin 4096) (hM : ∀ k, M (ix2 r k) = M' (ix2 n k)) (hX : ∀ k, X (ix2 r k) = x3 (ix2 n k))
    (hw : ∀ k i, w (ix2 k i) = x6 (ix2 k i)) (i : Fin 1024) :
    k0_pay8 (F := Ideal) M X w (ix2 r i) = (x3 (ix2 n i) + ∑ k : Fin 1024, M' (ix2 n k) * x6 (ix2 k i) : EReal) := by
  pointwise [k0_pay8]
  simp only [hM, hX, hw]

theorem pay9 (M : FVec Ideal S256x1024 .bf16) (X : FVec Ideal S256x1024 .f32) (w : FVec Ideal S1024x1024 .bf16) (g : FVec Ideal S1x1024 .f32)
    (r : Fin 256) (i : Fin 1024) : k0_pay9 (F := Ideal) M X w g (ix2 r i) = k0_pay8 (F := Ideal) M X w (ix2 r i)
      * Cert.Norm.rms (∑ k : Fin 1024, k0_pay8 (F := Ideal) M X w (ix2 r k) * k0_pay8 (F := Ideal) M X w (ix2 r k)) * g (ix2 ⟨0, by decide⟩ i) := by
  unfold k0_pay9 Cert.Norm.rms
  generalize k0_pay8 (F := Ideal) M X w = H
  pointwise []

/-- one row of the carried rows -/
theorem pick (f : Fin 8 → EReal) (k : Fin 8) :
    ∑ x : Fin 8, Scalar.select (IntOp.cmpi CmpIPredicate.eq (BitVec.ofNat 32 x.val) (BitVec.ofNat 32 k.val)) (f x) 0 = f k := by
  refine (Finset.sum_eq_single k ?_ (fun h => absurd (Finset.mem_univ _) h)).trans ?_
  · intro b _ hb
    refine Scalar.select_of_ne_one (fun h => hb ?_) _ _
    revert h; revert b k; decide
  · exact Scalar.select_of_eq_one (by revert k; decide) _ _

/-- the row before each row, the first one's from the carried rows -/
theorem shift_one (f : Fin 8 → EReal) (g : Fin 256 → EReal) (Z : ℕ → EReal) (b : ℕ) (h7 : f 7 = Z (b + 1)) (hg : ∀ r, g r = Z (b + r.val + 2)) (r : Fin 256) :
    Scalar.select (IntOp.cmpi CmpIPredicate.eq (BitVec.ofNat 32 r.val) 0#32)
      (∑ x : Fin 8, Scalar.select (IntOp.cmpi CmpIPredicate.eq (BitVec.ofNat 32 x.val) 7#32) (f x) 0)
      (g ⟨(r.val + 256 - 1) % 256, Nat.mod_lt _ (by decide)⟩) = Z (b + r.val + 1) := by
  have hr := r.isLt
  by_cases h : r.val = 0
  · rw [Scalar.select_of_eq_one (by rw [h]; decide)]
    refine (pick f 7).trans (h7.trans (congrArg Z (by omega)))
  · rw [Scalar.select_of_ne_one (by clear hr; revert h; revert r; decide), hg]
    exact congrArg Z (by dsimp only; omega)

/-- the row two before each row -/
theorem shift_two (f : Fin 8 → EReal) (g : Fin 256 → EReal) (Z : ℕ → EReal) (b : ℕ) (h6 : f 6 = Z b) (h7 : f 7 = Z (b + 1))
    (hg : ∀ r, g r = Z (b + r.val + 2)) (r : Fin 256) :
    Scalar.select (IntOp.cmpi CmpIPredicate.eq (BitVec.ofNat 32 r.val) 0#32)
      (∑ x : Fin 8, Scalar.select (IntOp.cmpi CmpIPredicate.eq (BitVec.ofNat 32 x.val) 6#32) (f x) 0)
      (Scalar.select (IntOp.cmpi CmpIPredicate.eq (BitVec.ofNat 32 r.val) 1#32)
        (∑ x : Fin 8, Scalar.select (IntOp.cmpi CmpIPredicate.eq (BitVec.ofNat 32 x.val) 7#32) (f x) 0)
        (g ⟨(r.val + 256 - 2) % 256, Nat.mod_lt _ (by decide)⟩)) = Z (b + r.val) := by
  have hr := r.isLt
  by_cases h : r.val = 0
  · rw [Scalar.select_of_eq_one (by rw [h]; decide)]
    exact (pick f 6).trans (h6.trans (congrArg Z (by omega)))
  · rw [Scalar.select_of_ne_one (by clear hr; revert h; revert r; decide)]
    by_cases h' : r.val = 1
    · rw [Scalar.select_of_eq_one (by rw [h']; decide)]
      exact (pick f 7).trans (h7.trans (congrArg Z (by omega)))
    · rw [Scalar.select_of_ne_one (by clear h hr; revert h'; revert r; decide), hg]
      exact congrArg Z (by dsimp only; omega)

theorem conv_a (G : FVec Ideal S256x1536 .f32) (C : FVec Ideal S8x1536 .f32) (c w0 w1 w2 : FVec Ideal S1x1536 .f32) (Z : ℕ → EReal) (b : ℕ) (r : Fin 256)
    (j : Fin 1536) (h6 : C (ix2 6 j) = Z b) (h7 : C (ix2 7 j) = Z (b + 1)) (hG : ∀ r : Fin 256, G (ix2 r j) = Z (b + r.val + 2)) :
    k0_pay18 (F := Ideal) G (k0_pay15 (iota Kind.tc S256x1536 32 [0] iota_S256x1536_d0_w32) G C (iota Kind.tc S8x1536 32 [0] iota_S8x1536_d0_w32))
      (k0_pay17 (iota Kind.tc S256x1536 32 [0] iota_S256x1536_d0_w32) G C (iota Kind.tc S8x1536 32 [0] iota_S8x1536_d0_w32) c w0) w1 w2 (ix2 r j)
      = convF (c (ix2 ⟨0, by decide⟩ j)) (w0 (ix2 ⟨0, by decide⟩ j)) (w1 (ix2 ⟨0, by decide⟩ j)) (w2 (ix2 ⟨0, by decide⟩ j)) (Z (b + r.val)) (Z (b + r.val + 1)) (Z (b + r.val + 2)) := by
  rw [← shift_two (fun x => C (ix2 x j)) (fun r => G (ix2 r j)) Z b h6 h7 hG r, ← shift_one (fun x => C (ix2 x j)) (fun r => G (ix2 r j)) Z b h7 hG r, ← hG r]
  unfold convF
  pointwise [k0_pay18, k0_pay17, k0_pay15, k0_pay14]

theorem conv_b (G : FVec Ideal S256x1280 .bf16) (C : FVec Ideal S8x1280 .f32) (c w0 w1 w2 : FVec Ideal S1x1280 .f32) (Z : ℕ → EReal) (b : ℕ) (r : Fin 256)
    (j : Fin 1280) (h6 : C (ix2 6 j) = Z b) (h7 : C (ix2 7 j) = Z (b + 1)) (hG : ∀ r : Fin 256, G (ix2 r j) = Z (b + r.val + 2)) :
    k0_pay29 (F := Ideal) (k0_pay24 G) (k0_pay26 (iota Kind.tc S256x1280 32 [0] iota_S256x1280_d0_w32) G C)
      (k0_pay27 (iota Kind.tc S256x1280 32 [0] iota_S256x1280_d0_w32) G C) c w0 w1 w2 (ix2 r j)
      = convF (c (ix2 ⟨0, by decide⟩ j)) (w0 (ix2 ⟨0, by decide⟩ j)) (w1 (ix2 ⟨0, by decide⟩ j)) (w2 (ix2 ⟨0, by decide⟩ j)) (Z (b + r.val)) (Z (b + r.val + 1)) (Z (b + r.val + 2)) := by
  rw [← shift_two (fun x => C (ix2 x j)) (fun r => G (ix2 r j)) Z b h6 h7 hG r, ← shift_one (fun x => C (ix2 x j)) (fun r => G (ix2 r j)) Z b h7 hG r, ← hG r]
  unfold convF
  pointwise [k0_pay29, k0_pay24, k0_pay25, k0_pay26, k0_pay27]

theorem act_a (V : FVec Ideal S256x1536 .bf16) (G S T : FVec Ideal S256x1536 .f32) (w1 w2 : FVec Ideal S1x1536 .f32) (r : Fin 256) (j : Fin 1536) :
    k0_pay19 (F := Ideal) V G S T w1 w2 (ix2 r j) = actF (k0_pay18 (F := Ideal) G S T w1 w2 (ix2 r j)) (V (ix2 r j)) := by
  unfold k0_pay19 actF
  generalize k0_pay18 (F := Ideal) G S T w1 w2 = X
  pointwise []
  rfl

theorem act_b (V : FVec Ideal S256x1280 .bf16) (G S T : FVec Ideal S256x1280 .f32) (c w0 w1 w2 : FVec Ideal S1x1280 .f32) (r : Fin 256) (j : Fin 1280) :
    k0_pay30 (F := Ideal) V G S T c w0 w1 w2 (ix2 r j) = actF (k0_pay29 (F := Ideal) G S T c w0 w1 w2 (ix2 r j)) (V (ix2 r j)) := by
  unfold k0_pay30 actF
  generalize k0_pay29 (F := Ideal) G S T c w0 w1 w2 = X
  pointwise []
  rfl

theorem down_a (V : FVec Ideal S256x1536 .bf16) (G S T : FVec Ideal S256x1536 .f32) (w1 w2 : FVec Ideal S1x1536 .f32) (w : FVec Ideal S1536x1024 .bf16)
    (r : Fin 256) (i : Fin 1024) :
    k0_pay21 (F := Ideal) k0_pay10 V G S T w1 w2 w (ix2 r i) = ∑ j : Fin 1536, k0_pay19 (F := Ideal) V G S T w1 w2 (ix2 r j) * w (ix2 j i) := by
  unfold k0_pay21
  generalize k0_pay19 (F := Ideal) V G S T w1 w2 = X
  pointwise [k0_pay10]

theorem down_b (H Y : FVec Ideal S256x1024 .f32) (V : FVec Ideal S256x1280 .bf16) (G S T : FVec Ideal S256x1280 .f32) (c w0 w1 w2 : FVec Ideal S1x1280 .f32)
    (w : FVec Ideal S1280x1024 .bf16) (r : Fin 256) (i : Fin 1024) :
    k0_pay32 (F := Ideal) H Y V G S T c w0 w1 w2 w (ix2 r i)
      = H (ix2 r i) + (Y (ix2 r i) + ∑ j : Fin 1280, k0_pay30 (F := Ideal) V G S T c w0 w1 w2 (ix2 r j) * w (ix2 j i)) := by
  unfold k0_pay32
  generalize k0_pay30 (F := Ideal) V G S T c w0 w1 w2 = X
  pointwise []

section
variable (H Y : FVec Ideal S256x1024 .f32) (V : FVec Ideal S256x1280 .bf16) (G S T : FVec Ideal S256x1280 .f32) (c w0 w1 w2 : FVec Ideal S1x1280 .f32)
    (w : FVec Ideal S1280x1024 .bf16) (X : FVec Ideal S256x1024 .f32) (hX : k0_pay32 (F := Ideal) H Y V G S T c w0 w1 w2 w = X)
include hX

theorem pay33 (r : Fin 256) : k0_pay33 (F := Ideal) H Y V G S T c w0 w1 w2 w (ix2 r ⟨0, by decide⟩) = Cert.Norm.rms (∑ k : Fin 1024, X (ix2 r k) * X (ix2 r k)) := by
  unfold k0_pay33 Cert.Norm.rms
  rw [hX]
  pointwise []
theorem pay34 (r : Fin 256) (i : Fin 1024) : k0_pay34 (F := Ideal) H Y V G S T c w0 w1 w2 w (ix2 r i)
    = X (ix2 r i) * Cert.Norm.rms (∑ k : Fin 1024, X (ix2 r k) * X (ix2 r k)) := by
  rw [← pay33 H Y V G S T c w0 w1 w2 w X hX r]
  unfold k0_pay34
  rw [hX]
  generalize k0_pay33 (F := Ideal) H Y V G S T c w0 w1 w2 w = R
  pointwise []
end

theorem pay35 (N T : FVec Ideal S256x1024 .f32) (g : FVec Ideal S1x1024 .f32) (r : Fin 256) (i : Fin 1024) :
    k0_pay35 (F := Ideal) N g T (ix2 r i) = N (ix2 r i) * g (ix2 ⟨0, by decide⟩ i) - T (ix2 r i) := by
  pointwise [k0_pay35]
theorem pay36 (N T : FVec Ideal S256x1024 .f32) (g : FVec Ideal S1x1024 .f32) (O : FVec Ideal S1x128 .f32) (i : Fin 128) :
    k0_pay36 (F := Ideal) N g T O (ix2 ⟨0, by decide⟩ i) = O (ix2 ⟨0, by decide⟩ i)
      + (∑ r : Fin 256, ∑ k : Fin 1024, k0_pay35 (F := Ideal) N g T (ix2 r k) * k0_pay35 (F := Ideal) N g T (ix2 r k)) * Ideal.ofBits .f32 0x3A000000#32 := by
  unfold k0_pay36
  generalize k0_pay35 (F := Ideal) N g T = E
  pointwise []
theorem pay38 (N T : FVec Ideal S256x1024 .f32) (g O : FVec Ideal S1x1024 .f32) (i : Fin 1024) :
    k0_pay38 (F := Ideal) N g T O (ix2 ⟨0, by decide⟩ i) = O (ix2 ⟨0, by decide⟩ i)
      + ∑ r : Fin 256, k0_pay35 (F := Ideal) N g T (ix2 r i) * Ideal.ofBits .f32 0x3A800000#32 * N (ix2 r i) := by
  unfold k0_pay38 k0_pay37
  generalize k0_pay35 (F := Ideal) N g T = E
  pointwise []
theorem pay39 (R : FVec Ideal S256x1 .f32) (N T : FVec Ideal S256x1024 .f32) (g : FVec Ideal S1x1024 .f32) (r : Fin 256) (i : Fin 1024) :
    k0_pay39 (F := Ideal) R N g T (ix2 r i) = R (ix2 r ⟨0, by decide⟩) * (k0_pay35 (F := Ideal) N g T (ix2 r i) * Ideal.ofBits .f32 0x3A800000#32 * g (ix2 ⟨0, by decide⟩ i)
      - N (ix2 r i) * ((∑ k : Fin 1024, k0_pay35 (F := Ideal) N g T (ix2 r k) * Ideal.ofBits .f32 0x3A800000#32 * g (ix2 ⟨0, by decide⟩ k) * N (ix2 r k)) * Ideal.ofBits .f32 0x3A800000#32)) := by
  unfold k0_pay39 k0_pay37
  generalize k0_pay35 (F := Ideal) N g T = E
  pointwise []

theorem gate_a (M : FVec Ideal S256x1024 .bf16) (X : FVec Ideal S256x1024 .f32) (w : FVec Ideal S1024x1024 .bf16) (g : FVec Ideal S1x1024 .f32) (W : FVec Ideal S1024x1536 .bf16)
    (r : Fin 256) (j : Fin 1536) : k0_pay11 (F := Ideal) M X w g W (ix2 r j) = ∑ k : Fin 1024, k0_pay9 (F := Ideal) M X w g (ix2 r k) * W (ix2 k j) := by
  unfold k0_pay11
  generalize k0_pay9 (F := Ideal) M X w g = U
  pointwise []
theorem gate_b (U : FVec Ideal S256x1024 .bf16) (W : FVec Ideal S1024x1280 .bf16)
    (r : Fin 256) (j : Fin 1280) : k0_pay22 (F := Ideal) U W (ix2 r j) = ∑ k : Fin 1024, U (ix2 r k) * W (ix2 k j) := by
  pointwise [k0_pay22]
theorem value_a (M : FVec Ideal S256x1024 .bf16) (X : FVec Ideal S256x1024 .f32) (w : FVec Ideal S1024x1024 .bf16) (g : FVec Ideal S1x1024 .f32) (W : FVec Ideal S1024x1536 .bf16)
    (r : Fin 256) (j : Fin 1536) : k0_pay12 (F := Ideal) M X w g W (ix2 r j) = ∑ k : Fin 1024, k0_pay9 (F := Ideal) M X w g (ix2 r k) * W (ix2 k j) := by
  unfold k0_pay12
  generalize k0_pay9 (F := Ideal) M X w g = U
  pointwise []
theorem value_b (U : FVec Ideal S256x1024 .bf16) (W : FVec Ideal S1024x1280 .bf16)
    (r : Fin 256) (j : Fin 1280) : k0_pay23 (F := Ideal) U W (ix2 r j) = ∑ k : Fin 1024, U (ix2 r k) * W (ix2 k j) := by
  pointwise [k0_pay23]
theorem pay13 (M : FVec Ideal S256x1024 .bf16) (X : FVec Ideal S256x1024 .f32) (w : FVec Ideal S1024x1024 .bf16) (g : FVec Ideal S1x1024 .f32) (W : FVec Ideal S1024x1536 .bf16)
    (r : Fin 256) (j : Fin 1536) : k0_pay13 (F := Ideal) M X w g W (ix2 r j) = k0_pay11 (F := Ideal) M X w g W (ix2 r j) := by
  unfold k0_pay13
  generalize k0_pay11 (F := Ideal) M X w g W = U
  pointwise []
theorem pay20 (G S T : FVec Ideal S256x1536 .f32) (w1 w2 : FVec Ideal S1x1536 .f32) (r : Fin 256) (j : Fin 1536) :
    k0_pay20 (F := Ideal) G S T w1 w2 (ix2 r j) = k0_pay18 (F := Ideal) G S T w1 w2 (ix2 r j) := by
  unfold k0_pay20
  generalize k0_pay18 (F := Ideal) G S T w1 w2 = U
  pointwise []
theorem pay31 (G S T : FVec Ideal S256x1280 .f32) (c w0 w1 w2 : FVec Ideal S1x1280 .f32) (r : Fin 256) (j : Fin 1280) :
    k0_pay31 (F := Ideal) G S T c w0 w1 w2 (ix2 r j) = k0_pay29 (F := Ideal) G S T c w0 w1 w2 (ix2 r j) := by
  unfold k0_pay31
  generalize k0_pay29 (F := Ideal) G S T c w0 w1 w2 = U
  pointwise []
theorem pay16 (G : FVec Ideal S256x1536 .f32) (i : Fin 8) (j : Fin 1536) : k0_pay16 (F := Ideal) G (ix2 i j) = G (ix2 ⟨248 + i.val, by omega⟩ j) := by
  pointwise [k0_pay16]
theorem pay28 (G : FVec Ideal S256x1280 .bf16) (i : Fin 8) (j : Fin 1280) : k0_pay28 (F := Ideal) G (ix2 i j) = G (ix2 ⟨248 + i.val, by omega⟩ j) := by
  pointwise [k0_pay28, k0_pay24]

end Cert.Kernel5Ideal.Fwd
end
-- ==== Proof.MlpFwd.lean ====
module

public import proofs.«01_k».proof.Proof.MlpFwdPt
public import proofs.«01_k».proof.Proof.MlpFwdPay
public import Idealize.ShloMosaic.Lib.Pipeline.ValueKit
public import Idealize.ShloMosaic.Lib.Pipeline.ReadBack
public import proofs.«01_k».proof.Proof.MlpForms
public import proofs.«01_k».proof.Proof.Norm
public import proofs.«01_k».proof.Proof.Gen.Reference5Ideal.Read

@[expose] public section
set_option maxRecDepth 16384
set_option maxHeartbeats 400000
noncomputable section
open Idealize.ShloMosaic Idealize.ShloMosaic.TcCoe Idealize.SL.Sem
open Idealize.ShloMosaic.Pipeline (Dat)
namespace Cert.Kernel5Ideal.Fwd
open Cert.Kernel5Ideal Cert.Kernel5Ideal.Gen Cert.Kernel5Ideal.Run
open Cert.KernelIdeal.Mlp (canon_take)
variable (m : (ℓ : Loc nD τ sig) → Buf (Elt Ideal) ℓ)

/-- the arguments, and the reference's stages of them -/
abbrev A0 (c : Dev nD) : FVec Ideal S4096x512 .f32 := m ((c.tc : Thread nD τ).loc main_arg0)
abbrev A1 (c : Dev nD) : FVec Ideal S4096x512 .f32 := m ((c.tc : Thread nD τ).loc main_arg1)
abbrev A2 (c : Dev nD) : FVec Ideal S4096x2048 .f32 := m ((c.tc : Thread nD τ).loc main_arg2)
abbrev A3 (c : Dev nD) : FVec Ideal S4096x1024 .f32 := m ((c.tc : Thread nD τ).loc main_arg3)
abbrev A4 (c : Dev nD) : FVec Ideal S1x512 .f32 := m ((c.tc : Thread nD τ).loc main_arg4)
abbrev A5 (c : Dev nD) : FVec Ideal S1x512 .f32 := m ((c.tc : Thread nD τ).loc main_arg5)
abbrev A6 (c : Dev nD) : FVec Ideal S1024x1024 .f32 := m ((c.tc : Thread nD τ).loc main_arg6)
abbrev A7 (c : Dev nD) : FVec Ideal S1x1024 .f32 := m ((c.tc : Thread nD τ).loc main_arg7)
abbrev A8 (c : Dev nD) : FVec Ideal S1024x5632 .f32 := m ((c.tc : Thread nD τ).loc main_arg8)
abbrev A9 (c : Dev nD) : FVec Ideal S3x2816 .f32 := m ((c.tc : Thread nD τ).loc main_arg9)
abbrev A10 (c : Dev nD) : FVec Ideal S1x2816 .f32 := m ((c.tc : Thread nD τ).loc main_arg10)
abbrev A11 (c : Dev nD) : FVec Ideal S2816x1024 .f32 := m ((c.tc : Thread nD τ).loc main_arg11)
abbrev A12 (c : Dev nD) : FVec Ideal S1x1024 .f32 := m ((c.tc : Thread nD τ).loc main_arg12)
abbrev A13 (c : Dev nD) : FVec Ideal S4096x1024 .f32 := m ((c.tc : Thread nD τ).loc main_arg13)
abbrev q31 (c : Dev nD) : FVec Ideal S4096x1024 .f32 := Cert.Reference5Ideal.Read.val_main_v31 (F := Ideal) (A0 m c) (A1 m c) (A2 m c) (A4 m c) (A5 m c)
abbrev q33 (c : Dev nD) : FVec Ideal S4096x1024 .f32 := Cert.Reference5Ideal.Read.val_main_v33 (F := Ideal) (A0 m c) (A1 m c) (A2 m c) (A3 m c) (A4 m c) (A5 m c) (A6 m c)
abbrev q45 (c : Dev nD) : FVec Ideal S4096x1024 .f32 := Cert.Reference5Ideal.Read.val_main_v45 (F := Ideal) (A0 m c) (A1 m c) (A2 m c) (A3 m c) (A4 m c) (A5 m c) (A6 m c) (A7 m c)
abbrev q47 (c : Dev nD) : FVec Ideal S4096x2816 .f32 := Cert.Reference5Ideal.Read.val_main_v47 (F := Ideal) (A0 m c) (A1 m c) (A2 m c) (A3 m c) (A4 m c) (A5 m c) (A6 m c) (A7 m c) (A8 m c)
abbrev q48 (c : Dev nD) : FVec Ideal S4096x2816 .f32 := Cert.Reference5Ideal.Read.val_main_v48 (F := Ideal) (A0 m c) (A1 m c) (A2 m c) (A3 m c) (A4 m c) (A5 m c) (A6 m c) (A7 m c) (A8 m c)
abbrev q72 (c : Dev nD) : FVec Ideal S4096x2816 .f32 := Cert.Reference5Ideal.Read.val_main_v72 (F := Ideal) (A0 m c) (A1 m c) (A2 m c) (A3 m c) (A4 m c) (A5 m c) (A6 m c) (A7 m c) (A8 m c) (A9 m c) (A10 m c)
abbrev q80 (c : Dev nD) : FVec Ideal S4096x2816 .f32 := Cert.Reference5Ideal.Read.val_main_v80 (F := Ideal) (A0 m c) (A1 m c) (A2 m c) (A3 m c) (A4 m c) (A5 m c) (A6 m c) (A7 m c) (A8 m c) (A9 m c) (A10 m c)
abbrev q82 (c : Dev nD) : FVec Ideal S4096x1024 .f32 := Cert.Reference5Ideal.Read.val_main_v82 (F := Ideal) (A0 m c) (A1 m c) (A2 m c) (A3 m c) (A4 m c) (A5 m c) (A6 m c) (A7 m c) (A8 m c) (A9 m c) (A10 m c) (A11 m c)
abbrev q95 (c : Dev nD) : FVec Ideal S4096x1024 .f32 := Cert.Reference5Ideal.Read.val_main_v95 (F := Ideal) (A0 m c) (A1 m c) (A2 m c) (A3 m c) (A4 m c) (A5 m c) (A6 m c) (A7 m c) (A8 m c) (A9 m c) (A10 m c) (A11 m c)
abbrev q98 (c : Dev nD) : FVec Ideal S4096x1024 .f32 := Cert.Reference5Ideal.Read.val_main_v98 (F := Ideal) (A0 m c) (A1 m c) (A2 m c) (A3 m c) (A4 m c) (A5 m c) (A6 m c) (A7 m c) (A8 m c) (A9 m c) (A10 m c) (A11 m c) (A12 m c) (A13 m c)
abbrev q112 (c : Dev nD) : FVec Ideal S4096x1024 .f32 := Cert.Reference5Ideal.Read.val_main_v112 (F := Ideal) (A0 m c) (A1 m c) (A2 m c) (A3 m c) (A4 m c) (A5 m c) (A6 m c) (A7 m c) (A8 m c) (A9 m c) (A10 m c) (A11 m c) (A12 m c) (A13 m c)
abbrev q131 (c : Dev nD) : FVec Ideal S4096x1024 .f32 := Cert.Reference5Ideal.Read.val_main_v131 (F := Ideal) (A0 m c) (A1 m c) (A2 m c) (A3 m c) (A4 m c) (A5 m c) (A6 m c) (A7 m c) (A8 m c) (A9 m c) (A10 m c) (A11 m c) (A12 m c) (A13 m c)
abbrev q138 (c : Dev nD) : FVec Ideal S1x128 .f32 := Cert.Reference5Ideal.Read.val_main_v138 (F := Ideal) (A0 m c) (A1 m c) (A2 m c) (A3 m c) (A4 m c) (A5 m c) (A6 m c) (A7 m c) (A8 m c) (A9 m c) (A10 m c) (A11 m c) (A12 m c) (A13 m c)
abbrev q115 (c : Dev nD) : FVec Ideal S1x1024 .f32 := Cert.Reference5Ideal.Read.val_main_v115 (F := Ideal) (A0 m c) (A1 m c) (A2 m c) (A3 m c) (A4 m c) (A5 m c) (A6 m c) (A7 m c) (A8 m c) (A9 m c) (A10 m c) (A11 m c) (A12 m c) (A13 m c)

theorem idx_val : ∀ t : Fin cfg0.N, win0_0.index t = ![t.val, 0] ∧ win0_1.index t = ![t.val, 0] ∧ win0_3.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0] ∧ win0_19.index t = ![t.val, 0] ∧ win0_20.index t = ![t.val, 0] ∧ win0_2.index t = ![t.val, 3] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_21.index t = ![0, 0] ∧ win0_22.index t = ![0, 0] :=
  (by decide +kernel : ∀ t : Fin grid0.N, _)

theorem N16 (t : Fin cfg0.N) : t.val < 16 := lt_of_lt_of_eq t.isLt (show cfg0.N = 16 from N_0)

/-- the row of the whole arrays that row `r` of point `t`'s blocks is -/
def rowOf (t : Fin cfg0.N) (r : Fin 256) : Fin 4096 := ⟨t.val * 256 + r.val, by have := N16 t; omega⟩
/-- a column of the first part, and of the second -/
abbrev ca (j : Fin 1536) : Fin 2816 := ⟨j.val, by omega⟩
abbrev cb (j : Fin 1280) : Fin 2816 := ⟨1536 + j.val, by omega⟩

theorem iblk0 (c : Dev nD) (t : Fin cfg0.N) (r : Fin 256) (j : Fin 512) : iblk m c 0 t (ix2 r j) = A0 m c (ix2 (rowOf t r) j) := by
  refine Eq.trans (b := V m c main_arg0 (ix2 (rowOf t r) j)) ?_ ?_
  · unfold iblk rowOf
    blk_ext [idx_val t]
  · rw [V_main_arg0]
theorem iblk1 (c : Dev nD) (t : Fin cfg0.N) (r : Fin 256) (j : Fin 512) : iblk m c 1 t (ix2 r j) = A1 m c (ix2 (rowOf t r) j) := by
  refine Eq.trans (b := V m c main_arg1 (ix2 (rowOf t r) j)) ?_ ?_
  · unfold iblk rowOf
    blk_ext [idx_val t]
  · rw [V_main_arg1]
theorem iblk3 (c : Dev nD) (t : Fin cfg0.N) (r : Fin 256) (j : Fin 1024) : iblk m c 3 t (ix2 r j) = A3 m c (ix2 (rowOf t r) j) := by
  refine Eq.trans (b := V m c main_arg3 (ix2 (rowOf t r) j)) ?_ ?_
  · unfold iblk rowOf
    blk_ext [idx_val t]
  · rw [V_main_arg3]
theorem iblk12 (c : Dev nD) (t : Fin cfg0.N) (r : Fin 256) (j : Fin 1024) : iblk m c 12 t (ix2 r j) = A13 m c (ix2 (rowOf t r) j) := by
  refine Eq.trans (b := V m c main_arg13 (ix2 (rowOf t r) j)) ?_ ?_
  · unfold iblk rowOf
    blk_ext [idx_val t]
  · rw [V_main_arg13]
theorem iblk2 (c : Dev nD) (t : Fin cfg0.N) (r : Fin 256) (j : Fin 512) : iblk m c 2 t (ix2 r j) = A2 m c (ix2 (rowOf t r) ⟨1536 + j.val, by omega⟩) := by
  refine Eq.trans (b := V m c main_arg2 (ix2 (rowOf t r) ⟨1536 + j.val, by omega⟩)) ?_ ?_
  · unfold iblk rowOf
    blk_ext [idx_val t]
  · rw [V_main_arg2]
theorem iblk4 (c : Dev nD) (t : Fin cfg0.N) : iblk m c 4 t = A4 m c := by
  refine Eq.trans (b := V m c main_arg4) ?_ ?_
  · funext y
    unfold iblk
    blk_ext [idx_val t]
  · rw [V_main_arg4]
theorem iblk5 (c : Dev nD) (t : Fin cfg0.N) : iblk m c 5 t = A5 m c := by
  refine Eq.trans (b := V m c main_arg5) ?_ ?_
  · funext y
    unfold iblk
    blk_ext [idx_val t]
  · rw [V_main_arg5]
theorem iblk7 (c : Dev nD) (t : Fin cfg0.N) : iblk m c 7 t = A7 m c := by
  refine Eq.trans (b := V m c main_arg7) ?_ ?_
  · funext y
    unfold iblk
    blk_ext [idx_val t]
  · rw [V_main_arg7]
theorem iblk8 (c : Dev nD) (t : Fin cfg0.N) : iblk m c 8 t = A9 m c := by
  refine Eq.trans (b := V m c main_arg9) ?_ ?_
  · funext y
    unfold iblk
    blk_ext [idx_val t]
  · rw [V_main_arg9]
theorem iblk9 (c : Dev nD) (t : Fin cfg0.N) : iblk m c 9 t = A10 m c := by
  refine Eq.trans (b := V m c main_arg10) ?_ ?_
  · funext y
    unfold iblk
    blk_ext [idx_val t]
  · rw [V_main_arg10]
theorem iblk11 (c : Dev nD) (t : Fin cfg0.N) : iblk m c 11 t = A12 m c := by
  refine Eq.trans (b := V m c main_arg12) ?_ ?_
  · funext y
    unfold iblk
    blk_ext [idx_val t]
  · rw [V_main_arg12]
theorem iblk6 (c : Dev nD) (t : Fin cfg0.N) (i : Fin 1024) (j : Fin 1024) : iblk m c 6 t (ix2 i j) = A6 m c (ix2 i j) := by
  refine Eq.trans (b := V m c main_v0 (ix2 i j)) ?_ ?_
  · unfold iblk
    blk_ext [idx_val t]
  · entry_read
    rfl
theorem iblk10 (c : Dev nD) (t : Fin cfg0.N) (i : Fin 2816) (j : Fin 1024) : iblk m c 10 t (ix2 i j) = A11 m c (ix2 i j) := by
  refine Eq.trans (b := V m c main_v4 (ix2 i j)) ?_ ?_
  · unfold iblk
    blk_ext [idx_val t]
  · entry_read
    rfl

theorem entry3 (c : Dev nD) (y : S4x1024x1408.Idx) : V m c main_v3 y = A8 m c (ix2 ⟨(y 1).val, (y 1).isLt⟩ ⟨(y 0).val * 1408 + (y 2).val,
      by have h0 : (y 0).val < 4 := (y 0).isLt; have h2 : (y 2).val < 1408 := (y 2).isLt; omega⟩) := by
  unfold A8
  entry_read
  generalize m ((c.tc : Thread nD τ).loc main_arg8) = w
  idx_vars y
  pointwise []

/-- the columns as the matrix they are cut from -/
theorem wide_entry (c : Dev nD) (d : Fin 1024) (j : Fin 5632) : wideF (V m c main_v3) (ix2 d j) = A8 m c (ix2 d j) := by
  unfold wideF
  refine (entry3 m c _).trans (congrArg _ ?_)
  refine funext fun k => Fin.ext ?_
  match k with
  | ⟨0, _⟩ => rfl
  | ⟨1, _⟩ => exact Nat.div_add_mod' _ _

/-- a load from a matrix -/
theorem ld2 {S : Shape} {e' : EltTy} (X : S.Idx → Elt Ideal e') (R : Rect S) (x : R.shape.Idx) (y : S.Idx) (h : R.emb x = y) :
    View.ld (Val := Elt Ideal) (S := S) (e' := e') X R x = X y := congrArg X h

/-- two parts of the columns are one array -/
theorem two_at (B : FVec Ideal S256x1280 .bf16) (A : FVec Ideal S256x1536 .bf16) (G : Fin 256 → Fin 2816 → EReal)
    (hB : ∀ r j, B (ix2 r j) = G r (cb j)) (hA : ∀ r j, A (ix2 r j) = G r (ca j)) (y : S256x2816.Idx) : two B A y = G ⟨(y 0).val, (y 0).isLt⟩ ⟨(y 1).val, (y 1).isLt⟩ := by
  refine canon_take (e := .bf16) 2 (fun y => G ⟨(y 0).val, (y 0).isLt⟩ ⟨(y 1).val, (y 1).isLt⟩) _ y ?pc ?cov
  case pc =>
    refine ⟨fun x => ?p0, fun x => ?p1, trivial⟩
    case p0 =>
      idx_vars x
      refine (hB x0 x1).trans (congrArg₂ G (Fin.ext ?_) (Fin.ext ?_)) <;> blk_simp
    case p1 =>
      idx_vars x
      refine (hA x0 x1).trans (congrArg₂ G (Fin.ext ?_) (Fin.ext ?_)) <;> blk_simp
  case cov =>
    idx_vars y
    by_cases h : y1.val < 1536
    · refine ⟨_, List.mem_cons_of_mem _ (List.mem_cons_self ..), (Rect.mem_set_unit (inb := inb_S256x2816_S256x1536_0_0)).mpr fun a => ?_⟩
      match a with
      | ⟨0, _⟩ => exact ⟨Nat.zero_le _, by show y0.val < 0 + 256; omega⟩
      | ⟨1, _⟩ => exact ⟨Nat.zero_le _, by show y1.val < 0 + 1536; omega⟩
    · refine ⟨_, List.mem_cons_self .., (Rect.mem_set_unit (inb := inb_S256x2816_S256x1280_0_1536)).mpr fun a => ?_⟩
      match a with
      | ⟨0, _⟩ => exact ⟨Nat.zero_le _, by show y0.val < 0 + 256; omega⟩
      | ⟨1, _⟩ => exact ⟨by show 1536 ≤ y1.val; omega, by show y1.val < 1536 + 1280; omega⟩

/-- so are two parts of the rows kept over, whatever was stored before them -/
theorem keep_at (B : FVec Ideal S8x1280 .f32) (A : FVec Ideal S8x1536 .f32) (T : List (View.Piece (Elt Ideal) S8x2816 .f32)) (G : Fin 8 → Fin 2816 → EReal)
    (hB : ∀ r j, B (ix2 r j) = G r (cb j)) (hA : ∀ r j, A (ix2 r j) = G r (ca j)) (y : S8x2816.Idx) :
    View.canon (Val := Elt Ideal) (e := .f32) (⟨(Rect.unit ![0, 1536] ![8, 1280] inb_S8x2816_S8x1280_0_1536), B⟩ :: ⟨(Rect.unit ![0, 0] ![8, 1536] inb_S8x2816_S8x1536_0_0), A⟩ :: T) y = G ⟨(y 0).val, (y 0).isLt⟩ ⟨(y 1).val, (y 1).isLt⟩ := by
  refine canon_take (e := .f32) 2 (fun y => G ⟨(y 0).val, (y 0).isLt⟩ ⟨(y 1).val, (y 1).isLt⟩) _ y ?pc ?cov
  case pc =>
    refine ⟨fun x => ?p0, fun x => ?p1, trivial⟩
    case p0 =>
      idx_vars x
      refine (hB x0 x1).trans (congrArg₂ G (Fin.ext ?_) (Fin.ext ?_)) <;> blk_simp
    case p1 =>
      idx_vars x
      refine (hA x0 x1).trans (congrArg₂ G (Fin.ext ?_) (Fin.ext ?_)) <;> blk_simp
  case cov =>
    idx_vars y
    by_cases h : y1.val < 1536
    · refine ⟨_, List.mem_cons_of_mem _ (List.mem_cons_self ..), (Rect.mem_set_unit (inb := inb_S8x2816_S8x1536_0_0)).mpr fun a => ?_⟩
      match a with
      | ⟨0, _⟩ => exact ⟨Nat.zero_le _, by show y0.val < 0 + 8; omega⟩
      | ⟨1, _⟩ => exact ⟨Nat.zero_le _, by show y1.val < 0 + 1536; omega⟩
    · refine ⟨_, List.mem_cons_self .., (Rect.mem_set_unit (inb := inb_S8x2816_S8x1280_0_1536)).mpr fun a => ?_⟩
      match a with
      | ⟨0, _⟩ => exact ⟨Nat.zero_le _, by show y0.val < 0 + 8; omega⟩
      | ⟨1, _⟩ => exact ⟨by show 1536 ≤ y1.val; omega, by show y1.val < 1536 + 1280; omega⟩

theorem wga (c : Dev nD) (k : Fin 1024) (j : Fin 1536) : View.ld (Val := Elt Ideal) (S := S1024x5632) (e' := .bf16) (wideF (V m c main_v3)) (Rect.unit ![0, 0] ![1024, 1536] inb_S1024x5632_S1024x1536_0_0) (ix2 k j) = A8 m c (ix2 k ⟨j.val, by omega⟩) :=
  (ld2 _ _ _ (ix2 k ⟨j.val, by omega⟩) (by blk_ext [])).trans (wide_entry m c _ _)
theorem wva (c : Dev nD) (k : Fin 1024) (j : Fin 1536) : View.ld (Val := Elt Ideal) (S := S1024x5632) (e' := .bf16) (wideF (V m c main_v3)) (Rect.unit ![0, 2816] ![1024, 1536] inb_S1024x5632_S1024x1536_0_2816) (ix2 k j) = A8 m c (ix2 k ⟨2816 + j.val, by omega⟩) :=
  (ld2 _ _ _ (ix2 k ⟨2816 + j.val, by omega⟩) (by blk_ext [])).trans (wide_entry m c _ _)
theorem wgb (c : Dev nD) (k : Fin 1024) (j : Fin 1280) : View.ld (Val := Elt Ideal) (S := S1024x5632) (e' := .bf16) (wideF (V m c main_v3)) (Rect.unit ![0, 1536] ![1024, 1280] inb_S1024x5632_S1024x1280_0_1536) (ix2 k j) = A8 m c (ix2 k ⟨1536 + j.val, by omega⟩) :=
  (ld2 _ _ _ (ix2 k ⟨1536 + j.val, by omega⟩) (by blk_ext [])).trans (wide_entry m c _ _)
theorem wvb (c : Dev nD) (k : Fin 1024) (j : Fin 1280) : View.ld (Val := Elt Ideal) (S := S1024x5632) (e' := .bf16) (wideF (V m c main_v3)) (Rect.unit ![0, 4352] ![1024, 1280] inb_S1024x5632_S1024x1280_0_4352) (ix2 k j) = A8 m c (ix2 k ⟨4352 + j.val, by omega⟩) :=
  (ld2 _ _ _ (ix2 k ⟨4352 + j.val, by omega⟩) (by blk_ext [])).trans (wide_entry m c _ _)

/-- the gate's rows after two rows of zeros -/
abbrev P (c : Dev nD) (j : Fin 2816) (n : ℕ) : EReal := Ref.padG (A0 m c) (A1 m c) (A2 m c) (A3 m c) (A4 m c) (A5 m c) (A6 m c) (A7 m c) (A8 m c) j n

section
variable (c : Dev nD) (t : Fin cfg0.N)

theorem mix_eq (r : Fin 256) (i : Fin 1024) : mixF m c t (ix2 r i) = q31 m c (ix2 (rowOf t r) i) := by
  unfold mixF
  rw [iblk4, iblk5]
  exact mix_at _ _ _ _ _ _ _ _ r (rowOf t r) (iblk0 m c t r) (iblk1 m c t r) (iblk2 m c t r) i
theorem h_eq (r : Fin 256) (i : Fin 1024) : hF m c t (ix2 r i) = q33 m c (ix2 (rowOf t r) i) :=
  (h_at _ _ _ _ _ _ r (rowOf t r) (mix_eq m c t r) (iblk3 m c t r) (iblk6 m c t) i).trans (Ref.r33 _ _ _ _ _ _ _ _ i).symm
theorem u_eq (r : Fin 256) (i : Fin 1024) : uF m c t (ix2 r i) = q45 m c (ix2 (rowOf t r) i) := by
  refine (pay9 _ _ _ _ r i).trans (Eq.trans ?_ (Ref.r45 _ _ _ _ _ _ _ _ _ i).symm)
  rw [iblk7]
  have e : ∀ k, k0_pay8 (F := Ideal) (mixF m c t) (iblk m c 3 t) (iblk m c 6 t) (ix2 r k) = q33 m c (ix2 (rowOf t r) k) := h_eq m c t r
  simp only [e]
theorem ga_eq (r : Fin 256) (j : Fin 1536) : gA m c t (wideF (V m c main_v3)) (ix2 r j) = q47 m c (ix2 (rowOf t r) (ca j)) :=
  (gate_a _ _ _ _ _ r j).trans ((Finset.sum_congr rfl fun k _ => congrArg₂ (fun a b : EReal => a * b) (u_eq m c t r k) (wga m c k j)).trans (Ref.r47 _ _ _ _ _ _ _ _ _ (rowOf t r) (ca j)).symm)
theorem va_eq (r : Fin 256) (j : Fin 1536) : vA m c t (wideF (V m c main_v3)) (ix2 r j) = q48 m c (ix2 (rowOf t r) (ca j)) :=
  (value_a _ _ _ _ _ r j).trans ((Finset.sum_congr rfl fun k _ => congrArg₂ (fun a b : EReal => a * b) (u_eq m c t r k) (wva m c k j)).trans (Ref.r48 _ _ _ _ _ _ _ _ _ (rowOf t r) (ca j)).symm)
theorem gb_eq (r : Fin 256) (j : Fin 1280) : gB m c t (wideF (V m c main_v3)) (ix2 r j) = q47 m c (ix2 (rowOf t r) (cb j)) :=
  (gate_b _ _ r j).trans ((Finset.sum_congr rfl fun k _ => congrArg₂ (fun a b : EReal => a * b) (u_eq m c t r k) ((wgb m c k j).trans (congrArg _ (congrArg (ix2 k) (Fin.ext (rfl)))))).trans (Ref.r47 _ _ _ _ _ _ _ _ _ (rowOf t r) (cb j)).symm)
theorem vb_eq (r : Fin 256) (j : Fin 1280) : vB m c t (wideF (V m c main_v3)) (ix2 r j) = q48 m c (ix2 (rowOf t r) (cb j)) :=
  (value_b _ _ r j).trans ((Finset.sum_congr rfl fun k _ => congrArg₂ (fun a b : EReal => a * b) (u_eq m c t r k) ((wvb m c k j).trans (congrArg _ (congrArg (ix2 k) (Fin.ext (by dsimp only; omega)))))).trans (Ref.r48 _ _ _ _ _ _ _ _ _ (rowOf t r) (cb j)).symm)
theorem ge_eq (r : Fin 256) (j : Fin 1536) : gE m c t (wideF (V m c main_v3)) (ix2 r j) = q47 m c (ix2 (rowOf t r) (ca j)) :=
  (pay13 _ _ _ _ _ r j).trans (ga_eq m c t r j)

theorem P_row (r : Fin 256) (j : Fin 2816) : P m c j (t.val * 256 + r.val + 2) = q47 m c (ix2 (rowOf t r) j) := by
  have := N16 t
  have h : 2 ≤ t.val * 256 + r.val + 2 ∧ t.val * 256 + r.val + 2 < 4098 := by omega
  unfold P Ref.padG
  rw [dif_pos h]
  rfl
theorem P_zero (j : Fin 2816) (n : ℕ) (h : n < 2) : P m c j n = 0 := by
  unfold P Ref.padG
  rw [dif_neg (by omega)]

variable (C : FVec Ideal S8x2816 .f32)
/-- the last two of the rows kept over are the gate's rows `n` and `n + 1`, counted with the two rows of zeros -/
def Keeps (n : ℕ) : Prop := ∀ j, C (ix2 6 j) = P m c j n ∧ C (ix2 7 j) = P m c j (n + 1)

/-- the convolution's two parts -/
abbrev cA : FVec Ideal S256x1536 .f32 := k0_pay18 (gE m c t (wideF (V m c main_v3))) (sA m c t C (wideF (V m c main_v3))) (tA m c t C (wideF (V m c main_v3))) (View.ld (Val := Elt Ideal) (S := S3x2816) (e' := .f32) (iblk m c 8 t) (Rect.unit ![1, 0] ![1, 1536] inb_S3x2816_S1x1536_1_0)) (View.ld (Val := Elt Ideal) (S := S3x2816) (e' := .f32) (iblk m c 8 t) (Rect.unit ![2, 0] ![1, 1536] inb_S3x2816_S1x1536_2_0))
abbrev cB : FVec Ideal S256x1280 .f32 := k0_pay29 (k0_pay24 (gB m c t (wideF (V m c main_v3)))) (sB m c t C (wideF (V m c main_v3))) (tB m c t C (wideF (V m c main_v3))) (View.ld (Val := Elt Ideal) (S := S1x2816) (e' := .f32) (iblk m c 9 t) (Rect.unit ![0, 1536] ![1, 1280] inb_S1x2816_S1x1280_0_1536)) (View.ld (Val := Elt Ideal) (S := S3x2816) (e' := .f32) (iblk m c 8 t) (Rect.unit ![0, 1536] ![1, 1280] inb_S3x2816_S1x1280_0_1536)) (View.ld (Val := Elt Ideal) (S := S3x2816) (e' := .f32) (iblk m c 8 t) (Rect.unit ![1, 1536] ![1, 1280] inb_S3x2816_S1x1280_1_1536)) (View.ld (Val := Elt Ideal) (S := S3x2816) (e' := .f32) (iblk m c 8 t) (Rect.unit ![2, 1536] ![1, 1280] inb_S3x2816_S1x1280_2_1536))
/-- the activation's two parts -/
abbrev aA : FVec Ideal S256x1536 .bf16 := k0_pay19 (vA m c t (wideF (V m c main_v3))) (gE m c t (wideF (V m c main_v3))) (sA m c t C (wideF (V m c main_v3))) (tA m c t C (wideF (V m c main_v3))) (View.ld (Val := Elt Ideal) (S := S3x2816) (e' := .f32) (iblk m c 8 t) (Rect.unit ![1, 0] ![1, 1536] inb_S3x2816_S1x1536_1_0)) (View.ld (Val := Elt Ideal) (S := S3x2816) (e' := .f32) (iblk m c 8 t) (Rect.unit ![2, 0] ![1, 1536] inb_S3x2816_S1x1536_2_0))
abbrev aB : FVec Ideal S256x1280 .bf16 := k0_pay30 (vB m c t (wideF (V m c main_v3))) (k0_pay24 (gB m c t (wideF (V m c main_v3)))) (sB m c t C (wideF (V m c main_v3))) (tB m c t C (wideF (V m c main_v3))) (View.ld (Val := Elt Ideal) (S := S1x2816) (e' := .f32) (iblk m c 9 t) (Rect.unit ![0, 1536] ![1, 1280] inb_S1x2816_S1x1280_0_1536)) (View.ld (Val := Elt Ideal) (S := S3x2816) (e' := .f32) (iblk m c 8 t) (Rect.unit ![0, 1536] ![1, 1280] inb_S3x2816_S1x1280_0_1536)) (View.ld (Val := Elt Ideal) (S := S3x2816) (e' := .f32) (iblk m c 8 t) (Rect.unit ![1, 1536] ![1, 1280] inb_S3x2816_S1x1280_1_1536)) (View.ld (Val := Elt Ideal) (S := S3x2816) (e' := .f32) (iblk m c 8 t) (Rect.unit ![2, 1536] ![1, 1280] inb_S3x2816_S1x1280_2_1536))
/-- the output rows -/
abbrev xF : FVec Ideal S256x1024 .f32 := k0_pay32 (hF m c t) (yA m c t C (wideF (V m c main_v3))) (vB m c t (wideF (V m c main_v3))) (k0_pay24 (gB m c t (wideF (V m c main_v3)))) (sB m c t C (wideF (V m c main_v3))) (tB m c t C (wideF (V m c main_v3))) (View.ld (Val := Elt Ideal) (S := S1x2816) (e' := .f32) (iblk m c 9 t) (Rect.unit ![0, 1536] ![1, 1280] inb_S1x2816_S1x1280_0_1536)) (View.ld (Val := Elt Ideal) (S := S3x2816) (e' := .f32) (iblk m c 8 t) (Rect.unit ![0, 1536] ![1, 1280] inb_S3x2816_S1x1280_0_1536)) (View.ld (Val := Elt Ideal) (S := S3x2816) (e' := .f32) (iblk m c 8 t) (Rect.unit ![1, 1536] ![1, 1280] inb_S3x2816_S1x1280_1_1536)) (View.ld (Val := Elt Ideal) (S := S3x2816) (e' := .f32) (iblk m c 8 t) (Rect.unit ![2, 1536] ![1, 1280] inb_S3x2816_S1x1280_2_1536)) (View.ld (Val := Elt Ideal) (S := S2816x1024) (e' := .bf16) (iblk m c 10 t) (Rect.unit ![1536, 0] ![1280, 1024] inb_S2816x1024_S1280x1024_1536_0))

variable (hC : Keeps m c C (t.val * 256))
include hC
theorem ca_eq (r : Fin 256) (j : Fin 1536) : cA m c t C (ix2 r j) = q72 m c (ix2 (rowOf t r) (ca j)) := by
  have kC : ∀ k : Fin 8, (View.ld (Val := Elt Ideal) (S := S8x2816) (e' := .f32) C (Rect.unit ![0, 0] ![8, 1536] inb_S8x2816_S8x1536_0_0)) (ix2 k j) = C (ix2 k (ca j)) := fun k => ld2 _ _ _ _ (by blk_ext [])
  have e9 : (View.ld (Val := Elt Ideal) (S := S1x2816) (e' := .f32) (iblk m c 9 t) (Rect.unit ![0, 0] ![1, 1536] inb_S1x2816_S1x1536_0_0)) (ix2 ⟨0, by decide⟩ j) = A10 m c (ix2 ⟨0, by decide⟩ (ca j)) :=
    (ld2 _ _ _ (ix2 ⟨0, by decide⟩ (ca j)) (by blk_ext [])).trans (congrFun (iblk9 m c t) _)
  have e80 : (View.ld (Val := Elt Ideal) (S := S3x2816) (e' := .f32) (iblk m c 8 t) (Rect.unit ![0, 0] ![1, 1536] inb_S3x2816_S1x1536_0_0)) (ix2 ⟨0, by decide⟩ j) = A9 m c (ix2 ⟨0, by decide⟩ (ca j)) :=
    (ld2 _ _ _ (ix2 ⟨0, by decide⟩ (ca j)) (by blk_ext [])).trans (congrFun (iblk8 m c t) _)
  have e81 : (View.ld (Val := Elt Ideal) (S := S3x2816) (e' := .f32) (iblk m c 8 t) (Rect.unit ![1, 0] ![1, 1536] inb_S3x2816_S1x1536_1_0)) (ix2 ⟨0, by decide⟩ j) = A9 m c (ix2 1 (ca j)) :=
    (ld2 _ _ _ (ix2 1 (ca j)) (by blk_ext [])).trans (congrFun (iblk8 m c t) _)
  have e82 : (View.ld (Val := Elt Ideal) (S := S3x2816) (e' := .f32) (iblk m c 8 t) (Rect.unit ![2, 0] ![1, 1536] inb_S3x2816_S1x1536_2_0)) (ix2 ⟨0, by decide⟩ j) = A9 m c (ix2 2 (ca j)) :=
    (ld2 _ _ _ (ix2 2 (ca j)) (by blk_ext [])).trans (congrFun (iblk8 m c t) _)
  refine (conv_a _ _ _ _ _ _ (P m c (ca j)) (t.val * 256) r j ((kC 6).trans (hC _).1) ((kC 7).trans (hC _).2)
    (fun r => (ge_eq m c t r j).trans (P_row m c t r _).symm)).trans ?_
  rw [e9, e80, e81, e82]
  exact (Ref.r72 _ _ _ _ _ _ _ _ _ _ _ (rowOf t r) (ca j)).symm
theorem cb_eq (r : Fin 256) (j : Fin 1280) : cB m c t C (ix2 r j) = q72 m c (ix2 (rowOf t r) (cb j)) := by
  have kC : ∀ k : Fin 8, (View.ld (Val := Elt Ideal) (S := S8x2816) (e' := .f32) C (Rect.unit ![0, 1536] ![8, 1280] inb_S8x2816_S8x1280_0_1536)) (ix2 k j) = C (ix2 k (cb j)) := fun k => ld2 _ _ _ _ (by blk_ext [])
  have e9 : (View.ld (Val := Elt Ideal) (S := S1x2816) (e' := .f32) (iblk m c 9 t) (Rect.unit ![0, 1536] ![1, 1280] inb_S1x2816_S1x1280_0_1536)) (ix2 ⟨0, by decide⟩ j) = A10 m c (ix2 ⟨0, by decide⟩ (cb j)) :=
    (ld2 _ _ _ (ix2 ⟨0, by decide⟩ (cb j)) (by blk_ext [])).trans (congrFun (iblk9 m c t) _)
  have e80 : (View.ld (Val := Elt Ideal) (S := S3x2816) (e' := .f32) (iblk m c 8 t) (Rect.unit ![0, 1536] ![1, 1280] inb_S3x2816_S1x1280_0_1536)) (ix2 ⟨0, by decide⟩ j) = A9 m c (ix2 ⟨0, by decide⟩ (cb j)) :=
    (ld2 _ _ _ (ix2 ⟨0, by decide⟩ (cb j)) (by blk_ext [])).trans (congrFun (iblk8 m c t) _)
  have e81 : (View.ld (Val := Elt Ideal) (S := S3x2816) (e' := .f32) (iblk m c 8 t) (Rect.unit ![1, 1536] ![1, 1280] inb_S3x2816_S1x1280_1_1536)) (ix2 ⟨0, by decide⟩ j) = A9 m c (ix2 1 (cb j)) :=
    (ld2 _ _ _ (ix2 1 (cb j)) (by blk_ext [])).trans (congrFun (iblk8 m c t) _)
  have e82 : (View.ld (Val := Elt Ideal) (S := S3x2816) (e' := .f32) (iblk m c 8 t) (Rect.unit ![2, 1536] ![1, 1280] inb_S3x2816_S1x1280_2_1536)) (ix2 ⟨0, by decide⟩ j) = A9 m c (ix2 2 (cb j)) :=
    (ld2 _ _ _ (ix2 2 (cb j)) (by blk_ext [])).trans (congrFun (iblk8 m c t) _)
  refine (conv_b _ _ _ _ _ _ (P m c (cb j)) (t.val * 256) r j ((kC 6).trans (hC _).1) ((kC 7).trans (hC _).2)
    (fun r => (gb_eq m c t r j).trans (P_row m c t r _).symm)).trans ?_
  rw [e9, e80, e81, e82]
  exact (Ref.r72 _ _ _ _ _ _ _ _ _ _ _ (rowOf t r) (cb j)).symm
theorem aa_eq (r : Fin 256) (j : Fin 1536) : aA m c t C (ix2 r j) = q80 m c (ix2 (rowOf t r) (ca j)) :=
  (act_a _ _ _ _ _ _ r j).trans ((congrArg₂ actF (ca_eq m c t C hC r j) (va_eq m c t r j)).trans (Ref.r80 _ _ _ _ _ _ _ _ _ _ _ _ _).symm)
theorem ab_eq (r : Fin 256) (j : Fin 1280) : aB m c t C (ix2 r j) = q80 m c (ix2 (rowOf t r) (cb j)) :=
  (act_b _ _ _ _ _ _ _ _ r j).trans ((congrArg₂ actF (cb_eq m c t C hC r j) (vb_eq m c t r j)).trans (Ref.r80 _ _ _ _ _ _ _ _ _ _ _ _ _).symm)

theorem x_eq (r : Fin 256) (i : Fin 1024) : xF m c t C (ix2 r i) = q82 m c (ix2 (rowOf t r) i) := by
  have ea : ∀ j : Fin 1536, (View.ld (Val := Elt Ideal) (S := S2816x1024) (e' := .bf16) (iblk m c 10 t) (Rect.unit ![0, 0] ![1536, 1024] inb_S2816x1024_S1536x1024_0_0)) (ix2 j i) = A11 m c (ix2 (ca j) i) := fun j =>
    (ld2 _ _ _ (ix2 (ca j) i) (by blk_ext [])).trans (iblk10 m c t _ _)
  have eb : ∀ j : Fin 1280, (View.ld (Val := Elt Ideal) (S := S2816x1024) (e' := .bf16) (iblk m c 10 t) (Rect.unit ![1536, 0] ![1280, 1024] inb_S2816x1024_S1280x1024_1536_0)) (ix2 j i) = A11 m c (ix2 (cb j) i) := fun j =>
    (ld2 _ _ _ (ix2 (cb j) i) (by blk_ext [])).trans (iblk10 m c t _ _)
  refine (down_b _ _ _ _ _ _ _ _ _ _ _ r i).trans (Eq.trans ?_ (Ref.r82 _ _ _ _ _ _ _ _ _ _ _ _ (rowOf t r) i).symm)
  refine congrArg₂ (fun a b : EReal => a + b) (h_eq m c t r i) (Eq.trans ?_ (Fin.sum_univ_add (a := 1536) (b := 1280)
    (fun j : Fin 2816 => q80 m c (ix2 (rowOf t r) j) * A11 m c (ix2 j i))).symm)
  refine congrArg₂ (fun a b : EReal => a + b) ((down_a _ _ _ _ _ _ _ r i).trans ?_) ?_
  · exact Finset.sum_congr rfl fun j _ => congrArg₂ (fun a b : EReal => a * b) (aa_eq m c t C hC r j) (ea j)
  · exact Finset.sum_congr rfl fun j _ => congrArg₂ (fun a b : EReal => a * b) (ab_eq m c t C hC r j) (eb j)

/-- the reciprocal root of a row of the output -/
abbrev rY (n : Fin 4096) : EReal := Ref.rY (A0 m c) (A1 m c) (A2 m c) (A3 m c) (A4 m c) (A5 m c) (A6 m c) (A7 m c) (A8 m c) (A9 m c) (A10 m c) (A11 m c) n

theorem r_eq (r : Fin 256) : Cert.Norm.rms (∑ k : Fin 1024, xF m c t C (ix2 r k) * xF m c t C (ix2 r k)) = rY m c (rowOf t r) :=
  congrArg Cert.Norm.rms (Finset.sum_congr rfl fun k _ => congrArg (fun a : EReal => a * a) (x_eq m c t C hC r k))

theorem n_eq (r : Fin 256) (i : Fin 1024) : nF m c t C (wideF (V m c main_v3)) (ix2 r i) = q95 m c (ix2 (rowOf t r) i) :=
  (pay34 _ _ _ _ _ _ _ _ _ _ _ _ rfl r i).trans ((congrArg₂ (fun a b : EReal => a * b) (x_eq m c t C hC r i) (r_eq m c t C hC r)).trans (Ref.r95 _ _ _ _ _ _ _ _ _ _ _ _ _ _).symm)

theorem e_eq (r : Fin 256) (i : Fin 1024) : k0_pay35 (F := Ideal) (nF m c t C (wideF (V m c main_v3))) (iblk m c 11 t) (iblk m c 12 t) (ix2 r i) = q98 m c (ix2 (rowOf t r) i) := by
  refine (pay35 _ _ _ r i).trans (Eq.trans ?_ (Ref.r98 _ _ _ _ _ _ _ _ _ _ _ _ _ _ _ _).symm)
  rw [n_eq m c t C hC, iblk11, iblk12]

theorem d_eq (r : Fin 256) (i : Fin 1024) : (ptF m c t C (wideF (V m c main_v3)) k0_pay2 k0_pay3 []).2.2.2.2.2.2.2.1 (ix2 r i) = q131 m c (ix2 (rowOf t r) i) := by
  refine (pay39 _ _ _ _ r i).trans (Eq.trans ?_ (Ref.r131 _ _ _ _ _ _ _ _ _ _ _ _ _ _ _ _).symm)
  rw [pay33 _ _ _ _ _ _ _ _ _ _ _ _ rfl r, r_eq m c t C hC]
  have e : ∀ k, k0_pay35 (F := Ideal) (nF m c t C (wideF (V m c main_v3))) (iblk m c 11 t) (iblk m c 12 t) (ix2 r k) * Ideal.ofBits .f32 0x3A800000#32 = q112 m c (ix2 (rowOf t r) k) := fun k => by
    refine Eq.trans ?_ (Ref.r112 _ _ _ _ _ _ _ _ _ _ _ _ _ _ _ _).symm
    rw [e_eq m c t C hC]
  simp only [e, n_eq m c t C hC]
  rw [iblk11]

theorem l_step (L : FVec Ideal S1x128 .f32) (i : Fin 128) : k0_pay36 (F := Ideal) (nF m c t C (wideF (V m c main_v3))) (iblk m c 11 t) (iblk m c 12 t) L (ix2 ⟨0, by decide⟩ i)
    = L (ix2 ⟨0, by decide⟩ i) + (∑ r : Fin 256, ∑ k : Fin 1024, q98 m c (ix2 (rowOf t r) k) * q98 m c (ix2 (rowOf t r) k)) * Ideal.ofBits .f32 0x3A000000#32 := by
  refine (pay36 _ _ _ _ i).trans ?_
  simp only [e_eq m c t C hC]

theorem g_step (D : FVec Ideal S1x1024 .f32) (i : Fin 1024) : k0_pay38 (F := Ideal) (nF m c t C (wideF (V m c main_v3))) (iblk m c 11 t) (iblk m c 12 t) D (ix2 ⟨0, by decide⟩ i)
    = D (ix2 ⟨0, by decide⟩ i) + ∑ r : Fin 256, q95 m c (ix2 (rowOf t r) i) * q112 m c (ix2 (rowOf t r) i) := by
  refine (pay38 _ _ _ _ i).trans (congrArg (fun z : EReal => _ + z) (Finset.sum_congr rfl fun r _ => ?_))
  rw [e_eq m c t C hC, n_eq m c t C hC, mul_comm]
  exact congrArg (fun z : EReal => _ * z) (Ref.r112 _ _ _ _ _ _ _ _ _ _ _ _ _ _ _ _).symm
end

theorem zero1 (i : Fin 8) (j : Fin 2816) : k0_pay1 (F := Ideal) (ix2 i j) = 0 := by
  pointwise [k0_pay1]
theorem zero2 (i : Fin 128) : k0_pay2 (F := Ideal) (ix2 ⟨0, by decide⟩ i) = 0 := by
  pointwise [k0_pay2]
theorem zero3 (i : Fin 1024) : k0_pay3 (F := Ideal) (ix2 ⟨0, by decide⟩ i) = 0 := by
  pointwise [k0_pay3]

/-- at the first point the rows kept over are zeros -/
theorem keeps_zero (c : Dev nD) (t : Fin cfg0.N) (h0 : t.val % 16 = 0) : Keeps m c k0_pay1 (t.val * 256) := fun j => by
  have := N16 t
  have h : t.val = 0 := by omega
  rw [h, P_zero m c j _ (by omega), P_zero m c j _ (by omega)]
  exact ⟨zero1 _ _, zero1 _ _⟩

/-- a point keeps the last rows of its gate -/
theorem keeps_next (c : Dev nD) (t : Fin cfg0.N) (C : FVec Ideal S8x2816 .f32) (L : FVec Ideal S1x128 .f32) (D : FVec Ideal S1x1024 .f32)
    (T : List (View.Piece (Elt Ideal) S8x2816 .f32)) : Keeps m c (ptF m c t C (wideF (V m c main_v3)) L D T).2.2.2.2.2.2.2.2.2.2.1 (t.val * 256 + 256) := by
  have e := keep_at (k0_pay28 (gB m c t (wideF (V m c main_v3)))) (k0_pay16 (gE m c t (wideF (V m c main_v3)))) T (fun r j => q47 m c (ix2 (rowOf t ⟨248 + r.val, by omega⟩) j)) (fun r j => (pay28 _ r j).trans (gb_eq m c t _ j)) (fun r j => (pay16 _ r j).trans (ge_eq m c t _ j))
  unfold ptF
  dsimp only
  exact fun j => ⟨(e (ix2 6 j)).trans (P_row m c t 254 j).symm, (e (ix2 7 j)).trans (P_row m c t 255 j).symm⟩

theorem carried (c : Dev nD) : ∀ (n : ℕ) (h : n < cfg0.N), (outsAt0 (F := Ideal) m c n h).2.2.2.2.2.2.2.2.2.2.2 = (wideF (V m c main_v3)) ∧ Keeps m c (outsAt0 (F := Ideal) m c n h).2.2.2.2.2.2.2.2.2.2.1 (n * 256 + 256)
  | 0, h => by
    rw [ptA m c ⟨0, h⟩ rfl]
    exact ⟨rfl, keeps_next m c ⟨0, h⟩ _ _ _ _⟩
  | n + 1, h => by
    by_cases h0 : (n + 1) % 16 = 0
    · rw [ptA m c ⟨n + 1, h⟩ h0]
      exact ⟨rfl, keeps_next m c ⟨n + 1, h⟩ _ _ _ _⟩
    · have i := (carried c n (Nat.lt_of_succ_lt h)).1
      rw [ptB m c ⟨n + 1, h⟩ h0 _ rfl]
      refine ⟨i, ?_⟩
      show Keeps m c (ptF m c ⟨n + 1, h⟩ (outsAt0 (F := Ideal) m c n (Nat.lt_of_succ_lt h)).2.2.2.2.2.2.2.2.2.2.1 (outsAt0 (F := Ideal) m c n (Nat.lt_of_succ_lt h)).2.2.2.2.2.2.2.2.2.2.2 _ _ []).2.2.2.2.2.2.2.2.2.2.1 _
      rw [i]
      exact keeps_next m c ⟨n + 1, h⟩ _ _ _ _

/-- a later point, from the one before it -/
theorem pt_step (c : Dev nD) (t : Fin cfg0.N) (h0 : ¬t.val % 16 = 0) (Q : _)
    (hQ : outsAt0 (F := Ideal) m c (t.val - 1) (Nat.lt_of_le_of_lt (Nat.sub_le _ _) t.isLt) = Q) :
    outsAt0 (F := Ideal) m c t.val t.isLt = ptF m c t Q.2.2.2.2.2.2.2.2.2.2.1 (wideF (V m c main_v3)) Q.2.2.2.2.2.2.2.2.1 Q.2.2.2.2.2.2.2.2.2.1 [] ∧ Keeps m c Q.2.2.2.2.2.2.2.2.2.2.1 (t.val * 256) := by
  have i := carried m c (t.val - 1) (Nat.lt_of_le_of_lt (Nat.sub_le _ _) t.isLt)
  rw [hQ] at i
  have e : (t.val - 1) * 256 + 256 = t.val * 256 := by omega
  rw [e] at i
  refine ⟨?_, i.2⟩
  rw [ptB m c t h0 Q hQ, i.1]

/-- any point -/
theorem pt_any (c : Dev nD) (t : Fin cfg0.N) : ∃ C L D T, outsAt0 (F := Ideal) m c t.val t.isLt = ptF m c t C (wideF (V m c main_v3)) L D T ∧ Keeps m c C (t.val * 256) := by
  by_cases h0 : t.val % 16 = 0
  · exact ⟨_, _, _, _, ptA m c t h0, keeps_zero m c t h0⟩
  · exact ⟨_, _, _, _, pt_step m c t h0 _ rfl⟩

theorem out13 (c : Dev nD) (t : Fin cfg0.N) (y : S256x1024.Idx) : (outsAt0 (F := Ideal) m c t.val t.isLt).1 y = q33 m c (ix2 (rowOf t ⟨(y 0).val, (y 0).isLt⟩) ⟨(y 1).val, (y 1).isLt⟩) := by
  obtain ⟨C, L, D, T, e, hC⟩ := pt_any m c t
  rw [e]
  idx_vars y
  exact h_eq m c t y0 y1
theorem kout13 (c : Dev nD) : (dats m 0 c).arrAt 13 cfg0.N = q33 m c := by
  refine (dats m 0 c).arrAt_eq_of_covers 13 _ (by decide +kernel) fun t hf y => ?_
  blk_simp
  refine (out13 m c t y).trans (congrArg (q33 m c) ?_)
  unfold rowOf
  blk_ext [idx_val t]
theorem out14 (c : Dev nD) (t : Fin cfg0.N) (y : S256x1024.Idx) : (outsAt0 (F := Ideal) m c t.val t.isLt).2.1 y = q31 m c (ix2 (rowOf t ⟨(y 0).val, (y 0).isLt⟩) ⟨(y 1).val, (y 1).isLt⟩) := by
  obtain ⟨C, L, D, T, e, hC⟩ := pt_any m c t
  rw [e]
  idx_vars y
  exact mix_eq m c t y0 y1
theorem kout14 (c : Dev nD) : (dats m 0 c).arrAt 14 cfg0.N = q31 m c := by
  refine (dats m 0 c).arrAt_eq_of_covers 14 _ (by decide +kernel) fun t hf y => ?_
  blk_simp
  refine (out14 m c t y).trans (congrArg (q31 m c) ?_)
  unfold rowOf
  blk_ext [idx_val t]
theorem out15 (c : Dev nD) (t : Fin cfg0.N) (y : S256x1024.Idx) : (outsAt0 (F := Ideal) m c t.val t.isLt).2.2.1 y = q45 m c (ix2 (rowOf t ⟨(y 0).val, (y 0).isLt⟩) ⟨(y 1).val, (y 1).isLt⟩) := by
  obtain ⟨C, L, D, T, e, hC⟩ := pt_any m c t
  rw [e]
  idx_vars y
  exact u_eq m c t y0 y1
theorem kout15 (c : Dev nD) : (dats m 0 c).arrAt 15 cfg0.N = q45 m c := by
  refine (dats m 0 c).arrAt_eq_of_covers 15 _ (by decide +kernel) fun t hf y => ?_
  blk_simp
  refine (out15 m c t y).trans (congrArg (q45 m c) ?_)
  unfold rowOf
  blk_ext [idx_val t]
theorem out20 (c : Dev nD) (t : Fin cfg0.N) (y : S256x1024.Idx) : (outsAt0 (F := Ideal) m c t.val t.isLt).2.2.2.2.2.2.2.1 y = q131 m c (ix2 (rowOf t ⟨(y 0).val, (y 0).isLt⟩) ⟨(y 1).val, (y 1).isLt⟩) := by
  obtain ⟨C, L, D, T, e, hC⟩ := pt_any m c t
  rw [e]
  idx_vars y
  exact d_eq m c t C hC y0 y1
theorem kout20 (c : Dev nD) : (dats m 0 c).arrAt 20 cfg0.N = q131 m c := by
  refine (dats m 0 c).arrAt_eq_of_covers 20 _ (by decide +kernel) fun t hf y => ?_
  blk_simp
  refine (out20 m c t y).trans (congrArg (q131 m c) ?_)
  unfold rowOf
  blk_ext [idx_val t]
theorem out16 (c : Dev nD) (t : Fin cfg0.N) (y : S256x2816.Idx) : (outsAt0 (F := Ideal) m c t.val t.isLt).2.2.2.1 y = q47 m c (ix2 (rowOf t ⟨(y 0).val, (y 0).isLt⟩) ⟨(y 1).val, (y 1).isLt⟩) := by
  obtain ⟨C, L, D, T, e, hC⟩ := pt_any m c t
  rw [e]
  unfold ptF
  dsimp only
  exact two_at _ _ (fun r j => q47 m c (ix2 (rowOf t r) j)) (fun r j => gb_eq m c t r j) (fun r j => ga_eq m c t r j) y
theorem kout16 (c : Dev nD) : (dats m 0 c).arrAt 16 cfg0.N = q47 m c := by
  refine (dats m 0 c).arrAt_eq_of_covers 16 _ (by decide +kernel) fun t hf y => ?_
  blk_simp
  refine (out16 m c t y).trans (congrArg (q47 m c) ?_)
  unfold rowOf
  blk_ext [idx_val t]
theorem out17 (c : Dev nD) (t : Fin cfg0.N) (y : S256x2816.Idx) : (outsAt0 (F := Ideal) m c t.val t.isLt).2.2.2.2.1 y = q48 m c (ix2 (rowOf t ⟨(y 0).val, (y 0).isLt⟩) ⟨(y 1).val, (y 1).isLt⟩) := by
  obtain ⟨C, L, D, T, e, hC⟩ := pt_any m c t
  rw [e]
  unfold ptF
  dsimp only
  exact two_at _ _ (fun r j => q48 m c (ix2 (rowOf t r) j)) (fun r j => vb_eq m c t r j) (fun r j => va_eq m c t r j) y
theorem kout17 (c : Dev nD) : (dats m 0 c).arrAt 17 cfg0.N = q48 m c := by
  refine (dats m 0 c).arrAt_eq_of_covers 17 _ (by decide +kernel) fun t hf y => ?_
  blk_simp
  refine (out17 m c t y).trans (congrArg (q48 m c) ?_)
  unfold rowOf
  blk_ext [idx_val t]
theorem out18 (c : Dev nD) (t : Fin cfg0.N) (y : S256x2816.Idx) : (outsAt0 (F := Ideal) m c t.val t.isLt).2.2.2.2.2.1 y = q72 m c (ix2 (rowOf t ⟨(y 0).val, (y 0).isLt⟩) ⟨(y 1).val, (y 1).isLt⟩) := by
  obtain ⟨C, L, D, T, e, hC⟩ := pt_any m c t
  rw [e]
  unfold ptF
  dsimp only
  exact two_at _ _ (fun r j => q72 m c (ix2 (rowOf t r) j)) (fun r j => (pay31 _ _ _ _ _ _ _ r j).trans (cb_eq m c t C hC r j)) (fun r j => (pay20 _ _ _ _ _ r j).trans (ca_eq m c t C hC r j)) y
theorem kout18 (c : Dev nD) : (dats m 0 c).arrAt 18 cfg0.N = q72 m c := by
  refine (dats m 0 c).arrAt_eq_of_covers 18 _ (by decide +kernel) fun t hf y => ?_
  blk_simp
  refine (out18 m c t y).trans (congrArg (q72 m c) ?_)
  unfold rowOf
  blk_ext [idx_val t]
theorem out19 (c : Dev nD) (t : Fin cfg0.N) (y : S256x2816.Idx) : (outsAt0 (F := Ideal) m c t.val t.isLt).2.2.2.2.2.2.1 y = q80 m c (ix2 (rowOf t ⟨(y 0).val, (y 0).isLt⟩) ⟨(y 1).val, (y 1).isLt⟩) := by
  obtain ⟨C, L, D, T, e, hC⟩ := pt_any m c t
  rw [e]
  unfold ptF
  dsimp only
  exact two_at _ _ (fun r j => q80 m c (ix2 (rowOf t r) j)) (fun r j => ab_eq m c t C hC r j) (fun r j => aa_eq m c t C hC r j) y
theorem kout19 (c : Dev nD) : (dats m 0 c).arrAt 19 cfg0.N = q80 m c := by
  refine (dats m 0 c).arrAt_eq_of_covers 19 _ (by decide +kernel) fun t hf y => ?_
  blk_simp
  refine (out19 m c t y).trans (congrArg (q80 m c) ?_)
  unfold rowOf
  blk_ext [idx_val t]

theorem flush21 (t : Fin cfg0.N) (h : (cfg0.win 21).flush t = true) : t.val = 15 := by
  have key : ∀ t : Fin grid0.N, (cfg0.win 21).flush t = true → t.val = 15 := by decide +kernel
  exact key t h
theorem out21 (c : Dev nD) (t : Fin cfg0.N) (ht : t.val = 15) (y : S1x128.Idx) : (outsAt0 (F := Ideal) m c t.val t.isLt).2.2.2.2.2.2.2.2.1 y = q138 m c (ix2 ⟨0, by decide⟩ ⟨(y 1).val, (y 1).isLt⟩) := by
  rw [Pipeline.eq_sum_fin_of_reset_step_apply_last (fun n h => (outsAt0 (F := Ideal) m c n h).2.2.2.2.2.2.2.2.1) 16 (fun _ => (0 : EReal))
    (fun t y => (∑ r : Fin 256, ∑ k : Fin 1024, q98 m c (ix2 (rowOf t r) k) * q98 m c (ix2 (rowOf t r) k)) * Ideal.ofBits .f32 0x3A000000#32) ?hA ?hB (le_of_eq N_0) t (ht ▸ rfl) y]
  case hA =>
    intro t h0 y
    have e := congrFun (congrArg (fun p => p.2.2.2.2.2.2.2.2.1) (ptA m c t h0)) y
    idx_vars y
    obtain rfl : y0 = ⟨0, by decide⟩ := Subsingleton.elim _ _
    exact e.trans ((l_step m c t _ (keeps_zero m c t h0) _ y1).trans (congrArg (fun z : EReal => z + _) (zero2 y1)))
  case hB =>
    intro t h0 y
    have s := pt_step m c t h0 _ rfl
    have e := congrFun (congrArg (fun p => p.2.2.2.2.2.2.2.2.1) s.1) y
    idx_vars y
    obtain rfl : y0 = ⟨0, by decide⟩ := Subsingleton.elim _ _
    exact e.trans (l_step m c t _ s.2 _ y1)
  rw [zero_add]
  idx_vars y
  refine Eq.trans ?_ (Ref.r106 _ _ _ _ _ _ _ _ _ _ _ _ _ _ y1).symm
  rw [Ref.half_n, Cert.Norm.sum_mul_coe _ _ (by norm_num)]
  exact congrArg (fun z : EReal => z * _) (Fin.sum_mul_add_fin 16 256 (fun n : Fin 4096 => ∑ k : Fin 1024, q98 m c (ix2 n k) * q98 m c (ix2 n k)))
theorem kout21 (c : Dev nD) : (dats m 0 c).arrAt 21 cfg0.N = q138 m c := by
  refine (dats m 0 c).arrAt_eq_of_covers 21 _ (by decide +kernel) fun t hf y => ?_
  have ht := flush21 t hf
  blk_simp
  refine (out21 m c t ht y).trans (congrArg (q138 m c) ?_)
  blk_ext [idx_val t]

theorem flush22 (t : Fin cfg0.N) (h : (cfg0.win 22).flush t = true) : t.val = 15 := by
  have key : ∀ t : Fin grid0.N, (cfg0.win 22).flush t = true → t.val = 15 := by decide +kernel
  exact key t h
theorem out22 (c : Dev nD) (t : Fin cfg0.N) (ht : t.val = 15) (y : S1x1024.Idx) : (outsAt0 (F := Ideal) m c t.val t.isLt).2.2.2.2.2.2.2.2.2.1 y = q115 m c (ix2 ⟨0, by decide⟩ ⟨(y 1).val, (y 1).isLt⟩) := by
  rw [Pipeline.eq_sum_fin_of_reset_step_apply_last (fun n h => (outsAt0 (F := Ideal) m c n h).2.2.2.2.2.2.2.2.2.1) 16 (fun _ => (0 : EReal))
    (fun t y => ∑ r : Fin 256, q95 m c (ix2 (rowOf t r) ⟨(y 1).val, (y 1).isLt⟩) * q112 m c (ix2 (rowOf t r) ⟨(y 1).val, (y 1).isLt⟩)) ?hA ?hB (le_of_eq N_0) t (ht ▸ rfl) y]
  case hA =>
    intro t h0 y
    have e := congrFun (congrArg (fun p => p.2.2.2.2.2.2.2.2.2.1) (ptA m c t h0)) y
    idx_vars y
    obtain rfl : y0 = ⟨0, by decide⟩ := Subsingleton.elim _ _
    exact e.trans ((g_step m c t _ (keeps_zero m c t h0) _ y1).trans (congrArg (fun z : EReal => z + _) (zero3 y1)))
  case hB =>
    intro t h0 y
    have s := pt_step m c t h0 _ rfl
    have e := congrFun (congrArg (fun p => p.2.2.2.2.2.2.2.2.2.1) s.1) y
    idx_vars y
    obtain rfl : y0 = ⟨0, by decide⟩ := Subsingleton.elim _ _
    exact e.trans (g_step m c t _ s.2 _ y1)
  rw [zero_add]
  idx_vars y
  refine Eq.trans ?_ (Ref.r115 _ _ _ _ _ _ _ _ _ _ _ _ _ _ y1).symm
  exact Fin.sum_mul_add_fin 16 256 (fun n : Fin 4096 => q95 m c (ix2 n y1) * q112 m c (ix2 n y1))
theorem kout22 (c : Dev nD) : (dats m 0 c).arrAt 22 cfg0.N = q115 m c := by
  refine (dats m 0 c).arrAt_eq_of_covers 22 _ (by decide +kernel) fun t hf y => ?_
  have ht := flush22 t hf
  blk_simp
  refine (out22 m c t ht y).trans (congrArg (q115 m c) ?_)
  blk_ext [idx_val t]
theorem res14 (c : Dev nD) : (dats m 0 c).arrAt 14 cfg0.N = Cert.Reference5Ideal.Read.val_main_v132 (F := Ideal) (A0 m c) (A1 m c) (A2 m c) (A4 m c) (A5 m c) := by
  rw [kout14]
  unfold q31 Cert.Reference5Ideal.Read.val_main_v132
  generalize Cert.Reference5Ideal.Read.val_main_v31 (F := Ideal) (A0 m c) (A1 m c) (A2 m c) (A4 m c) (A5 m c) = M
  funext y
  idx_vars y
  pointwise []
theorem res15 (c : Dev nD) : (dats m 0 c).arrAt 15 cfg0.N = Cert.Reference5Ideal.Read.val_main_v133 (F := Ideal) (A0 m c) (A1 m c) (A2 m c) (A3 m c) (A4 m c) (A5 m c) (A6 m c) (A7 m c) := by
  rw [kout15]
  unfold q45 Cert.Reference5Ideal.Read.val_main_v133
  generalize Cert.Reference5Ideal.Read.val_main_v45 (F := Ideal) (A0 m c) (A1 m c) (A2 m c) (A3 m c) (A4 m c) (A5 m c) (A6 m c) (A7 m c) = M
  funext y
  idx_vars y
  pointwise []
theorem res16 (c : Dev nD) : (dats m 0 c).arrAt 16 cfg0.N = Cert.Reference5Ideal.Read.val_main_v134 (F := Ideal) (A0 m c) (A1 m c) (A2 m c) (A3 m c) (A4 m c) (A5 m c) (A6 m c) (A7 m c) (A8 m c) := by
  rw [kout16]
  unfold q47 Cert.Reference5Ideal.Read.val_main_v134
  generalize Cert.Reference5Ideal.Read.val_main_v47 (F := Ideal) (A0 m c) (A1 m c) (A2 m c) (A3 m c) (A4 m c) (A5 m c) (A6 m c) (A7 m c) (A8 m c) = M
  funext y
  idx_vars y
  pointwise []
theorem res17 (c : Dev nD) : (dats m 0 c).arrAt 17 cfg0.N = Cert.Reference5Ideal.Read.val_main_v135 (F := Ideal) (A0 m c) (A1 m c) (A2 m c) (A3 m c) (A4 m c) (A5 m c) (A6 m c) (A7 m c) (A8 m c) := by
  rw [kout17]
  unfold q48 Cert.Reference5Ideal.Read.val_main_v135
  generalize Cert.Reference5Ideal.Read.val_main_v48 (F := Ideal) (A0 m c) (A1 m c) (A2 m c) (A3 m c) (A4 m c) (A5 m c) (A6 m c) (A7 m c) (A8 m c) = M
  funext y
  idx_vars y
  pointwise []
theorem res18 (c : Dev nD) : (dats m 0 c).arrAt 18 cfg0.N = Cert.Reference5Ideal.Read.val_main_v136 (F := Ideal) (A0 m c) (A1 m c) (A2 m c) (A3 m c) (A4 m c) (A5 m c) (A6 m c) (A7 m c) (A8 m c) (A9 m c) (A10 m c) := by
  rw [kout18]
  unfold q72 Cert.Reference5Ideal.Read.val_main_v136
  generalize Cert.Reference5Ideal.Read.val_main_v72 (F := Ideal) (A0 m c) (A1 m c) (A2 m c) (A3 m c) (A4 m c) (A5 m c) (A6 m c) (A7 m c) (A8 m c) (A9 m c) (A10 m c) = M
  funext y
  idx_vars y
  pointwise []
theorem res19 (c : Dev nD) : (dats m 0 c).arrAt 19 cfg0.N = Cert.Reference5Ideal.Read.val_main_v137 (F := Ideal) (A0 m c) (A1 m c) (A2 m c) (A3 m c) (A4 m c) (A5 m c) (A6 m c) (A7 m c) (A8 m c) (A9 m c) (A10 m c) := by
  rw [kout19]
  unfold q80 Cert.Reference5Ideal.Read.val_main_v137
  generalize Cert.Reference5Ideal.Read.val_main_v80 (F := Ideal) (A0 m c) (A1 m c) (A2 m c) (A3 m c) (A4 m c) (A5 m c) (A6 m c) (A7 m c) (A8 m c) (A9 m c) (A10 m c) = M
  funext y
  idx_vars y
  pointwise []

end Cert.Kernel5Ideal.Fwd
end
-- ==== Proof.InProjA.lean ====
module

public import proofs.«01_k».proof.Proof.Gen.Kernel6Ideal.Frame.Runs
public import Idealize.ShloMosaic.Lib.Claim

@[expose] public section
set_option maxRecDepth 16384
noncomputable section
namespace Cert.Kernel6Ideal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen
variable {F : FTy → Type} [FloatOps F]
local notation "𝕄" => MT nD τ sig Unit (Elt F) ℕ (Pipeline.UD sig nD τ) ℕ
variable (c : Dev nD) (i : grid0.Coords) {arg1 : Memref sig .tc .vmem S512x1024 .f32} {arg2 : Memref sig .tc .vmem S1x1024 .f32} {arg4 : Memref sig .tc .vmem S512x1024 .bf16} {arg5 : Memref sig .tc .vmem S512x1536 .f32} {arg6 : Memref sig .tc .vmem S512x2048 .f32} {arg7 : Memref sig .tc .vmem S1024x3584 .bf16}
  (harg1 : arg1.IsWhole) (harg2 : arg2.IsWhole) (harg4 : arg4.IsWhole) (harg5 : arg5.IsWhole) (harg6 : arg6.IsWhole) (harg7 : arg7.IsWhole)
section
variable (hc0 : cond0_0 i) (x0 : Vec F S512x1024 .f32) (x1 : Vec F S1x1024 .f32) (fh0 : HbBuf0 (F := F) c hbM0_0)
set_option maxHeartbeats 2000000 in
/-- The run of the body in case A, and the pieces it leaves. -/
noncomputable def kernelRun0_A :
    Σ' (L2 : List (View.Piece (Elt F) S512x1024 .bf16)), Σ' (L3 : List (View.Piece (Elt F) S512x1536 .f32)), Σ' (L4 : List (View.Piece (Elt F) S512x2048 .f32)), { LS0 : List (View.Piece (Elt F) S1024x3584 .bf16) //
      ∀ (W : Waits sig Unit) (K : PUnit → sProp 𝕄),
        iprop(owns (c : Thread nD τ) arg1 fullShare x0 ∗ owns (c : Thread nD τ) arg2 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ hbPt0 c hbM0_0 fh0 ∗ owes (c : Thread nD τ) 0 W
            ∗ (iprop(owns (c : Thread nD τ) arg1 fullShare x0 ∗ owns (c : Thread nD τ) arg2 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ hbPt0 c hbM0_0 fh0 ∗ (∃ W', owes (c : Thread nD τ) 0 W')) -∗ K ⟨⟩))
          ⊢ wp frame (wpE (defs₀ (F := F)) Variants.none c none) Set.univ (cc0_in_proj i arg1 harg1 arg2 harg2 (Memref.whole main_v2) (Memref.isWhole_whole _) arg4 harg4 arg5 harg5 arg6 harg6 arg7 harg7 cc0_scratch1) K } := by
  refine ⟨?_, ?_, ?_, ?_, fun W K => ?run⟩
  case run =>
    simp only [cc0_in_proj_eq_skeleton]; unfold cc0_in_proj_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%ds0, %fs0, -, HS0⟩, Hq0, Hq1, Hq2, Hq3, Hh0, HW, Hk⟩
    obtain rfl := harg1.eq_unread hf0; obtain rfl := harg2.eq_unread hf1
    set_option sl_exec.dmaWindow true in
    set_option sl_exec.dmaWindowSet true in
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [HS0]; · iexists _; iexact HS0
    iframe Hq0 Hq1 Hq2 Hq3 Hh0
    iexists _; iexact HW
theorem cover0_A_2 (y : S512x1024.Idx) :
    ∃ pc ∈ (kernelRun0_A c i harg1 harg2 harg4 harg5 harg6 harg7 hc0 x0 x1 fh0).1, y ∈ pc.1.set :=
  View.cover_of_tiledL (kernelRun0_A c i harg1 harg2 harg4 harg5 harg6 harg7 hc0 x0 x1 fh0).1 S512x1024.size (by sl_kernel_rfl) y
def out0_A_2 : Vec F S512x1024 .bf16 :=
  VO0_2.read (Elt F) (VO0_2.writes (Elt F) VO0_2.junk (kernelRun0_A c i harg1 harg2 harg4 harg5 harg6 harg7 hc0 x0 x1 fh0).1)
theorem cover0_A_3 (y : S512x1536.Idx) :
    ∃ pc ∈ (kernelRun0_A c i harg1 harg2 harg4 harg5 harg6 harg7 hc0 x0 x1 fh0).2.1, y ∈ pc.1.set :=
  View.cover_of_tiledL (kernelRun0_A c i harg1 harg2 harg4 harg5 harg6 harg7 hc0 x0 x1 fh0).2.1 S512x1536.size (by sl_kernel_rfl) y
def out0_A_3 : Vec F S512x1536 .f32 :=
  VO0_3.read (Elt F) (VO0_3.writes (Elt F) VO0_3.junk (kernelRun0_A c i harg1 harg2 harg4 harg5 harg6 harg7 hc0 x0 x1 fh0).2.1)
theorem cover0_A_4 (y : S512x2048.Idx) :
    ∃ pc ∈ (kernelRun0_A c i harg1 harg2 harg4 harg5 harg6 harg7 hc0 x0 x1 fh0).2.2.1, y ∈ pc.1.set :=
  View.cover_of_tiledL (kernelRun0_A c i harg1 harg2 harg4 harg5 harg6 harg7 hc0 x0 x1 fh0).2.2.1 S512x2048.size (by sl_kernel_rfl) y
def out0_A_4 : Vec F S512x2048 .f32 :=
  VO0_4.read (Elt F) (VO0_4.writes (Elt F) VO0_4.junk (kernelRun0_A c i harg1 harg2 harg4 harg5 harg6 harg7 hc0 x0 x1 fh0).2.2.1)
theorem scover0_A_0 (y : S1024x3584.Idx) :
    ∃ pc ∈ (kernelRun0_A c i harg1 harg2 harg4 harg5 harg6 harg7 hc0 x0 x1 fh0).2.2.2.1, y ∈ pc.1.set :=
  View.cover_of_tiledL (kernelRun0_A c i harg1 harg2 harg4 harg5 harg6 harg7 hc0 x0 x1 fh0).2.2.2.1 S1024x896.size (by sl_kernel_rfl) y
def sout0_A_0 : Vec F S1024x3584 .bf16 :=
  VS0_0.read (Elt F) (VS0_0.writes (Elt F) VS0_0.junk (kernelRun0_A c i harg1 harg2 harg4 harg5 harg6 harg7 hc0 x0 x1 fh0).2.2.2.1)
end
end Cert.Kernel6Ideal.Run
end
-- ==== Proof.InProjB.lean ====
module

public import proofs.«01_k».proof.Proof.Gen.Kernel6Ideal.Frame.Runs
public import Idealize.ShloMosaic.Lib.Claim

@[expose] public section
set_option maxRecDepth 16384
noncomputable section
namespace Cert.Kernel6Ideal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen
variable {F : FTy → Type} [FloatOps F]
local notation "𝕄" => MT nD τ sig Unit (Elt F) ℕ (Pipeline.UD sig nD τ) ℕ
variable (c : Dev nD) (i : grid0.Coords) {arg1 : Memref sig .tc .vmem S512x1024 .f32} {arg2 : Memref sig .tc .vmem S1x1024 .f32} {arg4 : Memref sig .tc .vmem S512x1024 .bf16} {arg5 : Memref sig .tc .vmem S512x1536 .f32} {arg6 : Memref sig .tc .vmem S512x2048 .f32} {arg7 : Memref sig .tc .vmem S1024x3584 .bf16}
  (harg1 : arg1.IsWhole) (harg2 : arg2.IsWhole) (harg4 : arg4.IsWhole) (harg5 : arg5.IsWhole) (harg6 : arg6.IsWhole) (harg7 : arg7.IsWhole)
section
variable (hc0 : ¬cond0_0 i) (x0 : Vec F S512x1024 .f32) (x1 : Vec F S1x1024 .f32) (xs0 : Vec F S1024x3584 .bf16) (fh0 : HbBuf0 (F := F) c hbM0_0)
set_option maxHeartbeats 2000000 in
/-- The run of the body in case B, and the pieces it leaves. -/
noncomputable def kernelRun0_B :
    Σ' (L2 : List (View.Piece (Elt F) S512x1024 .bf16)), Σ' (L3 : List (View.Piece (Elt F) S512x1536 .f32)), Σ' (L4 : List (View.Piece (Elt F) S512x2048 .f32)), { LS0 : List (View.Piece (Elt F) S1024x3584 .bf16) //
      ∀ (W : Waits sig Unit) (K : PUnit → sProp 𝕄),
        iprop(owns (c : Thread nD τ) arg1 fullShare x0 ∗ owns (c : Thread nD τ) arg2 fullShare x1 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ hbPt0 c hbM0_0 fh0 ∗ owes (c : Thread nD τ) 0 W
            ∗ (iprop(owns (c : Thread nD τ) arg1 fullShare x0 ∗ owns (c : Thread nD τ) arg2 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ owns (c : Thread nD τ) arg7 fullShare xs0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ hbPt0 c hbM0_0 fh0 ∗ (∃ W', owes (c : Thread nD τ) 0 W')) -∗ K ⟨⟩))
          ⊢ wp frame (wpE (defs₀ (F := F)) Variants.none c none) Set.univ (cc0_in_proj i arg1 harg1 arg2 harg2 (Memref.whole main_v2) (Memref.isWhole_whole _) arg4 harg4 arg5 harg5 arg6 harg6 arg7 harg7 cc0_scratch1) K } := by
  refine ⟨?_, ?_, ?_, [], fun W K => ?run⟩
  case run =>
    simp only [cc0_in_proj_eq_skeleton]; unfold cc0_in_proj_skel
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, Hq0, Hq1, Hq2, Hq3, Hh0, HW, Hk⟩
    obtain rfl := harg1.eq_unread hf0; obtain rfl := harg2.eq_unread hf1; obtain rfl := harg7.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [HS0]
    · iexists _; isplitr; · ipureintro; exact harg7.read_unread _
      iexact HS0
    iframe Hq0 Hq1 Hq2 Hq3 Hh0
    iexists _; iexact HW
theorem cover0_B_2 (y : S512x1024.Idx) :
    ∃ pc ∈ (kernelRun0_B c i harg1 harg2 harg4 harg5 harg6 harg7 hc0 x0 x1 xs0 fh0).1, y ∈ pc.1.set :=
  View.cover_of_tiledL (kernelRun0_B c i harg1 harg2 harg4 harg5 harg6 harg7 hc0 x0 x1 xs0 fh0).1 S512x1024.size (by sl_kernel_rfl) y
def out0_B_2 : Vec F S512x1024 .bf16 :=
  VO0_2.read (Elt F) (VO0_2.writes (Elt F) VO0_2.junk (kernelRun0_B c i harg1 harg2 harg4 harg5 harg6 harg7 hc0 x0 x1 xs0 fh0).1)
theorem cover0_B_3 (y : S512x1536.Idx) :
    ∃ pc ∈ (kernelRun0_B c i harg1 harg2 harg4 harg5 harg6 harg7 hc0 x0 x1 xs0 fh0).2.1, y ∈ pc.1.set :=
  View.cover_of_tiledL (kernelRun0_B c i harg1 harg2 harg4 harg5 harg6 harg7 hc0 x0 x1 xs0 fh0).2.1 S512x1536.size (by sl_kernel_rfl) y
def out0_B_3 : Vec F S512x1536 .f32 :=
  VO0_3.read (Elt F) (VO0_3.writes (Elt F) VO0_3.junk (kernelRun0_B c i harg1 harg2 harg4 harg5 harg6 harg7 hc0 x0 x1 xs0 fh0).2.1)
theorem cover0_B_4 (y : S512x2048.Idx) :
    ∃ pc ∈ (kernelRun0_B c i harg1 harg2 harg4 harg5 harg6 harg7 hc0 x0 x1 xs0 fh0).2.2.1, y ∈ pc.1.set :=
  View.cover_of_tiledL (kernelRun0_B c i harg1 harg2 harg4 harg5 harg6 harg7 hc0 x0 x1 xs0 fh0).2.2.1 S512x2048.size (by sl_kernel_rfl) y
def out0_B_4 : Vec F S512x2048 .f32 :=
  VO0_4.read (Elt F) (VO0_4.writes (Elt F) VO0_4.junk (kernelRun0_B c i harg1 harg2 harg4 harg5 harg6 harg7 hc0 x0 x1 xs0 fh0).2.2.1)
end
end Cert.Kernel6Ideal.Run
end
-- ==== Proof.InProjRun.lean ====
module

public import proofs.«01_k».proof.Proof.InProjA
public import proofs.«01_k».proof.Proof.InProjB

@[expose] public section
set_option maxRecDepth 16384
noncomputable section
namespace Cert.Kernel6Ideal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen
variable {F : FTy → Type} [FloatOps F]
local notation "𝕄" => MT nD τ sig Unit (Elt F) ℕ (Pipeline.UD sig nD τ) ℕ
variable (m : (ℓ : Loc nD τ sig) → Buf (Elt F) ℓ) (ρ : Dev nD → PrngReg)
theorem hscM0_0 : scM0_0.IsWhole := Memref.isWhole_whole _
/-- What a point of case A leaves. -/
def pt0_A (c : Dev nD) (t : Fin cfg0.N) (h0 : t.val % 8 = 0) : Vec F S512x1024 .bf16 × Vec F S512x1536 .f32 × Vec F S512x2048 .f32 × Vec F S1024x3584 .bf16 :=
  (out0_A_2 c (grid0.coords t) (hs0_0 t) (hs0_1 t) (hs0_2 t) (hs0_3 t) (hs0_4 t) hscM0_0 ((hcond0_0 t).mpr h0) (iblk m c 0 t) (iblk m c 1 t) (V m c main_v2), out0_A_3 c (grid0.coords t) (hs0_0 t) (hs0_1 t) (hs0_2 t) (hs0_3 t) (hs0_4 t) hscM0_0 ((hcond0_0 t).mpr h0) (iblk m c 0 t) (iblk m c 1 t) (V m c main_v2), out0_A_4 c (grid0.coords t) (hs0_0 t) (hs0_1 t) (hs0_2 t) (hs0_3 t) (hs0_4 t) hscM0_0 ((hcond0_0 t).mpr h0) (iblk m c 0 t) (iblk m c 1 t) (V m c main_v2), sout0_A_0 c (grid0.coords t) (hs0_0 t) (hs0_1 t) (hs0_2 t) (hs0_3 t) (hs0_4 t) hscM0_0 ((hcond0_0 t).mpr h0) (iblk m c 0 t) (iblk m c 1 t) (V m c main_v2))
/-- What a point of case B leaves, after `P`. -/
def pt0_B (c : Dev nD) (t : Fin cfg0.N) (h0 : ¬t.val % 8 = 0) (P : Vec F S512x1024 .bf16 × Vec F S512x1536 .f32 × Vec F S512x2048 .f32 × Vec F S1024x3584 .bf16) : Vec F S512x1024 .bf16 × Vec F S512x1536 .f32 × Vec F S512x2048 .f32 × Vec F S1024x3584 .bf16 :=
  (out0_B_2 c (grid0.coords t) (hs0_0 t) (hs0_1 t) (hs0_2 t) (hs0_3 t) (hs0_4 t) hscM0_0 (fun h => h0 ((hcond0_0 t).mp h)) (iblk m c 0 t) (iblk m c 1 t) P.2.2.2 (V m c main_v2), out0_B_3 c (grid0.coords t) (hs0_0 t) (hs0_1 t) (hs0_2 t) (hs0_3 t) (hs0_4 t) hscM0_0 (fun h => h0 ((hcond0_0 t).mp h)) (iblk m c 0 t) (iblk m c 1 t) P.2.2.2 (V m c main_v2), out0_B_4 c (grid0.coords t) (hs0_0 t) (hs0_1 t) (hs0_2 t) (hs0_3 t) (hs0_4 t) hscM0_0 (fun h => h0 ((hcond0_0 t).mp h)) (iblk m c 0 t) (iblk m c 1 t) P.2.2.2 (V m c main_v2), P.2.2.2)
/-- What the outputs and the carried scratch hold after point `n`. -/
def outsAt0 (c : Dev nD) : (n : ℕ) → n < cfg0.N → Vec F S512x1024 .bf16 × Vec F S512x1536 .f32 × Vec F S512x2048 .f32 × Vec F S1024x3584 .bf16
  | 0, hn => pt0_A m c ⟨0, hn⟩ (Nat.zero_mod _)
  | n + 1, hn =>
    if h0 : (n + 1) % 8 = 0 then
      pt0_A m c ⟨n + 1, hn⟩ h0
    else
      pt0_B m c ⟨n + 1, hn⟩ h0 (outsAt0 c n (Nat.lt_of_succ_lt hn))
theorem outsAt0_A (c : Dev nD) (t : Fin cfg0.N) (h0 : t.val % 8 = 0) :
    outsAt0 m c t.val t.isLt = pt0_A m c t h0 := by
  obtain ⟨n, hn⟩ := t
  cases n with
  | zero => exact rfl
  | succ n => exact (dif_pos h0).trans rfl
theorem outsAt0_B (c : Dev nD) (t : Fin cfg0.N) (h0 : ¬t.val % 8 = 0) :
    outsAt0 m c t.val t.isLt = pt0_B m c t h0 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2)) ∗ (∃ r, prngReg c r) ∗ iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0) ∗ iprop(hbPt0 c hbM0_0 (V m c main_v2)))
theorem PhiS_zero (c : Dev nD) (n : ℕ) (h : n ≤ cfg0.N) (hz : n = 0) : PhiS m c n h = Pipeline.ΦD osem0 spec0 H0 (V m) c := by
  subst hz; rfl
theorem PhiS_succ (c : Dev nD) (n : ℕ) (hn : n < cfg0.N) :
    PhiS m c (n + 1) hn = iprop(iprop(owns (c : Thread nD τ) scM0_0 fullShare ((outsAt0 m c n hn).2.2.2)) ∗ (∃ r, prngReg c r) ∗ iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0) ∗ iprop(hbPt0 c hbM0_0 (V m c main_v2))) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2)) ∗ (∃ r, prngReg c r) ∗ iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0) ∗ iprop(hbPt0 c hbM0_0 (V m c main_v2))) := by
  cases n with
  | zero => exact absurd rfl hz
  | succ n => rfl
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2.1
  Φ t := PhiS m c t.val (Nat.le_of_lt_succ t.isLt)
  q _ := fullShare
  owed _ := 0
theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))
set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = PhiS m c (t.val + 1) t.isLt from rfl, PhiS_succ,
    after0_0, after0_1, after0_2, after0_3, after0_4]
  unfold Dat.owesAt Pipeline.owesWithin
  rw [show (dats m 0 c).owed t.castSucc = 0 from rfl, show (dats m 0 c).owed t.succ = 0 from rfl]
  have hN : t.val < 8 := lt_of_lt_of_eq t.isLt (show cfg0.N = 8 from N_0)
  by_cases h0 : t.val % 8 = 0
  · by_cases hz : t.val = 0
    · rw [PhiS_castSucc m c t, PhiS_zero m c _ _ hz, PhiD0_eq]
      rw [outsAt0_A m c t h0]
      unfold pt0_A; (try dsimp only); unfold out0_A_2 out0_A_3 out0_A_4 sout0_A_0; (try dsimp only)
      iintro ⟨⟨HS0, Hg, ⟨Hq0, Hq1, Hq2, Hq3⟩, Hh0⟩, ⟨%W, -, HW⟩, ⟨%d0, H0⟩, ⟨%d1, H1⟩, ⟨%d2, H2⟩, ⟨%d3, H3⟩, ⟨%d4, H4⟩⟩
      iapply ((kernelRun0_A c (grid0.coords t) _ _ _ _ _ _ ((hcond0_0 t).mpr h0) (iblk m c 0 t) (iblk m c 1 t) (V m c main_v2)).2.2.2.2 W _)
      iframe H0 H1
      isplitl [H2]; · iexists _; iexact H2
      isplitl [H3]; · iexists _; iexact H3
      isplitl [H4]; · iexists _; iexact H4
      iframe HS0 Hq0 Hq1 Hq2 Hq3 Hh0 HW
      iintro ⟨H0, H1, ⟨%e2, H2⟩, ⟨%e3, H3⟩, ⟨%e4, H4⟩, ⟨%es0, HS0⟩, Hq0, Hq1, Hq2, Hq3, Hh0, ⟨%W', HW'⟩⟩
      isplitl [HS0 Hg Hq0 Hq1 Hq2 Hq3 Hh0]
      · isplitl [HS0]
        · unfold owns; iexists _; isplitr
          swap; · iexact HS0
          ipureintro; exact View.read_writes_of_cover _ _ _ _ _ (scover0_A_0 c _ _ _ _ _ _ _ _ _ _ _)
        isplitl [Hg]
        · iexact Hg
        isplitl [Hq0 Hq1 Hq2 Hq3]
        · isplitl [Hq0]; · iexact Hq0
          iframe Hq1 Hq2
          iexact Hq3
        iexact Hh0
      isplitl [HW']
      · iexists W'; isplitr; · ipureintro; exact fun _ _ => Or.inl trivial
        iexact HW'
      iframe H0 H1
      isplitl [H2]
      · unfold owns; iexists _; isplitr
        swap; · iexact H2
        ipureintro; exact View.read_writes_of_cover _ _ _ _ _ (cover0_A_2 c _ _ _ _ _ _ _ _ _ _ _)
      isplitl [H3]
      · unfold owns; iexists _; isplitr
        swap; · iexact H3
        ipureintro; exact View.read_writes_of_cover _ _ _ _ _ (cover0_A_3 c _ _ _ _ _ _ _ _ _ _ _)
      unfold owns; iexists _; isplitr
      swap; · iexact H4
      ipureintro; exact View.read_writes_of_cover _ _ _ _ _ (cover0_A_4 c _ _ _ _ _ _ _ _ _ _ _)
    · exfalso; have hN : t.val < 8 := lt_of_lt_of_eq t.isLt (show cfg0.N = 8 from N_0); omega
  · by_cases hz : t.val = 0
    · exfalso; have hN : t.val < 8 := lt_of_lt_of_eq t.isLt (show cfg0.N = 8 from N_0); omega
    · rw [PhiS_castSucc m c t, PhiS_pos m c _ _ hz]
      rw [outsAt0_B m c t h0]
      unfold pt0_B; (try dsimp only); unfold out0_B_2 out0_B_3 out0_B_4; (try dsimp only)
      iintro ⟨⟨HS0, Hg, ⟨Hq0, Hq1, Hq2, Hq3⟩, Hh0⟩, ⟨%W, -, HW⟩, ⟨%d0, H0⟩, ⟨%d1, H1⟩, ⟨%d2, H2⟩, ⟨%d3, H3⟩, ⟨%d4, H4⟩⟩
      iapply ((kernelRun0_B c (grid0.coords t) _ _ _ _ _ _ (fun h => h0 ((hcond0_0 t).mp h)) (iblk m c 0 t) (iblk m c 1 t) _ (V m c main_v2)).2.2.2.2 W _)
      iframe H0 H1
      isplitl [H2]; · iexists _; iexact H2
      isplitl [H3]; · iexists _; iexact H3
      isplitl [H4]; · iexists _; iexact H4
      iframe HS0 Hq0 Hq1 Hq2 Hq3 Hh0 HW
      iintro ⟨H0, H1, ⟨%e2, H2⟩, ⟨%e3, H3⟩, ⟨%e4, H4⟩, HS0, Hq0, Hq1, Hq2, Hq3, Hh0, ⟨%W', HW'⟩⟩
      isplitl [HS0 Hg Hq0 Hq1 Hq2 Hq3 Hh0]
      · isplitl [HS0]
        · iexact HS0
        isplitl [Hg]
        · iexact Hg
        isplitl [Hq0 Hq1 Hq2 Hq3]
        · isplitl [Hq0]; · iexact Hq0
          iframe Hq1 Hq2
          iexact Hq3
        iexact Hh0
      isplitl [HW']
      · iexists W'; isplitr; · ipureintro; exact fun _ _ => Or.inl trivial
        iexact HW'
      iframe H0 H1
      isplitl [H2]
      · unfold owns; iexists _; isplitr
        swap; · iexact H2
        ipureintro; exact View.read_writes_of_cover _ _ _ _ _ (cover0_B_2 c _ _ _ _ _ _ _ _ _ _ _ _)
      isplitl [H3]
      · unfold owns; iexists _; isplitr
        swap; · iexact H3
        ipureintro; exact View.read_writes_of_cover _ _ _ _ _ (cover0_B_3 c _ _ _ _ _ _ _ _ _ _ _ _)
      unfold owns; iexists _; isplitr
      swap; · iexact H4
      ipureintro; exact View.read_writes_of_cover _ _ _ _ _ (cover0_B_4 c _ _ _ _ _ _ _ _ _ _ _ _)
theorem defs₀_row (t : Fin cfg0.N) :
    defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨HS0, Hg, ⟨Hq0, Hq1, Hq2, Hq3⟩, Hh0⟩
  isplitl [HS0]
  · iexists _; iexact HS0
  isplitl [Hg]; · iexact Hg
  isplitl [Hq0 Hq1 Hq2 Hq3]
  · isplitl [Hq0]; · iexact Hq0
    isplitl [Hq1]; · iexact Hq1
    isplitl [Hq2]; · iexact Hq2
    iexact Hq3
  iexact Hh0
theorem hout (c : Dev nD) : (dats m 0 c).Φ (Fin.last cfg0.N) ⊢ Pipeline.ΦD osem0 spec0 H0 (V m) c :=
  Phi_out m c _ (by rw [Fin.val_last]; have : cfg0.N = 8 := N_0; omega)
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)
theorem run_main : θ_run defs (onTc (τ := τ) (main (F := F))) (s₀ m ρ) (Pipeline.FramePost cfgs (dats m) 0 (V m)) :=
  (θ_run defs _ _).mono (fun _ h => h.1) (run_main_quiescent m ρ)
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)
/-- The run, with what each result and argument then holds. -/
theorem run_blocks : θ_run defs (onTc (τ := τ) (main (F := F))) ⟨m, fun _ => 0, ρ⟩ fun r => ∀ c : Dev nD,
      r.2.mem ((c : Thread nD τ).loc main_v3_0) = (dats m 0 c).arrAt 2 cfg0.N
      ∧ r.2.mem ((c : Thread nD τ).loc main_v3_1) = (dats m 0 c).arrAt 3 cfg0.N
      ∧ r.2.mem ((c : Thread nD τ).loc main_v3_2) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 2, (h.1 c).1 3, (h.1 c).1 4, h.2 c⟩)
    (θ_run_and (run_main m ρ) (unchanged m ρ))
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))
end Cert.Kernel6Ideal.Run
end
-- ==== Proof.InProj.lean ====
module

public import proofs.«01_k».proof.Proof.InProjRun
public import Idealize.ShloMosaic.Lib.Pipeline.ValueKit
public import Idealize.ShloMosaic.Lib.Pipeline.ReadBack
public import proofs.«01_k».proof.Proof.MlpForms
public import proofs.«01_k».proof.Proof.Norm
public import proofs.«01_k».proof.Proof.Gen.Reference6Ideal.Read

@[expose] public section
set_option maxRecDepth 16384
set_option maxHeartbeats 2000000
noncomputable section
open Idealize.ShloMosaic Idealize.ShloMosaic.TcCoe Idealize.SL.Sem
open Idealize.ShloMosaic.Pipeline (Dat)
namespace Cert.Kernel6Ideal.Proj
open Cert.Kernel6Ideal Cert.Kernel6Ideal.Gen Cert.Kernel6Ideal.Run
open Cert.KernelIdeal.Mlp (canon_take)

/-- four column blocks side by side -/
def wideF (W : FVec Ideal S4x1024x896 .bf16) (y : S1024x3584.Idx) : EReal :=
  W (ix3 ⟨(y 1).val / 896, by have h1 : (y 1).val < 3584 := (y 1).isLt; omega⟩ ⟨(y 0).val, (y 0).isLt⟩
    ⟨(y 1).val % 896, Nat.mod_lt _ (by decide)⟩)

theorem wideF_at (W : FVec Ideal S4x1024x896 .bf16) (y : S1024x3584.Idx) (s : Fin 4) (i : Fin 1024) (j : Fin 896)
    (h0 : (y 0).val = i.val) (h1 : (y 1).val = s.val * 896 + j.val) : wideF W y = W (ix3 s i j) := by
  unfold wideF
  have hj := j.isLt
  congr 2 <;> refine Fin.ext ?_ <;> dsimp only <;> omega

/-- the four pieces of the columns, stored side by side -/
theorem canonW (W : FVec Ideal S4x1024x896 .bf16) (P0 P1 P2 P3 : FVec Ideal S1024x896 .bf16)
    (h0 : ∀ i j, P0 (ix2 i j) = W (ix3 0 i j)) (h1 : ∀ i j, P1 (ix2 i j) = W (ix3 1 i j))
    (h2 : ∀ i j, P2 (ix2 i j) = W (ix3 2 i j)) (h3 : ∀ i j, P3 (ix2 i j) = W (ix3 3 i j)) (y : S1024x3584.Idx) :
    View.canon (Val := Elt Ideal) (e := .bf16) [⟨Rect.unit ![0, 2688] ![1024, 896] inb_S1024x3584_S1024x896_0_2688, P3⟩,
      ⟨Rect.unit ![0, 1792] ![1024, 896] inb_S1024x3584_S1024x896_0_1792, P2⟩,
      ⟨Rect.unit ![0, 896] ![1024, 896] inb_S1024x3584_S1024x896_0_896, P1⟩,
      ⟨Rect.unit ![0, 0] ![1024, 896] inb_S1024x3584_S1024x896_0_0, P0⟩] y = wideF W y := by
  refine canon_take (e := .bf16) 4 (wideF W) _ y ?pc ?cov
  case pc =>
    refine ⟨fun x => ?p0, fun x => ?p1, fun x => ?p2, fun x => ?p3, trivial⟩
    case p0 =>
      idx_vars x
      exact (h3 x0 x1).trans (wideF_at W _ 3 x0 x1 (by blk_simp) (by blk_simp; rfl)).symm
    case p1 =>
      idx_vars x
      exact (h2 x0 x1).trans (wideF_at W _ 2 x0 x1 (by blk_simp) (by blk_simp; rfl)).symm
    case p2 =>
      idx_vars x
      exact (h1 x0 x1).trans (wideF_at W _ 1 x0 x1 (by blk_simp) (by blk_simp; rfl)).symm
    case p3 =>
      idx_vars x
      exact (h0 x0 x1).trans (wideF_at W _ 0 x0 x1 (by blk_simp) (by blk_simp; exact (Nat.zero_add _).symm)).symm
  case cov =>
    exact View.cover_of_tiledBy _ ![1024, 896] (by sl_kernel_rfl) y

theorem readW (W : FVec Ideal S4x1024x896 .bf16) (P0 P1 P2 P3 : FVec Ideal S1024x896 .bf16)
    (h0 : ∀ i j, P0 (ix2 i j) = W (ix3 0 i j)) (h1 : ∀ i j, P1 (ix2 i j) = W (ix3 1 i j))
    (h2 : ∀ i j, P2 (ix2 i j) = W (ix3 2 i j)) (h3 : ∀ i j, P3 (ix2 i j) = W (ix3 3 i j)) :
    (View.whole cc0_scratch0).readCov (Val := Elt Ideal) [⟨Rect.unit ![0, 2688] ![1024, 896] inb_S1024x3584_S1024x896_0_2688, P3⟩,
      ⟨Rect.unit ![0, 1792] ![1024, 896] inb_S1024x3584_S1024x896_0_1792, P2⟩,
      ⟨Rect.unit ![0, 896] ![1024, 896] inb_S1024x3584_S1024x896_0_896, P1⟩,
      ⟨Rect.unit ![0, 0] ![1024, 896] inb_S1024x3584_S1024x896_0_0, P0⟩]
      (Rect.unit ![0, 0] ![1024, 3584] inb_S1024x3584_S1024x3584_0_0).toLoadRect = wideF W := by
  rw [View.readCov_eq_canon']
  funext j
  refine Eq.trans (congrArg _ ?_) (canonW W P0 P1 P2 P3 h0 h1 h2 h3 j)
  idx_vars j
  refine funext fun a => Fin.ext ?_
  match a with
  | ⟨0, _⟩ => show 0 + 1 * j0.val = j0.val; omega
  | ⟨1, _⟩ => show 0 + 1 * j1.val = j1.val; omega

theorem part_at (W : FVec Ideal S4x1024x896 .bf16) (s : Fin 4) (inb : ∀ a, ![s.val, 0, 0] a + ![1, 1024, 896] a ≤ S4x1024x896.size a)
    (h) (i : Fin 1024) (j : Fin 896) : (ReadAs.same (Val := Elt Ideal) (s := S1024x896) (e := .bf16)).apply (View.read (Elt Ideal)
      (((View.whole main_v2).slice (Rect.unit ![s.val, 0, 0] ![1, 1024, 896] inb)).reshape S1024x896 h) W) (ix2 i j) = W (ix3 s i j) := by
  show shapeCast (s := S1x1024x896) S1024x896 (fun x => W ((Rect.unit (s := S4x1024x896) ![s.val, 0, 0] ![1, 1024, 896] inb).emb x)) h (ix2 i j) = _
  pointwise []
  blk_ext []

variable (m : (ℓ : Loc nD τ sig) → Buf (Elt Ideal) ℓ)

theorem ptA_s (c : Dev nD) (t : Fin cfg0.N) (h0 : t.val % 8 = 0) (y : S1024x3584.Idx) :
    (outsAt0 (F := Ideal) m c t.val t.isLt).2.2.2 y = wideF (V m c main_v2) y := by
  rw [outsAt0_A m c t h0, pt0_A]
  dsimp only
  frame_open
  frame_out
  clear h0
  exact canonW _ _ _ _ _ (part_at _ 0 _ _) (part_at _ 1 _ _) (part_at _ 2 _ _) (part_at _ 3 _ _) y

/-- one entry of the normed rows -/
def normF (X : FVec Ideal S512x1024 .f32) (g : FVec Ideal S1x1024 .f32) (r : Fin 512) (d : Fin 1024) : EReal :=
  X (ix2 r d) * Cert.Norm.rms (∑ k : Fin 1024, X (ix2 r k) * X (ix2 r k)) * g (ix2 ⟨0, by decide⟩ d)

/-- one entry of the product with the columns -/
def projF (X : FVec Ideal S512x1024 .f32) (g : FVec Ideal S1x1024 .f32) (W : FVec Ideal S1024x3584 .bf16) (r : Fin 512) (j : Fin 3584) : EReal :=
  ∑ d : Fin 1024, normF X g r d * W (ix2 d j)

theorem pay1 (X : FVec Ideal S512x1024 .f32) (g : FVec Ideal S1x1024 .f32) (r : Fin 512) (d : Fin 1024) :
    k0_pay1 (F := Ideal) X g (ix2 r d) = normF X g r d := by
  unfold normF Cert.Norm.rms
  pointwise [k0_pay1]
theorem pay3 (X : FVec Ideal S512x1024 .f32) (g : FVec Ideal S1x1024 .f32) (W : FVec Ideal S1024x3584 .bf16) (r : Fin 512) (j : Fin 1536) :
    k0_pay3 (F := Ideal) X g W (ix2 r j) = projF X g W r ⟨j.val, by omega⟩ := by
  unfold projF normF Cert.Norm.rms
  pointwise [k0_pay3, k0_pay2, k0_pay1]
theorem pay4 (X : FVec Ideal S512x1024 .f32) (g : FVec Ideal S1x1024 .f32) (W : FVec Ideal S1024x3584 .bf16) (r : Fin 512) (j : Fin 2048) :
    k0_pay4 (F := Ideal) X g W (ix2 r j) = projF X g W r ⟨1536 + j.val, by omega⟩ := by
  unfold projF normF Cert.Norm.rms
  pointwise [k0_pay4, k0_pay2, k0_pay1]

theorem ptA (c : Dev nD) (t : Fin cfg0.N) (h0 : t.val % 8 = 0) :
    outsAt0 (F := Ideal) m c t.val t.isLt = (k0_pay1 (iblk m c 0 t) (iblk m c 1 t), k0_pay3 (iblk m c 0 t) (iblk m c 1 t) (wideF (V m c main_v2)),
      k0_pay4 (iblk m c 0 t) (iblk m c 1 t) (wideF (V m c main_v2)), wideF (V m c main_v2)) := by
  refine Prod.ext ?_ (Prod.ext ?_ (Prod.ext ?_ (funext fun y => ptA_s m c t h0 y)))
  all_goals
    rw [outsAt0_A m c t h0, pt0_A]
    dsimp only
    frame_open
    frame_out
    try rw [readW (V m c main_v2)]
  · exact part_at _ 0 _ _
  · exact part_at _ 1 _ _
  · exact part_at _ 2 _ _
  · exact part_at _ 3 _ _
  · exact part_at _ 0 _ _
  · exact part_at _ 1 _ _
  · exact part_at _ 2 _ _
  · exact part_at _ 3 _ _

theorem ptB (c : Dev nD) (t : Fin cfg0.N) (h0 : ¬t.val % 8 = 0) (P : _)
    (hP : outsAt0 (F := Ideal) m c (t.val - 1) (Nat.lt_of_le_of_lt (Nat.sub_le _ _) t.isLt) = P) :
    outsAt0 (F := Ideal) m c t.val t.isLt = (k0_pay1 (iblk m c 0 t) (iblk m c 1 t), k0_pay3 (iblk m c 0 t) (iblk m c 1 t) P.2.2.2,
      k0_pay4 (iblk m c 0 t) (iblk m c 1 t) P.2.2.2, P.2.2.2) := by
  refine Prod.ext ?_ (Prod.ext ?_ (Prod.ext ?_ ?d))
  case d => rw [outsAt0_B m c t h0, pt0_B, hP]
  all_goals
    rw [outsAt0_B m c t h0, pt0_B, hP]
    dsimp only
    frame_out
    try simp only [read_unread_whole]

theorem carried (c : Dev nD) : ∀ (n : ℕ) (h : n < cfg0.N), (outsAt0 (F := Ideal) m c n h).2.2.2 = wideF (V m c main_v2)
  | 0, h => congrArg (fun p => p.2.2.2) (ptA m c ⟨0, h⟩ rfl)
  | n + 1, h => by
    by_cases h0 : (n + 1) % 8 = 0
    · exact congrArg (fun p => p.2.2.2) (ptA m c ⟨n + 1, h⟩ h0)
    · exact (congrArg (fun p => p.2.2.2) (ptB m c ⟨n + 1, h⟩ h0 _ rfl)).trans (carried c n (Nat.lt_of_succ_lt h))

/-- what every point leaves -/
theorem pt (c : Dev nD) (t : Fin cfg0.N) : outsAt0 (F := Ideal) m c t.val t.isLt = (k0_pay1 (iblk m c 0 t) (iblk m c 1 t),
    k0_pay3 (iblk m c 0 t) (iblk m c 1 t) (wideF (V m c main_v2)), k0_pay4 (iblk m c 0 t) (iblk m c 1 t) (wideF (V m c main_v2)),
    wideF (V m c main_v2)) := by
  by_cases h0 : t.val % 8 = 0
  · exact ptA m c t h0
  · rw [ptB m c t h0 _ rfl, carried]

theorem idx_val : ∀ t : Fin cfg0.N, win0_0.index t = ![t.val, 0] ∧ win0_1.index t = ![0, 0] ∧ win0_2.index t = ![t.val, 0]
    ∧ win0_3.index t = ![t.val, 0] ∧ win0_4.index t = ![t.val, 0] :=
  (by decide +kernel : ∀ t : Fin grid0.N, _)

theorem N8 (t : Fin cfg0.N) : t.val < 8 := lt_of_lt_of_eq t.isLt (show cfg0.N = 8 from N_0)

/-- the row of the whole arrays that row `r` of point `t`'s blocks is -/
def rowOf (t : Fin cfg0.N) (r : Fin 512) : Fin 4096 := ⟨t.val * 512 + r.val, by have := N8 t; omega⟩

/-- the rows as the call reads them -/
abbrev xV (c : Dev nD) : FVec Ideal S4096x1024 .f32 := V m c main_arg0
/-- the gains as the call reads them -/
abbrev gV (c : Dev nD) : FVec Ideal S1x1024 .f32 := V m c main_arg1

theorem iblk0 (c : Dev nD) (t : Fin cfg0.N) (r : Fin 512) (i : Fin 1024) : iblk m c 0 t (ix2 r i) = xV m c (ix2 (rowOf t r) i) := by
  unfold iblk rowOf
  blk_ext [idx_val t]
theorem iblk1 (c : Dev nD) (t : Fin cfg0.N) (j : Fin 1024) : iblk m c 1 t (ix2 ⟨0, by decide⟩ j) = gV m c (ix2 ⟨0, by decide⟩ j) := by
  unfold iblk
  blk_ext [idx_val t]

/-- one entry of the normed rows, over the whole arrays -/
def uG (X : FVec Ideal S4096x1024 .f32) (g : FVec Ideal S1x1024 .f32) (n : Fin 4096) (d : Fin 1024) : EReal :=
  X (ix2 n d) * Cert.Norm.rms (∑ k : Fin 1024, X (ix2 n k) * X (ix2 n k)) * g (ix2 ⟨0, by decide⟩ d)

theorem normF_eq (c : Dev nD) (t : Fin cfg0.N) (r : Fin 512) (d : Fin 1024) :
    normF (iblk m c 0 t) (iblk m c 1 t) r d = uG (xV m c) (gV m c) (rowOf t r) d :=
  congrArg₂ (fun a b : EReal => a * b) (congrArg₂ (fun a s : EReal => a * Cert.Norm.rms s) (iblk0 m c t r d)
    (Finset.sum_congr rfl fun k _ => congrArg (fun a : EReal => a * a) (iblk0 m c t r k))) (iblk1 m c t d)

/-- one entry of the product, over the whole arrays -/
def pG (X : FVec Ideal S4096x1024 .f32) (g : FVec Ideal S1x1024 .f32) (W : FVec Ideal S4x1024x896 .bf16) (n : Fin 4096) (j : Fin 3584) : EReal :=
  ∑ d : Fin 1024, uG X g n d * wideF W (ix2 d j)

theorem projF_eq (c : Dev nD) (t : Fin cfg0.N) (r : Fin 512) (j : Fin 3584) :
    projF (iblk m c 0 t) (iblk m c 1 t) (wideF (V m c main_v2)) r j = pG (xV m c) (gV m c) (V m c main_v2) (rowOf t r) j :=
  Finset.sum_congr rfl fun d _ => congrArg (fun a : EReal => a * _) (normF_eq m c t r d)

/-- the three results -/
def out2G (X : FVec Ideal S4096x1024 .f32) (g : FVec Ideal S1x1024 .f32) (y : S4096x1024.Idx) : EReal :=
  uG X g ⟨(y 0).val, (y 0).isLt⟩ ⟨(y 1).val, (y 1).isLt⟩
def out3G (X : FVec Ideal S4096x1024 .f32) (g : FVec Ideal S1x1024 .f32) (W : FVec Ideal S4x1024x896 .bf16) (y : S4096x1536.Idx) : EReal :=
  pG X g W ⟨(y 0).val, (y 0).isLt⟩ ⟨(y 1).val, by have h1 : (y 1).val < 1536 := (y 1).isLt; omega⟩
def out4G (X : FVec Ideal S4096x1024 .f32) (g : FVec Ideal S1x1024 .f32) (W : FVec Ideal S4x1024x896 .bf16) (y : S4096x2048.Idx) : EReal :=
  pG X g W ⟨(y 0).val, (y 0).isLt⟩ ⟨1536 + (y 1).val, by have h1 : (y 1).val < 2048 := (y 1).isLt; omega⟩

theorem out2 (c : Dev nD) (t : Fin cfg0.N) (y : S512x1024.Idx) : (outsAt0 (F := Ideal) m c t.val t.isLt).1 y
    = out2G (xV m c) (gV m c) (ix2 (rowOf t ⟨(y 0).val, (y 0).isLt⟩) ⟨(y 1).val, (y 1).isLt⟩) := by
  rw [pt]
  idx_vars y
  exact (pay1 _ _ y0 y1).trans (normF_eq m c t _ _)
theorem final2 (c : Dev nD) : (dats m 0 c).arrAt 2 cfg0.N = out2G (xV m c) (gV m c) := by
  refine (dats m 0 c).arrAt_eq_of_covers 2 _ (by decide +kernel) fun t hf y => ?_
  blk_simp
  refine (out2 m c t y).trans ?_
  refine congrArg (out2G _ _) ?_
  unfold rowOf
  blk_ext [idx_val t]
theorem out3 (c : Dev nD) (t : Fin cfg0.N) (y : S512x1536.Idx) : (outsAt0 (F := Ideal) m c t.val t.isLt).2.1 y
    = out3G (xV m c) (gV m c) (V m c main_v2) (ix2 (rowOf t ⟨(y 0).val, (y 0).isLt⟩) ⟨(y 1).val, (y 1).isLt⟩) := by
  rw [pt]
  idx_vars y
  exact (pay3 _ _ _ y0 y1).trans (projF_eq m c t _ _)
theorem final3 (c : Dev nD) : (dats m 0 c).arrAt 3 cfg0.N = out3G (xV m c) (gV m c) (V m c main_v2) := by
  refine (dats m 0 c).arrAt_eq_of_covers 3 _ (by decide +kernel) fun t hf y => ?_
  blk_simp
  refine (out3 m c t y).trans ?_
  refine congrArg (out3G _ _ _) ?_
  unfold rowOf
  blk_ext [idx_val t]
theorem out4 (c : Dev nD) (t : Fin cfg0.N) (y : S512x2048.Idx) : (outsAt0 (F := Ideal) m c t.val t.isLt).2.2.1 y
    = out4G (xV m c) (gV m c) (V m c main_v2) (ix2 (rowOf t ⟨(y 0).val, (y 0).isLt⟩) ⟨(y 1).val, (y 1).isLt⟩) := by
  rw [pt]
  idx_vars y
  exact (pay4 _ _ _ y0 y1).trans (projF_eq m c t _ _)
theorem final4 (c : Dev nD) : (dats m 0 c).arrAt 4 cfg0.N = out4G (xV m c) (gV m c) (V m c main_v2) := by
  refine (dats m 0 c).arrAt_eq_of_covers 4 _ (by decide +kernel) fun t hf y => ?_
  blk_simp
  refine (out4 m c t y).trans ?_
  refine congrArg (out4G _ _ _) ?_
  unfold rowOf
  blk_ext [idx_val t]

theorem entry2 (c : Dev nD) (y : S4x1024x896.Idx) : V m c main_v2 y = (m ((c.tc : Thread nD τ).loc main_arg2) : FVec Ideal S1024x3584 .f32)
    (ix2 ⟨(y 1).val, (y 1).isLt⟩ ⟨(y 0).val * 896 + (y 2).val,
      by have h0 : (y 0).val < 4 := (y 0).isLt; have h2 : (y 2).val < 896 := (y 2).isLt; omega⟩) := by
  entry_read
  generalize m ((c.tc : Thread nD τ).loc main_arg2) = w
  idx_vars y
  pointwise []

open Cert.Reference6Ideal.Read in
theorem kout2 (c : Dev nD) : (dats m 0 c).arrAt 2 cfg0.N = val_main_v13 (F := Ideal) (m ((c.tc : Thread nD τ).loc main_arg0))
    (m ((c.tc : Thread nD τ).loc main_arg1)) := by
  rw [final2]
  unfold xV gV
  rw [V_main_arg0, V_main_arg1]
  generalize m ((c.tc : Thread nD τ).loc main_arg0) = x
  generalize m ((c.tc : Thread nD τ).loc main_arg1) = g
  funext y
  idx_vars y
  unfold out2G uG Cert.Norm.rms
  pointwise [val_main_v13, val_main_v11, val_main_v10, val_main_v9, val_main_v8, val_main_v7, val_main_v6, val_main_v5, val_main_v4, val_main_v3, val_main_v2, val_main_v1, val_main_v0, val_main_cst, val_main_cst_0, val_main_cst_1, Cert.Norm.div_n]

/-- the columns as the matrix they are cut from -/
theorem wide_entry (c : Dev nD) (d : Fin 1024) (j : Fin 3584) : wideF (V m c main_v2) (ix2 d j)
    = (m ((c.tc : Thread nD τ).loc main_arg2) : FVec Ideal S1024x3584 .f32) (ix2 d j) := by
  unfold wideF
  refine (entry2 m c _).trans (congrArg _ ?_)
  refine funext fun k => Fin.ext ?_
  match k with
  | ⟨0, _⟩ => rfl
  | ⟨1, _⟩ => exact Nat.div_add_mod' _ _

open Cert.Reference6Ideal.Read in
theorem kout3 (c : Dev nD) : (dats m 0 c).arrAt 3 cfg0.N = val_main_v14 (F := Ideal) (m ((c.tc : Thread nD τ).loc main_arg0))
    (m ((c.tc : Thread nD τ).loc main_arg1)) (m ((c.tc : Thread nD τ).loc main_arg2)) := by
  rw [final3]
  funext y
  idx_vars y
  unfold out3G pG
  unfold xV gV
  rw [V_main_arg0, V_main_arg1]
  generalize m ((c.tc : Thread nD τ).loc main_arg0) = x
  generalize m ((c.tc : Thread nD τ).loc main_arg1) = g
  unfold uG Cert.Norm.rms
  pointwise [val_main_v14, val_main_v12, val_main_v11, val_main_v10, val_main_v9, val_main_v8, val_main_v7, val_main_v6, val_main_v5, val_main_v4, val_main_v3, val_main_v2, val_main_v1, val_main_v0, val_main_cst, val_main_cst_0, val_main_cst_1, Cert.Norm.div_n]
  exact Finset.sum_congr rfl fun d _ => congrArg (fun b : EReal => _ * b) (wide_entry m c d _)

open Cert.Reference6Ideal.Read in
theorem kout4 (c : Dev nD) : (dats m 0 c).arrAt 4 cfg0.N = val_main_v15 (F := Ideal) (m ((c.tc : Thread nD τ).loc main_arg0))
    (m ((c.tc : Thread nD τ).loc main_arg1)) (m ((c.tc : Thread nD τ).loc main_arg2)) := by
  rw [final4]
  funext y
  idx_vars y
  unfold out4G pG
  unfold xV gV
  rw [V_main_arg0, V_main_arg1]
  generalize m ((c.tc : Thread nD τ).loc main_arg0) = x
  generalize m ((c.tc : Thread nD τ).loc main_arg1) = g
  unfold uG Cert.Norm.rms
  pointwise [val_main_v15, val_main_v12, val_main_v11, val_main_v10, val_main_v9, val_main_v8, val_main_v7, val_main_v6, val_main_v5, val_main_v4, val_main_v3, val_main_v2, val_main_v1, val_main_v0, val_main_cst, val_main_cst_0, val_main_cst_1, Cert.Norm.div_n]
  exact Finset.sum_congr rfl fun d _ => congrArg (fun b : EReal => _ * b) (wide_entry m c d _)

end Cert.Kernel6Ideal.Proj
end
-- ==== Proof.MlpHost.lean ====
module

public import proofs.«01_k».proof.Defs
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Read
public import Idealize.ShloMosaic.Lib.Claim
public import Idealize.ShloMosaic.Lib.Pipeline.ValueKit.Point

@[expose] public section

noncomputable section

namespace Cert.KernelIdeal.Mlp

open Idealize.ShloMosaic Idealize.SL.Sem Cert.KernelIdeal Cert.KernelIdeal.Gen

variable (m : (ℓ : Loc nD τ sig) → Buf (Elt Ideal) ℓ)

theorem entry34 (c : Dev nD) : V m c main_v34 = Cert.ReferenceIdeal.Read.val_main_v0 (F := Ideal)
    (m ((c.tc : Thread nD τ).loc main_arg0)) := by
  entry_read
  rfl

theorem entry35 (c : Dev nD) : V m c main_v35 = Cert.ReferenceIdeal.Read.val_main_v1 (F := Ideal)
    (m ((c.tc : Thread nD τ).loc main_arg0)) := by
  entry_read
  rfl

theorem entry36 (c : Dev nD) : V m c main_v36 = Cert.ReferenceIdeal.Read.val_main_v26 (F := Ideal)
    (m ((c.tc : Thread nD τ).loc main_arg0)) (m ((c.tc : Thread nD τ).loc main_arg1))
    (m ((c.tc : Thread nD τ).loc main_arg2)) := by
  entry_read
  rfl

theorem entry37 (c : Dev nD) : V m c main_v37 = Cert.ReferenceIdeal.Read.val_main_v37 (F := Ideal)
    (m ((c.tc : Thread nD τ).loc main_arg0)) (m ((c.tc : Thread nD τ).loc main_arg1))
    (m ((c.tc : Thread nD τ).loc main_arg2)) := by
  entry_read
  rfl

theorem entry38 (c : Dev nD) : V m c main_v38 = m ((c.tc : Thread nD τ).loc main_arg3) := by
  entry_read
  rfl

end Cert.KernelIdeal.Mlp
end
-- ==== Proof.MlpOut.lean ====
module

public import proofs.«01_k».proof.Defs
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Read
public import proofs.«01_k».proof.Proof.MlpHost
public import proofs.«01_k».proof.Proof.MlpRef
public import Idealize.ShloMosaic.Lib.Claim
public import Idealize.ShloMosaic.Lib.Pipeline.ValueKit.Point

@[expose] public section

set_option maxRecDepth 16384

noncomputable section

namespace Cert.KernelIdeal.Mlp

open Idealize.ShloMosaic Idealize.SL.Sem Cert.KernelIdeal Cert.KernelIdeal.Gen

/-! The kernel's outputs are the reference's terms of the arguments. -/

/-- The kernel's output 7 is the reference's term of the arguments. -/
theorem kout7 (m : (ℓ : Loc nD τ sig) → Buf (Elt Ideal) ℓ) (c : Dev nD)
    (hR : Cert.MlpRef.RealProd (m ((c.tc : Thread nD τ).loc main_arg0)) (m ((c.tc : Thread nD τ).loc main_arg3)) (m ((c.tc : Thread nD τ).loc main_arg4))) :
    (dats m 0 c).arrAt 7 cfg0.N = Cert.ReferenceIdeal.Read.val_main_v91 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine ((final7 m c).trans ?_).trans (Cert.MlpRef.ref7 _ _ _ _ _ hR).symm
  rw [entry35, entry36, entry38, Gen.V_main_arg1, Gen.V_main_arg4]

/-- The kernel's output 8 is the reference's term of the arguments. -/
theorem kout8 (m : (ℓ : Loc nD τ sig) → Buf (Elt Ideal) ℓ) (c : Dev nD)
    (hR : Cert.MlpRef.RealProd (m ((c.tc : Thread nD τ).loc main_arg0)) (m ((c.tc : Thread nD τ).loc main_arg3)) (m ((c.tc : Thread nD τ).loc main_arg4))) :
    (dats m 0 c).arrAt 8 cfg0.N = Cert.ReferenceIdeal.Read.val_main_v87 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine ((final8 m c).trans ?_).trans (Cert.MlpRef.ref8 _ _ _ _ _ hR).symm
  rw [entry34, entry35, entry36, entry38, Gen.V_main_arg4]

/-- The kernel's output 9 is the reference's term of the arguments. -/
theorem kout9 (m : (ℓ : Loc nD τ sig) → Buf (Elt Ideal) ℓ) (c : Dev nD)
    (hR : Cert.MlpRef.RealProd (m ((c.tc : Thread nD τ).loc main_arg0)) (m ((c.tc : Thread nD τ).loc main_arg3)) (m ((c.tc : Thread nD τ).loc main_arg4))) :
    (dats m 0 c).arrAt 9 cfg0.N = Cert.ReferenceIdeal.Read.val_main_v76 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine ((final9 m c).trans ?_).trans (Cert.MlpRef.ref9 _ _ _ _ _ hR).symm
  rw [entry35, entry36, entry38, Gen.V_main_arg4]

/-- The kernel's output 10 is the reference's term of the arguments. -/
theorem kout10 (m : (ℓ : Loc nD τ sig) → Buf (Elt Ideal) ℓ) (c : Dev nD)
    (hR : Cert.MlpRef.RealProd (m ((c.tc : Thread nD τ).loc main_arg0)) (m ((c.tc : Thread nD τ).loc main_arg3)) (m ((c.tc : Thread nD τ).loc main_arg4))) :
    (dats m 0 c).arrAt 10 cfg0.N = Cert.ReferenceIdeal.Read.val_main_v92 (F := Ideal) (m ((c.tc : Thread nD τ).loc main_arg0)) (m ((c.tc : Thread nD τ).loc main_arg1)) (m ((c.tc : Thread nD τ).loc main_arg2)) (m ((c.tc : Thread nD τ).loc main_arg4)) := by
  refine ((final10 m c).trans ?_).trans (Cert.MlpRef.ref10 _ _ _ _).symm
  rw [entry37, Gen.V_main_arg4]

end Cert.KernelIdeal.Mlp
end
-- ==== Proof.Dw.lean ====
module

public import proofs.«01_k».proof.Proof.Gen.Kernel2Ideal.Frame
public import proofs.«01_k».proof.Proof.Gen.Reference2Ideal.Read
public import Idealize.ShloMosaic.Lib.Pipeline.ValueKit
public import Idealize.ShloMosaic.Lib.Pipeline.ReadBack
public import proofs.«01_k».proof.Proof.MlpForms

@[expose] public section
set_option maxRecDepth 16384
set_option maxHeartbeats 2000000
noncomputable section
open Idealize.ShloMosaic Idealize.ShloMosaic.TcCoe Idealize.SL.Sem
open Idealize.ShloMosaic.Pipeline (Dat)
namespace Cert.Kernel2Ideal.Dw
open Cert.Kernel2Ideal Cert.Kernel2Ideal.Gen
open Cert.KernelIdeal.Mlp (canon_take)

/-! The gradient of the up projection: the products of the blocks, summed over the four row blocks. -/

/-- the accumulator after a block: the one before it, plus the product of the two blocks over their rows -/
def accF (U : FVec Ideal S1024x1024 .bf16) (D : FVec Ideal S1024x2816 .bf16) (O : FVec Ideal S1024x2816 .f32) (y : S1024x2816.Idx) : EReal :=
  O (ix2 ⟨(y 0).val, (y 0).isLt⟩ ⟨(y 1).val, (y 1).isLt⟩)
    + ∑ r : Fin 1024, U (ix2 r ⟨(y 0).val, (y 0).isLt⟩) * D (ix2 r ⟨(y 1).val, (y 1).isLt⟩)

/-- an accumulator as two column blocks -/
def sidesF (A : S1024x2816.Idx → EReal) (y : S2x1024x1408.Idx) : EReal :=
  A (ix2 ⟨(y 1).val, (y 1).isLt⟩ ⟨(y 0).val * 1408 + (y 2).val,
    by have h0 : (y 0).val < 2 := (y 0).isLt; have h2 : (y 2).val < 1408 := (y 2).isLt; show _ < 2816; omega⟩)

theorem sidesF_at (A : S1024x2816.Idx → EReal) (y : S2x1024x1408.Idx) (i : Fin 1024) (j : Fin 2816) (h1 : (y 1).val = i.val)
    (h : (y 0).val * 1408 + (y 2).val = j.val) : sidesF A y = A (ix2 i j) := by
  unfold sidesF
  congr 2 <;> exact Fin.ext (by assumption)

variable (m : (ℓ : Loc nD τ sig) → Buf (Elt Ideal) ℓ)

theorem ptA_s (c : Dev nD) (t : Fin cfg0.N) (h0 : t.val % 4 = 0) (h1 : ¬t.val % 4 = 3) (y : S1024x2816.Idx) :
    (outsAt0 (F := Ideal) m c t.val t.isLt).2 y = accF (iblk m c 0 t) (iblk m c 1 t) (fun _ => 0) y := by
  rw [outsAt0_A m c t h0 h1]
  dsimp only
  frame_open
  simp (disch := decide) only [↓View.readCov_fill]
  frame_out
  clear h0 h1
  unfold accF
  idx_vars y
  pointwise [k0_pay1, k0_pay2]

theorem ptB_s (c : Dev nD) (t : Fin cfg0.N) (h0 : ¬t.val % 4 = 0) (h1 : ¬t.val % 4 = 3) (y : S1024x2816.Idx) :
    (outsAt0 (F := Ideal) m c t.val t.isLt).2 y = accF (iblk m c 0 t) (iblk m c 1 t) (outsAt0 (F := Ideal) m c (t.val - 1) (Nat.lt_of_le_of_lt (Nat.sub_le _ _) t.isLt)).2 y := by
  rw [outsAt0_B m c t h0 h1]
  dsimp only
  frame_out
  try simp only [read_unread_whole]
  clear h0 h1
  generalize (outsAt0 (F := Ideal) m c (t.val - 1) (Nat.lt_of_le_of_lt (Nat.sub_le _ _) t.isLt)).2 = O
  unfold accF
  idx_vars y
  pointwise [k0_pay1, k0_pay2]

theorem ptC_s (c : Dev nD) (t : Fin cfg0.N) (h0 : ¬t.val % 4 = 0) (h1 : t.val % 4 = 3) (y : S1024x2816.Idx) :
    (outsAt0 (F := Ideal) m c t.val t.isLt).2 y = accF (iblk m c 0 t) (iblk m c 1 t) (outsAt0 (F := Ideal) m c (t.val - 1) (Nat.lt_of_le_of_lt (Nat.sub_le _ _) t.isLt)).2 y := by
  rw [outsAt0_C m c t h0 h1]
  dsimp only
  frame_out
  try simp only [read_unread_whole]
  clear h0 h1
  generalize (outsAt0 (F := Ideal) m c (t.val - 1) (Nat.lt_of_le_of_lt (Nat.sub_le _ _) t.isLt)).2 = O
  unfold accF
  idx_vars y
  pointwise [k0_pay1, k0_pay2]

theorem ptC_2 (c : Dev nD) (t : Fin cfg0.N) (h0 : ¬t.val % 4 = 0) (h1 : t.val % 4 = 3) (y : S2x1024x1408.Idx) :
    (outsAt0 (F := Ideal) m c t.val t.isLt).1 y = sidesF (accF (iblk m c 0 t) (iblk m c 1 t) (outsAt0 (F := Ideal) m c (t.val - 1) (Nat.lt_of_le_of_lt (Nat.sub_le _ _) t.isLt)).2) y := by
  rw [outsAt0_C m c t h0 h1]
  dsimp only
  frame_open
  simp (disch := decide) only [↓View.readCov_fill]
  frame_out
  try simp only [read_unread_whole]
  clear h0 h1
  generalize (outsAt0 (F := Ideal) m c (t.val - 1) (Nat.lt_of_le_of_lt (Nat.sub_le _ _) t.isLt)).2 = O
  refine canon_take (e := .bf16) 2 (sidesF (accF (iblk m c 0 t) (iblk m c 1 t) O)) _ y ?pc ?cov
  case pc =>
    refine ⟨fun x => ?p0, fun x => ?p1, trivial⟩
    case p0 =>
      idx_vars x
      refine Eq.trans ?_ (sidesF_at _ _ x1 ⟨1408 + x2.val, by omega⟩ (by blk_simp) (by blk_simp)).symm
      simp only [accF]
      pointwise [k0_pay1, k0_pay2, k0_pay3, k0_pay4]
    case p1 =>
      idx_vars x
      refine Eq.trans ?_ (sidesF_at _ _ x1 ⟨x2.val, by omega⟩ (by blk_simp) (by blk_simp)).symm
      simp only [accF]
      pointwise [k0_pay1, k0_pay2, k0_pay3, k0_pay4]
  case cov =>
    exact View.cover_of_tiledBy _ ![1, 1024, 1408] (by sl_kernel_rfl) y

theorem idx_val : ∀ t : Fin cfg0.N, win0_0.index t = ![t.val % 4, 0] ∧ win0_1.index t = ![t.val % 4, t.val / 4]
    ∧ win0_2.index t = ![t.val / 4, 0, 0] :=
  (by decide +kernel : ∀ t : Fin grid0.N, _)

theorem N8 (t : Fin cfg0.N) : t.val < 8 := lt_of_lt_of_eq t.isLt (show cfg0.N = 8 from N_0)

/-- the row of the whole arrays that row `r` of point `t`'s blocks is -/
def rowOf (t : Fin cfg0.N) (r : Fin 1024) : Fin 4096 := ⟨(t.val % 4) * 1024 + r.val, by omega⟩

/-- the column of the gradient that column `j` of point `t`'s block is -/
def colOf (t : Fin cfg0.N) (j : Fin 2816) : Fin 5632 := ⟨(t.val / 4) * 2816 + j.val, by have := N8 t; omega⟩

theorem iblk0 (c : Dev nD) (t : Fin cfg0.N) (r : Fin 1024) (i : Fin 1024) :
    iblk m c 0 t (ix2 r i) = V m c main_v0 (ix2 (rowOf t r) i) := by
  unfold iblk rowOf
  blk_ext [idx_val t]
theorem iblk1 (c : Dev nD) (t : Fin cfg0.N) (r : Fin 1024) (j : Fin 2816) :
    iblk m c 1 t (ix2 r j) = V m c main_v1 (ix2 (rowOf t r) (colOf t j)) := by
  unfold iblk rowOf colOf
  blk_ext [idx_val t]

/-- the activations as the call reads them -/
abbrev uV (c : Dev nD) : FVec Ideal S4096x1024 .bf16 := V m c main_v0
/-- the gradient of the product as the call reads it -/
abbrev dV (c : Dev nD) : FVec Ideal S4096x5632 .bf16 := V m c main_v1

theorem accF_eq (c : Dev nD) (t : Fin cfg0.N) (O : FVec Ideal S1024x2816 .f32) (y : S1024x2816.Idx) :
    accF (iblk m c 0 t) (iblk m c 1 t) O y = O y + ∑ r : Fin 1024, uV m c (ix2 (rowOf t r) ⟨(y 0).val, (y 0).isLt⟩)
      * dV m c (ix2 (rowOf t r) (colOf t ⟨(y 1).val, (y 1).isLt⟩)) := by
  unfold accF
  exact congrArg₂ (fun a b : EReal => a + b) (congrArg O (funext fun k => by fin_cases k <;> rfl))
    (Finset.sum_congr rfl fun r _ => congrArg₂ (fun a b : EReal => a * b) (iblk0 m c t r _) (iblk1 m c t r _))

/-- one entry of the gradient, over all the rows -/
def dwG (u : FVec Ideal S4096x1024 .bf16) (d : FVec Ideal S4096x5632 .bf16) (i : Fin 1024) (j : Fin 5632) : EReal :=
  ∑ n : Fin 4096, u (ix2 n i) * d (ix2 n j)

/-- the accumulator after the last of four row blocks -/
theorem acc_last (c : Dev nD) (t : Fin cfg0.N) (h : t.val % 4 = 3) (y : S1024x2816.Idx) :
    (outsAt0 (F := Ideal) m c t.val t.isLt).2 y = dwG (uV m c) (dV m c) ⟨(y 0).val, (y 0).isLt⟩ (colOf t ⟨(y 1).val, (y 1).isLt⟩) := by
  rw [Pipeline.eq_sum_fin_of_reset_step_apply_of_flush (fun n h => (outsAt0 (F := Ideal) m c n h).2) 4 (fun _ => (0 : EReal))
    (fun t y => ∑ r : Fin 1024, uV m c (ix2 (rowOf t r) ⟨(y 0).val, (y 0).isLt⟩) * dV m c (ix2 (rowOf t r) (colOf t ⟨(y 1).val, (y 1).isLt⟩)))
    ?hA ?hB t h y]
  case hA =>
    intro t h0 y
    exact (ptA_s m c t h0 (by omega) y).trans (accF_eq m c t _ y)
  case hB =>
    intro t h0 y
    by_cases h1 : t.val % 4 = 3
    · exact (ptC_s m c t h0 h1 y).trans (accF_eq m c t _ y)
    · exact (ptB_s m c t h0 h1 y).trans (accF_eq m c t _ y)
  rw [zero_add]
  unfold dwG
  refine Eq.trans (Finset.sum_congr rfl fun s _ => Finset.sum_congr rfl fun r _ => ?_)
    (Fin.sum_mul_add_fin 4 1024 (fun n : Fin 4096 => uV m c (ix2 n ⟨(y 0).val, (y 0).isLt⟩) * dV m c (ix2 n (colOf t ⟨(y 1).val, (y 1).isLt⟩))))
  have e0 : rowOf ⟨4 * (t.val / 4) + s.val, by have := N8 t; have := N_0; show _ < grid0.N; omega⟩ r = ⟨s.val * 1024 + r.val, by omega⟩ := by
    unfold rowOf; refine Fin.ext ?_; dsimp only; omega
  have e1 : ∀ j, colOf ⟨4 * (t.val / 4) + s.val, by have := N8 t; have := N_0; show _ < grid0.N; omega⟩ j = colOf t j := fun j => by
    unfold colOf; refine Fin.ext ?_; dsimp only; omega
  exact congrArg₂ (fun a b : EReal => a * b) (congrArg (fun n => uV m c (ix2 n _)) e0)
    (congrArg₂ (fun n j => dV m c (ix2 n j)) e0 (e1 _))

theorem flush_mod (t : Fin cfg0.N) (h : (cfg0.win 2).flush t = true) : t.val % 4 = 3 := by
  have key : ∀ t : Fin grid0.N, (cfg0.win 2).flush t = true → t.val % 4 = 3 := by decide +kernel
  exact key t h

/-- the gradient as four column blocks -/
def dwC (u : FVec Ideal S4096x1024 .bf16) (d : FVec Ideal S4096x5632 .bf16) (y : S4x1024x1408.Idx) : EReal :=
  dwG u d ⟨(y 1).val, (y 1).isLt⟩ ⟨(y 0).val * 1408 + (y 2).val,
    by have h0 : (y 0).val < 4 := (y 0).isLt; have h2 : (y 2).val < 1408 := (y 2).isLt; omega⟩

theorem out2 (c : Dev nD) (t : Fin cfg0.N) (h : t.val % 4 = 3) (y : S2x1024x1408.Idx) :
    (outsAt0 (F := Ideal) m c t.val t.isLt).1 y = dwC (uV m c) (dV m c) (ix3 ⟨(t.val / 4) * 2 + (y 0).val,
      by have := N8 t; have h0 : (y 0).val < 2 := (y 0).isLt; omega⟩ ⟨(y 1).val, (y 1).isLt⟩ ⟨(y 2).val, (y 2).isLt⟩) := by
  have h0 : ¬t.val % 4 = 0 := by omega
  refine (ptC_2 m c t h0 h y).trans ?_
  have e := fun z => (ptC_s m c t h0 h z).symm.trans (acc_last m c t h z)
  unfold sidesF dwC
  rw [e]
  refine congrArg (dwG _ _ _) (Fin.ext ?_)
  show t.val / 4 * 2816 + ((y 0).val * 1408 + (y 2).val) = (t.val / 4 * 2 + (y 0).val) * 1408 + (y 2).val
  omega

theorem final2 (c : Dev nD) : (dats m 0 c).arrAt 2 cfg0.N = dwC (uV m c) (dV m c) := by
  refine (dats m 0 c).arrAt_eq_of_covers 2 _ (by decide +kernel) fun t hf y => ?_
  blk_simp
  refine (out2 m c t (flush_mod t hf) y).trans ?_
  refine congrArg (dwC _ _) ?_
  blk_ext [idx_val t]

theorem entry0 (c : Dev nD) : V m c main_v0 = m ((c.tc : Thread nD τ).loc main_arg0) := by
  entry_read
  rfl
theorem entry1 (c : Dev nD) : V m c main_v1 = m ((c.tc : Thread nD τ).loc main_arg2) := by
  entry_read
  rfl

/-- The kernel's output is the reference's term of the arguments. -/
theorem kout2 (c : Dev nD) : (dats m 0 c).arrAt 2 cfg0.N = Cert.Reference2Ideal.Read.val_main_v6 (F := Ideal)
    (m ((c.tc : Thread nD τ).loc main_arg0)) (m ((c.tc : Thread nD τ).loc main_arg2)) := by
  rw [final2]
  unfold uV dV
  rw [entry0, entry1]
  generalize m ((c.tc : Thread nD τ).loc main_arg0) = u
  generalize m ((c.tc : Thread nD τ).loc main_arg2) = d
  funext y
  unfold dwC dwG
  pointwise [Cert.Reference2Ideal.Read.val_main_v6, Cert.Reference2Ideal.Read.val_main_v5, Cert.Reference2Ideal.Read.val_main_v4,
    Cert.Reference2Ideal.Read.val_main_v2, Cert.Reference2Ideal.Read.val_main_v1]
  exact Finset.sum_congr rfl fun n _ => mul_comm (G := EReal) _ _

end Cert.Kernel2Ideal.Dw
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Frame.Runs
public import proofs.«01_k».proof.Proof.Gen.Reference3Ideal
public import proofs.«01_k».proof.Proof.Gen.Reference3Ideal.Run
public import proofs.«01_k».proof.Proof.Gen.Reference3Ideal.Read
public import proofs.«01_k».proof.Proof.InBwd
public import proofs.«01_k».proof.Proof.Gen.Kernel4
public import proofs.«01_k».proof.Proof.Gen.Kernel4Ideal
public import proofs.«01_k».proof.Proof.Gen.Kernel4Ideal.Frame.Runs
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite4
public import proofs.«01_k».proof.Proof.UpBwdPre
public import proofs.«01_k».proof.Proof.Gen.Kernel5
public import proofs.«01_k».proof.Proof.Gen.Kernel5Ideal
public import proofs.«01_k».proof.Proof.Gen.Kernel5Ideal.Frame.Runs
public import proofs.«01_k».proof.Proof.Gen.Reference5Ideal
public import proofs.«01_k».proof.Proof.Gen.Reference5Ideal.Run
public import proofs.«01_k».proof.Proof.Gen.Reference5Ideal.Read
public import proofs.«01_k».proof.Proof.MlpFwd
public import proofs.«01_k».proof.Proof.Gen.Kernel6
public import proofs.«01_k».proof.Proof.Gen.Kernel6Ideal
public import proofs.«01_k».proof.Proof.Gen.Kernel6Ideal.Frame.Runs
public import proofs.«01_k».proof.Proof.Gen.Reference6Ideal
public import proofs.«01_k».proof.Proof.Gen.Reference6Ideal.Run
public import proofs.«01_k».proof.Proof.Gen.Reference6Ideal.Read
public import proofs.«01_k».proof.Proof.InProj
public import proofs.«01_k».proof.Proof.MlpRef
public import proofs.«01_k».proof.Proof.MlpOut
public import proofs.«01_k».proof.Proof.MlpPre
public import proofs.«01_k».proof.Proof.Dw
public import Idealize.ShloMosaic.Adequacy
public import Idealize.ShloMosaic.Init

@[expose] public section

set_option maxRecDepth 16384

noncomputable section

namespace Cert.Proof

open Idealize.ShloMosaic Idealize.SL.Sem Cert.Kernel

theorem mlp_algebraic : Cert.algebraic_KernelIdeal_ReferenceIdeal_pre_finite := by
  intro m g m' g' hp ha
  refine ⟨_, _, _, _, Cert.KernelIdeal.Value.run_blocks m g, (θ_run Cert.ReferenceIdeal.defs _ _).mono (fun r h c => ?_) (Cert.ReferenceIdeal.Value.run m' g')⟩
  obtain ⟨h0, h1, h2, h3, hk⟩ := h c
  obtain ⟨a0, a1, a2, a3, a4⟩ := ha c
  have hR := Cert.MlpRef.realProd _ _ _ _ _ (hp c)
  refine ⟨h0.trans ?_, h1.trans ?_, h2.trans ?_, h3.trans ?_, hk⟩
  · rw [Cert.ReferenceIdeal.Read.val_main_v91_eq, a0, a1, a2, a3, a4]
    exact (Cert.KernelIdeal.Mlp.kout7 m c hR).symm
  · rw [Cert.ReferenceIdeal.Read.val_main_v87_eq, a0, a1, a2, a3, a4]
    exact (Cert.KernelIdeal.Mlp.kout8 m c hR).symm
  · rw [Cert.ReferenceIdeal.Read.val_main_v76_eq, a0, a1, a2, a3, a4]
    exact (Cert.KernelIdeal.Mlp.kout9 m c hR).symm
  · rw [Cert.ReferenceIdeal.Read.val_main_v92_eq, a0, a1, a2, a4]
    exact (Cert.KernelIdeal.Mlp.kout10 m c hR).symm

/-- The reference declares no semaphore, so every counter is zero at its end. -/
theorem reference_frame : Cert.quiescent_ReferenceIdeal := by
  intro m g _
  exact (θ_run (Cert.ReferenceIdeal.defs (F := Ideal)) _ _).mono (fun r h => And.intro (fun c => (h c).2.2.2.2)
      (Idealize.ShloMosaic.sem_eq_zero_of_no_sems (by decide) r.2))
    (Cert.ReferenceIdeal.Value.run (F := Ideal) m g)

theorem dw_algebraic : Cert.algebraic_Kernel2Ideal_Reference2Ideal := by
  intro m g m' g' hp ha
  refine ⟨_, Cert.Kernel2Ideal.Value.run_blocks m g, (θ_run Cert.Reference2Ideal.defs _ _).mono (fun r h c => ?_) (Cert.Reference2Ideal.Value.run m' g')⟩
  obtain ⟨h0, hk⟩ := h c
  obtain ⟨a0, a1, a2⟩ := ha c
  refine ⟨h0.trans ?_, hk⟩
  rw [Cert.Reference2Ideal.Read.val_main_v6_eq, a0, a2]
  exact (Cert.Kernel2Ideal.Dw.kout2 m c).symm

/-- The reference declares no semaphore, so every counter is zero at its end. -/
theorem reference2_frame : Cert.quiescent_Reference2Ideal := by
  intro m g _
  exact (θ_run (Cert.Reference2Ideal.defs (F := Ideal)) _ _).mono (fun r h => And.intro (fun c => (h c).2)
      (Idealize.ShloMosaic.sem_eq_zero_of_no_sems (by decide) r.2))
    (Cert.Reference2Ideal.Value.run (F := Ideal) m g)

theorem in_bwd_algebraic : Cert.algebraic_Kernel3Ideal_Reference3Ideal := by
  intro m g m' g' hp ha
  refine ⟨_, _, _,  Cert.Kernel3Ideal.Run.run_blocks m g, (θ_run Cert.Reference3Ideal.defs _ _).mono (fun r h c => ?_) (Cert.Reference3Ideal.Value.run m' g')⟩
  obtain ⟨h0, h1, h2, hk⟩ := h c
  obtain ⟨a0, a1, a2, a3, a4, a5, a6, a7, a8, a9, a10⟩ := ha c
  refine ⟨h0.trans ?_, h1.trans ?_, h2.trans ?_, hk⟩
  · rw [Cert.Reference3Ideal.Read.val_main_v49_eq, a0, a1, a4, a5, a6, a7, a8, a9, a10]
    exact (Cert.Kernel3Ideal.Bwd.kout11 m c).symm
  · rw [Cert.Reference3Ideal.Read.val_main_v46_eq, a0, a1, a2, a3, a4, a5, a6, a7, a8, a9, a10]
    exact (Cert.Kernel3Ideal.Bwd.kout12 m c).symm
  · rw [Cert.Reference3Ideal.Read.val_main_v29_eq, a0, a2, a4, a5, a6, a7, a8, a9, a10]
    exact (Cert.Kernel3Ideal.Bwd.kout13 m c).symm

/-- The reference declares no semaphore, so every counter is zero at its end. -/
theorem reference3_frame : Cert.quiescent_Reference3Ideal := by
  intro m g _
  exact (θ_run (Cert.Reference3Ideal.defs (F := Ideal)) _ _).mono (fun r h => And.intro (fun c => (h c).2.2.2)
      (Idealize.ShloMosaic.sem_eq_zero_of_no_sems (by decide) r.2))
    (Cert.Reference3Ideal.Value.run (F := Ideal) m g)

set_option maxHeartbeats 8000000 in
/-- The kernel is the text of the kernel over the reals: their functions and their launch are the same; -/
theorem kernel3_defs : Cert.Kernel3.defs (F := Bits) = Cert.Kernel3Ideal.defs (F := Bits) :=
  congrArg (Pipeline.defs Cert.Kernel3.pcfgs) (congrArg Defs.onTc (funext fun l => funext fun b => by
    match l, b with
    | 0, (t, s) => rfl))

set_option maxHeartbeats 8000000 in
theorem kernel3_main : Cert.Kernel3.main (F := Bits) = Cert.Kernel3Ideal.main (F := Bits) := rfl

set_option maxHeartbeats 8000000 in
/-- and the run, which holds over any floats, is the run of both. -/
theorem kernel3_frame : Cert.quiescent_Kernel3 := fun m ρ _ => by
  have h := Cert.Kernel3Ideal.Run.frame (F := Bits) m ρ
  rw [← kernel3_defs, ← kernel3_main] at h
  exact h

/-- A reshape to the same shape reads each entry where it stands. -/
theorem idx79 (i : Cert.Reference4Ideal.S4096x1024.Idx) : Cert.Reference4Ideal.Read.idx_main_v79 i = i := by
  have h1 : (i 1).val < 1024 := (i 1).isLt
  funext a
  match a with
  | ⟨0, _⟩ => exact Fin.ext (by show ((i 0).val * 1024 + (i 1).val) / 1024 = (i 0).val; omega)
  | ⟨1, _⟩ => exact Fin.ext (by show ((i 0).val * 1024 + (i 1).val) % 1024 = (i 1).val; omega)

set_option maxHeartbeats 8000000 in
theorem up_out_bwd_algebraic : Cert.algebraic_Kernel4Ideal_Reference4Ideal_pre_finite4 := by
  intro m g m' g' hp ha
  refine ⟨_, _, _, _, _, _, _, _,  Cert.Kernel4Ideal.Run.run_blocks m g, (θ_run Cert.Reference4Ideal.defs _ _).mono (fun r h c => ?_) (Cert.Reference4Ideal.Value.run m' g')⟩
  obtain ⟨h0, h1, h2, h3, h4, h5, h6, h7, hk⟩ := h c
  obtain ⟨a0, a1, a2, a3, a4, a5, a6, a7, a8, a9, a10⟩ := ha c
  replace a0 : StableHlo.launchContents m' c (Proc.devRef .tc Cert.Reference4Ideal.main_arg0) = _ := a0
  replace a1 : StableHlo.launchContents m' c (Proc.devRef .tc Cert.Reference4Ideal.main_arg1) = _ := a1
  replace a2 : StableHlo.launchContents m' c (Proc.devRef .tc Cert.Reference4Ideal.main_arg2) = _ := a2
  replace a3 : StableHlo.launchContents m' c (Proc.devRef .tc Cert.Reference4Ideal.main_arg3) = _ := a3
  replace a4 : StableHlo.launchContents m' c (Proc.devRef .tc Cert.Reference4Ideal.main_arg4) = _ := a4
  replace a5 : StableHlo.launchContents m' c (Proc.devRef .tc Cert.Reference4Ideal.main_arg5) = _ := a5
  replace a6 : StableHlo.launchContents m' c (Proc.devRef .tc Cert.Reference4Ideal.main_arg6) = _ := a6
  replace a7 : StableHlo.launchContents m' c (Proc.devRef .tc Cert.Reference4Ideal.main_arg7) = _ := a7
  replace a8 : StableHlo.launchContents m' c (Proc.devRef .tc Cert.Reference4Ideal.main_arg8) = _ := a8
  replace a9 : StableHlo.launchContents m' c (Proc.devRef .tc Cert.Reference4Ideal.main_arg9) = _ := a9
  replace a10 : StableHlo.launchContents m' c (Proc.devRef .tc Cert.Reference4Ideal.main_arg10) = _ := a10
  refine ⟨h0.trans ?_, h1.trans ?_, h2.trans ?_, h3.trans ?_, h4.trans ?_, h5.trans ?_, h6.trans ?_, h7.trans ?_, hk⟩
  · rw [Cert.Reference4Ideal.Read.val_main_v78_eq, a0, a1, a2, a3, a4, a5, a6, a7, a8, a9, a10]
    exact ((Cert.Kernel4Ideal.Bwd.kout11 m c).trans (funext fun i => (Cert.Reference4Ideal.Read.val_main_v79_apply _ _ _ _ _ _ _ _ _ _ _ i).trans (congrArg _ (idx79 i)))).symm
  · rw [Cert.Reference4Ideal.Read.val_main_v61_eq, a0, a1, a2, a3, a4, a5, a6, a8, a10]
    exact (Cert.Kernel4Ideal.Bwd.kout12 m c).symm
  · rw [Cert.Reference4Ideal.Read.val_main_v104_eq, a0, a1, a2, a3, a4, a5, a6, a7, a8, a9, a10]
    exact (Cert.Kernel4Ideal.Bwd.kout13 m c).symm
  · rw [Cert.Reference4Ideal.Read.val_main_v129_eq, a0, a1, a2, a3, a4, a5, a6, a7, a8, a9, a10]
    exact (Cert.Kernel4Ideal.Bwd.kout14 m c).symm
  · rw [Cert.Reference4Ideal.Read.val_main_v130_eq, a0, a1, a2, a3, a4, a5, a6, a7, a8, a9, a10]
    exact (Cert.Kernel4Ideal.Bwd.kout15 m c (Cert.Kernel4Ideal.Bwd.reals m c (hp c))).symm
  · rw [Cert.Reference4Ideal.Read.val_main_v88_eq, a0, a1, a2, a3, a4, a5, a6, a7, a8, a9, a10]
    exact (Cert.Kernel4Ideal.Bwd.kout16 m c).symm
  · rw [Cert.Reference4Ideal.Read.val_main_v128_eq, a0, a1, a2, a3, a4, a5, a6, a7, a8, a9, a10]
    exact (Cert.Kernel4Ideal.Bwd.kout17 m c).symm
  · rw [Cert.Reference4Ideal.Read.val_main_v131_eq, a0, a1, a2, a3, a4, a5, a6, a7, a8, a9, a10]
    exact (Cert.Kernel4Ideal.Bwd.kout18 m c).symm

/-- The reference declares no semaphore, so every counter is zero at its end. -/
theorem reference4_frame : Cert.quiescent_Reference4Ideal := by
  intro m g _
  exact (θ_run (Cert.Reference4Ideal.defs (F := Ideal)) _ _).mono (fun r h => And.intro (fun c => (h c).2.2.2.2.2.2.2.2)
      (Idealize.ShloMosaic.sem_eq_zero_of_no_sems (by decide) r.2))
    (Cert.Reference4Ideal.Value.run (F := Ideal) m g)

set_option maxHeartbeats 8000000 in
/-- The kernel is the text of the kernel over the reals: their functions and their launch are the same; -/
theorem kernel4_defs : Cert.Kernel4.defs (F := Bits) = Cert.Kernel4Ideal.defs (F := Bits) :=
  congrArg (Pipeline.defs Cert.Kernel4.pcfgs) (congrArg Defs.onTc (funext fun l => funext fun b => by
    match l, b with
    | 0, (t, s) => rfl))

set_option maxHeartbeats 8000000 in
theorem kernel4_main : Cert.Kernel4.main (F := Bits) = Cert.Kernel4Ideal.main (F := Bits) := rfl

set_option maxHeartbeats 8000000 in
/-- and the run, which holds over any floats, is the run of both. -/
theorem kernel4_frame : Cert.quiescent_Kernel4 := fun m ρ _ => by
  have h := Cert.Kernel4Ideal.Run.frame (F := Bits) m ρ
  rw [← kernel4_defs, ← kernel4_main] at h
  exact h

set_option maxHeartbeats 8000000 in
theorem mlp_fwd_algebraic : Cert.algebraic_Kernel5Ideal_Reference5Ideal := by
  intro m g m' g' hp ha
  refine ⟨_, _, _, _, _, _, _, _, _, _,  Cert.Kernel5Ideal.Run.run_blocks m g, (θ_run Cert.Reference5Ideal.defs _ _).mono (fun r h c => ?_) (Cert.Reference5Ideal.Value.run m' g')⟩
  obtain ⟨h0, h1, h2, h3, h4, h5, h6, h7, h8, h9, hk⟩ := h c
  obtain ⟨a0, a1, a2, a3, a4, a5, a6, a7, a8, a9, a10, a11, a12, a13⟩ := ha c
  replace a0 : StableHlo.launchContents m' c (Proc.devRef .tc Cert.Reference5Ideal.main_arg0) = _ := a0
  replace a1 : StableHlo.launchContents m' c (Proc.devRef .tc Cert.Reference5Ideal.main_arg1) = _ := a1
  replace a2 : StableHlo.launchContents m' c (Proc.devRef .tc Cert.Reference5Ideal.main_arg2) = _ := a2
  replace a3 : StableHlo.launchContents m' c (Proc.devRef .tc Cert.Reference5Ideal.main_arg3) = _ := a3
  replace a4 : StableHlo.launchContents m' c (Proc.devRef .tc Cert.Reference5Ideal.main_arg4) = _ := a4
  replace a5 : StableHlo.launchContents m' c (Proc.devRef .tc Cert.Reference5Ideal.main_arg5) = _ := a5
  replace a6 : StableHlo.launchContents m' c (Proc.devRef .tc Cert.Reference5Ideal.main_arg6) = _ := a6
  replace a7 : StableHlo.launchContents m' c (Proc.devRef .tc Cert.Reference5Ideal.main_arg7) = _ := a7
  replace a8 : StableHlo.launchContents m' c (Proc.devRef .tc Cert.Reference5Ideal.main_arg8) = _ := a8
  replace a9 : StableHlo.launchContents m' c (Proc.devRef .tc Cert.Reference5Ideal.main_arg9) = _ := a9
  replace a10 : StableHlo.launchContents m' c (Proc.devRef .tc Cert.Reference5Ideal.main_arg10) = _ := a10
  replace a11 : StableHlo.launchContents m' c (Proc.devRef .tc Cert.Reference5Ideal.main_arg11) = _ := a11
  replace a12 : StableHlo.launchContents m' c (Proc.devRef .tc Cert.Reference5Ideal.main_arg12) = _ := a12
  replace a13 : StableHlo.launchContents m' c (Proc.devRef .tc Cert.Reference5Ideal.main_arg13) = _ := a13
  refine ⟨h0.trans ?_, h1.trans ?_, h2.trans ?_, h3.trans ?_, h4.trans ?_, h5.trans ?_, h6.trans ?_, h7.trans ?_, h8.trans ?_, h9.trans ?_, hk⟩
  · rw [Cert.Reference5Ideal.Read.val_main_v33_eq, a0, a1, a2, a3, a4, a5, a6]
    exact (Cert.Kernel5Ideal.Fwd.kout13 m c).symm
  · rw [Cert.Reference5Ideal.Read.val_main_v132_eq, a0, a1, a2, a4, a5]
    exact (Cert.Kernel5Ideal.Fwd.res14 m c).symm
  · rw [Cert.Reference5Ideal.Read.val_main_v133_eq, a0, a1, a2, a3, a4, a5, a6, a7]
    exact (Cert.Kernel5Ideal.Fwd.res15 m c).symm
  · rw [Cert.Reference5Ideal.Read.val_main_v134_eq, a0, a1, a2, a3, a4, a5, a6, a7, a8]
    exact (Cert.Kernel5Ideal.Fwd.res16 m c).symm
  · rw [Cert.Reference5Ideal.Read.val_main_v135_eq, a0, a1, a2, a3, a4, a5, a6, a7, a8]
    exact (Cert.Kernel5Ideal.Fwd.res17 m c).symm
  · rw [Cert.Reference5Ideal.Read.val_main_v136_eq, a0, a1, a2, a3, a4, a5, a6, a7, a8, a9, a10]
    exact (Cert.Kernel5Ideal.Fwd.res18 m c).symm
  · rw [Cert.Reference5Ideal.Read.val_main_v137_eq, a0, a1, a2, a3, a4, a5, a6, a7, a8, a9, a10]
    exact (Cert.Kernel5Ideal.Fwd.res19 m c).symm
  · rw [Cert.Reference5Ideal.Read.val_main_v131_eq, a0, a1, a2, a3, a4, a5, a6, a7, a8, a9, a10, a11, a12, a13]
    exact (Cert.Kernel5Ideal.Fwd.kout20 m c).symm
  · rw [Cert.Reference5Ideal.Read.val_main_v138_eq, a0, a1, a2, a3, a4, a5, a6, a7, a8, a9, a10, a11, a12, a13]
    exact (Cert.Kernel5Ideal.Fwd.kout21 m c).symm
  · rw [Cert.Reference5Ideal.Read.val_main_v115_eq, a0, a1, a2, a3, a4, a5, a6, a7, a8, a9, a10, a11, a12, a13]
    exact (Cert.Kernel5Ideal.Fwd.kout22 m c).symm

/-- The reference declares no semaphore, so every counter is zero at its end. -/
theorem reference5_frame : Cert.quiescent_Reference5Ideal := by
  intro m g _
  exact (θ_run (Cert.Reference5Ideal.defs (F := Ideal)) _ _).mono (fun r h => And.intro (fun c => (h c).2.2.2.2.2.2.2.2.2.2)
      (Idealize.ShloMosaic.sem_eq_zero_of_no_sems (by decide) r.2))
    (Cert.Reference5Ideal.Value.run (F := Ideal) m g)

set_option maxHeartbeats 8000000 in
/-- The kernel is the text of the kernel over the reals: their functions and their launch are the same; -/
theorem kernel5_defs : Cert.Kernel5.defs (F := Bits) = Cert.Kernel5Ideal.defs (F := Bits) :=
  congrArg (Pipeline.defs Cert.Kernel5.pcfgs) (congrArg Defs.onTc (funext fun l => funext fun b => by
    match l, b with
    | 0, (t, s) => rfl))

set_option maxHeartbeats 8000000 in
theorem kernel5_main : Cert.Kernel5.main (F := Bits) = Cert.Kernel5Ideal.main (F := Bits) := rfl

set_option maxHeartbeats 8000000 in
/-- and the run, which holds over any floats, is the run of both. -/
theorem kernel5_frame : Cert.quiescent_Kernel5 := fun m ρ _ => by
  have h := Cert.Kernel5Ideal.Run.frame (F := Bits) m ρ
  rw [← kernel5_defs, ← kernel5_main] at h
  exact h

theorem in_proj_algebraic : Cert.algebraic_Kernel6Ideal_Reference6Ideal := by
  intro m g m' g' hp ha
  refine ⟨_, _, _,  Cert.Kernel6Ideal.Run.run_blocks m g, (θ_run Cert.Reference6Ideal.defs _ _).mono (fun r h c => ?_) (Cert.Reference6Ideal.Value.run m' g')⟩
  obtain ⟨h0, h1, h2, hk⟩ := h c
  obtain ⟨a0, a1, a2⟩ := ha c
  refine ⟨h0.trans ?_, h1.trans ?_, h2.trans ?_, hk⟩
  · rw [Cert.Reference6Ideal.Read.val_main_v13_eq, a0, a1]
    exact (Cert.Kernel6Ideal.Proj.kout2 m c).symm
  · rw [Cert.Reference6Ideal.Read.val_main_v14_eq, a0, a1, a2]
    exact (Cert.Kernel6Ideal.Proj.kout3 m c).symm
  · rw [Cert.Reference6Ideal.Read.val_main_v15_eq, a0, a1, a2]
    exact (Cert.Kernel6Ideal.Proj.kout4 m c).symm

/-- The reference declares no semaphore, so every counter is zero at its end. -/
theorem reference6_frame : Cert.quiescent_Reference6Ideal := by
  intro m g _
  exact (θ_run (Cert.Reference6Ideal.defs (F := Ideal)) _ _).mono (fun r h => And.intro (fun c => (h c).2.2.2)
      (Idealize.ShloMosaic.sem_eq_zero_of_no_sems (by decide) r.2))
    (Cert.Reference6Ideal.Value.run (F := Ideal) m g)

set_option maxHeartbeats 8000000 in
/-- The kernel is the text of the kernel over the reals: their functions and their launch are the same; -/
theorem kernel6_defs : Cert.Kernel6.defs (F := Bits) = Cert.Kernel6Ideal.defs (F := Bits) :=
  congrArg (Pipeline.defs Cert.Kernel6.pcfgs) (congrArg Defs.onTc (funext fun l => funext fun b => by
    match l, b with
    | 0, (t, s) => rfl))

set_option maxHeartbeats 8000000 in
theorem kernel6_main : Cert.Kernel6.main (F := Bits) = Cert.Kernel6Ideal.main (F := Bits) := rfl

set_option maxHeartbeats 8000000 in
/-- and the run, which holds over any floats, is the run of both. -/
theorem kernel6_frame : Cert.quiescent_Kernel6 := fun m ρ _ => by
  have h := Cert.Kernel6Ideal.Run.frame (F := Bits) m ρ
  rw [← kernel6_defs, ← kernel6_main] at h
  exact h

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts,
  Cert.Pre_finite.Gen.facts, Cert.Pre_finite4.Gen.facts,
  fun m g _ => Cert.Kernel.Gen.frame m g,
  fun m g _ => Cert.KernelIdeal.Gen.frame m g,
  fun m g _ => Cert.KernelIdeal.Gen.frame m g,
  reference_frame,
  fun m g _ => reference_frame m g trivial,
  fun m g _ => Cert.Kernel2.Gen.frame m g,
  fun m g _ => Cert.Kernel2Ideal.Gen.frame m g,
  reference2_frame,
  kernel3_frame,
  fun m g _ => Cert.Kernel3Ideal.Run.frame m g,
  reference3_frame,
  kernel4_frame,
  fun m g _ => Cert.Kernel4Ideal.Run.frame m g,
  fun m g _ => Cert.Kernel4Ideal.Run.frame m g,
  reference4_frame,
  fun m g _ => reference4_frame m g trivial,
  kernel5_frame,
  fun m g _ => Cert.Kernel5Ideal.Run.frame m g,
  reference5_frame,
  kernel6_frame,
  fun m g _ => Cert.Kernel6Ideal.Run.frame m g,
  reference6_frame,
  IdealRules.named_const.statement Cert.KernelIdeal.κ "gelu_slope" .f32 0x3ECC422A#32 _ rfl,
  mlp_algebraic,
  trivial,
  dw_algebraic,
  trivial,
  in_bwd_algebraic,
  trivial,
  up_out_bwd_algebraic,
  trivial,
  mlp_fwd_algebraic,
  trivial,
  in_proj_algebraic⟩

end Cert.Proof

end
